-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_queries_keys [hPre_finite_queries_keys : Cert.Pre_finite_queries_keys.Facts] (m : (ℓ : Loc Cert.AttnIdeal.nD Cert.AttnIdeal.τ Cert.AttnIdeal.sig) → Buf (Elt Ideal) ℓ) : Prop :=
  ∀ c : Dev Cert.AttnIdeal.nD,
    (Cert.Pre_finite_queries_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_queries_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_queries_keys [hPre_finite_queries_keys : Cert.Pre_finite_queries_keys.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_queries_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_queries_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_OutAtt (m : (ℓ : Loc Cert.OutAtt.nD Cert.OutAtt.τ Cert.OutAtt.sig) → Buf (Elt Bits) ℓ) : Prop :=
  True

def Pre_OutAttIdeal (m : (ℓ : Loc Cert.OutAttIdeal.nD Cert.OutAttIdeal.τ Cert.OutAttIdeal.sig) → Buf (Elt Ideal) ℓ) : Prop :=
  True

def Pre_OutAttRefIdeal (m : (ℓ : Loc Cert.OutAttRefIdeal.nD Cert.OutAttRefIdeal.τ Cert.OutAttRefIdeal.sig) → Buf (Elt Ideal) ℓ) : Prop :=
  True

def Pre_OutPair (m : (ℓ : Loc Cert.OutPair.nD Cert.OutPair.τ Cert.OutPair.sig) → Buf (Elt Bits) ℓ) : Prop :=
  True

def Pre_OutPairIdeal (m : (ℓ : Loc Cert.OutPairIdeal.nD Cert.OutPairIdeal.τ Cert.OutPairIdeal.sig) → Buf (Elt Ideal) ℓ) : Prop :=
  True

def Pre_OutPairRefIdeal (m : (ℓ : Loc Cert.OutPairRefIdeal.nD Cert.OutPairRefIdeal.τ Cert.OutPairRefIdeal.sig) → Buf (Elt Ideal) ℓ) : Prop :=
  True

def Pre_MlaProj (m : (ℓ : Loc Cert.MlaProj.nD Cert.MlaProj.τ Cert.MlaProj.sig) → Buf (Elt Bits) ℓ) : Prop :=
  True

def Pre_MlaProjIdeal (m : (ℓ : Loc Cert.MlaProjIdeal.nD Cert.MlaProjIdeal.τ Cert.MlaProjIdeal.sig) → Buf (Elt Ideal) ℓ) : Prop :=
  True

def Pre_MlaProjRefIdeal (m : (ℓ : Loc Cert.MlaProjRefIdeal.nD Cert.MlaProjRefIdeal.τ Cert.MlaProjRefIdeal.sig) → Buf (Elt Ideal) ℓ) : Prop :=
  True

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenProjRefIdeal (m : (ℓ : Loc Cert.EvenProjRefIdeal.nD Cert.EvenProjRefIdeal.τ Cert.EvenProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_queries_keys [hAttnIdeal : Cert.AttnIdeal.Facts] [hPre_finite_queries_keys : Cert.Pre_finite_queries_keys.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_queries_keys m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_queries_keys [hAttnRefIdeal : Cert.AttnRefIdeal.Facts] [hPre_finite_queries_keys : Cert.Pre_finite_queries_keys.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_queries_keys m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_OutAtt [hOutAtt : Cert.OutAtt.Facts] : Prop :=
  ∀ (m : (ℓ : Loc Cert.OutAtt.nD Cert.OutAtt.τ Cert.OutAtt.sig) → Buf (Elt Bits) ℓ) (g : Dev Cert.OutAtt.nD → PrngReg), Pre_OutAtt m →
    θ_run (Cert.OutAtt.defs (F := Bits)) (onTc (τ := Cert.OutAtt.τ) (Cert.OutAtt.main (F := Bits))) ⟨m, fun _ => 0, g⟩ (fun r => (∀ c : Dev Cert.OutAtt.nD,
      r.2.mem ((c.tc : Thread Cert.OutAtt.nD Cert.OutAtt.τ).loc Cert.OutAtt.main_arg0) = m ((c.tc : Thread Cert.OutAtt.nD Cert.OutAtt.τ).loc Cert.OutAtt.main_arg0)
      ∧ r.2.mem ((c.tc : Thread Cert.OutAtt.nD Cert.OutAtt.τ).loc Cert.OutAtt.main_arg1) = m ((c.tc : Thread Cert.OutAtt.nD Cert.OutAtt.τ).loc Cert.OutAtt.main_arg1)
      ∧ r.2.mem ((c.tc : Thread Cert.OutAtt.nD Cert.OutAtt.τ).loc Cert.OutAtt.main_arg2) = m ((c.tc : Thread Cert.OutAtt.nD Cert.OutAtt.τ).loc Cert.OutAtt.main_arg2)
      ∧ r.2.mem ((c.tc : Thread Cert.OutAtt.nD Cert.OutAtt.τ).loc Cert.OutAtt.main_arg3) = m ((c.tc : Thread Cert.OutAtt.nD Cert.OutAtt.τ).loc Cert.OutAtt.main_arg3)
      ∧ r.2.mem ((c.tc : Thread Cert.OutAtt.nD Cert.OutAtt.τ).loc Cert.OutAtt.main_arg4) = m ((c.tc : Thread Cert.OutAtt.nD Cert.OutAtt.τ).loc Cert.OutAtt.main_arg4)
      ∧ r.2.mem ((c.tc : Thread Cert.OutAtt.nD Cert.OutAtt.τ).loc Cert.OutAtt.main_arg5) = m ((c.tc : Thread Cert.OutAtt.nD Cert.OutAtt.τ).loc Cert.OutAtt.main_arg5))
      ∧ r.2.sem = fun _ => 0)

def quiescent_OutAttIdeal [hOutAttIdeal : Cert.OutAttIdeal.Facts] : Prop :=
  ∀ (m : (ℓ : Loc Cert.OutAttIdeal.nD Cert.OutAttIdeal.τ Cert.OutAttIdeal.sig) → Buf (Elt Ideal) ℓ) (g : Dev Cert.OutAttIdeal.nD → PrngReg), Pre_OutAttIdeal m →
    θ_run (Cert.OutAttIdeal.defs (F := Ideal)) (onTc (τ := Cert.OutAttIdeal.τ) (Cert.OutAttIdeal.main (F := Ideal))) ⟨m, fun _ => 0, g⟩ (fun r => (∀ c : Dev Cert.OutAttIdeal.nD,
      r.2.mem ((c.tc : Thread Cert.OutAttIdeal.nD Cert.OutAttIdeal.τ).loc Cert.OutAttIdeal.main_arg0) = m ((c.tc : Thread Cert.OutAttIdeal.nD Cert.OutAttIdeal.τ).loc Cert.OutAttIdeal.main_arg0)
      ∧ r.2.mem ((c.tc : Thread Cert.OutAttIdeal.nD Cert.OutAttIdeal.τ).loc Cert.OutAttIdeal.main_arg1) = m ((c.tc : Thread Cert.OutAttIdeal.nD Cert.OutAttIdeal.τ).loc Cert.OutAttIdeal.main_arg1)
      ∧ r.2.mem ((c.tc : Thread Cert.OutAttIdeal.nD Cert.OutAttIdeal.τ).loc Cert.OutAttIdeal.main_arg2) = m ((c.tc : Thread Cert.OutAttIdeal.nD Cert.OutAttIdeal.τ).loc Cert.OutAttIdeal.main_arg2)
      ∧ r.2.mem ((c.tc : Thread Cert.OutAttIdeal.nD Cert.OutAttIdeal.τ).loc Cert.OutAttIdeal.main_arg3) = m ((c.tc : Thread Cert.OutAttIdeal.nD Cert.OutAttIdeal.τ).loc Cert.OutAttIdeal.main_arg3)
      ∧ r.2.mem ((c.tc : Thread Cert.OutAttIdeal.nD Cert.OutAttIdeal.τ).loc Cert.OutAttIdeal.main_arg4) = m ((c.tc : Thread Cert.OutAttIdeal.nD Cert.OutAttIdeal.τ).loc Cert.OutAttIdeal.main_arg4)
      ∧ r.2.mem ((c.tc : Thread Cert.OutAttIdeal.nD Cert.OutAttIdeal.τ).loc Cert.OutAttIdeal.main_arg5) = m ((c.tc : Thread Cert.OutAttIdeal.nD Cert.OutAttIdeal.τ).loc Cert.OutAttIdeal.main_arg5))
      ∧ r.2.sem = fun _ => 0)

def quiescent_OutAttRefIdeal [hOutAttRefIdeal : Cert.OutAttRefIdeal.Facts] : Prop :=
  ∀ (m : (ℓ : Loc Cert.OutAttRefIdeal.nD Cert.OutAttRefIdeal.τ Cert.OutAttRefIdeal.sig) → Buf (Elt Ideal) ℓ) (g : Dev Cert.OutAttRefIdeal.nD → PrngReg), Pre_OutAttRefIdeal m →
    θ_run (Cert.OutAttRefIdeal.defs (F := Ideal)) (onTc (τ := Cert.OutAttRefIdeal.τ) (Cert.OutAttRefIdeal.main (F := Ideal))) ⟨m, fun _ => 0, g⟩ (fun r => (∀ c : Dev Cert.OutAttRefIdeal.nD,
      r.2.mem ((c.tc : Thread Cert.OutAttRefIdeal.nD Cert.OutAttRefIdeal.τ).loc Cert.OutAttRefIdeal.main_arg0) = m ((c.tc : Thread Cert.OutAttRefIdeal.nD Cert.OutAttRefIdeal.τ).loc Cert.OutAttRefIdeal.main_arg0)
      ∧ r.2.mem ((c.tc : Thread Cert.OutAttRefIdeal.nD Cert.OutAttRefIdeal.τ).loc Cert.OutAttRefIdeal.main_arg1) = m ((c.tc : Thread Cert.OutAttRefIdeal.nD Cert.OutAttRefIdeal.τ).loc Cert.OutAttRefIdeal.main_arg1)
      ∧ r.2.mem ((c.tc : Thread Cert.OutAttRefIdeal.nD Cert.OutAttRefIdeal.τ).loc Cert.OutAttRefIdeal.main_arg2) = m ((c.tc : Thread Cert.OutAttRefIdeal.nD Cert.OutAttRefIdeal.τ).loc Cert.OutAttRefIdeal.main_arg2)
      ∧ r.2.mem ((c.tc : Thread Cert.OutAttRefIdeal.nD Cert.OutAttRefIdeal.τ).loc Cert.OutAttRefIdeal.main_arg3) = m ((c.tc : Thread Cert.OutAttRefIdeal.nD Cert.OutAttRefIdeal.τ).loc Cert.OutAttRefIdeal.main_arg3)
      ∧ r.2.mem ((c.tc : Thread Cert.OutAttRefIdeal.nD Cert.OutAttRefIdeal.τ).loc Cert.OutAttRefIdeal.main_arg4) = m ((c.tc : Thread Cert.OutAttRefIdeal.nD Cert.OutAttRefIdeal.τ).loc Cert.OutAttRefIdeal.main_arg4)
      ∧ r.2.mem ((c.tc : Thread Cert.OutAttRefIdeal.nD Cert.OutAttRefIdeal.τ).loc Cert.OutAttRefIdeal.main_arg5) = m ((c.tc : Thread Cert.OutAttRefIdeal.nD Cert.OutAttRefIdeal.τ).loc Cert.OutAttRefIdeal.main_arg5))
      ∧ r.2.sem = fun _ => 0)

def quiescent_OutPair [hOutPair : Cert.OutPair.Facts] : Prop :=
  ∀ (m : (ℓ : Loc Cert.OutPair.nD Cert.OutPair.τ Cert.OutPair.sig) → Buf (Elt Bits) ℓ) (g : Dev Cert.OutPair.nD → PrngReg), Pre_OutPair m →
    θ_run (Cert.OutPair.defs (F := Bits)) (onTc (τ := Cert.OutPair.τ) (Cert.OutPair.main (F := Bits))) ⟨m, fun _ => 0, g⟩ (fun r => (∀ c : Dev Cert.OutPair.nD,
      r.2.mem ((c.tc : Thread Cert.OutPair.nD Cert.OutPair.τ).loc Cert.OutPair.main_arg0) = m ((c.tc : Thread Cert.OutPair.nD Cert.OutPair.τ).loc Cert.OutPair.main_arg0)
      ∧ r.2.mem ((c.tc : Thread Cert.OutPair.nD Cert.OutPair.τ).loc Cert.OutPair.main_arg1) = m ((c.tc : Thread Cert.OutPair.nD Cert.OutPair.τ).loc Cert.OutPair.main_arg1)
      ∧ r.2.mem ((c.tc : Thread Cert.OutPair.nD Cert.OutPair.τ).loc Cert.OutPair.main_arg2) = m ((c.tc : Thread Cert.OutPair.nD Cert.OutPair.τ).loc Cert.OutPair.main_arg2)
      ∧ r.2.mem ((c.tc : Thread Cert.OutPair.nD Cert.OutPair.τ).loc Cert.OutPair.main_arg3) = m ((c.tc : Thread Cert.OutPair.nD Cert.OutPair.τ).loc Cert.OutPair.main_arg3)
      ∧ r.2.mem ((c.tc : Thread Cert.OutPair.nD Cert.OutPair.τ).loc Cert.OutPair.main_arg4) = m ((c.tc : Thread Cert.OutPair.nD Cert.OutPair.τ).loc Cert.OutPair.main_arg4)
      ∧ r.2.mem ((c.tc : Thread Cert.OutPair.nD Cert.OutPair.τ).loc Cert.OutPair.main_arg5) = m ((c.tc : Thread Cert.OutPair.nD Cert.OutPair.τ).loc Cert.OutPair.main_arg5)
      ∧ r.2.mem ((c.tc : Thread Cert.OutPair.nD Cert.OutPair.τ).loc Cert.OutPair.main_arg6) = m ((c.tc : Thread Cert.OutPair.nD Cert.OutPair.τ).loc Cert.OutPair.main_arg6))
      ∧ r.2.sem = fun _ => 0)

def quiescent_OutPairIdeal [hOutPairIdeal : Cert.OutPairIdeal.Facts] : Prop :=
  ∀ (m : (ℓ : Loc Cert.OutPairIdeal.nD Cert.OutPairIdeal.τ Cert.OutPairIdeal.sig) → Buf (Elt Ideal) ℓ) (g : Dev Cert.OutPairIdeal.nD → PrngReg), Pre_OutPairIdeal m →
    θ_run (Cert.OutPairIdeal.defs (F := Ideal)) (onTc (τ := Cert.OutPairIdeal.τ) (Cert.OutPairIdeal.main (F := Ideal))) ⟨m, fun _ => 0, g⟩ (fun r => (∀ c : Dev Cert.OutPairIdeal.nD,
      r.2.mem ((c.tc : Thread Cert.OutPairIdeal.nD Cert.OutPairIdeal.τ).loc Cert.OutPairIdeal.main_arg0) = m ((c.tc : Thread Cert.OutPairIdeal.nD Cert.OutPairIdeal.τ).loc Cert.OutPairIdeal.main_arg0)
      ∧ r.2.mem ((c.tc : Thread Cert.OutPairIdeal.nD Cert.OutPairIdeal.τ).loc Cert.OutPairIdeal.main_arg1) = m ((c.tc : Thread Cert.OutPairIdeal.nD Cert.OutPairIdeal.τ).loc Cert.OutPairIdeal.main_arg1)
      ∧ r.2.mem ((c.tc : Thread Cert.OutPairIdeal.nD Cert.OutPairIdeal.τ).loc Cert.OutPairIdeal.main_arg2) = m ((c.tc : Thread Cert.OutPairIdeal.nD Cert.OutPairIdeal.τ).loc Cert.OutPairIdeal.main_arg2)
      ∧ r.2.mem ((c.tc : Thread Cert.OutPairIdeal.nD Cert.OutPairIdeal.τ).loc Cert.OutPairIdeal.main_arg3) = m ((c.tc : Thread Cert.OutPairIdeal.nD Cert.OutPairIdeal.τ).loc Cert.OutPairIdeal.main_arg3)
      ∧ r.2.mem ((c.tc : Thread Cert.OutPairIdeal.nD Cert.OutPairIdeal.τ).loc Cert.OutPairIdeal.main_arg4) = m ((c.tc : Thread Cert.OutPairIdeal.nD Cert.OutPairIdeal.τ).loc Cert.OutPairIdeal.main_arg4)
      ∧ r.2.mem ((c.tc : Thread Cert.OutPairIdeal.nD Cert.OutPairIdeal.τ).loc Cert.OutPairIdeal.main_arg5) = m ((c.tc : Thread Cert.OutPairIdeal.nD Cert.OutPairIdeal.τ).loc Cert.OutPairIdeal.main_arg5)
      ∧ r.2.mem ((c.tc : Thread Cert.OutPairIdeal.nD Cert.OutPairIdeal.τ).loc Cert.OutPairIdeal.main_arg6) = m ((c.tc : Thread Cert.OutPairIdeal.nD Cert.OutPairIdeal.τ).loc Cert.OutPairIdeal.main_arg6))
      ∧ r.2.sem = fun _ => 0)

def quiescent_OutPairRefIdeal [hOutPairRefIdeal : Cert.OutPairRefIdeal.Facts] : Prop :=
  ∀ (m : (ℓ : Loc Cert.OutPairRefIdeal.nD Cert.OutPairRefIdeal.τ Cert.OutPairRefIdeal.sig) → Buf (Elt Ideal) ℓ) (g : Dev Cert.OutPairRefIdeal.nD → PrngReg), Pre_OutPairRefIdeal m →
    θ_run (Cert.OutPairRefIdeal.defs (F := Ideal)) (onTc (τ := Cert.OutPairRefIdeal.τ) (Cert.OutPairRefIdeal.main (F := Ideal))) ⟨m, fun _ => 0, g⟩ (fun r => (∀ c : Dev Cert.OutPairRefIdeal.nD,
      r.2.mem ((c.tc : Thread Cert.OutPairRefIdeal.nD Cert.OutPairRefIdeal.τ).loc Cert.OutPairRefIdeal.main_arg0) = m ((c.tc : Thread Cert.OutPairRefIdeal.nD Cert.OutPairRefIdeal.τ).loc Cert.OutPairRefIdeal.main_arg0)
      ∧ r.2.mem ((c.tc : Thread Cert.OutPairRefIdeal.nD Cert.OutPairRefIdeal.τ).loc Cert.OutPairRefIdeal.main_arg1) = m ((c.tc : Thread Cert.OutPairRefIdeal.nD Cert.OutPairRefIdeal.τ).loc Cert.OutPairRefIdeal.main_arg1)
      ∧ r.2.mem ((c.tc : Thread Cert.OutPairRefIdeal.nD Cert.OutPairRefIdeal.τ).loc Cert.OutPairRefIdeal.main_arg2) = m ((c.tc : Thread Cert.OutPairRefIdeal.nD Cert.OutPairRefIdeal.τ).loc Cert.OutPairRefIdeal.main_arg2)
      ∧ r.2.mem ((c.tc : Thread Cert.OutPairRefIdeal.nD Cert.OutPairRefIdeal.τ).loc Cert.OutPairRefIdeal.main_arg3) = m ((c.tc : Thread Cert.OutPairRefIdeal.nD Cert.OutPairRefIdeal.τ).loc Cert.OutPairRefIdeal.main_arg3)
      ∧ r.2.mem ((c.tc : Thread Cert.OutPairRefIdeal.nD Cert.OutPairRefIdeal.τ).loc Cert.OutPairRefIdeal.main_arg4) = m ((c.tc : Thread Cert.OutPairRefIdeal.nD Cert.OutPairRefIdeal.τ).loc Cert.OutPairRefIdeal.main_arg4)
      ∧ r.2.mem ((c.tc : Thread Cert.OutPairRefIdeal.nD Cert.OutPairRefIdeal.τ).loc Cert.OutPairRefIdeal.main_arg5) = m ((c.tc : Thread Cert.OutPairRefIdeal.nD Cert.OutPairRefIdeal.τ).loc Cert.OutPairRefIdeal.main_arg5)
      ∧ r.2.mem ((c.tc : Thread Cert.OutPairRefIdeal.nD Cert.OutPairRefIdeal.τ).loc Cert.OutPairRefIdeal.main_arg6) = m ((c.tc : Thread Cert.OutPairRefIdeal.nD Cert.OutPairRefIdeal.τ).loc Cert.OutPairRefIdeal.main_arg6))
      ∧ r.2.sem = fun _ => 0)

def quiescent_MlaProj [hMlaProj : Cert.MlaProj.Facts] : Prop :=
  ∀ (m : (ℓ : Loc Cert.MlaProj.nD Cert.MlaProj.τ Cert.MlaProj.sig) → Buf (Elt Bits) ℓ) (g : Dev Cert.MlaProj.nD → PrngReg), Pre_MlaProj m →
    θ_run (Cert.MlaProj.defs (F := Bits)) (onTc (τ := Cert.MlaProj.τ) (Cert.MlaProj.main (F := Bits))) ⟨m, fun _ => 0, g⟩ (fun r => (∀ c : Dev Cert.MlaProj.nD,
      r.2.mem ((c.tc : Thread Cert.MlaProj.nD Cert.MlaProj.τ).loc Cert.MlaProj.main_arg0) = m ((c.tc : Thread Cert.MlaProj.nD Cert.MlaProj.τ).loc Cert.MlaProj.main_arg0)
      ∧ r.2.mem ((c.tc : Thread Cert.MlaProj.nD Cert.MlaProj.τ).loc Cert.MlaProj.main_arg1) = m ((c.tc : Thread Cert.MlaProj.nD Cert.MlaProj.τ).loc Cert.MlaProj.main_arg1)
      ∧ r.2.mem ((c.tc : Thread Cert.MlaProj.nD Cert.MlaProj.τ).loc Cert.MlaProj.main_arg2) = m ((c.tc : Thread Cert.MlaProj.nD Cert.MlaProj.τ).loc Cert.MlaProj.main_arg2)
      ∧ r.2.mem ((c.tc : Thread Cert.MlaProj.nD Cert.MlaProj.τ).loc Cert.MlaProj.main_arg3) = m ((c.tc : Thread Cert.MlaProj.nD Cert.MlaProj.τ).loc Cert.MlaProj.main_arg3)
      ∧ r.2.mem ((c.tc : Thread Cert.MlaProj.nD Cert.MlaProj.τ).loc Cert.MlaProj.main_arg4) = m ((c.tc : Thread Cert.MlaProj.nD Cert.MlaProj.τ).loc Cert.MlaProj.main_arg4)
      ∧ r.2.mem ((c.tc : Thread Cert.MlaProj.nD Cert.MlaProj.τ).loc Cert.MlaProj.main_arg5) = m ((c.tc : Thread Cert.MlaProj.nD Cert.MlaProj.τ).loc Cert.MlaProj.main_arg5)
      ∧ r.2.mem ((c.tc : Thread Cert.MlaProj.nD Cert.MlaProj.τ).loc Cert.MlaProj.main_arg6) = m ((c.tc : Thread Cert.MlaProj.nD Cert.MlaProj.τ).loc Cert.MlaProj.main_arg6)
      ∧ r.2.mem ((c.tc : Thread Cert.MlaProj.nD Cert.MlaProj.τ).loc Cert.MlaProj.main_arg7) = m ((c.tc : Thread Cert.MlaProj.nD Cert.MlaProj.τ).loc Cert.MlaProj.main_arg7))
      ∧ r.2.sem = fun _ => 0)

def quiescent_MlaProjIdeal [hMlaProjIdeal : Cert.MlaProjIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg), Pre_MlaProjIdeal m →
    θ_run (Cert.MlaProjIdeal.defs (F := Ideal)) (onTc (τ := Cert.MlaProjIdeal.τ) (Cert.MlaProjIdeal.main (F := Ideal))) ⟨m, fun _ => 0, g⟩ (fun r => (∀ c : Dev Cert.MlaProjIdeal.nD,
      r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
      ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
      ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
      ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
      ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
      ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
      ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6)
      ∧ r.2.mem ((c.tc : Thread Cert.MlaProjIdeal.nD Cert.MlaProjIdeal.τ).loc Cert.MlaProjIdeal.main_arg7) = m ((c.tc : Thread Cert.MlaProjIdeal.nD Cert.MlaProjIdeal.τ).loc Cert.MlaProjIdeal.main_arg7))
      ∧ r.2.sem = fun _ => 0)

def quiescent_MlaProjRefIdeal [hMlaProjRefIdeal : Cert.MlaProjRefIdeal.Facts] : Prop :=
  ∀ (m : (ℓ : Loc Cert.MlaProjRefIdeal.nD Cert.MlaProjRefIdeal.τ Cert.MlaProjRefIdeal.sig) → Buf (Elt Ideal) ℓ) (g : Dev Cert.MlaProjRefIdeal.nD → PrngReg), Pre_MlaProjRefIdeal m →
    θ_run (Cert.MlaProjRefIdeal.defs (F := Ideal)) (onTc (τ := Cert.MlaProjRefIdeal.τ) (Cert.MlaProjRefIdeal.main (F := Ideal))) ⟨m, fun _ => 0, g⟩ (fun r => (∀ c : Dev Cert.MlaProjRefIdeal.nD,
      r.2.mem ((c.tc : Thread Cert.MlaProjRefIdeal.nD Cert.MlaProjRefIdeal.τ).loc Cert.MlaProjRefIdeal.main_arg0) = m ((c.tc : Thread Cert.MlaProjRefIdeal.nD Cert.MlaProjRefIdeal.τ).loc Cert.MlaProjRefIdeal.main_arg0)
      ∧ r.2.mem ((c.tc : Thread Cert.MlaProjRefIdeal.nD Cert.MlaProjRefIdeal.τ).loc Cert.MlaProjRefIdeal.main_arg1) = m ((c.tc : Thread Cert.MlaProjRefIdeal.nD Cert.MlaProjRefIdeal.τ).loc Cert.MlaProjRefIdeal.main_arg1)
      ∧ r.2.mem ((c.tc : Thread Cert.MlaProjRefIdeal.nD Cert.MlaProjRefIdeal.τ).loc Cert.MlaProjRefIdeal.main_arg2) = m ((c.tc : Thread Cert.MlaProjRefIdeal.nD Cert.MlaProjRefIdeal.τ).loc Cert.MlaProjRefIdeal.main_arg2)
      ∧ r.2.mem ((c.tc : Thread Cert.MlaProjRefIdeal.nD Cert.MlaProjRefIdeal.τ).loc Cert.MlaProjRefIdeal.main_arg3) = m ((c.tc : Thread Cert.MlaProjRefIdeal.nD Cert.MlaProjRefIdeal.τ).loc Cert.MlaProjRefIdeal.main_arg3)
      ∧ r.2.mem ((c.tc : Thread Cert.MlaProjRefIdeal.nD Cert.MlaProjRefIdeal.τ).loc Cert.MlaProjRefIdeal.main_arg4) = m ((c.tc : Thread Cert.MlaProjRefIdeal.nD Cert.MlaProjRefIdeal.τ).loc Cert.MlaProjRefIdeal.main_arg4)
      ∧ r.2.mem ((c.tc : Thread Cert.MlaProjRefIdeal.nD Cert.MlaProjRefIdeal.τ).loc Cert.MlaProjRefIdeal.main_arg5) = m ((c.tc : Thread Cert.MlaProjRefIdeal.nD Cert.MlaProjRefIdeal.τ).loc Cert.MlaProjRefIdeal.main_arg5)
      ∧ r.2.mem ((c.tc : Thread Cert.MlaProjRefIdeal.nD Cert.MlaProjRefIdeal.τ).loc Cert.MlaProjRefIdeal.main_arg6) = m ((c.tc : Thread Cert.MlaProjRefIdeal.nD Cert.MlaProjRefIdeal.τ).loc Cert.MlaProjRefIdeal.main_arg6)
      ∧ r.2.mem ((c.tc : Thread Cert.MlaProjRefIdeal.nD Cert.MlaProjRefIdeal.τ).loc Cert.MlaProjRefIdeal.main_arg7) = m ((c.tc : Thread Cert.MlaProjRefIdeal.nD Cert.MlaProjRefIdeal.τ).loc Cert.MlaProjRefIdeal.main_arg7))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1)
      ∧ r.2.mem ((c.tc : Thread Cert.EvenProj.nD Cert.EvenProj.τ).loc Cert.EvenProj.main_arg2) = m ((c.tc : Thread Cert.EvenProj.nD Cert.EvenProj.τ).loc Cert.EvenProj.main_arg2)
      ∧ r.2.mem ((c.tc : Thread Cert.EvenProj.nD Cert.EvenProj.τ).loc Cert.EvenProj.main_arg3) = m ((c.tc : Thread Cert.EvenProj.nD Cert.EvenProj.τ).loc Cert.EvenProj.main_arg3)
      ∧ r.2.mem ((c.tc : Thread Cert.EvenProj.nD Cert.EvenProj.τ).loc Cert.EvenProj.main_arg4) = m ((c.tc : Thread Cert.EvenProj.nD Cert.EvenProj.τ).loc Cert.EvenProj.main_arg4)
      ∧ r.2.mem ((c.tc : Thread Cert.EvenProj.nD Cert.EvenProj.τ).loc Cert.EvenProj.main_arg5) = m ((c.tc : Thread Cert.EvenProj.nD Cert.EvenProj.τ).loc Cert.EvenProj.main_arg5)
      ∧ r.2.mem ((c.tc : Thread Cert.EvenProj.nD Cert.EvenProj.τ).loc Cert.EvenProj.main_arg6) = m ((c.tc : Thread Cert.EvenProj.nD Cert.EvenProj.τ).loc Cert.EvenProj.main_arg6))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
      ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3)
      ∧ r.2.mem ((c.tc : Thread Cert.EvenProjIdeal.nD Cert.EvenProjIdeal.τ).loc Cert.EvenProjIdeal.main_arg4) = m ((c.tc : Thread Cert.EvenProjIdeal.nD Cert.EvenProjIdeal.τ).loc Cert.EvenProjIdeal.main_arg4)
      ∧ r.2.mem ((c.tc : Thread Cert.EvenProjIdeal.nD Cert.EvenProjIdeal.τ).loc Cert.EvenProjIdeal.main_arg5) = m ((c.tc : Thread Cert.EvenProjIdeal.nD Cert.EvenProjIdeal.τ).loc Cert.EvenProjIdeal.main_arg5)
      ∧ r.2.mem ((c.tc : Thread Cert.EvenProjIdeal.nD Cert.EvenProjIdeal.τ).loc Cert.EvenProjIdeal.main_arg6) = m ((c.tc : Thread Cert.EvenProjIdeal.nD Cert.EvenProjIdeal.τ).loc Cert.EvenProjIdeal.main_arg6))
      ∧ r.2.sem = fun _ => 0)

def quiescent_EvenProjRefIdeal [hEvenProjRefIdeal : Cert.EvenProjRefIdeal.Facts] : Prop :=
  ∀ (m : (ℓ : Loc Cert.EvenProjRefIdeal.nD Cert.EvenProjRefIdeal.τ Cert.EvenProjRefIdeal.sig) → Buf (Elt Ideal) ℓ) (g : Dev Cert.EvenProjRefIdeal.nD → PrngReg), Pre_EvenProjRefIdeal m →
    θ_run (Cert.EvenProjRefIdeal.defs (F := Ideal)) (onTc (τ := Cert.EvenProjRefIdeal.τ) (Cert.EvenProjRefIdeal.main (F := Ideal))) ⟨m, fun _ => 0, g⟩ (fun r => (∀ c : Dev Cert.EvenProjRefIdeal.nD,
      r.2.mem ((c.tc : Thread Cert.EvenProjRefIdeal.nD Cert.EvenProjRefIdeal.τ).loc Cert.EvenProjRefIdeal.main_arg0) = m ((c.tc : Thread Cert.EvenProjRefIdeal.nD Cert.EvenProjRefIdeal.τ).loc Cert.EvenProjRefIdeal.main_arg0)
      ∧ r.2.mem ((c.tc : Thread Cert.EvenProjRefIdeal.nD Cert.EvenProjRefIdeal.τ).loc Cert.EvenProjRefIdeal.main_arg1) = m ((c.tc : Thread Cert.EvenProjRefIdeal.nD Cert.EvenProjRefIdeal.τ).loc Cert.EvenProjRefIdeal.main_arg1)
      ∧ r.2.mem ((c.tc : Thread Cert.EvenProjRefIdeal.nD Cert.EvenProjRefIdeal.τ).loc Cert.EvenProjRefIdeal.main_arg2) = m ((c.tc : Thread Cert.EvenProjRefIdeal.nD Cert.EvenProjRefIdeal.τ).loc Cert.EvenProjRefIdeal.main_arg2)
      ∧ r.2.mem ((c.tc : Thread Cert.EvenProjRefIdeal.nD Cert.EvenProjRefIdeal.τ).loc Cert.EvenProjRefIdeal.main_arg3) = m ((c.tc : Thread Cert.EvenProjRefIdeal.nD Cert.EvenProjRefIdeal.τ).loc Cert.EvenProjRefIdeal.main_arg3)
      ∧ r.2.mem ((c.tc : Thread Cert.EvenProjRefIdeal.nD Cert.EvenProjRefIdeal.τ).loc Cert.EvenProjRefIdeal.main_arg4) = m ((c.tc : Thread Cert.EvenProjRefIdeal.nD Cert.EvenProjRefIdeal.τ).loc Cert.EvenProjRefIdeal.main_arg4)
      ∧ r.2.mem ((c.tc : Thread Cert.EvenProjRefIdeal.nD Cert.EvenProjRefIdeal.τ).loc Cert.EvenProjRefIdeal.main_arg5) = m ((c.tc : Thread Cert.EvenProjRefIdeal.nD Cert.EvenProjRefIdeal.τ).loc Cert.EvenProjRefIdeal.main_arg5)
      ∧ r.2.mem ((c.tc : Thread Cert.EvenProjRefIdeal.nD Cert.EvenProjRefIdeal.τ).loc Cert.EvenProjRefIdeal.main_arg6) = m ((c.tc : Thread Cert.EvenProjRefIdeal.nD Cert.EvenProjRefIdeal.τ).loc Cert.EvenProjRefIdeal.main_arg6))
      ∧ r.2.sem = fun _ => 0)

def preserves_Attn_AttnIdeal : Prop :=
  True

def algebraic_AttnIdeal_AttnRefIdeal_pre_finite_queries_keys [hAttnIdeal : Cert.AttnIdeal.Facts] [hAttnRefIdeal : Cert.AttnRefIdeal.Facts] [hPre_finite_queries_keys : Cert.Pre_finite_queries_keys.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_queries_keys m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v26) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v71) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_OutAtt_OutAttIdeal : Prop :=
  True

def algebraic_OutAttIdeal_OutAttRefIdeal [hOutAttIdeal : Cert.OutAttIdeal.Facts] [hOutAttRefIdeal : Cert.OutAttRefIdeal.Facts] : Prop :=
  ∀ (m : (ℓ : Loc Cert.OutAttIdeal.nD Cert.OutAttIdeal.τ Cert.OutAttIdeal.sig) → Buf (Elt Ideal) ℓ) (g : Dev Cert.OutAttIdeal.nD → PrngReg)
    (m' : (ℓ : Loc Cert.OutAttRefIdeal.nD Cert.OutAttRefIdeal.τ Cert.OutAttRefIdeal.sig) → Buf (Elt Ideal) ℓ) (g' : Dev Cert.OutAttRefIdeal.nD → PrngReg), Pre_OutAttIdeal m →
    (∀ c : Dev Cert.OutAttIdeal.nD,
      m' ((c.tc : Thread Cert.OutAttRefIdeal.nD Cert.OutAttRefIdeal.τ).loc Cert.OutAttRefIdeal.main_arg0) = m ((c.tc : Thread Cert.OutAttIdeal.nD Cert.OutAttIdeal.τ).loc Cert.OutAttIdeal.main_arg0)
      ∧ m' ((c.tc : Thread Cert.OutAttRefIdeal.nD Cert.OutAttRefIdeal.τ).loc Cert.OutAttRefIdeal.main_arg1) = m ((c.tc : Thread Cert.OutAttIdeal.nD Cert.OutAttIdeal.τ).loc Cert.OutAttIdeal.main_arg1)
      ∧ m' ((c.tc : Thread Cert.OutAttRefIdeal.nD Cert.OutAttRefIdeal.τ).loc Cert.OutAttRefIdeal.main_arg2) = m ((c.tc : Thread Cert.OutAttIdeal.nD Cert.OutAttIdeal.τ).loc Cert.OutAttIdeal.main_arg2)
      ∧ m' ((c.tc : Thread Cert.OutAttRefIdeal.nD Cert.OutAttRefIdeal.τ).loc Cert.OutAttRefIdeal.main_arg3) = m ((c.tc : Thread Cert.OutAttIdeal.nD Cert.OutAttIdeal.τ).loc Cert.OutAttIdeal.main_arg3)
      ∧ m' ((c.tc : Thread Cert.OutAttRefIdeal.nD Cert.OutAttRefIdeal.τ).loc Cert.OutAttRefIdeal.main_arg4) = m ((c.tc : Thread Cert.OutAttIdeal.nD Cert.OutAttIdeal.τ).loc Cert.OutAttIdeal.main_arg4)
      ∧ m' ((c.tc : Thread Cert.OutAttRefIdeal.nD Cert.OutAttRefIdeal.τ).loc Cert.OutAttRefIdeal.main_arg5) = m ((c.tc : Thread Cert.OutAttIdeal.nD Cert.OutAttIdeal.τ).loc Cert.OutAttIdeal.main_arg5)) →
    ∃ (v0 : (c : Dev Cert.OutAttIdeal.nD) → Buf (Elt Ideal) ((c.tc : Thread Cert.OutAttIdeal.nD Cert.OutAttIdeal.τ).loc Cert.OutAttIdeal.main_v3)),
      θ_run (Cert.OutAttIdeal.defs (F := Ideal)) (onTc (τ := Cert.OutAttIdeal.τ) (Cert.OutAttIdeal.main (F := Ideal))) ⟨m, fun _ => 0, g⟩ (fun r => ∀ c : Dev Cert.OutAttIdeal.nD,
          r.2.mem ((c.tc : Thread Cert.OutAttIdeal.nD Cert.OutAttIdeal.τ).loc Cert.OutAttIdeal.main_v3) = v0 c
          ∧ r.2.mem ((c.tc : Thread Cert.OutAttIdeal.nD Cert.OutAttIdeal.τ).loc Cert.OutAttIdeal.main_arg0) = m ((c.tc : Thread Cert.OutAttIdeal.nD Cert.OutAttIdeal.τ).loc Cert.OutAttIdeal.main_arg0)
          ∧ r.2.mem ((c.tc : Thread Cert.OutAttIdeal.nD Cert.OutAttIdeal.τ).loc Cert.OutAttIdeal.main_arg1) = m ((c.tc : Thread Cert.OutAttIdeal.nD Cert.OutAttIdeal.τ).loc Cert.OutAttIdeal.main_arg1)
          ∧ r.2.mem ((c.tc : Thread Cert.OutAttIdeal.nD Cert.OutAttIdeal.τ).loc Cert.OutAttIdeal.main_arg2) = m ((c.tc : Thread Cert.OutAttIdeal.nD Cert.OutAttIdeal.τ).loc Cert.OutAttIdeal.main_arg2)
          ∧ r.2.mem ((c.tc : Thread Cert.OutAttIdeal.nD Cert.OutAttIdeal.τ).loc Cert.OutAttIdeal.main_arg3) = m ((c.tc : Thread Cert.OutAttIdeal.nD Cert.OutAttIdeal.τ).loc Cert.OutAttIdeal.main_arg3)
          ∧ r.2.mem ((c.tc : Thread Cert.OutAttIdeal.nD Cert.OutAttIdeal.τ).loc Cert.OutAttIdeal.main_arg4) = m ((c.tc : Thread Cert.OutAttIdeal.nD Cert.OutAttIdeal.τ).loc Cert.OutAttIdeal.main_arg4)
          ∧ r.2.mem ((c.tc : Thread Cert.OutAttIdeal.nD Cert.OutAttIdeal.τ).loc Cert.OutAttIdeal.main_arg5) = m ((c.tc : Thread Cert.OutAttIdeal.nD Cert.OutAttIdeal.τ).loc Cert.OutAttIdeal.main_arg5))
      ∧ θ_run (Cert.OutAttRefIdeal.defs (F := Ideal)) (onTc (τ := Cert.OutAttRefIdeal.τ) (Cert.OutAttRefIdeal.main (F := Ideal))) ⟨m', fun _ => 0, g'⟩ (fun r => ∀ c : Dev Cert.OutAttRefIdeal.nD,
          r.2.mem ((c.tc : Thread Cert.OutAttRefIdeal.nD Cert.OutAttRefIdeal.τ).loc Cert.OutAttRefIdeal.main_v31) = v0 c
          ∧ r.2.mem ((c.tc : Thread Cert.OutAttRefIdeal.nD Cert.OutAttRefIdeal.τ).loc Cert.OutAttRefIdeal.main_arg0) = m' ((c.tc : Thread Cert.OutAttRefIdeal.nD Cert.OutAttRefIdeal.τ).loc Cert.OutAttRefIdeal.main_arg0)
          ∧ r.2.mem ((c.tc : Thread Cert.OutAttRefIdeal.nD Cert.OutAttRefIdeal.τ).loc Cert.OutAttRefIdeal.main_arg1) = m' ((c.tc : Thread Cert.OutAttRefIdeal.nD Cert.OutAttRefIdeal.τ).loc Cert.OutAttRefIdeal.main_arg1)
          ∧ r.2.mem ((c.tc : Thread Cert.OutAttRefIdeal.nD Cert.OutAttRefIdeal.τ).loc Cert.OutAttRefIdeal.main_arg2) = m' ((c.tc : Thread Cert.OutAttRefIdeal.nD Cert.OutAttRefIdeal.τ).loc Cert.OutAttRefIdeal.main_arg2)
          ∧ r.2.mem ((c.tc : Thread Cert.OutAttRefIdeal.nD Cert.OutAttRefIdeal.τ).loc Cert.OutAttRefIdeal.main_arg3) = m' ((c.tc : Thread Cert.OutAttRefIdeal.nD Cert.OutAttRefIdeal.τ).loc Cert.OutAttRefIdeal.main_arg3)
          ∧ r.2.mem ((c.tc : Thread Cert.OutAttRefIdeal.nD Cert.OutAttRefIdeal.τ).loc Cert.OutAttRefIdeal.main_arg4) = m' ((c.tc : Thread Cert.OutAttRefIdeal.nD Cert.OutAttRefIdeal.τ).loc Cert.OutAttRefIdeal.main_arg4)
          ∧ r.2.mem ((c.tc : Thread Cert.OutAttRefIdeal.nD Cert.OutAttRefIdeal.τ).loc Cert.OutAttRefIdeal.main_arg5) = m' ((c.tc : Thread Cert.OutAttRefIdeal.nD Cert.OutAttRefIdeal.τ).loc Cert.OutAttRefIdeal.main_arg5))

def preserves_OutPair_OutPairIdeal : Prop :=
  True

def algebraic_OutPairIdeal_OutPairRefIdeal [hOutPairIdeal : Cert.OutPairIdeal.Facts] [hOutPairRefIdeal : Cert.OutPairRefIdeal.Facts] : Prop :=
  ∀ (m : (ℓ : Loc Cert.OutPairIdeal.nD Cert.OutPairIdeal.τ Cert.OutPairIdeal.sig) → Buf (Elt Ideal) ℓ) (g : Dev Cert.OutPairIdeal.nD → PrngReg)
    (m' : (ℓ : Loc Cert.OutPairRefIdeal.nD Cert.OutPairRefIdeal.τ Cert.OutPairRefIdeal.sig) → Buf (Elt Ideal) ℓ) (g' : Dev Cert.OutPairRefIdeal.nD → PrngReg), Pre_OutPairIdeal m →
    (∀ c : Dev Cert.OutPairIdeal.nD,
      m' ((c.tc : Thread Cert.OutPairRefIdeal.nD Cert.OutPairRefIdeal.τ).loc Cert.OutPairRefIdeal.main_arg0) = m ((c.tc : Thread Cert.OutPairIdeal.nD Cert.OutPairIdeal.τ).loc Cert.OutPairIdeal.main_arg0)
      ∧ m' ((c.tc : Thread Cert.OutPairRefIdeal.nD Cert.OutPairRefIdeal.τ).loc Cert.OutPairRefIdeal.main_arg1) = m ((c.tc : Thread Cert.OutPairIdeal.nD Cert.OutPairIdeal.τ).loc Cert.OutPairIdeal.main_arg1)
      ∧ m' ((c.tc : Thread Cert.OutPairRefIdeal.nD Cert.OutPairRefIdeal.τ).loc Cert.OutPairRefIdeal.main_arg2) = m ((c.tc : Thread Cert.OutPairIdeal.nD Cert.OutPairIdeal.τ).loc Cert.OutPairIdeal.main_arg2)
      ∧ m' ((c.tc : Thread Cert.OutPairRefIdeal.nD Cert.OutPairRefIdeal.τ).loc Cert.OutPairRefIdeal.main_arg3) = m ((c.tc : Thread Cert.OutPairIdeal.nD Cert.OutPairIdeal.τ).loc Cert.OutPairIdeal.main_arg3)
      ∧ m' ((c.tc : Thread Cert.OutPairRefIdeal.nD Cert.OutPairRefIdeal.τ).loc Cert.OutPairRefIdeal.main_arg4) = m ((c.tc : Thread Cert.OutPairIdeal.nD Cert.OutPairIdeal.τ).loc Cert.OutPairIdeal.main_arg4)
      ∧ m' ((c.tc : Thread Cert.OutPairRefIdeal.nD Cert.OutPairRefIdeal.τ).loc Cert.OutPairRefIdeal.main_arg5) = m ((c.tc : Thread Cert.OutPairIdeal.nD Cert.OutPairIdeal.τ).loc Cert.OutPairIdeal.main_arg5)
      ∧ m' ((c.tc : Thread Cert.OutPairRefIdeal.nD Cert.OutPairRefIdeal.τ).loc Cert.OutPairRefIdeal.main_arg6) = m ((c.tc : Thread Cert.OutPairIdeal.nD Cert.OutPairIdeal.τ).loc Cert.OutPairIdeal.main_arg6)) →
    ∃ (v0 : (c : Dev Cert.OutPairIdeal.nD) → Buf (Elt Ideal) ((c.tc : Thread Cert.OutPairIdeal.nD Cert.OutPairIdeal.τ).loc Cert.OutPairIdeal.main_v3)),
      θ_run (Cert.OutPairIdeal.defs (F := Ideal)) (onTc (τ := Cert.OutPairIdeal.τ) (Cert.OutPairIdeal.main (F := Ideal))) ⟨m, fun _ => 0, g⟩ (fun r => ∀ c : Dev Cert.OutPairIdeal.nD,
          r.2.mem ((c.tc : Thread Cert.OutPairIdeal.nD Cert.OutPairIdeal.τ).loc Cert.OutPairIdeal.main_v3) = v0 c
          ∧ r.2.mem ((c.tc : Thread Cert.OutPairIdeal.nD Cert.OutPairIdeal.τ).loc Cert.OutPairIdeal.main_arg0) = m ((c.tc : Thread Cert.OutPairIdeal.nD Cert.OutPairIdeal.τ).loc Cert.OutPairIdeal.main_arg0)
          ∧ r.2.mem ((c.tc : Thread Cert.OutPairIdeal.nD Cert.OutPairIdeal.τ).loc Cert.OutPairIdeal.main_arg1) = m ((c.tc : Thread Cert.OutPairIdeal.nD Cert.OutPairIdeal.τ).loc Cert.OutPairIdeal.main_arg1)
          ∧ r.2.mem ((c.tc : Thread Cert.OutPairIdeal.nD Cert.OutPairIdeal.τ).loc Cert.OutPairIdeal.main_arg2) = m ((c.tc : Thread Cert.OutPairIdeal.nD Cert.OutPairIdeal.τ).loc Cert.OutPairIdeal.main_arg2)
          ∧ r.2.mem ((c.tc : Thread Cert.OutPairIdeal.nD Cert.OutPairIdeal.τ).loc Cert.OutPairIdeal.main_arg3) = m ((c.tc : Thread Cert.OutPairIdeal.nD Cert.OutPairIdeal.τ).loc Cert.OutPairIdeal.main_arg3)
          ∧ r.2.mem ((c.tc : Thread Cert.OutPairIdeal.nD Cert.OutPairIdeal.τ).loc Cert.OutPairIdeal.main_arg4) = m ((c.tc : Thread Cert.OutPairIdeal.nD Cert.OutPairIdeal.τ).loc Cert.OutPairIdeal.main_arg4)
          ∧ r.2.mem ((c.tc : Thread Cert.OutPairIdeal.nD Cert.OutPairIdeal.τ).loc Cert.OutPairIdeal.main_arg5) = m ((c.tc : Thread Cert.OutPairIdeal.nD Cert.OutPairIdeal.τ).loc Cert.OutPairIdeal.main_arg5)
          ∧ r.2.mem ((c.tc : Thread Cert.OutPairIdeal.nD Cert.OutPairIdeal.τ).loc Cert.OutPairIdeal.main_arg6) = m ((c.tc : Thread Cert.OutPairIdeal.nD Cert.OutPairIdeal.τ).loc Cert.OutPairIdeal.main_arg6))
      ∧ θ_run (Cert.OutPairRefIdeal.defs (F := Ideal)) (onTc (τ := Cert.OutPairRefIdeal.τ) (Cert.OutPairRefIdeal.main (F := Ideal))) ⟨m', fun _ => 0, g'⟩ (fun r => ∀ c : Dev Cert.OutPairRefIdeal.nD,
          r.2.mem ((c.tc : Thread Cert.OutPairRefIdeal.nD Cert.OutPairRefIdeal.τ).loc Cert.OutPairRefIdeal.main_v33) = v0 c
          ∧ r.2.mem ((c.tc : Thread Cert.OutPairRefIdeal.nD Cert.OutPairRefIdeal.τ).loc Cert.OutPairRefIdeal.main_arg0) = m' ((c.tc : Thread Cert.OutPairRefIdeal.nD Cert.OutPairRefIdeal.τ).loc Cert.OutPairRefIdeal.main_arg0)
          ∧ r.2.mem ((c.tc : Thread Cert.OutPairRefIdeal.nD Cert.OutPairRefIdeal.τ).loc Cert.OutPairRefIdeal.main_arg1) = m' ((c.tc : Thread Cert.OutPairRefIdeal.nD Cert.OutPairRefIdeal.τ).loc Cert.OutPairRefIdeal.main_arg1)
          ∧ r.2.mem ((c.tc : Thread Cert.OutPairRefIdeal.nD Cert.OutPairRefIdeal.τ).loc Cert.OutPairRefIdeal.main_arg2) = m' ((c.tc : Thread Cert.OutPairRefIdeal.nD Cert.OutPairRefIdeal.τ).loc Cert.OutPairRefIdeal.main_arg2)
          ∧ r.2.mem ((c.tc : Thread Cert.OutPairRefIdeal.nD Cert.OutPairRefIdeal.τ).loc Cert.OutPairRefIdeal.main_arg3) = m' ((c.tc : Thread Cert.OutPairRefIdeal.nD Cert.OutPairRefIdeal.τ).loc Cert.OutPairRefIdeal.main_arg3)
          ∧ r.2.mem ((c.tc : Thread Cert.OutPairRefIdeal.nD Cert.OutPairRefIdeal.τ).loc Cert.OutPairRefIdeal.main_arg4) = m' ((c.tc : Thread Cert.OutPairRefIdeal.nD Cert.OutPairRefIdeal.τ).loc Cert.OutPairRefIdeal.main_arg4)
          ∧ r.2.mem ((c.tc : Thread Cert.OutPairRefIdeal.nD Cert.OutPairRefIdeal.τ).loc Cert.OutPairRefIdeal.main_arg5) = m' ((c.tc : Thread Cert.OutPairRefIdeal.nD Cert.OutPairRefIdeal.τ).loc Cert.OutPairRefIdeal.main_arg5)
          ∧ r.2.mem ((c.tc : Thread Cert.OutPairRefIdeal.nD Cert.OutPairRefIdeal.τ).loc Cert.OutPairRefIdeal.main_arg6) = m' ((c.tc : Thread Cert.OutPairRefIdeal.nD Cert.OutPairRefIdeal.τ).loc Cert.OutPairRefIdeal.main_arg6))

def preserves_MlaProj_MlaProjIdeal : Prop :=
  True

def algebraic_MlaProjIdeal_MlaProjRefIdeal [hMlaProjIdeal : Cert.MlaProjIdeal.Facts] [hMlaProjRefIdeal : Cert.MlaProjRefIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg)
    (m' : (ℓ : Loc Cert.MlaProjRefIdeal.nD Cert.MlaProjRefIdeal.τ Cert.MlaProjRefIdeal.sig) → Buf (Elt Ideal) ℓ) (g' : Dev Cert.MlaProjRefIdeal.nD → PrngReg), Pre_MlaProjIdeal m →
    (∀ c : Dev Cert.MlaProjIdeal.nD,
      m' ((c.tc : Thread Cert.MlaProjRefIdeal.nD Cert.MlaProjRefIdeal.τ).loc Cert.MlaProjRefIdeal.main_arg0) = m ((c.tc : Thread Cert.MlaProjIdeal.nD Cert.MlaProjIdeal.τ).loc Cert.MlaProjIdeal.main_arg0)
      ∧ m' ((c.tc : Thread Cert.MlaProjRefIdeal.nD Cert.MlaProjRefIdeal.τ).loc Cert.MlaProjRefIdeal.main_arg1) = m ((c.tc : Thread Cert.MlaProjIdeal.nD Cert.MlaProjIdeal.τ).loc Cert.MlaProjIdeal.main_arg1)
      ∧ m' ((c.tc : Thread Cert.MlaProjRefIdeal.nD Cert.MlaProjRefIdeal.τ).loc Cert.MlaProjRefIdeal.main_arg2) = m ((c.tc : Thread Cert.MlaProjIdeal.nD Cert.MlaProjIdeal.τ).loc Cert.MlaProjIdeal.main_arg2)
      ∧ m' ((c.tc : Thread Cert.MlaProjRefIdeal.nD Cert.MlaProjRefIdeal.τ).loc Cert.MlaProjRefIdeal.main_arg3) = m ((c.tc : Thread Cert.MlaProjIdeal.nD Cert.MlaProjIdeal.τ).loc Cert.MlaProjIdeal.main_arg3)
      ∧ m' ((c.tc : Thread Cert.MlaProjRefIdeal.nD Cert.MlaProjRefIdeal.τ).loc Cert.MlaProjRefIdeal.main_arg4) = m ((c.tc : Thread Cert.MlaProjIdeal.nD Cert.MlaProjIdeal.τ).loc Cert.MlaProjIdeal.main_arg4)
      ∧ m' ((c.tc : Thread Cert.MlaProjRefIdeal.nD Cert.MlaProjRefIdeal.τ).loc Cert.MlaProjRefIdeal.main_arg5) = m ((c.tc : Thread Cert.MlaProjIdeal.nD Cert.MlaProjIdeal.τ).loc Cert.MlaProjIdeal.main_arg5)
      ∧ m' ((c.tc : Thread Cert.MlaProjRefIdeal.nD Cert.MlaProjRefIdeal.τ).loc Cert.MlaProjRefIdeal.main_arg6) = m ((c.tc : Thread Cert.MlaProjIdeal.nD Cert.MlaProjIdeal.τ).loc Cert.MlaProjIdeal.main_arg6)
      ∧ m' ((c.tc : Thread Cert.MlaProjRefIdeal.nD Cert.MlaProjRefIdeal.τ).loc Cert.MlaProjRefIdeal.main_arg7) = m ((c.tc : Thread Cert.MlaProjIdeal.nD Cert.MlaProjIdeal.τ).loc Cert.MlaProjIdeal.main_arg7)) →
    ∃ (v0 : (c : Dev Cert.MlaProjIdeal.nD) → Buf (Elt Ideal) ((c.tc : Thread Cert.MlaProjIdeal.nD Cert.MlaProjIdeal.τ).loc Cert.MlaProjIdeal.main_v38_0)) (v1 : (c : Dev Cert.MlaProjIdeal.nD) → Buf (Elt Ideal) ((c.tc : Thread Cert.MlaProjIdeal.nD Cert.MlaProjIdeal.τ).loc Cert.MlaProjIdeal.main_v38_1)) (v2 : (c : Dev Cert.MlaProjIdeal.nD) → Buf (Elt Ideal) ((c.tc : Thread Cert.MlaProjIdeal.nD Cert.MlaProjIdeal.τ).loc Cert.MlaProjIdeal.main_v38_2)),
      θ_run (Cert.MlaProjIdeal.defs (F := Ideal)) (onTc (τ := Cert.MlaProjIdeal.τ) (Cert.MlaProjIdeal.main (F := Ideal))) ⟨m, fun _ => 0, g⟩ (fun r => ∀ c : Dev Cert.MlaProjIdeal.nD,
          r.2.mem ((c.tc : Thread Cert.MlaProjIdeal.nD Cert.MlaProjIdeal.τ).loc Cert.MlaProjIdeal.main_v38_0) = v0 c
          ∧ r.2.mem ((c.tc : Thread Cert.MlaProjIdeal.nD Cert.MlaProjIdeal.τ).loc Cert.MlaProjIdeal.main_v38_1) = v1 c
          ∧ r.2.mem ((c.tc : Thread Cert.MlaProjIdeal.nD Cert.MlaProjIdeal.τ).loc Cert.MlaProjIdeal.main_v38_2) = v2 c
          ∧ r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
          ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
          ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
          ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
          ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
          ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
          ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6)
          ∧ r.2.mem ((c.tc : Thread Cert.MlaProjIdeal.nD Cert.MlaProjIdeal.τ).loc Cert.MlaProjIdeal.main_arg7) = m ((c.tc : Thread Cert.MlaProjIdeal.nD Cert.MlaProjIdeal.τ).loc Cert.MlaProjIdeal.main_arg7))
      ∧ θ_run (Cert.MlaProjRefIdeal.defs (F := Ideal)) (onTc (τ := Cert.MlaProjRefIdeal.τ) (Cert.MlaProjRefIdeal.main (F := Ideal))) ⟨m', fun _ => 0, g'⟩ (fun r => ∀ c : Dev Cert.MlaProjRefIdeal.nD,
          r.2.mem ((c.tc : Thread Cert.MlaProjRefIdeal.nD Cert.MlaProjRefIdeal.τ).loc Cert.MlaProjRefIdeal.main_v90) = v0 c
          ∧ r.2.mem ((c.tc : Thread Cert.MlaProjRefIdeal.nD Cert.MlaProjRefIdeal.τ).loc Cert.MlaProjRefIdeal.main_v92) = v1 c
          ∧ r.2.mem ((c.tc : Thread Cert.MlaProjRefIdeal.nD Cert.MlaProjRefIdeal.τ).loc Cert.MlaProjRefIdeal.main_v95) = v2 c
          ∧ r.2.mem ((c.tc : Thread Cert.MlaProjRefIdeal.nD Cert.MlaProjRefIdeal.τ).loc Cert.MlaProjRefIdeal.main_arg0) = m' ((c.tc : Thread Cert.MlaProjRefIdeal.nD Cert.MlaProjRefIdeal.τ).loc Cert.MlaProjRefIdeal.main_arg0)
          ∧ r.2.mem ((c.tc : Thread Cert.MlaProjRefIdeal.nD Cert.MlaProjRefIdeal.τ).loc Cert.MlaProjRefIdeal.main_arg1) = m' ((c.tc : Thread Cert.MlaProjRefIdeal.nD Cert.MlaProjRefIdeal.τ).loc Cert.MlaProjRefIdeal.main_arg1)
          ∧ r.2.mem ((c.tc : Thread Cert.MlaProjRefIdeal.nD Cert.MlaProjRefIdeal.τ).loc Cert.MlaProjRefIdeal.main_arg2) = m' ((c.tc : Thread Cert.MlaProjRefIdeal.nD Cert.MlaProjRefIdeal.τ).loc Cert.MlaProjRefIdeal.main_arg2)
          ∧ r.2.mem ((c.tc : Thread Cert.MlaProjRefIdeal.nD Cert.MlaProjRefIdeal.τ).loc Cert.MlaProjRefIdeal.main_arg3) = m' ((c.tc : Thread Cert.MlaProjRefIdeal.nD Cert.MlaProjRefIdeal.τ).loc Cert.MlaProjRefIdeal.main_arg3)
          ∧ r.2.mem ((c.tc : Thread Cert.MlaProjRefIdeal.nD Cert.MlaProjRefIdeal.τ).loc Cert.MlaProjRefIdeal.main_arg4) = m' ((c.tc : Thread Cert.MlaProjRefIdeal.nD Cert.MlaProjRefIdeal.τ).loc Cert.MlaProjRefIdeal.main_arg4)
          ∧ r.2.mem ((c.tc : Thread Cert.MlaProjRefIdeal.nD Cert.MlaProjRefIdeal.τ).loc Cert.MlaProjRefIdeal.main_arg5) = m' ((c.tc : Thread Cert.MlaProjRefIdeal.nD Cert.MlaProjRefIdeal.τ).loc Cert.MlaProjRefIdeal.main_arg5)
          ∧ r.2.mem ((c.tc : Thread Cert.MlaProjRefIdeal.nD Cert.MlaProjRefIdeal.τ).loc Cert.MlaProjRefIdeal.main_arg6) = m' ((c.tc : Thread Cert.MlaProjRefIdeal.nD Cert.MlaProjRefIdeal.τ).loc Cert.MlaProjRefIdeal.main_arg6)
          ∧ r.2.mem ((c.tc : Thread Cert.MlaProjRefIdeal.nD Cert.MlaProjRefIdeal.τ).loc Cert.MlaProjRefIdeal.main_arg7) = m' ((c.tc : Thread Cert.MlaProjRefIdeal.nD Cert.MlaProjRefIdeal.τ).loc Cert.MlaProjRefIdeal.main_arg7))

def preserves_EvenProj_EvenProjIdeal : Prop :=
  True

def algebraic_EvenProjIdeal_EvenProjRefIdeal [hEvenProjIdeal : Cert.EvenProjIdeal.Facts] [hEvenProjRefIdeal : Cert.EvenProjRefIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenProjRefIdeal.nD Cert.EvenProjRefIdeal.τ Cert.EvenProjRefIdeal.sig) → Buf (Elt Ideal) ℓ) (g' : Dev Cert.EvenProjRefIdeal.nD → PrngReg), Pre_EvenProjIdeal m →
    (∀ c : Dev Cert.EvenProjIdeal.nD,
      m' ((c.tc : Thread Cert.EvenProjRefIdeal.nD Cert.EvenProjRefIdeal.τ).loc Cert.EvenProjRefIdeal.main_arg0) = m ((c.tc : Thread Cert.EvenProjIdeal.nD Cert.EvenProjIdeal.τ).loc Cert.EvenProjIdeal.main_arg0)
      ∧ m' ((c.tc : Thread Cert.EvenProjRefIdeal.nD Cert.EvenProjRefIdeal.τ).loc Cert.EvenProjRefIdeal.main_arg1) = m ((c.tc : Thread Cert.EvenProjIdeal.nD Cert.EvenProjIdeal.τ).loc Cert.EvenProjIdeal.main_arg1)
      ∧ m' ((c.tc : Thread Cert.EvenProjRefIdeal.nD Cert.EvenProjRefIdeal.τ).loc Cert.EvenProjRefIdeal.main_arg2) = m ((c.tc : Thread Cert.EvenProjIdeal.nD Cert.EvenProjIdeal.τ).loc Cert.EvenProjIdeal.main_arg2)
      ∧ m' ((c.tc : Thread Cert.EvenProjRefIdeal.nD Cert.EvenProjRefIdeal.τ).loc Cert.EvenProjRefIdeal.main_arg3) = m ((c.tc : Thread Cert.EvenProjIdeal.nD Cert.EvenProjIdeal.τ).loc Cert.EvenProjIdeal.main_arg3)
      ∧ m' ((c.tc : Thread Cert.EvenProjRefIdeal.nD Cert.EvenProjRefIdeal.τ).loc Cert.EvenProjRefIdeal.main_arg4) = m ((c.tc : Thread Cert.EvenProjIdeal.nD Cert.EvenProjIdeal.τ).loc Cert.EvenProjIdeal.main_arg4)
      ∧ m' ((c.tc : Thread Cert.EvenProjRefIdeal.nD Cert.EvenProjRefIdeal.τ).loc Cert.EvenProjRefIdeal.main_arg5) = m ((c.tc : Thread Cert.EvenProjIdeal.nD Cert.EvenProjIdeal.τ).loc Cert.EvenProjIdeal.main_arg5)
      ∧ m' ((c.tc : Thread Cert.EvenProjRefIdeal.nD Cert.EvenProjRefIdeal.τ).loc Cert.EvenProjRefIdeal.main_arg6) = m ((c.tc : Thread Cert.EvenProjIdeal.nD Cert.EvenProjIdeal.τ).loc Cert.EvenProjIdeal.main_arg6)) →
    ∃ (v0 : (c : Dev Cert.EvenProjIdeal.nD) → Buf (Elt Ideal) ((c.tc : Thread Cert.EvenProjIdeal.nD Cert.EvenProjIdeal.τ).loc Cert.EvenProjIdeal.main_v6_0)) (v1 : (c : Dev Cert.EvenProjIdeal.nD) → Buf (Elt Ideal) ((c.tc : Thread Cert.EvenProjIdeal.nD Cert.EvenProjIdeal.τ).loc Cert.EvenProjIdeal.main_v6_1)) (v2 : (c : Dev Cert.EvenProjIdeal.nD) → Buf (Elt Ideal) ((c.tc : Thread Cert.EvenProjIdeal.nD Cert.EvenProjIdeal.τ).loc Cert.EvenProjIdeal.main_v6_2)) (v3 : (c : Dev Cert.EvenProjIdeal.nD) → Buf (Elt Ideal) ((c.tc : Thread Cert.EvenProjIdeal.nD Cert.EvenProjIdeal.τ).loc Cert.EvenProjIdeal.main_v6_3)) (v4 : (c : Dev Cert.EvenProjIdeal.nD) → Buf (Elt Ideal) ((c.tc : Thread Cert.EvenProjIdeal.nD Cert.EvenProjIdeal.τ).loc Cert.EvenProjIdeal.main_v6_4)) (v5 : (c : Dev Cert.EvenProjIdeal.nD) → Buf (Elt Ideal) ((c.tc : Thread Cert.EvenProjIdeal.nD Cert.EvenProjIdeal.τ).loc Cert.EvenProjIdeal.main_v6_6)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v6_0) = v0 c
          ∧ r.2.mem ((c.tc : Thread Cert.EvenProjIdeal.nD Cert.EvenProjIdeal.τ).loc Cert.EvenProjIdeal.main_v6_1) = v1 c
          ∧ r.2.mem ((c.tc : Thread Cert.EvenProjIdeal.nD Cert.EvenProjIdeal.τ).loc Cert.EvenProjIdeal.main_v6_2) = v2 c
          ∧ r.2.mem ((c.tc : Thread Cert.EvenProjIdeal.nD Cert.EvenProjIdeal.τ).loc Cert.EvenProjIdeal.main_v6_3) = v3 c
          ∧ r.2.mem ((c.tc : Thread Cert.EvenProjIdeal.nD Cert.EvenProjIdeal.τ).loc Cert.EvenProjIdeal.main_v6_4) = v4 c
          ∧ r.2.mem ((c.tc : Thread Cert.EvenProjIdeal.nD Cert.EvenProjIdeal.τ).loc Cert.EvenProjIdeal.main_v6_6) = v5 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
          ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
          ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3)
          ∧ r.2.mem ((c.tc : Thread Cert.EvenProjIdeal.nD Cert.EvenProjIdeal.τ).loc Cert.EvenProjIdeal.main_arg4) = m ((c.tc : Thread Cert.EvenProjIdeal.nD Cert.EvenProjIdeal.τ).loc Cert.EvenProjIdeal.main_arg4)
          ∧ r.2.mem ((c.tc : Thread Cert.EvenProjIdeal.nD Cert.EvenProjIdeal.τ).loc Cert.EvenProjIdeal.main_arg5) = m ((c.tc : Thread Cert.EvenProjIdeal.nD Cert.EvenProjIdeal.τ).loc Cert.EvenProjIdeal.main_arg5)
          ∧ r.2.mem ((c.tc : Thread Cert.EvenProjIdeal.nD Cert.EvenProjIdeal.τ).loc Cert.EvenProjIdeal.main_arg6) = m ((c.tc : Thread Cert.EvenProjIdeal.nD Cert.EvenProjIdeal.τ).loc Cert.EvenProjIdeal.main_arg6))
      ∧ θ_run (Cert.EvenProjRefIdeal.defs (F := Ideal)) (onTc (τ := Cert.EvenProjRefIdeal.τ) (Cert.EvenProjRefIdeal.main (F := Ideal))) ⟨m', fun _ => 0, g'⟩ (fun r => ∀ c : Dev Cert.EvenProjRefIdeal.nD,
          r.2.mem ((c.tc : Thread Cert.EvenProjRefIdeal.nD Cert.EvenProjRefIdeal.τ).loc Cert.EvenProjRefIdeal.main_v180) = v0 c
          ∧ r.2.mem ((c.tc : Thread Cert.EvenProjRefIdeal.nD Cert.EvenProjRefIdeal.τ).loc Cert.EvenProjRefIdeal.main_v54) = v1 c
          ∧ r.2.mem ((c.tc : Thread Cert.EvenProjRefIdeal.nD Cert.EvenProjRefIdeal.τ).loc Cert.EvenProjRefIdeal.main_v55) = v2 c
          ∧ r.2.mem ((c.tc : Thread Cert.EvenProjRefIdeal.nD Cert.EvenProjRefIdeal.τ).loc Cert.EvenProjRefIdeal.main_v56) = v3 c
          ∧ r.2.mem ((c.tc : Thread Cert.EvenProjRefIdeal.nD Cert.EvenProjRefIdeal.τ).loc Cert.EvenProjRefIdeal.main_v62) = v4 c
          ∧ r.2.mem ((c.tc : Thread Cert.EvenProjRefIdeal.nD Cert.EvenProjRefIdeal.τ).loc Cert.EvenProjRefIdeal.main_v63) = v5 c
          ∧ r.2.mem ((c.tc : Thread Cert.EvenProjRefIdeal.nD Cert.EvenProjRefIdeal.τ).loc Cert.EvenProjRefIdeal.main_arg0) = m' ((c.tc : Thread Cert.EvenProjRefIdeal.nD Cert.EvenProjRefIdeal.τ).loc Cert.EvenProjRefIdeal.main_arg0)
          ∧ r.2.mem ((c.tc : Thread Cert.EvenProjRefIdeal.nD Cert.EvenProjRefIdeal.τ).loc Cert.EvenProjRefIdeal.main_arg1) = m' ((c.tc : Thread Cert.EvenProjRefIdeal.nD Cert.EvenProjRefIdeal.τ).loc Cert.EvenProjRefIdeal.main_arg1)
          ∧ r.2.mem ((c.tc : Thread Cert.EvenProjRefIdeal.nD Cert.EvenProjRefIdeal.τ).loc Cert.EvenProjRefIdeal.main_arg2) = m' ((c.tc : Thread Cert.EvenProjRefIdeal.nD Cert.EvenProjRefIdeal.τ).loc Cert.EvenProjRefIdeal.main_arg2)
          ∧ r.2.mem ((c.tc : Thread Cert.EvenProjRefIdeal.nD Cert.EvenProjRefIdeal.τ).loc Cert.EvenProjRefIdeal.main_arg3) = m' ((c.tc : Thread Cert.EvenProjRefIdeal.nD Cert.EvenProjRefIdeal.τ).loc Cert.EvenProjRefIdeal.main_arg3)
          ∧ r.2.mem ((c.tc : Thread Cert.EvenProjRefIdeal.nD Cert.EvenProjRefIdeal.τ).loc Cert.EvenProjRefIdeal.main_arg4) = m' ((c.tc : Thread Cert.EvenProjRefIdeal.nD Cert.EvenProjRefIdeal.τ).loc Cert.EvenProjRefIdeal.main_arg4)
          ∧ r.2.mem ((c.tc : Thread Cert.EvenProjRefIdeal.nD Cert.EvenProjRefIdeal.τ).loc Cert.EvenProjRefIdeal.main_arg5) = m' ((c.tc : Thread Cert.EvenProjRefIdeal.nD Cert.EvenProjRefIdeal.τ).loc Cert.EvenProjRefIdeal.main_arg5)
          ∧ r.2.mem ((c.tc : Thread Cert.EvenProjRefIdeal.nD Cert.EvenProjRefIdeal.τ).loc Cert.EvenProjRefIdeal.main_arg6) = m' ((c.tc : Thread Cert.EvenProjRefIdeal.nD Cert.EvenProjRefIdeal.τ).loc Cert.EvenProjRefIdeal.main_arg6))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hOutAtt : Cert.OutAtt.Facts) (hOutAttIdeal : Cert.OutAttIdeal.Facts) (hOutAttRefIdeal : Cert.OutAttRefIdeal.Facts) (hOutPair : Cert.OutPair.Facts) (hOutPairIdeal : Cert.OutPairIdeal.Facts) (hOutPairRefIdeal : Cert.OutPairRefIdeal.Facts) (hMlaProj : Cert.MlaProj.Facts) (hMlaProjIdeal : Cert.MlaProjIdeal.Facts) (hMlaProjRefIdeal : Cert.MlaProjRefIdeal.Facts) (hEvenProj : Cert.EvenProj.Facts) (hEvenProjIdeal : Cert.EvenProjIdeal.Facts) (hEvenProjRefIdeal : Cert.EvenProjRefIdeal.Facts) (hPre_finite_queries_keys : Cert.Pre_finite_queries_keys.Facts),
    quiescent_Attn (hAttn := hAttn)
    ∧ quiescent_AttnIdeal (hAttnIdeal := hAttnIdeal)
    ∧ quiescent_AttnIdeal_pre_finite_queries_keys (hAttnIdeal := hAttnIdeal) (hPre_finite_queries_keys := hPre_finite_queries_keys)
    ∧ quiescent_AttnRefIdeal (hAttnRefIdeal := hAttnRefIdeal)
    ∧ quiescent_AttnRefIdeal_pre_finite_queries_keys (hAttnRefIdeal := hAttnRefIdeal) (hPre_finite_queries_keys := hPre_finite_queries_keys)
    ∧ quiescent_Ffn (hFfn := hFfn)
    ∧ quiescent_FfnIdeal (hFfnIdeal := hFfnIdeal)
    ∧ quiescent_FfnRefIdeal (hFfnRefIdeal := hFfnRefIdeal)
    ∧ quiescent_OutAtt (hOutAtt := hOutAtt)
    ∧ quiescent_OutAttIdeal (hOutAttIdeal := hOutAttIdeal)
    ∧ quiescent_OutAttRefIdeal (hOutAttRefIdeal := hOutAttRefIdeal)
    ∧ quiescent_OutPair (hOutPair := hOutPair)
    ∧ quiescent_OutPairIdeal (hOutPairIdeal := hOutPairIdeal)
    ∧ quiescent_OutPairRefIdeal (hOutPairRefIdeal := hOutPairRefIdeal)
    ∧ quiescent_MlaProj (hMlaProj := hMlaProj)
    ∧ quiescent_MlaProjIdeal (hMlaProjIdeal := hMlaProjIdeal)
    ∧ quiescent_MlaProjRefIdeal (hMlaProjRefIdeal := hMlaProjRefIdeal)
    ∧ quiescent_EvenProj (hEvenProj := hEvenProj)
    ∧ quiescent_EvenProjIdeal (hEvenProjIdeal := hEvenProjIdeal)
    ∧ quiescent_EvenProjRefIdeal (hEvenProjRefIdeal := hEvenProjRefIdeal)
    ∧ preserves_Attn_AttnIdeal
    ∧ algebraic_AttnIdeal_AttnRefIdeal_pre_finite_queries_keys (hAttnIdeal := hAttnIdeal) (hAttnRefIdeal := hAttnRefIdeal) (hPre_finite_queries_keys := hPre_finite_queries_keys)
    ∧ preserves_Ffn_FfnIdeal
    ∧ algebraic_FfnIdeal_FfnRefIdeal (hFfnIdeal := hFfnIdeal) (hFfnRefIdeal := hFfnRefIdeal)
    ∧ preserves_OutAtt_OutAttIdeal
    ∧ algebraic_OutAttIdeal_OutAttRefIdeal (hOutAttIdeal := hOutAttIdeal) (hOutAttRefIdeal := hOutAttRefIdeal)
    ∧ preserves_OutPair_OutPairIdeal
    ∧ algebraic_OutPairIdeal_OutPairRefIdeal (hOutPairIdeal := hOutPairIdeal) (hOutPairRefIdeal := hOutPairRefIdeal)
    ∧ preserves_MlaProj_MlaProjIdeal
    ∧ algebraic_MlaProjIdeal_MlaProjRefIdeal (hMlaProjIdeal := hMlaProjIdeal) (hMlaProjRefIdeal := hMlaProjRefIdeal)
    ∧ preserves_EvenProj_EvenProjIdeal
    ∧ algebraic_EvenProjIdeal_EvenProjRefIdeal (hEvenProjIdeal := hEvenProjIdeal) (hEvenProjRefIdeal := hEvenProjRefIdeal)
-- ==== Pre_finite_queries_keys.lean ====
abbrev S16x8x4096x192 : Shape := ⟨4, ![16, 8, 4096, 192]⟩
abbrev S16x8x4096x128 : Shape := ⟨4, ![16, 8, 4096, 128]⟩
abbrev S_ : Shape := ⟨0, ![]⟩

class Facts : Prop where
  bcast_S_S16x8x4096x192 : S_.BroadcastsInDim S16x8x4096x192 (![] : Fin 0 → Fin S16x8x4096x192.rank)

variable [Facts]

def fn {F : FTy → Type} [FloatOps F] (main_arg0 : FVec F S16x8x4096x192 .bf16) (main_arg1 : FVec F S16x8x4096x192 .bf16) (main_arg2 : FVec F S16x8x4096x128 .bf16) : IVec S16x8x4096x192 1 × IVec S16x8x4096x192 1 :=
  let main_v0 : FVec F S16x8x4096x192 .bf16 := Host.absf main_arg0
  let main_cst : FVec F S_ .bf16 := constant S_ .bf16 0x7F80#16
  let main_v1 : FVec F S16x8x4096x192 .bf16 := broadcastInDim S16x8x4096x192 ![] bcast_S_S16x8x4096x192 main_cst
  let main_v2 : IVec S16x8x4096x192 1 := cmpf .olt main_v0 main_v1
  let main_v3 : FVec F S16x8x4096x192 .bf16 := Host.absf main_arg1
  let main_cst_0 : FVec F S_ .bf16 := constant S_ .bf16 0x7F80#16
  let main_v4 : FVec F S16x8x4096x192 .bf16 := broadcastInDim S16x8x4096x192 ![] bcast_S_S16x8x4096x192 main_cst_0
  let main_v5 : IVec S16x8x4096x192 1 := cmpf .olt main_v3 main_v4
  (main_v2, main_v5)
-- ==== Attn.lean ====
abbrev S16x8x4096x192 : Shape := ⟨4, ![16, 8, 4096, 192]⟩
abbrev S16x8x4096x128 : Shape := ⟨4, ![16, 8, 4096, 128]⟩
abbrev S16x4096x1024 : Shape := ⟨3, ![16, 4096, 1024]⟩
abbrev S1x1x512x192 : Shape := ⟨4, ![1, 1, 512, 192]⟩
abbrev S1x1x4096x192 : Shape := ⟨4, ![1, 1, 4096, 192]⟩
abbrev S1x1x4096x128 : Shape := ⟨4, ![1, 1, 4096, 128]⟩
abbrev S1x512x128 : Shape := ⟨3, ![1, 512, 128]⟩
abbrev S512x1 : Shape := ⟨2, ![512, 1]⟩
abbrev S512x128 : Shape := ⟨2, ![512, 128]⟩
abbrev S512x192 : Shape := ⟨2, ![512, 192]⟩
abbrev S1x1x512x128 : Shape := ⟨4, ![1, 1, 512, 128]⟩
abbrev S512x512 : Shape := ⟨2, ![512, 512]⟩
abbrev S512 : Shape := ⟨1, ![512]⟩

abbrev nBuf : Space → Nat
  | .hbm => 4
  | .vmem => 11
  | .smem => 0
  | _ => 0

abbrev bufTy : (tb : Table) → Fin (tcTables nBuf tb) → BufTy
  | .hbm, ⟨0, _⟩ => ⟨S16x8x4096x192, .bf16⟩
  | .hbm, ⟨1, _⟩ => ⟨S16x8x4096x192, .bf16⟩
  | .hbm, ⟨2, _⟩ => ⟨S16x8x4096x128, .bf16⟩
  | .hbm, ⟨3, _⟩ => ⟨S16x4096x1024, .bf16⟩
  | .local _ .vmem, ⟨0, _⟩ => ⟨S1x1x512x192, .bf16⟩
  | .local _ .vmem, ⟨1, _⟩ => ⟨S1x1x512x192, .bf16⟩
  | .local _ .vmem, ⟨2, _⟩ => ⟨S1x1x4096x192, .bf16⟩
  | .local _ .vmem, ⟨3, _⟩ => ⟨S1x1x4096x192, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x512x128, .bf16⟩
  | .local _ .vmem, ⟨7, _⟩ => ⟨S1x512x128, .bf16⟩
  | .local _ .vmem, ⟨8, _⟩ => ⟨S512x1, .f32⟩
  | .local _ .vmem, ⟨9, _⟩ => ⟨S512x1, .f32⟩
  | .local _ .vmem, ⟨10, _⟩ => ⟨S512x128, .f32⟩
  | _, _ => ⟨S16x8x4096x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 8], ![false, false, false]⟩

@[reducible] def k0_t1_loop (i : grid0.Coords) : Scf.Loop 32 :=
  let c0_i32_11 : BitVec 32 := 0#32
  let arg2 : BitVec 32 := BitVec.ofNat 32 (i 2).val
  let v14 : BitVec 32 := Scalar.subi arg2 c0_i32_11
  let c1_i32 : BitVec 32 := 1#32
  let v16 : BitVec 32 := Scalar.divsi v14 c1_i32
  let v17 : BitVec 32 := Scalar.muli v16 c1_i32
  let v18 : BitVec 32 := Scalar.addi c0_i32_11 v17
  let c1_i32_12 : BitVec 32 := 1#32
  ⟨c0_i32_11, v18, c1_i32_12⟩
def k0_mult1 (i : grid0.Coords) (k0_t1 : Fin (k0_t1_loop i).trips) : BitVec 32 :=
  let c0_i32_11 : BitVec 32 := 0#32
  let c1_i32_12 : BitVec 32 := 1#32
  let arg10 : BitVec 32 := Scf.iv c0_i32_11 c1_i32_12 k0_t1
  let c512_i32_57 : BitVec 32 := 512#32
  let v118 : BitVec 32 := Scalar.muli arg10 c512_i32_57
  v118
def k0_off1 (i : grid0.Coords) (k0_t1 : Fin (k0_t1_loop i).trips) : Fin 4 → Nat :=
  let c0_58 : Index := 0#32
  let c0_59 : Index := 0#32
  let c0_i32_11 : BitVec 32 := 0#32
  let c1_i32_12 : BitVec 32 := 1#32
  let arg10 : BitVec 32 := Scf.iv c0_i32_11 c1_i32_12 k0_t1
  let c512_i32_57 : BitVec 32 := 512#32
  let v118 : BitVec 32 := Scalar.muli arg10 c512_i32_57
  let v119 : BitVec 32 := v118
  let v120 : Index := Scalar.indexCast v119
  let c0_60 : Index := 0#32
  ![0, 0, v120.toNat, 0]
def k0_off2 (i : grid0.Coords) (k0_t1 : Fin (k0_t1_loop i).trips) : Fin 4 → Nat :=
  let c0_61 : Index := 0#32
  let c0_62 : Index := 0#32
  let c0_i32_11 : BitVec 32 := 0#32
  let c1_i32_12 : BitVec 32 := 1#32
  let arg10 : BitVec 32 := Scf.iv c0_i32_11 c1_i32_12 k0_t1
  let c512_i32_57 : BitVec 32 := 512#32
  let v118 : BitVec 32 := Scalar.muli arg10 c512_i32_57
  let v119 : BitVec 32 := v118
  let v123 : Index := Scalar.indexCast v119
  let c0_63 : Index := 0#32
  ![0, 0, v123.toNat, 0]
@[reducible] def k0_t2_loop (i : grid0.Coords) : Scf.Loop 32 :=
  let c0_i32_11 : BitVec 32 := 0#32
  let arg2 : BitVec 32 := BitVec.ofNat 32 (i 2).val
  let v14 : BitVec 32 := Scalar.subi arg2 c0_i32_11
  let c1_i32 : BitVec 32 := 1#32
  let v16 : BitVec 32 := Scalar.divsi v14 c1_i32
  let v17 : BitVec 32 := Scalar.muli v16 c1_i32
  let v18 : BitVec 32 := Scalar.addi c0_i32_11 v17
  let v15 : BitVec 32 := Scalar.addi c0_i32_11 v14
  let c1_i32_13 : BitVec 32 := 1#32
  ⟨v18, v15, c1_i32_13⟩
def k0_mult2 (i : grid0.Coords) (k0_t2 : Fin (k0_t2_loop i).trips) : BitVec 32 :=
  let c0_i32_11 : BitVec 32 := 0#32
  let arg2 : BitVec 32 := BitVec.ofNat 32 (i 2).val
  let v14 : BitVec 32 := Scalar.subi arg2 c0_i32_11
  let c1_i32 : BitVec 32 := 1#32
  let v16 : BitVec 32 := Scalar.divsi v14 c1_i32
  let v17 : BitVec 32 := Scalar.muli v16 c1_i32
  let v18 : BitVec 32 := Scalar.addi c0_i32_11 v17
  let c1_i32_13 : BitVec 32 := 1#32
  let arg10 : BitVec 32 := Scf.iv v18 c1_i32_13 k0_t2
  let c512_i32_57 : BitVec 32 := 512#32
  let v118 : BitVec 32 := Scalar.muli arg10 c512_i32_57
  v118
def k0_off3 (i : grid0.Coords) (k0_t2 : Fin (k0_t2_loop i).trips) : Fin 4 → Nat :=
  let c0_58 : Index := 0#32
  let c0_59 : Index := 0#32
  let c0_i32_11 : BitVec 32 := 0#32
  let arg2 : BitVec 32 := BitVec.ofNat 32 (i 2).val
  let v14 : BitVec 32 := Scalar.subi arg2 c0_i32_11
  let c1_i32 : BitVec 32 := 1#32
  let v16 : BitVec 32 := Scalar.divsi v14 c1_i32
  let v17 : BitVec 32 := Scalar.muli v16 c1_i32
  let v18 : BitVec 32 := Scalar.addi c0_i32_11 v17
  let c1_i32_13 : BitVec 32 := 1#32
  let arg10 : BitVec 32 := Scf.iv v18 c1_i32_13 k0_t2
  let c512_i32_57 : BitVec 32 := 512#32
  let v118 : BitVec 32 := Scalar.muli arg10 c512_i32_57
  let v119 : BitVec 32 := v118
  let v120 : Index := Scalar.indexCast v119
  let c0_60 : Index := 0#32
  ![0, 0, v120.toNat, 0]
def k0_off4 (i : grid0.Coords) (k0_t2 : Fin (k0_t2_loop i).trips) : Fin 4 → Nat :=
  let c0_61 : Index := 0#32
  let c0_62 : Index := 0#32
  let c0_i32_11 : BitVec 32 := 0#32
  let arg2 : BitVec 32 := BitVec.ofNat 32 (i 2).val
  let v14 : BitVec 32 := Scalar.subi arg2 c0_i32_11
  let c1_i32 : BitVec 32 := 1#32
  let v16 : BitVec 32 := Scalar.divsi v14 c1_i32
  let v17 : BitVec 32 := Scalar.muli v16 c1_i32
  let v18 : BitVec 32 := Scalar.addi c0_i32_11 v17
  let c1_i32_13 : BitVec 32 := 1#32
  let arg10 : BitVec 32 := Scf.iv v18 c1_i32_13 k0_t2
  let c512_i32_57 : BitVec 32 := 512#32
  let v118 : BitVec 32 := Scalar.muli arg10 c512_i32_57
  let v119 : BitVec 32 := v118
  let v123 : Index := Scalar.indexCast v119
  let c0_63 : Index := 0#32
  ![0, 0, v123.toNat, 0]
def k0_mult3 (i : grid0.Coords) : BitVec 32 :=
  let arg2 : BitVec 32 := BitVec.ofNat 32 (i 2).val
  let c512_i32 : BitVec 32 := 512#32
  let v19 : BitVec 32 := Scalar.muli arg2 c512_i32
  v19
def k0_off5 (i : grid0.Coords) : Fin 4 → Nat :=
  let c0_14 : Index := 0#32
  let c0_15 : Index := 0#32
  let arg2 : BitVec 32 := BitVec.ofNat 32 (i 2).val
  let c512_i32 : BitVec 32 := 512#32
  let v19 : BitVec 32 := Scalar.muli arg2 c512_i32
  let v20 : BitVec 32 := v19
  let v21 : Index := Scalar.indexCast v20
  let c0_16 : Index := 0#32
  ![0, 0, v21.toNat, 0]
def k0_off6 (i : grid0.Coords) : Fin 4 → Nat :=
  let c0_17 : Index := 0#32
  let c0_18 : Index := 0#32
  let arg2 : BitVec 32 := BitVec.ofNat 32 (i 2).val
  let c512_i32 : BitVec 32 := 512#32
  let v19 : BitVec 32 := Scalar.muli arg2 c512_i32
  let v20 : BitVec 32 := v19
  let v24 : Index := Scalar.indexCast v20
  let c0_19 : Index := 0#32
  ![0, 0, v24.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S16x8x4096x192 : Shape := ⟨4, ![16, 8, 4096, 192]⟩
abbrev S16x8x4096x128 : Shape := ⟨4, ![16, 8, 4096, 128]⟩
abbrev S16x8x4096x4096 : Shape := ⟨4, ![16, 8, 4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S16x8x4096 : Shape := ⟨3, ![16, 8, 4096]⟩
abbrev S16x8x4096x1 : Shape := ⟨4, ![16, 8, 4096, 1]⟩
abbrev S16x8x128x4096 : Shape := ⟨4, ![16, 8, 128, 4096]⟩
abbrev S16x4096x8x128 : Shape := ⟨4, ![16, 4096, 8, 128]⟩
abbrev S16x4096x1024 : Shape := ⟨3, ![16, 4096, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16x8x4096x192, .bf16⟩
  | .hbm, ⟨1, _⟩ => ⟨S16x8x4096x192, .bf16⟩
  | .hbm, ⟨2, _⟩ => ⟨S16x8x4096x128, .bf16⟩
  | .hbm, ⟨3, _⟩ => ⟨S16x8x4096x192, .f32⟩
  | .hbm, ⟨4, _⟩ => ⟨S16x8x4096x192, .f32⟩
  | .hbm, ⟨5, _⟩ => ⟨S16x8x4096x4096, .f32⟩
  | .hbm, ⟨6, _⟩ => ⟨S4096, .i32⟩
  | .hbm, ⟨7, _⟩ => ⟨S_, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S1x4096, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S16x8x4096x4096, .i1⟩
  | .hbm, ⟨33, _⟩ => ⟨S16x8x4096x4096, .f32⟩
  | .hbm, ⟨34, _⟩ => ⟨S16x8x4096x4096, .f32⟩
  | .hbm, ⟨35, _⟩ => ⟨S_, .f32⟩
  | .hbm, ⟨36, _⟩ => ⟨S16x8x4096, .f32⟩
  | .hbm, ⟨37, _⟩ => ⟨S_, .f32⟩
  | .hbm, ⟨38, _⟩ => ⟨S16x8x4096, .f32⟩
  | .hbm, ⟨39, _⟩ => ⟨S16x8x4096, .f32⟩
  | .hbm, ⟨40, _⟩ => ⟨S16x8x4096x1, .f32⟩
  | .hbm, ⟨41, _⟩ => ⟨S16x8x4096x4096, .f32⟩
  | .hbm, ⟨42, _⟩ => ⟨S16x8x4096x4096, .f32⟩
  | .hbm, ⟨43, _⟩ => ⟨S16x8x4096x4096, .f32⟩
  | .hbm, ⟨44, _⟩ => ⟨S_, .f32⟩
  | .hbm, ⟨45, _⟩ => ⟨S16x8x4096, .f32⟩
  | .hbm, ⟨46, _⟩ => ⟨S16x8x4096x1, .f32⟩
  | .hbm, ⟨47, _⟩ => ⟨S16x8x4096x4096, .f32⟩
  | .hbm, ⟨48, _⟩ => ⟨S16x8x4096x4096, .f32⟩
  | .hbm, ⟨49, _⟩ => ⟨S16x8x4096x128, .f32⟩
  | .hbm, ⟨50, _⟩ => ⟨S16x8x128x4096, .f32⟩
  | .hbm, ⟨51, _⟩ => ⟨S16x4096x8x128, .f32⟩
  | .hbm, ⟨52, _⟩ => ⟨S16x4096x1024, .f32⟩
  | .hbm, ⟨53, _⟩ => ⟨S16x4096x1024, .bf16⟩
  | _, _ => ⟨S16x8x4096x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩

abbrev nD : Nat := 1
abbrev τ : Topo := Topo.v7x

variable {F : FTy → Type} [FloatOps F]
-- ==== Ffn.lean ====
abbrev S16x4096x1024 : Shape := ⟨3, ![16, 4096, 1024]⟩
abbrev S16x3x1024 : Shape := ⟨3, ![16, 3, 1024]⟩
abbrev S1024 : Shape := ⟨1, ![1024]⟩
abbrev S1024x5632 : Shape := ⟨2, ![1024, 5632]⟩
abbrev S3x2816 : Shape := ⟨2, ![3, 2816]⟩
abbrev S2816x1024 : Shape := ⟨2, ![2816, 1024]⟩
abbrev S1x1024 : Shape := ⟨2, ![1, 1024]⟩
abbrev S1x512x1024 : Shape := ⟨3, ![1, 512, 1024]⟩
abbrev S1x3x1024 : Shape := ⟨3, ![1, 3, 1024]⟩
abbrev S8x2816 : Shape := ⟨2, ![8, 2816]⟩
abbrev S3x1024 : Shape := ⟨2, ![3, 1024]⟩
abbrev S512x1024 : Shape := ⟨2, ![512, 1024]⟩
abbrev S512x256 : Shape := ⟨2, ![512, 256]⟩
abbrev S1024x256 : Shape := ⟨2, ![1024, 256]⟩
abbrev S8x256 : Shape := ⟨2, ![8, 256]⟩
abbrev S1x256 : Shape := ⟨2, ![1, 256]⟩
abbrev S3x256 : Shape := ⟨2, ![3, 256]⟩
abbrev S256x1024 : Shape := ⟨2, ![256, 1024]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S16x4096x1024, .f32⟩
  | .hbm, ⟨1, _⟩ => ⟨S16x3x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S3x2816, .f32⟩
  | .local _ .vmem, ⟨8, _⟩ => ⟨S2816x1024, .bf16⟩
  | .local _ .vmem, ⟨9, _⟩ => ⟨S1x512x1024, .f32⟩
  | .local _ .vmem, ⟨10, _⟩ => ⟨S1x512x1024, .f32⟩
  | .local _ .vmem, ⟨11, _⟩ => ⟨S8x2816, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S16x4096x1024 : Shape := ⟨3, ![16, 4096, 1024]⟩
abbrev S16x3x1024 : Shape := ⟨3, ![16, 3, 1024]⟩
abbrev S1024 : Shape := ⟨1, ![1024]⟩
abbrev S1024x5632 : Shape := ⟨2, ![1024, 5632]⟩
abbrev S3x2816 : Shape := ⟨2, ![3, 2816]⟩
abbrev S2816x1024 : Shape := ⟨2, ![2816, 1024]⟩
abbrev S16x1x1024 : Shape := ⟨3, ![16, 1, 1024]⟩
abbrev S_ : Shape := ⟨0, ![]⟩
abbrev S16x4096x5632 : Shape := ⟨3, ![16, 4096, 5632]⟩
abbrev S16x4096x2816 : Shape := ⟨3, ![16, 4096, 2816]⟩
abbrev S16x4098x2816 : Shape := ⟨3, ![16, 4098, 2816]⟩
abbrev S1x2816 : Shape := ⟨2, ![1, 2816]⟩
abbrev S2816 : Shape := ⟨1, ![2816]⟩
abbrev S1x1x2816 : Shape := ⟨3, ![1, 1, 2816]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x3x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816x1024, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S_, .f32⟩
  | .hbm, ⟨11, _⟩ => ⟨S16x1x1024, .f32⟩
  | .hbm, ⟨12, _⟩ => ⟨S16x1x1024, .f32⟩
  | .hbm, ⟨13, _⟩ => ⟨S16x4096x1024, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S16x4096x5632, .f32⟩
  | .hbm, ⟨18, _⟩ => ⟨S16x4096x2816, .f32⟩
  | .hbm, ⟨19, _⟩ => ⟨S16x4096x2816, .f32⟩
  | .hbm, ⟨20, _⟩ => ⟨S_, .i32⟩
  | .hbm, ⟨21, _⟩ => ⟨S_, .f32⟩
  | .hbm, ⟨22, _⟩ => ⟨S16x4098x2816, .f32⟩
  | .hbm, ⟨23, _⟩ => ⟨S16x4096x2816, .f32⟩
  | .hbm, ⟨24, _⟩ => ⟨S1x2816, .f32⟩
  | .hbm, ⟨25, _⟩ => ⟨S2816, .f32⟩
  | .hbm, ⟨26, _⟩ => ⟨S1x1x2816, .f32⟩
  | .hbm, ⟨27, _⟩ => ⟨S16x4096x2816, .f32⟩
  | .hbm, ⟨28, _⟩ => ⟨S16x4096x2816, .f32⟩
  | .hbm, ⟨29, _⟩ => ⟨S16x4096x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S16x4096x2816, .f32⟩
  | .hbm, ⟨34, _⟩ => ⟨S16x4096x2816, .f32⟩
  | .hbm, ⟨35, _⟩ => ⟨S16x4096x2816, .f32⟩
  | .hbm, ⟨36, _⟩ => ⟨S16x4096x2816, .f32⟩
  | .hbm, ⟨37, _⟩ => ⟨S1x2816, .f32⟩
  | .hbm, ⟨38, _⟩ => ⟨S2816, .f32⟩
  | .hbm, ⟨39, _⟩ => ⟨S1x1x2816, .f32⟩
  | .hbm, ⟨40, _⟩ => ⟨S16x4096x2816, .f32⟩
  | .hbm, ⟨41, _⟩ => ⟨S16x4096x2816, .f32⟩
  | .hbm, ⟨42, _⟩ => ⟨S16x4096x2816, .f32⟩
  | .hbm, ⟨43, _⟩ => ⟨S_, .f32⟩
  | .hbm, ⟨44, _⟩ => ⟨S16x4096x2816, .f32⟩
  | .hbm, ⟨45, _⟩ => ⟨S16x4096x2816, .f32⟩
  | .hbm, ⟨46, _⟩ => ⟨S_, .f32⟩
  | .hbm, ⟨47, _⟩ => ⟨S16x4096x2816, .f32⟩
  | .hbm, ⟨48, _⟩ => ⟨S16x4096x2816, .f32⟩
  | .hbm, ⟨49, _⟩ => ⟨S16x4096x2816, .f32⟩
  | .hbm, ⟨50, _⟩ => ⟨S_, .f32⟩
  | .hbm, ⟨51, _⟩ => ⟨S16x4096x2816, .f32⟩
  | .hbm, ⟨52, _⟩ => ⟨S16x4096x2816, .f32⟩
  | .hbm, ⟨53, _⟩ => ⟨S16x4096x2816, .f32⟩
  | .hbm, ⟨54, _⟩ => ⟨S16x4096x2816, .f32⟩
  | .hbm, ⟨55, _⟩ => ⟨S16x4096x1024, .f32⟩
  | .hbm, ⟨56, _⟩ => ⟨S_, .f32⟩
  | .hbm, ⟨57, _⟩ => ⟨S16x4096x1024, .f32⟩
  | .hbm, ⟨58, _⟩ => ⟨S16x4096x1024, .f32⟩
  | .hbm, ⟨59, _⟩ => ⟨S16x4096x1024, .f32⟩
  | .hbm, ⟨60, _⟩ => ⟨S16x4096x1024, .f32⟩
  | .hbm, ⟨61, _⟩ => ⟨S16x4096x1024, .f32⟩
  | .hbm, ⟨62, _⟩ => ⟨S_, .f32⟩
  | .hbm, ⟨63, _⟩ => ⟨S16x4096, .f32⟩
  | .hbm, ⟨64, _⟩ => ⟨S16x4096x1, .f32⟩
  | .hbm, ⟨65, _⟩ => ⟨S_, .f32⟩
  | .hbm, ⟨66, _⟩ => ⟨S16x4096x1, .f32⟩
  | .hbm, ⟨67, _⟩ => ⟨S16x4096x1, .f32⟩
  | .hbm, ⟨68, _⟩ => ⟨S16x4096x1024, .f32⟩
  | .hbm, ⟨69, _⟩ => ⟨S16x4096x1024, .f32⟩
  | .hbm, ⟨70, _⟩ => ⟨S16x4096x1024, .f32⟩
  | .hbm, ⟨71, _⟩ => ⟨S_, .f32⟩
  | .hbm, ⟨72, _⟩ => ⟨S16x4096, .f32⟩
  | .hbm, ⟨73, _⟩ => ⟨S16x4096x1, .f32⟩
  | .hbm, ⟨74, _⟩ => ⟨S_, .f32⟩
  | .hbm, ⟨75, _⟩ => ⟨S16x4096x1, .f32⟩
  | .hbm, ⟨76, _⟩ => ⟨S16x4096x1, .f32⟩
  | .hbm, ⟨77, _⟩ => ⟨S16x4096x1024, .f32⟩
  | .hbm, ⟨78, _⟩ => ⟨S16x4096x1024, .f32⟩
  | .hbm, ⟨79, _⟩ => ⟨S_, .f32⟩
  | .hbm, ⟨80, _⟩ => ⟨S16x4096x1, .f32⟩
  | .hbm, ⟨81, _⟩ => ⟨S16x4096x1, .f32⟩
  | .hbm, ⟨82, _⟩ => ⟨S16x4096x1, .f32⟩
  | .hbm, ⟨83, _⟩ => ⟨S16x4096x1024, .f32⟩
  | .hbm, ⟨84, _⟩ => ⟨S16x4096x1024, .f32⟩
  | .hbm, ⟨85, _⟩ => ⟨S1x1x1024, .f32⟩
  | .hbm, ⟨86, _⟩ => ⟨S16x4096x1024, .f32⟩
  | .hbm, ⟨87, _⟩ => ⟨S16x4096x1024, .f32⟩
  | .hbm, ⟨88, _⟩ => ⟨S1x1x1024, .f32⟩
  | .hbm, ⟨89, _⟩ => ⟨S16x4096x1024, .f32⟩
  | .hbm, ⟨90, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== OutAtt.lean ====
abbrev S16x4096x1024 : Shape := ⟨3, ![16, 4096, 1024]⟩
abbrev S16x3x1024 : Shape := ⟨3, ![16, 3, 1024]⟩
abbrev S1024 : Shape := ⟨1, ![1024]⟩
abbrev S1024x1024 : Shape := ⟨2, ![1024, 1024]⟩
abbrev S1x1024 : Shape := ⟨2, ![1, 1024]⟩
abbrev S1x512x1024 : Shape := ⟨3, ![1, 512, 1024]⟩
abbrev S1x3x1024 : Shape := ⟨3, ![1, 3, 1024]⟩
abbrev S512x1024 : Shape := ⟨2, ![512, 1024]⟩
abbrev S3x1024 : Shape := ⟨2, ![3, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S16x3x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S16x4096x1024, .bf16⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .f32⟩
  | .local _ .vmem, ⟨10, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutAttRefIdeal.lean ====
abbrev S16x4096x1024 : Shape := ⟨3, ![16, 4096, 1024]⟩
abbrev S16x3x1024 : Shape := ⟨3, ![16, 3, 1024]⟩
abbrev S1024 : Shape := ⟨1, ![1024]⟩
abbrev S1024x1024 : Shape := ⟨2, ![1024, 1024]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x3x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S16x4096x1024, .bf16⟩
  | .hbm, ⟨6, _⟩ => ⟨S16x4096x1024, .f32⟩
  | .hbm, ⟨7, _⟩ => ⟨S16x4096x1024, .f32⟩
  | .hbm, ⟨8, _⟩ => ⟨S16x1x1024, .f32⟩
  | .hbm, ⟨9, _⟩ => ⟨S_, .f32⟩
  | .hbm, ⟨10, _⟩ => ⟨S16x4096x1024, .f32⟩
  | .hbm, ⟨11, _⟩ => ⟨S16x4096x1024, .f32⟩
  | .hbm, ⟨12, _⟩ => ⟨S16x4096x1024, .f32⟩
  | .hbm, ⟨13, _⟩ => ⟨S16x4096x1024, .f32⟩
  | .hbm, ⟨14, _⟩ => ⟨S16x4096x1024, .f32⟩
  | .hbm, ⟨15, _⟩ => ⟨S_, .f32⟩
  | .hbm, ⟨16, _⟩ => ⟨S16x4096, .f32⟩
  | .hbm, ⟨17, _⟩ => ⟨S16x4096x1, .f32⟩
  | .hbm, ⟨18, _⟩ => ⟨S_, .f32⟩
  | .hbm, ⟨19, _⟩ => ⟨S16x4096x1, .f32⟩
  | .hbm, ⟨20, _⟩ => ⟨S16x4096x1, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S_, .f32⟩
  | .hbm, ⟨25, _⟩ => ⟨S16x4096, .f32⟩
  | .hbm, ⟨26, _⟩ => ⟨S16x4096x1, .f32⟩
  | .hbm, ⟨27, _⟩ => ⟨S_, .f32⟩
  | .hbm, ⟨28, _⟩ => ⟨S16x4096x1, .f32⟩
  | .hbm, ⟨29, _⟩ => ⟨S16x4096x1, .f32⟩
  | .hbm, ⟨30, _⟩ => ⟨S16x4096x1024, .f32⟩
  | .hbm, ⟨31, _⟩ => ⟨S16x4096x1024, .f32⟩
  | .hbm, ⟨32, _⟩ => ⟨S_, .f32⟩
  | .hbm, ⟨33, _⟩ => ⟨S16x4096x1, .f32⟩
  | .hbm, ⟨34, _⟩ => ⟨S16x4096x1, .f32⟩
  | .hbm, ⟨35, _⟩ => ⟨S16x4096x1, .f32⟩
  | .hbm, ⟨36, _⟩ => ⟨S16x4096x1024, .f32⟩
  | .hbm, ⟨37, _⟩ => ⟨S16x4096x1024, .f32⟩
  | .hbm, ⟨38, _⟩ => ⟨S1x1x1024, .f32⟩
  | .hbm, ⟨39, _⟩ => ⟨S16x4096x1024, .f32⟩
  | .hbm, ⟨40, _⟩ => ⟨S16x4096x1024, .f32⟩
  | .hbm, ⟨41, _⟩ => ⟨S1x1x1024, .f32⟩
  | .hbm, ⟨42, _⟩ => ⟨S16x4096x1024, .f32⟩
  | .hbm, ⟨43, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== OutPair.lean ====
abbrev S16x4096x1024 : Shape := ⟨3, ![16, 4096, 1024]⟩
abbrev S16x3x1024 : Shape := ⟨3, ![16, 3, 1024]⟩
abbrev S1024 : Shape := ⟨1, ![1024]⟩
abbrev S1024x1024 : Shape := ⟨2, ![1024, 1024]⟩
abbrev S16x4096x512 : Shape := ⟨3, ![16, 4096, 512]⟩
abbrev S1x1024 : Shape := ⟨2, ![1, 1024]⟩
abbrev S1x512x1024 : Shape := ⟨3, ![1, 512, 1024]⟩
abbrev S1x3x1024 : Shape := ⟨3, ![1, 3, 1024]⟩
abbrev S1x512x512 : Shape := ⟨3, ![1, 512, 512]⟩
abbrev S512x512 : Shape := ⟨2, ![512, 512]⟩
abbrev S512x1024 : Shape := ⟨2, ![512, 1024]⟩
abbrev S3x1024 : Shape := ⟨2, ![3, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S16x4096x1024, .f32⟩
  | .hbm, ⟨1, _⟩ => ⟨S16x3x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S16x4096x512, .bf16⟩
  | .hbm, ⟨6, _⟩ => ⟨S16x4096x512, .bf16⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x1024, .f32⟩
  | .local _ .vmem, ⟨12, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutPairRefIdeal.lean ====
abbrev S16x4096x1024 : Shape := ⟨3, ![16, 4096, 1024]⟩
abbrev S16x3x1024 : Shape := ⟨3, ![16, 3, 1024]⟩
abbrev S1024 : Shape := ⟨1, ![1024]⟩
abbrev S1024x1024 : Shape := ⟨2, ![1024, 1024]⟩
abbrev S16x4096x512 : Shape := ⟨3, ![16, 4096, 512]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x3x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S16x4096x512, .bf16⟩
  | .hbm, ⟨6, _⟩ => ⟨S16x4096x512, .bf16⟩
  | .hbm, ⟨7, _⟩ => ⟨S16x4096x512, .f32⟩
  | .hbm, ⟨8, _⟩ => ⟨S16x4096x512, .f32⟩
  | .hbm, ⟨9, _⟩ => ⟨S16x4096x1024, .f32⟩
  | .hbm, ⟨10, _⟩ => ⟨S16x4096x1024, .f32⟩
  | .hbm, ⟨11, _⟩ => ⟨S16x1x1024, .f32⟩
  | .hbm, ⟨12, _⟩ => ⟨S_, .f32⟩
  | .hbm, ⟨13, _⟩ => ⟨S16x4096x1024, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S16x4096x1024, .f32⟩
  | .hbm, ⟨18, _⟩ => ⟨S_, .f32⟩
  | .hbm, ⟨19, _⟩ => ⟨S16x4096, .f32⟩
  | .hbm, ⟨20, _⟩ => ⟨S16x4096x1, .f32⟩
  | .hbm, ⟨21, _⟩ => ⟨S_, .f32⟩
  | .hbm, ⟨22, _⟩ => ⟨S16x4096x1, .f32⟩
  | .hbm, ⟨23, _⟩ => ⟨S16x4096x1, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S_, .f32⟩
  | .hbm, ⟨28, _⟩ => ⟨S16x4096, .f32⟩
  | .hbm, ⟨29, _⟩ => ⟨S16x4096x1, .f32⟩
  | .hbm, ⟨30, _⟩ => ⟨S_, .f32⟩
  | .hbm, ⟨31, _⟩ => ⟨S16x4096x1, .f32⟩
  | .hbm, ⟨32, _⟩ => ⟨S16x4096x1, .f32⟩
  | .hbm, ⟨33, _⟩ => ⟨S16x4096x1024, .f32⟩
  | .hbm, ⟨34, _⟩ => ⟨S16x4096x1024, .f32⟩
  | .hbm, ⟨35, _⟩ => ⟨S_, .f32⟩
  | .hbm, ⟨36, _⟩ => ⟨S16x4096x1, .f32⟩
  | .hbm, ⟨37, _⟩ => ⟨S16x4096x1, .f32⟩
  | .hbm, ⟨38, _⟩ => ⟨S16x4096x1, .f32⟩
  | .hbm, ⟨39, _⟩ => ⟨S16x4096x1024, .f32⟩
  | .hbm, ⟨40, _⟩ => ⟨S16x4096x1024, .f32⟩
  | .hbm, ⟨41, _⟩ => ⟨S1x1x1024, .f32⟩
  | .hbm, ⟨42, _⟩ => ⟨S16x4096x1024, .f32⟩
  | .hbm, ⟨43, _⟩ => ⟨S16x4096x1024, .f32⟩
  | .hbm, ⟨44, _⟩ => ⟨S1x1x1024, .f32⟩
  | .hbm, ⟨45, _⟩ => ⟨S16x4096x1024, .f32⟩
  | .hbm, ⟨46, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== MlaProj.lean ====
abbrev S16x4096x1024 : Shape := ⟨3, ![16, 4096, 1024]⟩
abbrev S16x3x1024 : Shape := ⟨3, ![16, 3, 1024]⟩
abbrev S16x4096 : Shape := ⟨2, ![16, 4096]⟩
abbrev S1024x832 : Shape := ⟨2, ![1024, 832]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S16x1x4096 : Shape := ⟨3, ![16, 1, 4096]⟩
abbrev S1024x64 : Shape := ⟨2, ![1024, 64]⟩
abbrev S1024x32 : Shape := ⟨2, ![1024, 32]⟩
abbrev S1024x896 : Shape := ⟨2, ![1024, 896]⟩
abbrev S512x8x192 : Shape := ⟨3, ![512, 8, 192]⟩
abbrev S512x8x64 : Shape := ⟨3, ![512, 8, 64]⟩
abbrev S512x8x128 : Shape := ⟨3, ![512, 8, 128]⟩
abbrev S512x1024 : Shape := ⟨2, ![512, 1024]⟩
abbrev S512x512 : Shape := ⟨2, ![512, 512]⟩
abbrev S512x8x32 : Shape := ⟨3, ![512, 8, 32]⟩
abbrev S512x2048 : Shape := ⟨2, ![512, 2048]⟩
abbrev S256x8x256 : Shape := ⟨3, ![256, 8, 256]⟩
abbrev S256x8x128 : Shape := ⟨3, ![256, 8, 128]⟩
abbrev S256x1024 : Shape := ⟨2, ![256, 1024]⟩
abbrev S1x512 : Shape := ⟨2, ![1, 512]⟩
abbrev S1x256 : Shape := ⟨2, ![1, 256]⟩
abbrev S16x8x4096x192 : Shape := ⟨4, ![16, 8, 4096, 192]⟩
abbrev S16x8x4096x128 : Shape := ⟨4, ![16, 8, 4096, 128]⟩
abbrev S1x512x1024 : Shape := ⟨3, ![1, 512, 1024]⟩
abbrev S1x3x1024 : Shape := ⟨3, ![1, 3, 1024]⟩
abbrev S1x1x512 : Shape := ⟨3, ![1, 1, 512]⟩
abbrev S1x8x512x192 : Shape := ⟨4, ![1, 8, 512, 192]⟩
abbrev S1x8x512x128 : Shape := ⟨4, ![1, 8, 512, 128]⟩
abbrev S3x1024 : Shape := ⟨2, ![3, 1024]⟩
abbrev S1x1024 : Shape := ⟨2, ![1, 1024]⟩
abbrev S512x896 : Shape := ⟨2, ![512, 896]⟩
abbrev S512x1 : Shape := ⟨2, ![512, 1]⟩
abbrev S512x256 : Shape := ⟨2, ![512, 256]⟩
abbrev S512x128 : Shape := ⟨2, ![512, 128]⟩
abbrev S128x512 : Shape := ⟨2, ![128, 512]⟩
abbrev S512x64 : Shape := ⟨2, ![512, 64]⟩
abbrev S1x1x512x128 : Shape := ⟨4, ![1, 1, 512, 128]⟩
abbrev S1x1x512x64 : Shape := ⟨4, ![1, 1, 512, 64]⟩

abbrev nBuf : Space → Nat
  | .hbm => 51
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S16x3x1024, .f32⟩
  | .hbm, ⟨2, _⟩ => ⟨S16x4096, .i32⟩
  | .hbm, ⟨3, _⟩ => ⟨S1024x832, .f32⟩
  | .hbm, ⟨4, _⟩ => ⟨S512, .f32⟩
  | .hbm, ⟨5, _⟩ => ⟨S256, .f32⟩
  | .hbm, ⟨6, _⟩ => ⟨S512x1536, .f32⟩
  | .hbm, ⟨7, _⟩ => ⟨S256x2048, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S1x32, .f32⟩
  | .hbm, ⟨17, _⟩ => ⟨S4x32, .f32⟩
  | .hbm, ⟨18, _⟩ => ⟨S128, .f32⟩
  | .hbm, ⟨19, _⟩ => ⟨S1x128, .f32⟩
  | .hbm, ⟨20, _⟩ => ⟨S16x4096, .f32⟩
  | .hbm, ⟨21, _⟩ => ⟨S16x1x4096, .f32⟩
  | .hbm, ⟨22, _⟩ => ⟨S1024x64, .f32⟩
  | .hbm, ⟨23, _⟩ => ⟨S1024x32, .f32⟩
  | .hbm, ⟨24, _⟩ => ⟨S1024x32, .f32⟩
  | .hbm, ⟨25, _⟩ => ⟨S1024x64, .f32⟩
  | .hbm, ⟨26, _⟩ => ⟨S1024x896, .f32⟩
  | .hbm, ⟨27, _⟩ => ⟨S1024x896, .bf16⟩
  | .hbm, ⟨28, _⟩ => ⟨S512x8x192, .f32⟩
  | .hbm, ⟨29, _⟩ => ⟨S512x8x64, .f32⟩
  | .hbm, ⟨30, _⟩ => ⟨S512x8x128, .f32⟩
  | .hbm, ⟨31, _⟩ => ⟨S512x1024, .f32⟩
  | .hbm, ⟨32, _⟩ => ⟨S512x512, .f32⟩
  | .hbm, ⟨33, _⟩ => ⟨S512x8x32, .f32⟩
  | .hbm, ⟨34, _⟩ => ⟨S512x8x32, .f32⟩
  | .hbm, ⟨35, _⟩ => ⟨S512x8x64, .f32⟩
  | .hbm, ⟨36, _⟩ => ⟨S512x512, .f32⟩
  | .hbm, ⟨37, _⟩ => ⟨S512x2048, .f32⟩
  | .hbm, ⟨38, _⟩ => ⟨S512x2048, .bf16⟩
  | .hbm, ⟨39, _⟩ => ⟨S256x8x256, .f32⟩
  | .hbm, ⟨40, _⟩ => ⟨S256x8x128, .f32⟩
  | .hbm, ⟨41, _⟩ => ⟨S256x1024, .f32⟩
  | .hbm, ⟨42, _⟩ => ⟨S256x8x128, .f32⟩
  | .hbm, ⟨43, _⟩ => ⟨S256x1024, .f32⟩
  | .hbm, ⟨44, _⟩ => ⟨S256x2048, .f32⟩
  | .hbm, ⟨45, _⟩ => ⟨S256x2048, .bf16⟩
  | .hbm, ⟨46, _⟩ => ⟨S1x512, .f32⟩
  | .hbm, ⟨47, _⟩ => ⟨S1x256, .f32⟩
  | .hbm, ⟨48, _⟩ => ⟨S16x8x4096x192, .bf16⟩
  | .hbm, ⟨49, _⟩ => ⟨S16x8x4096x192, .bf16⟩
  | .hbm, ⟨50, _⟩ => ⟨S16x8x4096x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1x512, .f32⟩
  | .local _ .vmem, ⟨5, _⟩ => ⟨S1x1x512, .f32⟩
  | .local _ .vmem, ⟨6, _⟩ => ⟨S1x128, .f32⟩
  | .local _ .vmem, ⟨7, _⟩ => ⟨S1024x896, .bf16⟩
  | .local _ .vmem, ⟨8, _⟩ => ⟨S1x512, .f32⟩
  | .local _ .vmem, ⟨9, _⟩ => ⟨S1x256, .f32⟩
  | .local _ .vmem, ⟨10, _⟩ => ⟨S512x2048, .bf16⟩
  | .local _ .vmem, ⟨11, _⟩ => ⟨S256x2048, .bf16⟩
  | .local _ .vmem, ⟨12, _⟩ => ⟨S1x8x512x192, .bf16⟩
  | .local _ .vmem, ⟨13, _⟩ => ⟨S1x8x512x192, .bf16⟩
  | .local _ .vmem, ⟨14, _⟩ => ⟨S1x8x512x192, .bf16⟩
  | .local _ .vmem, ⟨15, _⟩ => ⟨S1x8x512x192, .bf16⟩
  | .local _ .vmem, ⟨16, _⟩ => ⟨S1x8x512x128, .bf16⟩
  | .local _ .vmem, ⟨17, _⟩ => ⟨S1x8x512x128, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38_0 : Ref sig .tc := ⟨.hbm, 48, rfl⟩
abbrev main_v38_1 : Ref sig .tc := ⟨.hbm, 49, rfl⟩
abbrev main_v38_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x512x192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512x192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MlaProjRefIdeal.lean ====
abbrev S16x4096x1024 : Shape := ⟨3, ![16, 4096, 1024]⟩
abbrev S16x3x1024 : Shape := ⟨3, ![16, 3, 1024]⟩
abbrev S16x4096 : Shape := ⟨2, ![16, 4096]⟩
abbrev S1024x832 : Shape := ⟨2, ![1024, 832]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S16x1x1024 : Shape := ⟨3, ![16, 1, 1024]⟩
abbrev S_ : Shape := ⟨0, ![]⟩
abbrev S32 : Shape := ⟨1, ![32]⟩
abbrev S16x4096x1 : Shape := ⟨3, ![16, 4096, 1]⟩
abbrev S1x1x32 : Shape := ⟨3, ![1, 1, 32]⟩
abbrev S16x4096x32 : Shape := ⟨3, ![16, 4096, 32]⟩
abbrev S16x4096x832 : Shape := ⟨3, ![16, 4096, 832]⟩
abbrev S16x4096x512 : Shape := ⟨3, ![16, 4096, 512]⟩
abbrev S16x4096x256 : Shape := ⟨3, ![16, 4096, 256]⟩
abbrev S16x4096x64 : Shape := ⟨3, ![16, 4096, 64]⟩
abbrev S1x1x512 : Shape := ⟨3, ![1, 1, 512]⟩
abbrev S16x4096x1536 : Shape := ⟨3, ![16, 4096, 1536]⟩
abbrev S16x4096x8x192 : Shape := ⟨4, ![16, 4096, 8, 192]⟩
abbrev S16x4096x8x128 : Shape := ⟨4, ![16, 4096, 8, 128]⟩
abbrev S16x4096x8x64 : Shape := ⟨4, ![16, 4096, 8, 64]⟩
abbrev S16x4096x1x32 : Shape := ⟨4, ![16, 4096, 1, 32]⟩
abbrev S16x4096x8x32 : Shape := ⟨4, ![16, 4096, 8, 32]⟩
abbrev S1x1x256 : Shape := ⟨3, ![1, 1, 256]⟩
abbrev S16x4096x2048 : Shape := ⟨3, ![16, 4096, 2048]⟩
abbrev S16x4096x8x256 : Shape := ⟨4, ![16, 4096, 8, 256]⟩
abbrev S16x4096x1x64 : Shape := ⟨4, ![16, 4096, 1, 64]⟩
abbrev S16x8x4096x192 : Shape := ⟨4, ![16, 8, 4096, 192]⟩
abbrev S16x8x4096x128 : Shape := ⟨4, ![16, 8, 4096, 128]⟩

abbrev nBuf : Space → Nat
  | .hbm => 114
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x3x1024, .f32⟩
  | .hbm, ⟨2, _⟩ => ⟨S16x4096, .i32⟩
  | .hbm, ⟨3, _⟩ => ⟨S1024x832, .f32⟩
  | .hbm, ⟨4, _⟩ => ⟨S512, .f32⟩
  | .hbm, ⟨5, _⟩ => ⟨S256, .f32⟩
  | .hbm, ⟨6, _⟩ => ⟨S512x1536, .f32⟩
  | .hbm, ⟨7, _⟩ => ⟨S256x2048, .f32⟩
  | .hbm, ⟨8, _⟩ => ⟨S16x1x1024, .f32⟩
  | .hbm, ⟨9, _⟩ => ⟨S16x1x1024, .f32⟩
  | .hbm, ⟨10, _⟩ => ⟨S_, .f32⟩
  | .hbm, ⟨11, _⟩ => ⟨S16x1x1024, .f32⟩
  | .hbm, ⟨12, _⟩ => ⟨S16x1x1024, .f32⟩
  | .hbm, ⟨13, _⟩ => ⟨S16x4096x1024, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S16x4096, .f32⟩
  | .hbm, ⟨26, _⟩ => ⟨S16x4096x1, .f32⟩
  | .hbm, ⟨27, _⟩ => ⟨S1x1x32, .f32⟩
  | .hbm, ⟨28, _⟩ => ⟨S16x4096x32, .f32⟩
  | .hbm, ⟨29, _⟩ => ⟨S16x4096x32, .f32⟩
  | .hbm, ⟨30, _⟩ => ⟨S16x4096x32, .f32⟩
  | .hbm, ⟨31, _⟩ => ⟨S16x4096x32, .f32⟩
  | .hbm, ⟨32, _⟩ => ⟨S16x4096x32, .f32⟩
  | .hbm, ⟨33, _⟩ => ⟨S16x4096x832, .f32⟩
  | .hbm, ⟨34, _⟩ => ⟨S16x4096x512, .f32⟩
  | .hbm, ⟨35, _⟩ => ⟨S16x4096x256, .f32⟩
  | .hbm, ⟨36, _⟩ => ⟨S16x4096x64, .f32⟩
  | .hbm, ⟨37, _⟩ => ⟨S16x4096x512, .f32⟩
  | .hbm, ⟨38, _⟩ => ⟨S_, .f32⟩
  | .hbm, ⟨39, _⟩ => ⟨S16x4096, .f32⟩
  | .hbm, ⟨40, _⟩ => ⟨S16x4096x1, .f32⟩
  | .hbm, ⟨41, _⟩ => ⟨S_, .f32⟩
  | .hbm, ⟨42, _⟩ => ⟨S16x4096x1, .f32⟩
  | .hbm, ⟨43, _⟩ => ⟨S16x4096x1, .f32⟩
  | .hbm, ⟨44, _⟩ => ⟨S_, .f32⟩
  | .hbm, ⟨45, _⟩ => ⟨S16x4096x1, .f32⟩
  | .hbm, ⟨46, _⟩ => ⟨S16x4096x1, .f32⟩
  | .hbm, ⟨47, _⟩ => ⟨S16x4096x1, .f32⟩
  | .hbm, ⟨48, _⟩ => ⟨S16x4096x512, .f32⟩
  | .hbm, ⟨49, _⟩ => ⟨S16x4096x512, .f32⟩
  | .hbm, ⟨50, _⟩ => ⟨S1x1x512, .f32⟩
  | .hbm, ⟨51, _⟩ => ⟨S16x4096x512, .f32⟩
  | .hbm, ⟨52, _⟩ => ⟨S16x4096x512, .f32⟩
  | .hbm, ⟨53, _⟩ => ⟨S16x4096x1536, .f32⟩
  | .hbm, ⟨54, _⟩ => ⟨S16x4096x8x192, .f32⟩
  | .hbm, ⟨55, _⟩ => ⟨S16x4096x8x128, .f32⟩
  | .hbm, ⟨56, _⟩ => ⟨S16x4096x8x64, .f32⟩
  | .hbm, ⟨57, _⟩ => ⟨S16x4096x1x32, .f32⟩
  | .hbm, ⟨58, _⟩ => ⟨S16x4096x1x32, .f32⟩
  | .hbm, ⟨59, _⟩ => ⟨S16x4096x8x32, .f32⟩
  | .hbm, ⟨60, _⟩ => ⟨S16x4096x8x32, .f32⟩
  | .hbm, ⟨61, _⟩ => ⟨S16x4096x8x32, .f32⟩
  | .hbm, ⟨62, _⟩ => ⟨S16x4096x8x32, .f32⟩
  | .hbm, ⟨63, _⟩ => ⟨S16x4096x8x32, .f32⟩
  | .hbm, ⟨64, _⟩ => ⟨S16x4096x8x32, .f32⟩
  | .hbm, ⟨65, _⟩ => ⟨S16x4096x8x32, .f32⟩
  | .hbm, ⟨66, _⟩ => ⟨S16x4096x8x32, .f32⟩
  | .hbm, ⟨67, _⟩ => ⟨S16x4096x8x32, .f32⟩
  | .hbm, ⟨68, _⟩ => ⟨S16x4096x8x32, .f32⟩
  | .hbm, ⟨69, _⟩ => ⟨S16x4096x8x32, .f32⟩
  | .hbm, ⟨70, _⟩ => ⟨S16x4096x8x32, .f32⟩
  | .hbm, ⟨71, _⟩ => ⟨S16x4096x8x64, .f32⟩
  | .hbm, ⟨72, _⟩ => ⟨S16x4096x8x192, .f32⟩
  | .hbm, ⟨73, _⟩ => ⟨S16x4096x256, .f32⟩
  | .hbm, ⟨74, _⟩ => ⟨S_, .f32⟩
  | .hbm, ⟨75, _⟩ => ⟨S16x4096, .f32⟩
  | .hbm, ⟨76, _⟩ => ⟨S16x4096x1, .f32⟩
  | .hbm, ⟨77, _⟩ => ⟨S_, .f32⟩
  | .hbm, ⟨78, _⟩ => ⟨S16x4096x1, .f32⟩
  | .hbm, ⟨79, _⟩ => ⟨S16x4096x1, .f32⟩
  | .hbm, ⟨80, _⟩ => ⟨S_, .f32⟩
  | .hbm, ⟨81, _⟩ => ⟨S16x4096x1, .f32⟩
  | .hbm, ⟨82, _⟩ => ⟨S16x4096x1, .f32⟩
  | .hbm, ⟨83, _⟩ => ⟨S16x4096x1, .f32⟩
  | .hbm, ⟨84, _⟩ => ⟨S16x4096x256, .f32⟩
  | .hbm, ⟨85, _⟩ => ⟨S16x4096x256, .f32⟩
  | .hbm, ⟨86, _⟩ => ⟨S1x1x256, .f32⟩
  | .hbm, ⟨87, _⟩ => ⟨S16x4096x256, .f32⟩
  | .hbm, ⟨88, _⟩ => ⟨S16x4096x256, .f32⟩
  | .hbm, ⟨89, _⟩ => ⟨S16x4096x2048, .f32⟩
  | .hbm, ⟨90, _⟩ => ⟨S16x4096x8x256, .f32⟩
  | .hbm, ⟨91, _⟩ => ⟨S16x4096x32, .f32⟩
  | .hbm, ⟨92, _⟩ => ⟨S16x4096x32, .f32⟩
  | .hbm, ⟨93, _⟩ => ⟨S16x4096x32, .f32⟩
  | .hbm, ⟨94, _⟩ => ⟨S16x4096x32, .f32⟩
  | .hbm, ⟨95, _⟩ => ⟨S16x4096x32, .f32⟩
  | .hbm, ⟨96, _⟩ => ⟨S16x4096x32, .f32⟩
  | .hbm, ⟨97, _⟩ => ⟨S16x4096x32, .f32⟩
  | .hbm, ⟨98, _⟩ => ⟨S16x4096x32, .f32⟩
  | .hbm, ⟨99, _⟩ => ⟨S16x4096x64, .f32⟩
  | .hbm, ⟨100, _⟩ => ⟨S16x4096x1x64, .f32⟩
  | .hbm, ⟨101, _⟩ => ⟨S16x4096x8x64, .f32⟩
  | .hbm, ⟨102, _⟩ => ⟨S16x4096x8x128, .f32⟩
  | .hbm, ⟨103, _⟩ => ⟨S16x4096x8x192, .f32⟩
  | .hbm, ⟨104, _⟩ => ⟨S_, .f32⟩
  | .hbm, ⟨105, _⟩ => ⟨S16x4096x8x192, .f32⟩
  | .hbm, ⟨106, _⟩ => ⟨S16x4096x8x192, .f32⟩
  | .hbm, ⟨107, _⟩ => ⟨S16x8x4096x192, .f32⟩
  | .hbm, ⟨108, _⟩ => ⟨S16x8x4096x192, .bf16⟩
  | .hbm, ⟨109, _⟩ => ⟨S16x8x4096x192, .f32⟩
  | .hbm, ⟨110, _⟩ => ⟨S16x8x4096x192, .bf16⟩
  | .hbm, ⟨111, _⟩ => ⟨S16x4096x8x128, .f32⟩
  | .hbm, ⟨112, _⟩ => ⟨S16x8x4096x128, .f32⟩
  | .hbm, ⟨113, _⟩ => ⟨S16x8x4096x128, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_8 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩

abbrev nD : Nat := 1
abbrev τ : Topo := Topo.v7x

variable {F : FTy → Type} [FloatOps F]
-- ==== EvenProj.lean ====
abbrev S16x4096x1024 : Shape := ⟨3, ![16, 4096, 1024]⟩
abbrev S16x3x1024 : Shape := ⟨3, ![16, 3, 1024]⟩
abbrev S1024x2568 : Shape := ⟨2, ![1024, 2568]⟩
abbrev S8 : Shape := ⟨1, ![8]⟩
abbrev S4x128x128 : Shape := ⟨3, ![4, 128, 128]⟩
abbrev S512 : Shape := ⟨1, ![512]⟩
abbrev S4x1024 : Shape := ⟨2, ![4, 1024]⟩
abbrev S_ : Shape := ⟨0, ![]⟩
abbrev S1024x2688 : Shape := ⟨2, ![1024, 2688]⟩
abbrev S128 : Shape := ⟨1, ![128]⟩
abbrev S1x128 : Shape := ⟨2, ![1, 128]⟩
abbrev S1x512 : Shape := ⟨2, ![1, 512]⟩
abbrev S16x4096x512 : Shape := ⟨3, ![16, 4096, 512]⟩
abbrev S16x4096x128 : Shape := ⟨3, ![16, 4096, 128]⟩
abbrev S16x8x4096 : Shape := ⟨3, ![16, 8, 4096]⟩
abbrev S1x512x1024 : Shape := ⟨3, ![1, 512, 1024]⟩
abbrev S1x3x1024 : Shape := ⟨3, ![1, 3, 1024]⟩
abbrev S1x512x512 : Shape := ⟨3, ![1, 512, 512]⟩
abbrev S1x512x128 : Shape := ⟨3, ![1, 512, 128]⟩
abbrev S1x8x512 : Shape := ⟨3, ![1, 8, 512]⟩
abbrev S528x512 : Shape := ⟨2, ![528, 512]⟩
abbrev S520x1024 : Shape := ⟨2, ![520, 1024]⟩
abbrev S16x512 : Shape := ⟨2, ![16, 512]⟩
abbrev S8x1024 : Shape := ⟨2, ![8, 1024]⟩
abbrev S3x1024 : Shape := ⟨2, ![3, 1024]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S1024x1024 : Shape := ⟨2, ![1024, 1024]⟩
abbrev S1024x128 : Shape := ⟨2, ![1024, 128]⟩
abbrev S512x128 : Shape := ⟨2, ![512, 128]⟩
abbrev S128x512 : Shape := ⟨2, ![128, 512]⟩
abbrev S8x512 : Shape := ⟨2, ![8, 512]⟩
abbrev S512x1 : Shape := ⟨2, ![512, 1]⟩
abbrev S1x128x128 : Shape := ⟨3, ![1, 128, 128]⟩
abbrev S128x128 : Shape := ⟨2, ![128, 128]⟩

abbrev nBuf : Space → Nat
  | .hbm => 24
  | .vmem => 25
  | .smem => 0
  | _ => 0

abbrev bufTy : (tb : Table) → Fin (tcTables nBuf tb) → BufTy
  | .hbm, ⟨0, _⟩ => ⟨S16x4096x1024, .f32⟩
  | .hbm, ⟨1, _⟩ => ⟨S16x3x1024, .f32⟩
  | .hbm, ⟨2, _⟩ => ⟨S1024x2568, .f32⟩
  | .hbm, ⟨3, _⟩ => ⟨S8, .f32⟩
  | .hbm, ⟨4, _⟩ => ⟨S4x128x128, .f32⟩
  | .hbm, ⟨5, _⟩ => ⟨S512, .f32⟩
  | .hbm, ⟨6, _⟩ => ⟨S4x1024, .f32⟩
  | .hbm, ⟨7, _⟩ => ⟨S_, .i32⟩
  | .hbm, ⟨8, _⟩ => ⟨S_, .f32⟩
  | .hbm, ⟨9, _⟩ => ⟨S1024x2688, .f32⟩
  | .hbm, ⟨10, _⟩ => ⟨S1024x2688, .bf16⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S4x128x128, .bf16⟩
  | .hbm, ⟨16, _⟩ => ⟨S1x512, .f32⟩
  | .hbm, ⟨17, _⟩ => ⟨S16x4096x512, .bf16⟩
  | .hbm, ⟨18, _⟩ => ⟨S16x4096x512, .bf16⟩
  | .hbm, ⟨19, _⟩ => ⟨S16x4096x512, .bf16⟩
  | .hbm, ⟨20, _⟩ => ⟨S16x4096x512, .bf16⟩
  | .hbm, ⟨21, _⟩ => ⟨S16x4096x512, .f32⟩
  | .hbm, ⟨22, _⟩ => ⟨S16x4096x128, .f32⟩
  | .hbm, ⟨23, _⟩ => ⟨S16x8x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1024x2688, .bf16⟩
  | .local _ .vmem, ⟨5, _⟩ => ⟨S1x128, .f32⟩
  | .local _ .vmem, ⟨6, _⟩ => ⟨S4x128x128, .bf16⟩
  | .local _ .vmem, ⟨7, _⟩ => ⟨S1x512, .f32⟩
  | .local _ .vmem, ⟨8, _⟩ => ⟨S4x1024, .f32⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .f32⟩
  | .local _ .vmem, ⟨18, _⟩ => ⟨S1x512x512, .f32⟩
  | .local _ .vmem, ⟨19, _⟩ => ⟨S1x512x128, .f32⟩
  | .local _ .vmem, ⟨20, _⟩ => ⟨S1x512x128, .f32⟩
  | .local _ .vmem, ⟨21, _⟩ => ⟨S1x8x512, .f32⟩
  | .local _ .vmem, ⟨22, _⟩ => ⟨S1x8x512, .f32⟩
  | .local _ .vmem, ⟨23, _⟩ => ⟨S528x512, .f32⟩
  | .local _ .vmem, ⟨24, _⟩ => ⟨S520x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v6_5 : Ref sig .tc := ⟨.hbm, 22, rfl⟩
abbrev main_v6_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== EvenProjRefIdeal.lean ====
abbrev S16x4096x1024 : Shape := ⟨3, ![16, 4096, 1024]⟩
abbrev S16x3x1024 : Shape := ⟨3, ![16, 3, 1024]⟩
abbrev S1024x2568 : Shape := ⟨2, ![1024, 2568]⟩
abbrev S8 : Shape := ⟨1, ![8]⟩
abbrev S4x128x128 : Shape := ⟨3, ![4, 128, 128]⟩
abbrev S512 : Shape := ⟨1, ![512]⟩
abbrev S4x1024 : Shape := ⟨2, ![4, 1024]⟩
abbrev S16x1x1024 : Shape := ⟨3, ![16, 1, 1024]⟩
abbrev S_ : Shape := ⟨0, ![]⟩
abbrev S16x4096x2568 : Shape := ⟨3, ![16, 4096, 2568]⟩
abbrev S16x4096x512 : Shape := ⟨3, ![16, 4096, 512]⟩
abbrev S16x4096x8 : Shape := ⟨3, ![16, 4096, 8]⟩
abbrev S16x4099x1024 : Shape := ⟨3, ![16, 4099, 1024]⟩
abbrev S1x1024 : Shape := ⟨2, ![1, 1024]⟩
abbrev S1024 : Shape := ⟨1, ![1024]⟩
abbrev S1x1x1024 : Shape := ⟨3, ![1, 1, 1024]⟩
abbrev S1x1x8 : Shape := ⟨3, ![1, 1, 8]⟩
abbrev S16x4096x4 : Shape := ⟨3, ![16, 4096, 4]⟩
abbrev S16x8x4096 : Shape := ⟨3, ![16, 8, 4096]⟩
abbrev S16x4096x128 : Shape := ⟨3, ![16, 4096, 128]⟩
abbrev S16x4097x128 : Shape := ⟨3, ![16, 4097, 128]⟩
abbrev S4096 : Shape := ⟨1, ![4096]⟩
abbrev S1x4096x1 : Shape := ⟨3, ![1, 4096, 1]⟩
abbrev S16x4099x128 : Shape := ⟨3, ![16, 4099, 128]⟩
abbrev S16x4103x128 : Shape := ⟨3, ![16, 4103, 128]⟩
abbrev S16x4111x128 : Shape := ⟨3, ![16, 4111, 128]⟩
abbrev S1x128x128 : Shape := ⟨3, ![1, 128, 128]⟩
abbrev S128x128 : Shape := ⟨2, ![128, 128]⟩
abbrev S1x1x512 : Shape := ⟨3, ![1, 1, 512]⟩

abbrev nBuf : Space → Nat
  | .hbm => 233
  | .vmem => 0
  | .smem => 0
  | _ => 0

abbrev hbmTy0_0 (i : Nat) : BufTy := match i % 128 with
  | 0 => ⟨S16x4096x1024, .f32⟩
  | 1 => ⟨S16x3x1024, .f32⟩
  | 2 => ⟨S1024x2568, .f32⟩
  | 3 => ⟨S8, .f32⟩
  | 4 => ⟨S4x128x128, .f32⟩
  | 5 => ⟨S512, .f32⟩
  | 6 => ⟨S4x1024, .f32⟩
  | 7 => ⟨S16x1x1024, .f32⟩
  | 8 => ⟨S16x1x1024, .f32⟩
  | 9 => ⟨S_, .f32⟩
  | 10 => ⟨S16x1x1024, .f32⟩
  | 11 => ⟨S16x1x1024, .f32⟩
  | 12 => ⟨S16x4096x1024, .f32⟩
  | 13 => ⟨S16x4096x1024, .f32⟩
  | 14 => ⟨S16x4096x1024, .f32⟩
  | 15 => ⟨S16x4096x1024, .f32⟩
  | 16 => ⟨S16x4096x2568, .f32⟩
  | 17 => ⟨S16x4096x512, .f32⟩
  | 18 => ⟨S16x4096x1024, .f32⟩
  | 19 => ⟨S16x4096x512, .f32⟩
  | 20 => ⟨S16x4096x512, .f32⟩
  | 21 => ⟨S16x4096x8, .f32⟩
  | 22 => ⟨S_, .i32⟩
  | 23 => ⟨S_, .f32⟩
  | 24 => ⟨S16x4099x1024, .f32⟩
  | 25 => ⟨S16x4096x1024, .f32⟩
  | 26 => ⟨S1x1024, .f32⟩
  | 27 => ⟨S1024, .f32⟩
  | 28 => ⟨S1x1x1024, .f32⟩
  | 29 => ⟨S16x4096x1024, .f32⟩
  | 30 => ⟨S16x4096x1024, .f32⟩
  | 31 => ⟨S16x4096x1024, .f32⟩
  | 32 => ⟨S1x1024, .f32⟩
  | 33 => ⟨S1024, .f32⟩
  | 34 => ⟨S1x1x1024, .f32⟩
  | 35 => ⟨S16x4096x1024, .f32⟩
  | 36 => ⟨S16x4096x1024, .f32⟩
  | 37 => ⟨S16x4096x1024, .f32⟩
  | 38 => ⟨S16x4096x1024, .f32⟩
  | 39 => ⟨S1x1024, .f32⟩
  | 40 => ⟨S1024, .f32⟩
  | 41 => ⟨S1x1x1024, .f32⟩
  | 42 => ⟨S16x4096x1024, .f32⟩
  | 43 => ⟨S16x4096x1024, .f32⟩
  | 44 => ⟨S16x4096x1024, .f32⟩
  | 45 => ⟨S16x4096x1024, .f32⟩
  | 46 => ⟨S1x1024, .f32⟩
  | 47 => ⟨S1024, .f32⟩
  | 48 => ⟨S1x1x1024, .f32⟩
  | 49 => ⟨S16x4096x1024, .f32⟩
  | 50 => ⟨S16x4096x1024, .f32⟩
  | 51 => ⟨S16x4096x1024, .f32⟩
  | 52 => ⟨S16x4096x1024, .f32⟩
  | 53 => ⟨S16x4096x1024, .f32⟩
  | 54 => ⟨S_, .f32⟩
  | 55 => ⟨S16x4096x1024, .f32⟩
  | 56 => ⟨S16x4096x1024, .f32⟩
  | 57 => ⟨S_, .f32⟩
  | 58 => ⟨S16x4096x1024, .f32⟩
  | 59 => ⟨S16x4096x1024, .f32⟩
  | 60 => ⟨S16x4096x1024, .f32⟩
  | 61 => ⟨S16x4096x512, .f32⟩
  | 62 => ⟨S16x4096x512, .f32⟩
  | 63 => ⟨S_, .f32⟩
  | 64 => ⟨S16x4096x512, .f32⟩
  | 65 => ⟨S16x4096x512, .f32⟩
  | 66 => ⟨S1x1x8, .f32⟩
  | 67 => ⟨S16x4096x8, .f32⟩
  | 68 => ⟨S16x4096x8, .f32⟩
  | 69 => ⟨S16x4096x4, .f32⟩
  | 70 => ⟨S16x4096x4, .f32⟩
  | 71 => ⟨S16x4096x4, .f32⟩
  | 72 => ⟨S_, .f32⟩
  | 73 => ⟨S16x4096x4, .f32⟩
  | 74 => ⟨S16x4096x4, .f32⟩
  | 75 => ⟨S16x4096x4, .f32⟩
  | 76 => ⟨S16x4096x4, .f32⟩
  | 77 => ⟨S16x4096x4, .i1⟩
  | 78 => ⟨S16x4096x4, .f32⟩
  | 79 => ⟨S16x4096x4, .f32⟩
  | 80 => ⟨S16x4096x4, .f32⟩
  | 81 => ⟨S16x4096x4, .f32⟩
  | 82 => ⟨S16x4096x4, .f32⟩
  | 83 => ⟨S16x4096x4, .f32⟩
  | 84 => ⟨S16x4096x4, .f32⟩
  | 85 => ⟨S16x4096x4, .f32⟩
  | 86 => ⟨S16x4096x4, .f32⟩
  | 87 => ⟨S16x4096x8, .f32⟩
  | 88 => ⟨S16x4096x512, .bf16⟩
  | 89 => ⟨S16x4096x512, .bf16⟩
  | 90 => ⟨S16x4096x512, .bf16⟩
  | 91 => ⟨S16x4096x512, .f32⟩
  | 92 => ⟨S16x4096x512, .f32⟩
  | 93 => ⟨S_, .f32⟩
  | 94 => ⟨S16x4096x512, .f32⟩
  | 95 => ⟨S16x4096x512, .f32⟩
  | 96 => ⟨S_, .f32⟩
  | 97 => ⟨S16x4096x512, .f32⟩
  | 98 => ⟨S16x4096x512, .f32⟩
  | 99 => ⟨S16x8x4096, .f32⟩
  | 100 => ⟨S16x4096x128, .f32⟩
  | 101 => ⟨S_, .i32⟩
  | 102 => ⟨S_, .f32⟩
  | 103 => ⟨S16x4097x128, .f32⟩
  | 104 => ⟨S16x4096x128, .f32⟩
  | 105 => ⟨S16x4096x128, .f32⟩
  | 106 => ⟨S4096, .i32⟩
  | 107 => ⟨S_, .i32⟩
  | 108 => ⟨S4096, .i32⟩
  | 109 => ⟨S4096, .i32⟩
  | 110 => ⟨S_, .i32⟩
  | 111 => ⟨S4096, .i32⟩
  | 112 => ⟨S4096, .i32⟩
  | 113 => ⟨S4096, .f32⟩
  | 114 => ⟨S1x4096x1, .f32⟩
  | 115 => ⟨S16x4096x128, .f32⟩
  | 116 => ⟨S16x4096x128, .f32⟩
  | 117 => ⟨S16x4096x128, .f32⟩
  | 118 => ⟨S16x4096x128, .f32⟩
  | 119 => ⟨S_, .i32⟩
  | 120 => ⟨S_, .f32⟩
  | 121 => ⟨S16x4099x128, .f32⟩
  | 122 => ⟨S16x4096x128, .f32⟩
  | 123 => ⟨S16x4096x128, .f32⟩
  | 124 => ⟨S16x4096x128, .f32⟩
  | 125 => ⟨S16x4096x128, .f32⟩
  | 126 => ⟨S16x4096x128, .f32⟩
  | 127 => ⟨S16x4096x128, .f32⟩
  | _ => ⟨S16x4096x1024, .f32⟩

abbrev hbmTy0_1 (i : Nat) : BufTy := match i % 128 with
  | 0 => ⟨S4096, .i32⟩
  | 1 => ⟨S_, .i32⟩
  | 2 => ⟨S4096, .i32⟩
  | 3 => ⟨S4096, .i32⟩
  | 4 => ⟨S_, .i32⟩
  | 5 => ⟨S4096, .i32⟩
  | 6 => ⟨S4096, .i32⟩
  | 7 => ⟨S4096, .f32⟩
  | 8 => ⟨S1x4096x1, .f32⟩
  | 9 => ⟨S16x4096x128, .f32⟩
  | 10 => ⟨S16x4096x128, .f32⟩
  | 11 => ⟨S16x4096x128, .f32⟩
  | 12 => ⟨S16x4096x128, .f32⟩
  | 13 => ⟨S_, .i32⟩
  | 14 => ⟨S_, .f32⟩
  | 15 => ⟨S16x4103x128, .f32⟩
  | 16 => ⟨S16x4096x128, .f32⟩
  | 17 => ⟨S16x4096x128, .f32⟩
  | 18 => ⟨S16x4096x128, .f32⟩
  | 19 => ⟨S16x4096x128, .f32⟩
  | 20 => ⟨S16x4096x128, .f32⟩
  | 21 => ⟨S16x4096x128, .f32⟩
  | 22 => ⟨S16x4096x128, .f32⟩
  | 23 => ⟨S16x4096x128, .f32⟩
  | 24 => ⟨S16x4096x128, .f32⟩
  | 25 => ⟨S16x4096x128, .f32⟩
  | 26 => ⟨S16x4096x128, .f32⟩
  | 27 => ⟨S16x4096x128, .f32⟩
  | 28 => ⟨S16x4096x128, .f32⟩
  | 29 => ⟨S16x4096x128, .f32⟩
  | 30 => ⟨S4096, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i32⟩
  | 37 => ⟨S4096, .f32⟩
  | 38 => ⟨S1x4096x1, .f32⟩
  | 39 => ⟨S16x4096x128, .f32⟩
  | 40 => ⟨S16x4096x128, .f32⟩
  | 41 => ⟨S16x4096x128, .f32⟩
  | 42 => ⟨S16x4096x128, .f32⟩
  | 43 => ⟨S_, .i32⟩
  | 44 => ⟨S_, .f32⟩
  | 45 => ⟨S16x4111x128, .f32⟩
  | 46 => ⟨S16x4096x128, .f32⟩
  | 47 => ⟨S16x4096x128, .f32⟩
  | 48 => ⟨S16x4096x128, .f32⟩
  | 49 => ⟨S16x4096x128, .f32⟩
  | 50 => ⟨S16x4096x128, .f32⟩
  | 51 => ⟨S16x4096x128, .f32⟩
  | 52 => ⟨S16x4096x128, .f32⟩
  | 53 => ⟨S16x4096x128, .f32⟩
  | 54 => ⟨S16x4096x128, .f32⟩
  | 55 => ⟨S16x4096x128, .f32⟩
  | 56 => ⟨S16x4096x128, .f32⟩
  | 57 => ⟨S16x4096x128, .f32⟩
  | 58 => ⟨S16x4096x128, .f32⟩
  | 59 => ⟨S16x4096x128, .f32⟩
  | 60 => ⟨S16x4096x128, .f32⟩
  | 61 => ⟨S16x4096x128, .f32⟩
  | 62 => ⟨S16x4096x128, .f32⟩
  | 63 => ⟨S16x4096x128, .f32⟩
  | 64 => ⟨S16x4096x128, .f32⟩
  | 65 => ⟨S16x4096x128, .f32⟩
  | 66 => ⟨S16x4096x128, .f32⟩
  | 67 => ⟨S16x4096x128, .f32⟩
  | 68 => ⟨S16x4096x128, .f32⟩
  | 69 => ⟨S16x4096x128, .f32⟩
  | 70 => ⟨S16x4096x128, .f32⟩
  | 71 => ⟨S16x4096x128, .f32⟩
  | 72 => ⟨S16x4096x128, .f32⟩
  | 73 => ⟨S16x4096x128, .f32⟩
  | 74 => ⟨S16x4096x128, .f32⟩
  | 75 => ⟨S16x4096x128, .f32⟩
  | 76 => ⟨S4096, .i32⟩
  | 77 => ⟨S_, .i32⟩
  | 78 => ⟨S4096, .i32⟩
  | 79 => ⟨S4096, .i32⟩
  | 80 => ⟨S_, .i32⟩
  | 81 => ⟨S4096, .i32⟩
  | 82 => ⟨S4096, .i32⟩
  | 83 => ⟨S4096, .f32⟩
  | 84 => ⟨S1x4096x1, .f32⟩
  | 85 => ⟨S16x4096x128, .f32⟩
  | 86 => ⟨S16x4096x128, .f32⟩
  | 87 => ⟨S16x4096x128, .f32⟩
  | 88 => ⟨S1x128x128, .f32⟩
  | 89 => ⟨S128x128, .f32⟩
  | 90 => ⟨S16x4096x128, .f32⟩
  | 91 => ⟨S1x128x128, .f32⟩
  | 92 => ⟨S128x128, .f32⟩
  | 93 => ⟨S16x4096x128, .f32⟩
  | 94 => ⟨S1x128x128, .f32⟩
  | 95 => ⟨S128x128, .f32⟩
  | 96 => ⟨S16x4096x128, .f32⟩
  | 97 => ⟨S1x128x128, .f32⟩
  | 98 => ⟨S128x128, .f32⟩
  | 99 => ⟨S16x4096x128, .f32⟩
  | 100 => ⟨S16x4096x512, .f32⟩
  | 101 => ⟨S1x1x512, .f32⟩
  | 102 => ⟨S16x4096x512, .f32⟩
  | 103 => ⟨S16x4096x512, .f32⟩
  | 104 => ⟨S16x4096x512, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call2_v0 : Ref sig .tc := ⟨.hbm, 71, rfl⟩
abbrev main_call2_call0_cst : Ref sig .tc := ⟨.hbm, 72, rfl⟩
abbrev main_call2_call0_v0 : Ref sig .tc := ⟨.hbm, 73, rfl⟩
abbrev main_call2_call0_v1 : Ref sig .tc := ⟨.hbm, 74, rfl⟩
abbrev main_call2_call0_v2 : Ref sig .tc := ⟨.hbm, 75, rfl⟩
abbrev main_call2_call0_v3 : Ref sig .tc := ⟨.hbm, 76, rfl⟩
abbrev main_call2_call0_v4 : Ref sig .tc := ⟨.hbm, 77, rfl⟩
abbrev main_call2_call0_v5 : Ref sig .tc := ⟨.hbm, 78, rfl⟩
abbrev main_call2_call0_v6 : Ref sig .tc := ⟨.hbm, 79, rfl⟩
abbrev main_call2_call0_v7 : Ref sig .tc := ⟨.hbm, 80, rfl⟩
abbrev main_call2_call0_v8 : Ref sig .tc := ⟨.hbm, 81, rfl⟩
abbrev main_call2_call0_v9 : Ref sig .tc := ⟨.hbm, 82, rfl⟩
abbrev main_call2_call0_v10 : Ref sig .tc := ⟨.hbm, 83, rfl⟩
abbrev main_call2_call0_v11 : Ref sig .tc := ⟨.hbm, 84, rfl⟩
abbrev main_call2_v1 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_1 : Ref sig .tc := ⟨.hbm, 93, rfl⟩
abbrev main_v59 : Ref sig .tc := ⟨.hbm, 94, rfl⟩
abbrev main_v60 : Ref sig .tc := ⟨.hbm, 95, rfl⟩
abbrev main_cst_2 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_3 : Ref sig .tc := ⟨.hbm, 101, rfl⟩
abbrev main_call3_v0 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_4 : Ref sig .tc := ⟨.hbm, 107, rfl⟩
abbrev main_v69 : Ref sig .tc := ⟨.hbm, 108, rfl⟩
abbrev main_v70 : Ref sig .tc := ⟨.hbm, 109, rfl⟩
abbrev main_c_5 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_6 : Ref sig .tc := ⟨.hbm, 119, rfl⟩
abbrev main_call4_v0 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_c_7 : Ref sig .tc := ⟨.hbm, 129, rfl⟩
abbrev main_v87 : Ref sig .tc := ⟨.hbm, 130, rfl⟩
abbrev main_v88 : Ref sig .tc := ⟨.hbm, 131, rfl⟩
abbrev main_c_8 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_c_9 : Ref sig .tc := ⟨.hbm, 141, rfl⟩
abbrev main_call5_v0 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_c_10 : Ref sig .tc := ⟨.hbm, 159, rfl⟩
abbrev main_v113 : Ref sig .tc := ⟨.hbm, 160, rfl⟩
abbrev main_v114 : Ref sig .tc := ⟨.hbm, 161, rfl⟩
abbrev main_c_11 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_c_12 : Ref sig .tc := ⟨.hbm, 171, rfl⟩
abbrev main_call6_v0 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_c_13 : Ref sig .tc := ⟨.hbm, 205, rfl⟩
abbrev main_v155 : Ref sig .tc := ⟨.hbm, 206, rfl⟩
abbrev main_v156 : Ref sig .tc := ⟨.hbm, 207, rfl⟩
abbrev main_c_14 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩

abbrev nD : Nat := 1
abbrev τ : Topo := Topo.v7x

variable {F : FTy → Type} [FloatOps F]
-- ==== Proof.Frames.lean ====
/- The frames: every program ends, keeps its arguments and leaves every semaphore at zero. -/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.EvenProj.Frame
public import proofs.«01_k».proof.Proof.Gen.EvenProjIdeal.Frame
public import proofs.«01_k».proof.Proof.Gen.EvenProjRefIdeal.Run
public import proofs.«01_k».proof.Proof.Gen.Ffn.Frame
public import proofs.«01_k».proof.Proof.Gen.FfnIdeal.Frame
public import proofs.«01_k».proof.Proof.Gen.FfnRefIdeal.Run
public import proofs.«01_k».proof.Proof.Gen.MlaProj.Frame
public import proofs.«01_k».proof.Proof.Gen.MlaProjIdeal.Frame
public import proofs.«01_k».proof.Proof.Gen.MlaProjRefIdeal.Run
public import proofs.«01_k».proof.Proof.Gen.OutPair.Frame
public import proofs.«01_k».proof.Proof.Gen.OutPairIdeal.Frame
public import proofs.«01_k».proof.Proof.Gen.OutPairRefIdeal.Run
public import proofs.«01_k».proof.Proof.Gen.OutAtt.Frame
public import proofs.«01_k».proof.Proof.Gen.OutAttIdeal.Frame
public import proofs.«01_k».proof.Proof.Gen.OutAttRefIdeal.Run
public import Idealize.ShloMosaic.Adequacy
public import Idealize.ShloMosaic.Init

@[expose] public section

noncomputable section

namespace Cert.Frames

open Idealize.ShloMosaic Idealize.SL.Sem

/-- The attention kernel. -/
theorem attn : Cert.quiescent_Attn := fun m ρ _ => Cert.Attn.Gen.frame m ρ

/-- The attention kernel over the extended reals. -/
theorem attnIdeal : Cert.quiescent_AttnIdeal := fun m ρ _ => Cert.AttnIdeal.Gen.frame m ρ

/-- The attention's reference. -/
theorem attnRefIdeal : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The feed-forward kernel. -/
theorem ffn : Cert.quiescent_Ffn := fun m ρ _ => Cert.Ffn.Gen.frame m ρ

/-- The feed-forward kernel over the extended reals. -/
theorem ffnIdeal : Cert.quiescent_FfnIdeal := fun m ρ _ => Cert.FfnIdeal.Gen.frame m ρ

/-- The feed-forward's reference. -/
theorem ffnRefIdeal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The output projection from the attention's output. -/
theorem outAtt : Cert.quiescent_OutAtt := fun m ρ _ => Cert.OutAtt.Gen.frame m ρ

/-- The output projection from the attention's output, over the extended reals. -/
theorem outAttIdeal : Cert.quiescent_OutAttIdeal := fun m ρ _ => Cert.OutAttIdeal.Gen.frame m ρ

/-- Its reference. -/
theorem outAttRefIdeal : Cert.quiescent_OutAttRefIdeal := fun m ρ _ =>
  (θ_run Cert.OutAttRefIdeal.defs _ _).mono (fun r h => ⟨fun c => (h c).2, sem_eq_zero_of_no_sems (by decide) r.2⟩)
    (Cert.OutAttRefIdeal.Value.run (F := Ideal) m ρ)

/-- The output projection from the pooling's and the recurrence's outputs. -/
theorem outPair : Cert.quiescent_OutPair := fun m ρ _ => Cert.OutPair.Gen.frame m ρ

/-- The output projection from the pooling's and the recurrence's outputs, over the extended reals. -/
theorem outPairIdeal : Cert.quiescent_OutPairIdeal := fun m ρ _ => Cert.OutPairIdeal.Gen.frame m ρ

/-- Its reference. -/
theorem outPairRefIdeal : Cert.quiescent_OutPairRefIdeal := fun m ρ _ =>
  (θ_run Cert.OutPairRefIdeal.defs _ _).mono (fun r h => ⟨fun c => (h c).2, sem_eq_zero_of_no_sems (by decide) r.2⟩)
    (Cert.OutPairRefIdeal.Value.run (F := Ideal) m ρ)

/-- The latent attention's projection. -/
theorem mlaProj : Cert.quiescent_MlaProj := fun m ρ _ => Cert.MlaProj.Gen.frame m ρ

/-- The latent attention's projection, over the extended reals. -/
theorem mlaProjIdeal : Cert.quiescent_MlaProjIdeal := fun m ρ _ => Cert.MlaProjIdeal.Gen.frame m ρ

/-- Its reference. -/
theorem mlaProjRefIdeal : Cert.quiescent_MlaProjRefIdeal := fun m ρ _ =>
  (θ_run Cert.MlaProjRefIdeal.defs _ _).mono (fun r h => ⟨fun c => (h c).2.2.2, sem_eq_zero_of_no_sems (by decide) r.2⟩)
    (Cert.MlaProjRefIdeal.Value.run (F := Ideal) m ρ)

/-- The recurrence's projection. -/
theorem evenProj : Cert.quiescent_EvenProj := fun m ρ _ => Cert.EvenProj.Gen.frame m ρ

/-- The recurrence's projection, over the extended reals. -/
theorem evenProjIdeal : Cert.quiescent_EvenProjIdeal := fun m ρ _ => Cert.EvenProjIdeal.Gen.frame m ρ

/-- Its reference. -/
theorem evenProjRefIdeal : Cert.quiescent_EvenProjRefIdeal := fun m ρ _ =>
  (θ_run Cert.EvenProjRefIdeal.defs _ _).mono (fun r h => ⟨fun c => (h c).2.2.2.2.2.2, sem_eq_zero_of_no_sems (by decide) r.2⟩)
    (Cert.EvenProjRefIdeal.Value.run (F := Ideal) m ρ)

end Cert.Frames

end
-- ==== Proof.AttnState.lean ====
/- What one grid point of the attention kernel leaves in its output block, as a recursion over the key tiles. -/
module

public import proofs.«01_k».proof.Proof.Gen.AttnIdeal.Frame
public import Idealize.ShloMosaic.Lib.Pipeline.Value
public import Idealize.ShloMosaic.Lib.LoopRemainder
public import Idealize.ShloMosaic.Lib.ValueIdxCore
public import Idealize.ShloMosaic.PureOps.Ideal

@[expose] public section

set_option maxRecDepth 16384

noncomputable section

namespace Cert.AttnIdeal.Block

open Idealize.ShloMosaic Idealize.ShloMosaic.TcCoe Idealize.ShloMosaic.ValueIdx Cert.AttnIdeal Cert.AttnIdeal.Gen

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-- Rows `512 j` to `512 j + 511` of the keys of one head. -/
def kTile (x : Vec F S1x1x4096x192 .bf16) (j : ℕ) : Vec F S1x1x512x192 .bf16 :=
  fun y => x (ix4 0 0 (Fin.ofNat 4096 (512 * j + (y 2).val)) (y 3))

/-- Rows `512 j` to `512 j + 511` of the values of one head. -/
def vTile (x : Vec F S1x1x4096x128 .bf16) (j : ℕ) : Vec F S1x1x512x128 .bf16 :=
  fun y => x (ix4 0 0 (Fin.ofNat 4096 (512 * j + (y 2).val)) (y 3))

/-- A load of 512 rows of the keys from row `512 j` on reads tile `j`. -/
theorem ld_kTile (x : Vec F S1x1x4096x192 .bf16) {off : Fin 4 → ℕ} (j : ℕ) (hoff : off = ![0, 0, 512 * j, 0]) (hj : j < 8)
    (inb : ∀ a, off a + S1x1x512x192.size a ≤ S1x1x4096x192.size a) :
    View.ld x (Rect.unit off S1x1x512x192.size inb) = kTile x j := by
  subst hoff
  funext y
  refine congrArg x (funext fun a => Fin.ext ?_)
  have h0 : (y 0).val < 1 := (y 0).isLt
  have h1 : (y 1).val < 1 := (y 1).isLt
  have h2 : (y 2).val < 512 := (y 2).isLt
  fin_cases a
  · show 0 + 1 * (y 0).val = 0; omega
  · show 0 + 1 * (y 1).val = 0; omega
  · show 512 * j + 1 * (y 2).val = (512 * j + (y 2).val) % 4096; omega
  · show 0 + 1 * (y 3).val = (y 3).val; omega

/-- A load of 512 rows of the values from row `512 j` on reads tile `j`. -/
theorem ld_vTile (x : Vec F S1x1x4096x128 .bf16) {off : Fin 4 → ℕ} (j : ℕ) (hoff : off = ![0, 0, 512 * j, 0]) (hj : j < 8)
    (inb : ∀ a, off a + S1x1x512x128.size a ≤ S1x1x4096x128.size a) :
    View.ld x (Rect.unit off S1x1x512x128.size inb) = vTile x j := by
  subst hoff
  funext y
  refine congrArg x (funext fun a => Fin.ext ?_)
  have h0 : (y 0).val < 1 := (y 0).isLt
  have h1 : (y 1).val < 1 := (y 1).isLt
  have h2 : (y 2).val < 512 := (y 2).isLt
  fin_cases a
  · show 0 + 1 * (y 0).val = 0; omega
  · show 0 + 1 * (y 1).val = 0; omega
  · show 512 * j + 1 * (y 2).val = (512 * j + (y 2).val) % 4096; omega
  · show 0 + 1 * (y 3).val = (y 3).val; omega

/-- Running maxima, running denominators, running numerators. -/
abbrev St (F : FTy → Type) : Type := Vec F S512x1 .f32 × Vec F S512x1 .f32 × Vec F S512x128 .f32

/-- One unmasked key tile. -/
def step (q : Vec F S1x1x512x192 .bf16) (kt : Vec F S1x1x512x192 .bf16) (vt : Vec F S1x1x512x128 .bf16) (s : St F) : St F :=
  (k0_pay3 (k0_pay14 q) kt s.1, k0_pay6 (k0_pay14 q) kt s.1 s.2.1, k0_pay7 (k0_pay14 q) kt vt s.1 s.2.2)

/-- The state after the first `j` key tiles, from the reset. -/
def st (q : Vec F S1x1x512x192 .bf16) (k : Vec F S1x1x4096x192 .bf16) (v : Vec F S1x1x4096x128 .bf16) : ℕ → St F
  | 0 => (k0_pay15, k0_pay16, k0_pay17)
  | j + 1 => step q (kTile k j) (vTile v j) (st q k v j)

/-- The unmasked loop runs once per query tile before this one. -/
theorem trips1 (i : grid0.Coords) : (k0_t1_loop i).trips = (i 2).val := by
  have h : ∀ n : Fin 8, Scf.trips 0#32 (Scalar.addi 0#32 (Scalar.muli (Scalar.divsi (Scalar.subi (BitVec.ofNat 32 n.val) 0#32) 1#32) 1#32)) 1#32 = n.val := by
    decide +kernel
  exact h (i 2)

/-- The remainder loop runs no trip. -/
theorem trips2 (i : grid0.Coords) : (k0_t2_loop i).trips = 0 := by
  have h : ∀ n : Fin 8, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by
    decide +kernel
  exact h (i 2)

theorem off_mul (n : ℕ) (h : n < 8) : (Scalar.indexCast (Scalar.muli (Scf.iv 0#32 1#32 n) 512#32)).toNat = 512 * n := by
  have H : ∀ n : Fin 8, (Scalar.indexCast (Scalar.muli (Scf.iv 0#32 1#32 n.val) 512#32)).toNat = 512 * n.val := by decide +kernel
  exact H ⟨n, h⟩

theorem off5_eq (i : grid0.Coords) : k0_off5 i = ![0, 0, 512 * (i 2).val, 0] := by
  have H : ∀ n : Fin 8, (Scalar.indexCast (Scalar.muli (BitVec.ofNat 32 n.val) 512#32)).toNat = 512 * n.val := by decide +kernel
  unfold k0_off5; dsimp only; rw [H (i 2)]

theorem off6_eq (i : grid0.Coords) : k0_off6 i = ![0, 0, 512 * (i 2).val, 0] := by
  have H : ∀ n : Fin 8, (Scalar.indexCast (Scalar.muli (BitVec.ofNat 32 n.val) 512#32)).toNat = 512 * n.val := by decide +kernel
  unfold k0_off6; dsimp only; rw [H (i 2)]

theorem off1_eq (i : grid0.Coords) (t : Fin (k0_t1_loop i).trips) : k0_off1 i t = ![0, 0, 512 * t.val, 0] := by
  have h : t.val < 8 := (t.isLt.trans_eq (trips1 i)).trans (i 2).isLt
  unfold k0_off1; dsimp only; rw [off_mul _ h]

theorem off2_eq (i : grid0.Coords) (t : Fin (k0_t1_loop i).trips) : k0_off2 i t = ![0, 0, 512 * t.val, 0] := by
  have h : t.val < 8 := (t.isLt.trans_eq (trips1 i)).trans (i 2).isLt
  unfold k0_off2; dsimp only; rw [off_mul _ h]

/-- What one trip of the unmasked loop writes: the step's three payloads, over what the three scratch buffers hold. -/
theorem tripL1_eq (𝒱 : Variants) (c : Dev nD) (bd : Option 𝒱.V) (i : grid0.Coords) (arg3 : Memref sig .tc .vmem S1x1x512x192 .bf16) (harg3 : arg3.IsWhole) (arg4 : Memref sig .tc .vmem S1x1x4096x192 .bf16) (harg4 : arg4.IsWhole) (arg5 : Memref sig .tc .vmem S1x1x4096x128 .bf16) (harg5 : arg5.IsWhole) (arg6 : Memref sig .tc .vmem S1x512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole)
    (q : Vec F S1x1x512x192 .bf16) (x1 : Vec F S1x1x4096x192 .bf16) (x2 : Vec F S1x1x4096x128 .bf16) (t : Fin (k0_t1_loop i).trips)
    (L7 : List (View.Piece (Elt F) S512x1 .f32)) (L8 : List (View.Piece (Elt F) S512x1 .f32)) (L9 : List (View.Piece (Elt F) S512x128 .f32))
    (s : St F) (h7 : View.canon L7 = s.1) (h8 : View.canon L8 = s.2.1) (h9 : View.canon L9 = s.2.2) :
    tripL_k0_t1 𝒱 c bd i arg3 harg3 arg4 harg4 arg5 harg5 arg6 harg6 arg7 harg7 arg8 harg8 arg9 harg9 q (harg4.unread x1) (harg5.unread x2) t
      (arg7.view.writes (Elt F) arg7.view.junk L7) (arg8.view.writes (Elt F) arg8.view.junk L8) (arg9.view.writes (Elt F) arg9.view.junk L9)
    = ([⟨Rect.unit ![0, 0] S512x1.size inb_S512x1_S512x1_0_0, (step q (kTile x1 t) (vTile x2 t) s).1⟩],
       [⟨Rect.unit ![0, 0] S512x1.size inb_S512x1_S512x1_0_0, (step q (kTile x1 t) (vTile x2 t) s).2.1⟩],
       [⟨Rect.unit ![0, 0] S512x128.size inb_S512x128_S512x128_0_0, (step q (kTile x1 t) (vTile x2 t) s).2.2⟩]) := by
  have h : t.val < 8 := (t.isLt.trans_eq (trips1 i)).trans (i 2).isLt
  have e4 : arg4.view.readAt (Elt F) (Rect.unit (s := S1x1x4096x192) (k0_off1 i t) S1x1x512x192.size (k0_off1_inb i t)).toLoadRect (harg4.unread x1) = kTile x1 t := by
    rw [View.readAt_eq_ld, harg4.read_unread]; exact ld_kTile x1 t (off1_eq i t) h _
  have e5 : arg5.view.readAt (Elt F) (Rect.unit (s := S1x1x4096x128) (k0_off2 i t) S1x1x512x128.size (k0_off2_inb i t)).toLoadRect (harg5.unread x2) = vTile x2 t := by
    rw [View.readAt_eq_ld, harg5.read_unread]; exact ld_vTile x2 t (off2_eq i t) h _
  have e7 : arg7.view.readAt (Elt F) (Rect.unit ![0, 0] S512x1.size inb_S512x1_S512x1_0_0).toLoadRect (arg7.view.writes (Elt F) arg7.view.junk L7) = s.1 := by
    rw [View.readAt_writes_junk_eq_canon, h7]; exact View.ld_unit_zero z2 _ _
  have e8 : arg8.view.readAt (Elt F) (Rect.unit ![0, 0] S512x1.size inb_S512x1_S512x1_0_0).toLoadRect (arg8.view.writes (Elt F) arg8.view.junk L8) = s.2.1 := by
    rw [View.readAt_writes_junk_eq_canon, h8]; exact View.ld_unit_zero z2 _ _
  have e9 : arg9.view.readAt (Elt F) (Rect.unit ![0, 0] S512x128.size inb_S512x128_S512x128_0_0).toLoadRect (arg9.view.writes (Elt F) arg9.view.junk L9) = s.2.2 := by
    rw [View.readAt_writes_junk_eq_canon, h9]; exact View.ld_unit_zero z2 _ _
  unfold step
  rw [← e4, ← e5, ← e7, ← e8, ← e9]
  have hp : ∀ x : FVec F S512x1 .f32, k0_pay18 x = x := fun x => shapeCast_self _ _
  rw [← hp (k0_pay3 _ _ _)]
  unfold tripL_k0_t1 trip_k0_t1
  dsimp only
  sl_unfold_words
  rfl

/-- The first pieces of the three scratch buffers: the resets. -/
abbrev init7 : List (View.Piece (Elt F) S512x1 .f32) := [⟨Rect.unit ![0, 0] S512x1.size inb_S512x1_S512x1_0_0, k0_pay15⟩]
abbrev init8 : List (View.Piece (Elt F) S512x1 .f32) := [⟨Rect.unit ![0, 0] S512x1.size inb_S512x1_S512x1_0_0, k0_pay16⟩]
abbrev init9 : List (View.Piece (Elt F) S512x128 .f32) := [⟨Rect.unit ![0, 0] S512x128.size inb_S512x128_S512x128_0_0, k0_pay17⟩]

/-- Before trip `j` of the unmasked loop the three scratch buffers hold the state after `j` key tiles. -/
theorem loop1_canon (𝒱 : Variants) (c : Dev nD) (bd : Option 𝒱.V) (i : grid0.Coords) (arg3 : Memref sig .tc .vmem S1x1x512x192 .bf16) (harg3 : arg3.IsWhole) (arg4 : Memref sig .tc .vmem S1x1x4096x192 .bf16) (harg4 : arg4.IsWhole) (arg5 : Memref sig .tc .vmem S1x1x4096x128 .bf16) (harg5 : arg5.IsWhole) (arg6 : Memref sig .tc .vmem S1x512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole)
    (q : Vec F S1x1x512x192 .bf16) (x1 : Vec F S1x1x4096x192 .bf16) (x2 : Vec F S1x1x4096x128 .bf16) (j : ℕ) (hj : j ≤ (k0_t1_loop i).trips) :
    View.canon ((pb_k0_t1 𝒱 c bd i arg3 harg3 arg4 harg4 arg5 harg5 arg6 harg6 arg7 harg7 arg8 harg8 arg9 harg9 q (harg4.unread x1) (harg5.unread x2)
        (arg7.view.writes (Elt F) arg7.view.junk init7) (arg8.view.writes (Elt F) arg8.view.junk init8) (arg9.view.writes (Elt F) arg9.view.junk init9) j).1 ++ init7) = (st q x1 x2 j).1
    ∧ View.canon ((pb_k0_t1 𝒱 c bd i arg3 harg3 arg4 harg4 arg5 harg5 arg6 harg6 arg7 harg7 arg8 harg8 arg9 harg9 q (harg4.unread x1) (harg5.unread x2)
        (arg7.view.writes (Elt F) arg7.view.junk init7) (arg8.view.writes (Elt F) arg8.view.junk init8) (arg9.view.writes (Elt F) arg9.view.junk init9) j).2.1 ++ init8) = (st q x1 x2 j).2.1
    ∧ View.canon ((pb_k0_t1 𝒱 c bd i arg3 harg3 arg4 harg4 arg5 harg5 arg6 harg6 arg7 harg7 arg8 harg8 arg9 harg9 q (harg4.unread x1) (harg5.unread x2)
        (arg7.view.writes (Elt F) arg7.view.junk init7) (arg8.view.writes (Elt F) arg8.view.junk init8) (arg9.view.writes (Elt F) arg9.view.junk init9) j).2.2 ++ init9) = (st q x1 x2 j).2.2 := by
  induction j with
  | zero => exact ⟨View.canon_unit_zero z2 _ _, View.canon_unit_zero z2 _ _, View.canon_unit_zero z2 _ _⟩
  | succ j ih =>
    obtain ⟨i7, i8, i9⟩ := ih (Nat.le_of_succ_le hj)
    have hs := pb_k0_t1_succ 𝒱 c bd i arg3 harg3 arg4 harg4 arg5 harg5 arg6 harg6 arg7 harg7 arg8 harg8 arg9 harg9 q (harg4.unread x1) (harg5.unread x2)
      (arg7.view.writes (Elt F) arg7.view.junk init7) (arg8.view.writes (Elt F) arg8.view.junk init8) (arg9.view.writes (Elt F) arg9.view.junk init9) ⟨j, hj⟩
    rw [hs, ← View.writes_append, ← View.writes_append, ← View.writes_append,
      tripL1_eq 𝒱 c bd i arg3 harg3 arg4 harg4 arg5 harg5 arg6 harg6 arg7 harg7 arg8 harg8 arg9 harg9 q x1 x2 ⟨j, hj⟩ _ _ _ (st q x1 x2 j) i7 i8 i9]
    exact ⟨View.canon_cons_unit_zero z2 _ _ _, View.canon_cons_unit_zero z2 _ _ _, View.canon_cons_unit_zero z2 _ _ _⟩

/-- The last, masked key tile. -/
def diag (q : Vec F S1x1x512x192 .bf16) (kt : Vec F S1x1x512x192 .bf16) (vt : Vec F S1x1x512x128 .bf16) (s : St F) : FVec F S1x512x128 .bf16 :=
  k0_pay1
    (k0_pay33 (k0_pay21 vt) (k0_pay22 (k0_pay14 q) (k0_pay20 kt)) k0_pay23 k0_pay24 k0_pay25 k0_pay26 k0_pay27 s.1 s.2.2)
    (k0_pay32 (k0_pay22 (k0_pay14 q) (k0_pay20 kt)) k0_pay23 k0_pay24 k0_pay25 k0_pay26 k0_pay27 s.1 s.2.1)

/-- What a grid point leaves in its output block: the masked tile after the unmasked ones. -/
theorem out_eq (c : Dev nD) (i : grid0.Coords) (arg3 : Memref sig .tc .vmem S1x1x512x192 .bf16) (harg3 : arg3.IsWhole) (arg4 : Memref sig .tc .vmem S1x1x4096x192 .bf16) (harg4 : arg4.IsWhole) (arg5 : Memref sig .tc .vmem S1x1x4096x128 .bf16) (harg5 : arg5.IsWhole) (arg6 : Memref sig .tc .vmem S1x512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole)
    (x0 : Vec F S1x1x512x192 .bf16) (x1 : Vec F S1x1x4096x192 .bf16) (x2 : Vec F S1x1x4096x128 .bf16) :
    out0_A_3 c i arg3 harg3 arg4 harg4 arg5 harg5 arg6 harg6 arg7 harg7 arg8 harg8 arg9 harg9 x0 x1 x2
      = diag x0 (kTile x1 (i 2).val) (vTile x2 (i 2).val) (st x0 x1 x2 (i 2).val) := by
  obtain ⟨i7, i8, i9⟩ := loop1_canon Variants.none c none i arg3 harg3 arg4 harg4 arg5 harg5 arg6 harg6 arg7 harg7 arg8 harg8 arg9 harg9 x0 x1 x2
    (k0_t1_loop i).trips le_rfl
  have e5 : arg4.view.readAt (Elt F) (Rect.unit (s := S1x1x4096x192) (k0_off5 i) S1x1x512x192.size (k0_off5_inb i)).toLoadRect (harg4.unread x1) = kTile x1 (i 2).val := by
    rw [View.readAt_eq_ld, harg4.read_unread]; exact ld_kTile x1 _ (off5_eq i) (i 2).isLt _
  have e6 : arg5.view.readAt (Elt F) (Rect.unit (s := S1x1x4096x128) (k0_off6 i) S1x1x512x128.size (k0_off6_inb i)).toLoadRect (harg5.unread x2) = vTile x2 (i 2).val := by
    rw [View.readAt_eq_ld, harg5.read_unread]; exact ld_vTile x2 _ (off6_eq i) (i 2).isLt _
  have e3 : arg3.view.readAt (Elt F) (Rect.unit (s := S1x1x512x192) ![0, 0, 0, 0] S1x1x512x192.size inb_S1x1x512x192_S1x1x512x192_0_0_0_0).toLoadRect (harg3.unread x0) = x0 := by
    rw [View.readAt_eq_ld, harg3.read_unread]; exact View.ld_unit_zero z4 _ _
  unfold out0_A_3
  rw [View.read_writes_eq_canon _ _ _ (cover0_A_3 c i arg3 harg3 arg4 harg4 arg5 harg5 arg6 harg6 arg7 harg7 arg8 harg8 arg9 harg9 x0 x1 x2)]
  unfold kernelRun0_A
  dsimp only
  sl_unfold_words
  rw [View.canon_unit_zero z3]
  have t2 : Scf.trips (k0_t2_loop i).lb (k0_t2_loop i).ub (k0_t2_loop i).st = 0 := trips2 i
  have p2 : ∀ G7 G8 G9, pb_k0_t2 Variants.none c none i arg3 harg3 arg4 harg4 arg5 harg5 arg6 harg6 arg7 harg7 arg8 harg8 arg9 harg9 x0 (F := F)
      (Scalar.addi (0#32) (Scalar.muli (Scalar.divsi (Scalar.subi (BitVec.ofNat 32 (i 2).val) 0#32) 1#32) 1#32)) (harg4.unread x1) (harg5.unread x2) G7 G8 G9 0 = ([], [], []) := fun _ _ _ => rfl
  rw [e3, t2]
  simp only [p2, List.nil_append, View.readCov_eq_canon']
  unfold diag
  have t1 : st x0 x1 x2 (k0_t1_loop i).trips = st x0 x1 x2 (i 2).val := congrArg _ (trips1 i)
  have g1 : ∀ X s : Vec F S512x1 .f32, X = s → View.ld (Val := Elt F) (e' := .f32) X (Rect.unit ![0, 0] S512x1.size inb_S512x1_S512x1_0_0) = s :=
    fun X s h => (View.ld_unit_zero z2 _ X).trans h
  have g2 : ∀ X s : Vec F S512x128 .f32, X = s → View.ld (Val := Elt F) (e' := .f32) X (Rect.unit ![0, 0] S512x128.size inb_S512x128_S512x128_0_0) = s :=
    fun X s h => (View.ld_unit_zero z2 _ X).trans h
  have c7 := g1 _ _ (i7.trans (congrArg (·.1) t1))
  have c8 := g1 _ _ (i8.trans (congrArg (·.2.1) t1))
  have c9 := g2 _ _ (i9.trans (congrArg (·.2.2) t1))
  refine congrArg₂ k0_pay1 ((View.ld_unit_zero z2 _ _).trans ((View.canon_cons_unit_zero z2 _ _ _).trans ?_))
    ((View.ld_unit_zero z2 _ _).trans ((View.canon_cons_unit_zero z2 _ _ _).trans ?_))
  · dsimp only at c7 c9; rw [← c7, ← c9, ← e5, ← e6]; rfl
  · dsimp only at c7 c8; rw [← c7, ← c8, ← e5]; rfl

end Cert.AttnIdeal.Block

end
-- ==== Proof.OnlineSoftmax.lean ====
/- The online softmax over the extended reals: running maximum, denominator and numerator over the first keys of a
   row, how they grow by a tile, and what their quotient is. Scores are below +∞; a masked score is −∞. -/
module

public import Idealize.ShloMosaic.PureOps.Ideal

@[expose] public section

noncomputable section

namespace Cert.Online

open Idealize.ShloMosaic Finset

/-- The exponential is nowhere negative. -/
theorem exp_nonneg (x : EReal) : 0 ≤ Ideal.exp x := by
  induction x with
  | bot => simp
  | top => simp
  | coe r => simp only [Ideal.exp_coe]; exact_mod_cast (Real.exp_pos r).le

/-- Below +∞ it stays below +∞. -/
theorem exp_ne_top {x : EReal} (h : x ≠ ⊤) : Ideal.exp x ≠ ⊤ := by
  induction x with
  | bot => simp
  | top => exact absurd rfl h
  | coe r => simp only [Ideal.exp_coe]; exact EReal.coe_ne_top _

/-- Rescaling a weight from a maximum `m` to a larger one `M`. -/
theorem exp_rescale {a m M : EReal} (h1 : a ≤ m) (h2 : m ≤ M) (hM : M ≠ ⊤) :
    Ideal.exp (m - M) * Ideal.exp (a - m) = Ideal.exp (a - M) := by
  induction a with
  | bot => simp [sub_eq_add_neg]
  | top => exact absurd (top_le_iff.mp (h1.trans h2)) hM
  | coe a =>
    induction m with
    | bot => exact absurd (le_bot_iff.mp h1) (EReal.coe_ne_bot a)
    | top => exact absurd (top_le_iff.mp h2) hM
    | coe m =>
      induction M with
      | bot => exact absurd (le_bot_iff.mp h2) (EReal.coe_ne_bot m)
      | top => exact absurd rfl hM
      | coe M =>
        rw [← EReal.coe_sub, ← EReal.coe_sub, ← EReal.coe_sub, Ideal.exp_coe, Ideal.exp_coe, Ideal.exp_coe, ← EReal.coe_mul,
          ← Real.exp_add]
        congr 2; ring

/-- A finite nonnegative factor goes into a sum. -/
theorem mul_sum_of_nonneg {ι : Type} (s : Finset ι) (f : ι → EReal) {c : EReal} (h0 : 0 ≤ c) (h1 : c ≠ ⊤) :
    c * ∑ k ∈ s, f k = ∑ k ∈ s, c * f k := by
  classical
  induction s using Finset.induction_on with
  | empty => simp
  | insert a s ha ih => rw [sum_insert ha, sum_insert ha, EReal.left_distrib_of_nonneg_of_ne_top h0 h1, ih]

/-- A sum of reals, read in the extended reals. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [sum_insert ha, sum_insert ha, ih, EReal.coe_add]

variable (t v : ℕ → EReal)

/-- The largest of the first `n` scores. -/
def mx (n : ℕ) : EReal := (range n).sup t
/-- The softmax denominator of the first `n` scores. -/
def den (n : ℕ) : EReal := ∑ k ∈ range n, Ideal.exp (t k - mx t n)
/-- The softmax numerator of the first `n` scores. -/
def num (n : ℕ) : EReal := ∑ k ∈ range n, Ideal.exp (t k - mx t n) * v k

theorem mx_zero : mx t 0 = ⊥ := rfl
theorem den_zero : den t 0 = 0 := rfl
theorem num_zero : num t v 0 = 0 := rfl

theorem le_mx {k n : ℕ} (h : k < n) : t k ≤ mx t n := le_sup (f := t) (mem_range.mpr h)

theorem mx_ne_top (ht : ∀ k, t k ≠ ⊤) (n : ℕ) : mx t n ≠ ⊤ := by
  induction n with
  | zero => simp [mx]
  | succ n ih =>
    have : mx t (n + 1) = t n ⊔ mx t n := by unfold mx; rw [range_add_one, sup_insert]
    rw [this]
    rcases max_choice (t n) (mx t n) with h | h
    · rw [show t n ⊔ mx t n = t n from h]; exact ht n
    · rw [show t n ⊔ mx t n = mx t n from h]; exact ih

/-- The maximum of the first `n + b` scores. -/
theorem mx_add (n b : ℕ) : mx t (n + b) = max (mx t n) ((range b).sup fun i => t (n + i)) := by
  refine le_antisymm (Finset.sup_le fun k hk => ?_) (max_le (Finset.sup_le fun k hk => ?_) (Finset.sup_le fun k hk => ?_))
  · rcases lt_or_ge k n with h | h
    · exact le_max_of_le_left (le_mx t h)
    · have hb : k - n < b := by have := mem_range.mp hk; omega
      have := le_sup (f := fun i => t (n + i)) (mem_range.mpr hb)
      rw [show n + (k - n) = k by omega] at this
      exact le_max_of_le_right this
  · exact le_mx t (by have := mem_range.mp hk; omega)
  · exact le_mx t (by have := mem_range.mp hk; omega)

theorem mx_mono {n N : ℕ} (h : n ≤ N) : mx t n ≤ mx t N :=
  Finset.sup_mono (range_mono h)

theorem rescale_ne_top (ht : ∀ k, t k ≠ ⊤) {n N : ℕ} (h : n ≤ N) : Ideal.exp (mx t n - mx t N) ≠ ⊤ := by
  refine exp_ne_top ?_
  have h1 := mx_ne_top t ht n
  have h2 := mx_mono t h
  generalize mx t n = a at *
  generalize mx t N = b at *
  induction b with
  | bot => rw [le_bot_iff.mp h2]; simp
  | top => simp
  | coe b =>
    induction a with
    | bot => simp
    | top => exact absurd rfl h1
    | coe a => rw [← EReal.coe_sub]; exact EReal.coe_ne_top _

/-- The denominator of the first `n + b` scores, from that of the first `n`. -/
theorem den_add (ht : ∀ k, t k ≠ ⊤) (n b : ℕ) :
    den t (n + b) = Ideal.exp (mx t n - mx t (n + b)) * den t n + ∑ i ∈ range b, Ideal.exp (t (n + i) - mx t (n + b)) := by
  unfold den
  rw [sum_range_add, mul_sum_of_nonneg _ _ (exp_nonneg _) (rescale_ne_top t ht (Nat.le_add_right n b))]
  congr 1
  exact sum_congr rfl fun k hk =>
    (exp_rescale (le_mx t (mem_range.mp hk)) (mx_mono t (Nat.le_add_right n b)) (mx_ne_top t ht _)).symm

/-- The numerator of the first `n + b` scores, from that of the first `n`. -/
theorem num_add (ht : ∀ k, t k ≠ ⊤) (n b : ℕ) :
    num t v (n + b) = Ideal.exp (mx t n - mx t (n + b)) * num t v n + ∑ i ∈ range b, Ideal.exp (t (n + i) - mx t (n + b)) * v (n + i) := by
  unfold num
  rw [sum_range_add, mul_sum_of_nonneg _ _ (exp_nonneg _) (rescale_ne_top t ht (Nat.le_add_right n b))]
  congr 1
  refine sum_congr rfl fun k hk => ?_
  rw [← mul_assoc, exp_rescale (le_mx t (mem_range.mp hk)) (mx_mono t (Nat.le_add_right n b)) (mx_ne_top t ht _)]

/-- Scores of −∞ past the first `n` do not change the maximum, … -/
theorem mx_tail {n N : ℕ} (h : n ≤ N) (hb : ∀ k, n ≤ k → k < N → t k = ⊥) : mx t N = mx t n := by
  obtain ⟨b, rfl⟩ := Nat.exists_eq_add_of_le h
  rw [mx_add]
  refine max_eq_left (Finset.sup_le fun i hi => ?_)
  rw [hb (n + i) (by omega) (by have := mem_range.mp hi; omega)]
  exact bot_le

/-- … have weight zero, … -/
theorem exp_tail {x M : EReal} (h : x = ⊥) : Ideal.exp (x - M) = 0 := by
  subst h; simp [sub_eq_add_neg]

/-- … do not change the denominator, … -/
theorem den_tail {n N : ℕ} (h : n ≤ N) (hb : ∀ k, n ≤ k → k < N → t k = ⊥) : den t N = den t n := by
  have e := mx_tail t h hb
  obtain ⟨b, rfl⟩ := Nat.exists_eq_add_of_le h
  unfold den
  rw [sum_range_add, e, sum_eq_zero (s := range b), add_zero]
  exact fun i hi => exp_tail (hb (n + i) (by omega) (by have := mem_range.mp hi; omega))

/-- … nor the numerator. -/
theorem num_tail {n N : ℕ} (h : n ≤ N) (hb : ∀ k, n ≤ k → k < N → t k = ⊥) : num t v N = num t v n := by
  have e := mx_tail t h hb
  obtain ⟨b, rfl⟩ := Nat.exists_eq_add_of_le h
  unfold num
  rw [sum_range_add, e, sum_eq_zero (s := range b), add_zero]
  intro i hi
  rw [exp_tail (hb (n + i) (by omega) (by have := mem_range.mp hi; omega)), zero_mul]

/-- The denominator is a positive finite number as soon as one score is finite. -/
theorem den_pos (ht : ∀ k, t k ≠ ⊤) {n k₀ : ℕ} (hk : k₀ < n) (h0 : t k₀ ≠ ⊥) : ∃ r : ℝ, 0 < r ∧ den t n = (r : EReal) := by
  have hM : ∃ M : ℝ, mx t n = (M : EReal) := by
    have h1 := mx_ne_top t ht n
    have h2 : mx t n ≠ ⊥ := fun e => h0 (le_bot_iff.mp (e ▸ le_mx t hk))
    exact ⟨(mx t n).toReal, (EReal.coe_toReal h1 h2).symm⟩
  obtain ⟨M, hM⟩ := hM
  have he : ∀ k, ∃ r : ℝ, 0 ≤ r ∧ (t k ≠ ⊥ → 0 < r) ∧ Ideal.exp (t k - mx t n) = (r : EReal) := by
    intro k
    rw [hM]
    have := ht k
    generalize t k = x at *
    induction x with
    | bot => exact ⟨0, le_rfl, fun h => absurd rfl h, by simp⟩
    | top => exact absurd rfl this
    | coe x => exact ⟨Real.exp (x - M), (Real.exp_pos _).le, fun _ => Real.exp_pos _, by rw [← EReal.coe_sub, Ideal.exp_coe]⟩
  choose r hr0 hr1 hr2 using he
  refine ⟨∑ k ∈ range n, r k, ?_, ?_⟩
  · exact sum_pos' (fun k _ => hr0 k) ⟨k₀, mem_range.mpr hk, hr1 k₀ h0⟩
  · unfold den
    rw [sum_congr rfl fun k _ => hr2 k, coe_sum]

/-- Dividing the numerator is weighting the values by the divided weights. -/
theorem quot (ht : ∀ k, t k ≠ ⊤) {n k₀ : ℕ} (hk : k₀ < n) (h0 : t k₀ ≠ ⊥) :
    Ideal.div (num t v n) (den t n) = ∑ k ∈ range n, v k * Ideal.div (Ideal.exp (t k - mx t n)) (den t n) := by
  obtain ⟨r, hr, e⟩ := den_pos t ht hk h0
  have hne : (r : EReal) ≠ 0 := by exact_mod_cast hr.ne'
  have hd : ∀ x : EReal, Ideal.div x (den t n) = ((r⁻¹ : ℝ) : EReal) * x := by
    intro x
    rw [e, Ideal.div, if_neg hne, mul_comm, ← EReal.coe_inv]
  rw [hd, num, mul_sum_of_nonneg _ _ (by exact_mod_cast (inv_pos.mpr hr).le) (EReal.coe_ne_top _)]
  refine sum_congr rfl fun k _ => ?_
  rw [hd, ← mul_assoc, mul_comm]

/-- A fold of the maximum over the coordinates of an axis is the supremum over as many naturals. -/
theorem fold_max_eq_sup {b : ℕ} (f : Fin b → EReal) (g : ℕ → EReal) (h : ∀ i : Fin b, f i = g i.val) :
    (univ : Finset (Fin b)).fold max ⊥ f = (range b).sup g := by
  rw [show (univ : Finset (Fin b)).fold max ⊥ f = univ.sup f from rfl]
  refine le_antisymm (Finset.sup_le fun i _ => ?_) (Finset.sup_le fun k hk => ?_)
  · rw [h]; exact le_sup (f := g) (mem_range.mpr i.isLt)
  · have := le_sup (f := f) (mem_univ ⟨k, mem_range.mp hk⟩)
    rwa [h] at this

/-- A sum over the coordinates of an axis is the sum over as many naturals. -/
theorem sum_eq_range {b : ℕ} (f : Fin b → EReal) (g : ℕ → EReal) (h : ∀ i : Fin b, f i = g i.val) :
    ∑ i, f i = ∑ k ∈ range b, g k := by
  rw [Finset.sum_range]; exact sum_congr rfl fun i _ => h i

end Cert.Online

end
-- ==== Proof.AttnRow.lean ====
/- The attention kernel's block, read at an index over the extended reals: running maximum, denominator and numerator of
   each row are those of the online softmax, and the stored block is their quotient. -/
module

public import proofs.«01_k».proof.Proof.AttnState
public import proofs.«01_k».proof.Proof.OnlineSoftmax
public import Idealize.ShloMosaic.Lib.ValueIdx
public import Idealize.ShloMosaic.Lib.MatmulPlain
public import Idealize.ShloMosaic.PureOps.Ideal.Laws

@[expose] public section

set_option maxRecDepth 16384

noncomputable section

namespace Cert.AttnIdeal.Block

open Idealize.ShloMosaic Idealize.ShloMosaic.TcCoe Idealize.ShloMosaic.ValueIdx Cert.AttnIdeal Cert.AttnIdeal.Gen
open Cert.Online Finset

/-! ## One tile: the three updates, from a matrix of scores -/

/-- The new running maxima. -/
def upM (S : FVec Ideal S512x512 .f32) (m : FVec Ideal S512x1 .f32) : FVec Ideal S512x1 .f32 :=
  maximumf m (shapeCast S512x1 (multiReduction .maximumf [1] S512 S 0xFF800000#32 reduces_S512x512_S512 (.inl rfl) rfl) shapeCasts_S512_S512x1)

/-- The new running denominators. -/
def upL (S : FVec Ideal S512x512 .f32) (m l : FVec Ideal S512x1 .f32) : FVec Ideal S512x1 .f32 :=
  shapeCast S512x1 (addf (mulf (exp (subf m (upM S m))) l)
    (shapeCast S512x1 (multiReduction .add [1] S512 (exp (subf S (broadcastTo S512x512 (upM S m) broadcasts_S512x1_S512x512))) 0x00000000#32 reduces_S512x512_S512 (.inl rfl) rfl) shapeCasts_S512_S512x1))
    shapeCasts_S512x1_S512x1

/-- The new running numerators. -/
def upA (S : FVec Ideal S512x512 .f32) (m : FVec Ideal S512x1 .f32) (vt : FVec Ideal S512x128 .bf16) (a : FVec Ideal S512x128 .f32) : FVec Ideal S512x128 .f32 :=
  shapeCast S512x128 (addf (mulf (broadcastTo S512x128 (exp (subf m (upM S m))) broadcasts_S512x1_S512x128) a)
    (matmul dot_S512x512_S512x128_S512x128_1_0_0_1_n_n none (truncf .bf16 (exp (subf S (broadcastTo S512x512 (upM S m) broadcasts_S512x1_S512x512))) bitsLt_bf16_f32) vt (constant S512x128 .f32 0x00000000#32)))
    shapeCasts_S512x128_S512x128

theorem lift_ix2 (r : Fin 512) (k : Fin (S512x512.size 1)) :
    reduces_S512x512_S512.lift (ix1 r) k = (ix2 r (⟨k.val, k.isLt⟩ : Fin 512) : S512x512.Idx) := by
  funext c; apply Fin.ext
  fin_cases c <;> rfl

/-- A column of one entry per row, from a vector. -/
theorem col_apply {φ : FTy} (x : FVec Ideal S512 φ) (r : Fin 512) :
    shapeCast S512x1 x shapeCasts_S512_S512x1 (ix2 r 0) = x (ix1 r) :=
  shapeCast_apply x _ _ _ (by
    rw [Shape.rowMajor_val_one, Shape.rowMajor_val_two]; show r.val = r.val * 1 + 0; omega)

theorem ofBits_ninf : FloatOps.ofBits (F := Ideal) .f32 0xFF800000#32 = (⊥ : EReal) := by
  show Ideal.ofBits .f32 0xFF800000#32 = ⊥
  simp [Ideal.ofBits, Ideal.ieee]

theorem bcol_apply (x : FVec Ideal S512x1 .f32) (r c : Fin 512) :
    broadcastTo S512x512 x broadcasts_S512x1_S512x512 (ix2 r c) = x (ix2 r 0) :=
  broadcastTo_apply x _ _ _ (fun a => by fin_cases a <;> rfl)

theorem bcol128_apply (x : FVec Ideal S512x1 .f32) (r : Fin 512) (c : Fin 128) :
    broadcastTo S512x128 x broadcasts_S512x1_S512x128 (ix2 r c) = x (ix2 r 0) :=
  broadcastTo_apply x _ _ _ (fun a => by fin_cases a <;> rfl)

/-- A row's maximum. -/
theorem rowMax_apply (S : FVec Ideal S512x512 .f32) (r : Fin 512) :
    multiReduction .maximumf [1] S512 S 0xFF800000#32 reduces_S512x512_S512 (.inl rfl) rfl (ix1 r)
      = (univ : Finset (Fin 512)).fold max ⊥ fun c => S (ix2 r c) :=
  (Ideal.multiReduction_maximumf_single S _ _ _ _ (ix1 r)).trans
    ((congrArg (fun b => (univ : Finset (Fin 512)).fold max b _) ofBits_ninf).trans
      (congrArg (fun f => (univ : Finset (Fin 512)).fold max ⊥ f) (funext fun k => congrArg S (lift_ix2 r k))))

/-- A row's sum. -/
theorem rowSum_apply (S : FVec Ideal S512x512 .f32) (r : Fin 512) :
    multiReduction .add [1] S512 S 0x00000000#32 reduces_S512x512_S512 (.inl rfl) rfl (ix1 r) = ∑ c : Fin 512, S (ix2 r c) :=
  (Ideal.multiReduction_add_single S _ _ _ _ (ix1 r)).trans (sum_congr rfl fun k _ => congrArg S (lift_ix2 r k))

theorem upM_apply (S : FVec Ideal S512x512 .f32) (m : FVec Ideal S512x1 .f32) (r : Fin 512) :
    upM S m (ix2 r 0) = max (m (ix2 r 0)) ((univ : Finset (Fin 512)).fold max ⊥ fun c => S (ix2 r c)) := by
  unfold upM
  rw [maximumf_apply, col_apply]
  exact congrArg (max _) (rowMax_apply S r)

theorem upL_apply (S : FVec Ideal S512x512 .f32) (m l : FVec Ideal S512x1 .f32) (r : Fin 512) :
    upL S m l (ix2 r 0) = Ideal.exp (m (ix2 r 0) - upM S m (ix2 r 0)) * l (ix2 r 0)
      + ∑ c : Fin 512, Ideal.exp (S (ix2 r c) - upM S m (ix2 r 0)) := by
  unfold upL
  rw [shapeCast_self, addf_apply, mulf_apply, col_apply]
  refine congrArg₂ (· + ·) rfl ((rowSum_apply _ r).trans (sum_congr rfl fun k _ => ?_))
  show Ideal.exp (S _ - broadcastTo S512x512 (upM S m) broadcasts_S512x1_S512x512 _) = _
  rw [bcol_apply]

theorem upA_apply (S : FVec Ideal S512x512 .f32) (m : FVec Ideal S512x1 .f32) (vt : FVec Ideal S512x128 .bf16) (a : FVec Ideal S512x128 .f32)
    (r : Fin 512) (d : Fin 128) :
    upA S m vt a (ix2 r d) = Ideal.exp (m (ix2 r 0) - upM S m (ix2 r 0)) * a (ix2 r d)
      + ∑ c : Fin 512, Ideal.exp (S (ix2 r c) - upM S m (ix2 r 0)) * vt (ix2 c d) := by
  unfold upA
  rw [shapeCast_self, addf_apply, mulf_apply, bcol128_apply]
  refine congrArg₂ (· + ·) rfl ?_
  refine (Ideal.matmul_plain_apply (M := 512) (K := 512) (N := 128) none _ vt _ r d).trans ?_
  rw [constant_apply, Ideal.ofBits_zero_f32, zero_add]
  refine sum_congr rfl fun k _ => ?_
  rw [truncf_apply]
  show Ideal.exp (S _ - broadcastTo S512x512 (upM S m) broadcasts_S512x1_S512x512 _) * _ = _
  rw [bcol_apply]

/-- The three updates are one step of the online softmax on a row. -/
theorem up_row (t v : ℕ → EReal) (ht : ∀ k, t k ≠ ⊤) (n : ℕ) (S : FVec Ideal S512x512 .f32) (m l : FVec Ideal S512x1 .f32)
    (vt : FVec Ideal S512x128 .bf16) (a : FVec Ideal S512x128 .f32) (r : Fin 512) (d : Fin 128)
    (hS : ∀ c : Fin 512, S (ix2 r c) = t (n + c.val)) (hv : ∀ c : Fin 512, vt (ix2 c d) = v (n + c.val))
    (hm : m (ix2 r 0) = mx t n) (hl : l (ix2 r 0) = den t n) (ha : a (ix2 r d) = num t v n) :
    upM S m (ix2 r 0) = mx t (n + 512) ∧ upL S m l (ix2 r 0) = den t (n + 512) ∧ upA S m vt a (ix2 r d) = num t v (n + 512) := by
  have e : upM S m (ix2 r 0) = mx t (n + 512) := by
    rw [upM_apply, mx_add, hm, fold_max_eq_sup _ (fun i => t (n + i)) hS]
  refine ⟨e, ?_, ?_⟩
  · rw [upL_apply, e, den_add t ht, hm, hl, sum_eq_range _ (fun i => Ideal.exp (t (n + i) - mx t (n + 512))) fun c => by rw [hS]]
  · rw [upA_apply, e, num_add t v ht, hm, ha, sum_eq_range _ (fun i => Ideal.exp (t (n + i) - mx t (n + 512)) * v (n + i)) fun c => by rw [hS, hv]]

/-! ## Scores -/

/-- The score of row `r` of a block of queries against key `k`. -/
def sc (q : Vec Ideal S1x1x512x192 .bf16) (k : Vec Ideal S1x1x4096x192 .bf16) (r : Fin 512) (j : ℕ) : EReal :=
  ∑ e : Fin 192, q (ix4 0 0 r e) * k (ix4 0 0 (Fin.ofNat 4096 j) e)

/-- Column `d` of the values. -/
def vl (v : Vec Ideal S1x1x4096x128 .bf16) (d : Fin 128) (j : ℕ) : EReal := v (ix4 0 0 (Fin.ofNat 4096 j) d)

theorem squeeze192_apply (x : Vec Ideal S1x1x512x192 .bf16) (r : Fin 512) (e : Fin 192) :
    shapeCast S512x192 x shapeCasts_S1x1x512x192_S512x192 (ix2 r e) = x (ix4 0 0 r e) :=
  shapeCast_apply x _ _ _ (by
    rw [Shape.rowMajor_val_four, Shape.rowMajor_val_two]; show ((0 * 1 + 0) * 512 + r.val) * 192 + e.val = r.val * 192 + e.val; omega)

theorem squeeze128_apply (x : Vec Ideal S1x1x512x128 .bf16) (r : Fin 512) (e : Fin 128) :
    shapeCast S512x128 x shapeCasts_S1x1x512x128_S512x128 (ix2 r e) = x (ix4 0 0 r e) :=
  shapeCast_apply x _ _ _ (by
    rw [Shape.rowMajor_val_four, Shape.rowMajor_val_two]; show ((0 * 1 + 0) * 512 + r.val) * 128 + e.val = r.val * 128 + e.val; omega)

/-- A tile of the scores. -/
theorem pay2_apply (q : Vec Ideal S1x1x512x192 .bf16) (k : Vec Ideal S1x1x4096x192 .bf16) (j : ℕ) (r c : Fin 512) :
    k0_pay2 (F := Ideal) (k0_pay14 q) (kTile k j) (ix2 r c) = sc q k r (512 * j + c.val) := by
  unfold k0_pay2
  refine (Ideal.matmul_transposedRhs_apply (M := 512) (K := 192) (N := 512) none _ _ _ r c).trans ?_
  rw [constant_apply, Ideal.ofBits_zero_f32, zero_add]
  refine sum_congr rfl fun e _ => ?_
  unfold k0_pay14
  rw [squeeze192_apply, squeeze192_apply]; rfl

theorem vTile_apply (v : Vec Ideal S1x1x4096x128 .bf16) (j : ℕ) (c : Fin 512) (d : Fin 128) :
    shapeCast S512x128 (vTile v j) shapeCasts_S1x1x512x128_S512x128 (ix2 c d) = vl v d (512 * j + c.val) := by
  rw [squeeze128_apply]; rfl

/-- After `j` key tiles the state of a row is the online softmax of its first `512 j` scores. -/
theorem st_row (q : Vec Ideal S1x1x512x192 .bf16) (k : Vec Ideal S1x1x4096x192 .bf16) (v : Vec Ideal S1x1x4096x128 .bf16)
    (r : Fin 512) (d : Fin 128) (ht : ∀ j, sc q k r j ≠ ⊤) (j : ℕ) :
    (st q k v j).1 (ix2 r 0) = mx (sc q k r) (512 * j) ∧ (st q k v j).2.1 (ix2 r 0) = den (sc q k r) (512 * j)
      ∧ (st q k v j).2.2 (ix2 r d) = num (sc q k r) (vl v d) (512 * j) := by
  induction j with
  | zero =>
    refine ⟨?_, ?_, ?_⟩
    · show k0_pay15 (F := Ideal) (ix2 r 0) = _
      unfold k0_pay15
      rw [shapeCast_self]; exact ofBits_ninf
    · show k0_pay16 (F := Ideal) (ix2 r 0) = _
      unfold k0_pay16
      rw [shapeCast_self]; exact Ideal.ofBits_zero_f32
    · show k0_pay17 (F := Ideal) (ix2 r d) = _
      unfold k0_pay17
      rw [shapeCast_self]; exact Ideal.ofBits_zero_f32
  | succ j ih =>
    exact up_row (sc q k r) (vl v d) ht (512 * j) (k0_pay2 (k0_pay14 q) (kTile k j)) _ _
      (shapeCast S512x128 (vTile v j) shapeCasts_S1x1x512x128_S512x128) _ r d (fun c => pay2_apply q k j r c)
      (fun c => vTile_apply v j c d) ih.1 ih.2.1 ih.2.2

/-! ## The masked tile -/

/-- The masked score of query row `512 n + r` against key `j`: keys of a later group of 64 are not visible. -/
def ms (q : Vec Ideal S1x1x512x192 .bf16) (k : Vec Ideal S1x1x4096x192 .bf16) (n : ℕ) (r : Fin 512) (j : ℕ) : EReal :=
  if j / 64 ≤ (512 * n + r.val) / 64 then sc q k r j else ⊥

/-- Floor division by 64 as the kernel writes it. -/
def fdiv (x : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt 64#32 0#32)) (Scalar.extui (Scalar.cmpi .slt 64#32 0#32))))
      (Scalar.cmpi .ne (Scalar.remsi x 64#32) 0#32))
    (Scalar.subi (Scalar.divsi x 64#32) 1#32) (Scalar.divsi x 64#32)

theorem fdiv_eq (n : Fin 512) : fdiv (BitVec.ofNat 32 n.val) = BitVec.ofNat 32 (n.val / 64) := by
  revert n; decide +kernel

theorem sge_eq (a b : Fin 8) : IntOp.cmpi .sge (BitVec.ofNat 32 a.val) (BitVec.ofNat 32 b.val) = if b.val ≤ a.val then 1#1 else 0#1 := by
  revert a b; decide +kernel

theorem mask_apply (S : FVec Ideal S512x512 .f32) (r c : Fin 512) :
    k0_pay28 (F := Ideal) S k0_pay23 k0_pay24 k0_pay25 k0_pay26 k0_pay27 (ix2 r c)
      = if c.val / 64 ≤ r.val / 64 then S (ix2 r c) else ⊥ := by
  have e0 : iota .tc S512x512 32 [0] iota_S512x512_d0_w32 (ix2 r c) = BitVec.ofNat 32 r.val := iota_single_apply _ _ _ _ _ _
  have e1 : iota .tc S512x512 32 [1] iota_S512x512_d1_w32 (ix2 r c) = BitVec.ofNat 32 c.val := iota_single_apply _ _ _ _ _ _
  have h : k0_pay28 (F := Ideal) S k0_pay23 k0_pay24 k0_pay25 k0_pay26 k0_pay27 (ix2 r c)
      = Scalar.select (IntOp.cmpi .sge (fdiv (iota .tc S512x512 32 [0] iota_S512x512_d0_w32 (ix2 r c)))
          (fdiv (iota .tc S512x512 32 [1] iota_S512x512_d1_w32 (ix2 r c)))) (S (ix2 r c)) (FloatOps.ofBits (F := Ideal) .f32 0xFF800000#32) := rfl
  rw [h, e0, e1, fdiv_eq, fdiv_eq, ofBits_ninf,
    sge_eq ⟨r.val / 64, by have := r.isLt; omega⟩ ⟨c.val / 64, by have := c.isLt; omega⟩]
  show Scalar.select (if c.val / 64 ≤ r.val / 64 then 1#1 else 0#1) _ _ = _
  split_ifs <;> rfl

/-- The stored block at row `r`, column `d`: the quotient of numerator and denominator of the masked scores of the first
    `512 n + 512` keys. -/
theorem diag_row (q : Vec Ideal S1x1x512x192 .bf16) (k : Vec Ideal S1x1x4096x192 .bf16) (v : Vec Ideal S1x1x4096x128 .bf16)
    (n : ℕ) (r : Fin 512) (d : Fin 128) (ht : ∀ j, sc q k r j ≠ ⊤) :
    diag q (kTile k n) (vTile v n) (st q k v n) (ix3 0 r d)
      = Ideal.div (num (ms q k n r) (vl v d) (512 * n + 512)) (den (ms q k n r) (512 * n + 512)) := by
  have hms : ∀ j, j < 512 * n → ms q k n r j = sc q k r j := fun j hj => if_pos (by omega)
  have htm : ∀ j, ms q k n r j ≠ ⊤ := fun j => by unfold ms; split_ifs; exacts [ht j, bot_ne_top]
  have hmx : mx (ms q k n r) (512 * n) = mx (sc q k r) (512 * n) :=
    Finset.sup_congr rfl fun j hj => hms j (mem_range.mp hj)
  have hden : den (ms q k n r) (512 * n) = den (sc q k r) (512 * n) := by
    unfold den; rw [hmx]; exact sum_congr rfl fun j hj => by rw [hms j (mem_range.mp hj)]
  have hnum : num (ms q k n r) (vl v d) (512 * n) = num (sc q k r) (vl v d) (512 * n) := by
    unfold num; rw [hmx]; exact sum_congr rfl fun j hj => by rw [hms j (mem_range.mp hj)]
  obtain ⟨i1, i2, i3⟩ := st_row q k v r d ht n
  have key := up_row (ms q k n r) (vl v d) htm (512 * n)
    (k0_pay28 (k0_pay2 (k0_pay14 q) (kTile k n)) k0_pay23 k0_pay24 k0_pay25 k0_pay26 k0_pay27) (st q k v n).1 (st q k v n).2.1
    (shapeCast S512x128 (vTile v n) shapeCasts_S1x1x512x128_S512x128) (st q k v n).2.2 r d
    (fun c => by
      rw [mask_apply, pay2_apply]; unfold ms
      refine if_congr ?_ rfl rfl
      rw [show (512 * n + c.val) / 64 = 8 * n + c.val / 64 by omega, show (512 * n + r.val) / 64 = 8 * n + r.val / 64 by omega]
      omega)
    (fun c => vTile_apply v n c d) (i1.trans hmx.symm) (i2.trans hden.symm) (i3.trans hnum.symm)
  rw [← key.2.1, ← key.2.2]
  unfold diag k0_pay1
  refine (shapeCast_apply _ _ _ (ix2 r d) (by
    rw [Shape.rowMajor_val_three, Shape.rowMajor_val_two]; show r.val * 128 + d.val = (0 * 512 + r.val) * 128 + d.val; omega)).trans ?_
  rw [truncf_apply, divf_apply, bcol128_apply]
  rfl

end Cert.AttnIdeal.Block

end
-- ==== Proof.AttnSpec.lean ====
/- The attention's mathematics, entry by entry: masked scores, and the softmax average of the values. -/
module

public import proofs.«01_k».proof.Proof.OnlineSoftmax
public import Idealize.ShloMosaic.Lib.ValueIdxCore

@[expose] public section

noncomputable section

namespace Cert.AttnSpec

open Idealize.ShloMosaic Idealize.ShloMosaic.ValueIdx Cert.Online Finset

abbrev QK : Type := (⟨4, ![16, 8, 4096, 192]⟩ : Shape).Idx → EReal
abbrev VV : Type := (⟨4, ![16, 8, 4096, 128]⟩ : Shape).Idx → EReal

/-- The score of query `s` against key `j` in head `h` of batch entry `b`. -/
def score (q k : QK) (b : Fin 16) (h : Fin 8) (s : Fin 4096) (j : ℕ) : EReal :=
  ∑ e : Fin 192, q (ix4 b h s e) * k (ix4 b h (Fin.ofNat 4096 j) e)

/-- The score, or −∞ where key `j` lies in a later group of 64 positions than query `s`. -/
def masked (q k : QK) (b : Fin 16) (h : Fin 8) (s : Fin 4096) (j : ℕ) : EReal :=
  if j / 64 ≤ s.val / 64 then score q k b h s j else ⊥

/-- Column `d` of the values of one head. -/
def val (v : VV) (b : Fin 16) (h : Fin 8) (d : Fin 128) (j : ℕ) : EReal := v (ix4 b h (Fin.ofNat 4096 j) d)

/-- The attention's output in head `h`, column `d`, at position `s`: numerator over denominator. -/
def out (q k : QK) (v : VV) (b : Fin 16) (h : Fin 8) (s : Fin 4096) (d : Fin 128) : EReal :=
  Ideal.div (num (masked q k b h s) (val v b h d) 4096) (den (masked q k b h s) 4096)

/-- Every entry is a finite number. -/
def Finite (x : QK) : Prop := ∀ i, ∃ r : ℝ, x i = (r : EReal)

/-- Finite queries and keys have finite scores. -/
theorem score_real {q k : QK} (hq : Finite q) (hk : Finite k) (b : Fin 16) (h : Fin 8) (s : Fin 4096) (j : ℕ) :
    ∃ r : ℝ, score q k b h s j = (r : EReal) := by
  choose f hf using hq
  choose g hg using hk
  refine ⟨∑ e : Fin 192, f (ix4 b h s e) * g (ix4 b h (Fin.ofNat 4096 j) e), ?_⟩
  unfold score
  rw [← coe_sum]
  exact sum_congr rfl fun e _ => by rw [hf, hg, EReal.coe_mul]

theorem score_ne_top {q k : QK} (hq : Finite q) (hk : Finite k) (b : Fin 16) (h : Fin 8) (s : Fin 4096) (j : ℕ) :
    score q k b h s j ≠ ⊤ := by
  obtain ⟨r, e⟩ := score_real hq hk b h s j
  rw [e]; exact EReal.coe_ne_top r

theorem masked_ne_top {q k : QK} (hq : Finite q) (hk : Finite k) (b : Fin 16) (h : Fin 8) (s : Fin 4096) (j : ℕ) :
    masked q k b h s j ≠ ⊤ := by
  unfold masked; split_ifs
  exacts [score_ne_top hq hk b h s j, bot_ne_top]

/-- A query sees its own position. -/
theorem masked_self_ne_bot {q k : QK} (hq : Finite q) (hk : Finite k) (b : Fin 16) (h : Fin 8) (s : Fin 4096) :
    masked q k b h s s.val ≠ ⊥ := by
  obtain ⟨r, e⟩ := score_real hq hk b h s s.val
  unfold masked; rw [if_pos le_rfl, e]; exact EReal.coe_ne_bot r

/-- The output is the sum of the values weighted by the softmax of the masked scores. -/
theorem out_eq_sum {q k : QK} (hq : Finite q) (hk : Finite k) (v : VV) (b : Fin 16) (h : Fin 8) (s : Fin 4096) (d : Fin 128) :
    out q k v b h s d = ∑ j ∈ range 4096, val v b h d j
      * Ideal.div (Ideal.exp (masked q k b h s j - mx (masked q k b h s) 4096)) (den (masked q k b h s) 4096) :=
  quot _ _ (masked_ne_top hq hk b h s) s.isLt (masked_self_ne_bot hq hk b h s)

/-- The keys past the query's tile of 512 do not matter. -/
theorem out_eq_tile (q k : QK) (v : VV) (b : Fin 16) (h : Fin 8) (s : Fin 4096) (d : Fin 128) (n : ℕ) (hn : n < 8) (hs : s.val < 512 * n + 512) :
    out q k v b h s d = Ideal.div (num (masked q k b h s) (val v b h d) (512 * n + 512)) (den (masked q k b h s) (512 * n + 512)) := by
  have hb : ∀ j, 512 * n + 512 ≤ j → j < 4096 → masked q k b h s j = ⊥ := fun j hj _ => if_neg (by omega)
  unfold out
  rw [num_tail _ _ (by omega : 512 * n + 512 ≤ 4096) hb, den_tail _ (by omega : 512 * n + 512 ≤ 4096) hb]

end Cert.AttnSpec

end
-- ==== Proof.AttnArray.lean ====
/- What the attention kernel's result array holds. -/
module

public import proofs.«01_k».proof.Proof.AttnRow
public import proofs.«01_k».proof.Proof.AttnSpec
public import proofs.«01_k».proof.Proof.Gen.AttnIdeal.Value

@[expose] public section

set_option maxRecDepth 16384

noncomputable section

namespace Cert.AttnIdeal.Array

open Idealize.ShloMosaic Idealize.ShloMosaic.TcCoe Idealize.ShloMosaic.ValueIdx Idealize.SL.Sem
open Cert.AttnIdeal Cert.AttnIdeal.Gen Cert.AttnIdeal.Block Cert.Online

variable (m : (ℓ : Loc nD τ sig) → Buf (Elt Ideal) ℓ)

/-- Queries, keys and values in a memory. -/
abbrev qOf (c : Dev nD) : AttnSpec.QK := m ((c : Thread nD τ).loc main_arg0)
abbrev kOf (c : Dev nD) : AttnSpec.QK := m ((c : Thread nD τ).loc main_arg1)
abbrev vOf (c : Dev nD) : AttnSpec.VV := m ((c : Thread nD τ).loc main_arg2)

/-- The result array: in row `s`, column `128 h + d`, head `h`'s output. -/
def result (c : Dev nD) : Buf (Elt Ideal) ((c : Thread nD τ).loc main_v0) := fun (i : S16x4096x1024.Idx) =>
  AttnSpec.out (qOf m c) (kOf m c) (vOf m c) (i 0) (Fin.ofNat 8 ((i 2).val / 128)) (i 1) (Fin.ofNat 128 ((i 2).val % 128))

theorem c0_lt (t : Fin cfg0.N) : (grid0.coords t 0).val < 16 := (grid0.coords t 0).isLt
theorem c1_lt (t : Fin cfg0.N) : (grid0.coords t 1).val < 8 := (grid0.coords t 1).isLt
theorem c2_lt (t : Fin cfg0.N) : (grid0.coords t 2).val < 8 := (grid0.coords t 2).isLt

theorem ofNat_small {n : ℕ} (h : n < 16) : (BitVec.ofNat 32 n).toNat = n := by
  rw [BitVec.toNat_ofNat]; exact Nat.mod_eq_of_lt (by omega)

/-- The block of queries at a grid point. -/
theorem iblk0_apply (c : Dev nD) (t : Fin cfg0.N) (r : Fin 512) (e : Fin 192) (s : Fin 4096) (hs : s.val = 512 * (grid0.coords t 2).val + r.val) :
    (iblk m c 0 t : Vec Ideal S1x1x512x192 .bf16) (ix4 0 0 r e) = qOf m c (ix4 (grid0.coords t 0) (grid0.coords t 1) s e) := by
  have h0 := ofNat_small (c0_lt t)
  have h1 := ofNat_small ((c1_lt t).trans (by omega))
  have h2 := ofNat_small ((c2_lt t).trans (by omega))
  unfold iblk
  rw [View.read_apply]
  show V m c main_arg0 _ = m _ _
  unfold V
  refine congrArg _ (funext fun a => Fin.ext ?_)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 1 + 1 * 0 = (grid0.coords t 1).val; omega
  | ⟨2, _⟩ => show (BitVec.ofNat 32 (grid0.coords t 2).val).toNat * 512 + 1 * r.val = s.val; omega
  | ⟨3, _⟩ => show (0#32).toNat * 192 + 1 * e.val = e.val; simp

/-- The block of keys. -/
theorem iblk1_apply (c : Dev nD) (t : Fin cfg0.N) (j : Fin 4096) (e : Fin 192) :
    (iblk m c 1 t : Vec Ideal S1x1x4096x192 .bf16) (ix4 0 0 j e) = kOf m c (ix4 (grid0.coords t 0) (grid0.coords t 1) j e) := by
  have h0 := ofNat_small (c0_lt t)
  have h1 := ofNat_small ((c1_lt t).trans (by omega))
  unfold iblk
  rw [View.read_apply]
  show V m c main_arg1 _ = m _ _
  unfold V
  refine congrArg _ (funext fun a => Fin.ext ?_)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 1 + 1 * 0 = (grid0.coords t 1).val; omega
  | ⟨2, _⟩ => show (0#32).toNat * 4096 + 1 * j.val = j.val; simp
  | ⟨3, _⟩ => show (0#32).toNat * 192 + 1 * e.val = e.val; simp

/-- The block of values. -/
theorem iblk2_apply (c : Dev nD) (t : Fin cfg0.N) (j : Fin 4096) (d : Fin 128) :
    (iblk m c 2 t : Vec Ideal S1x1x4096x128 .bf16) (ix4 0 0 j d) = vOf m c (ix4 (grid0.coords t 0) (grid0.coords t 1) j d) := by
  have h0 := ofNat_small (c0_lt t)
  have h1 := ofNat_small ((c1_lt t).trans (by omega))
  unfold iblk
  rw [View.read_apply]
  show V m c main_arg2 _ = m _ _
  unfold V
  refine congrArg _ (funext fun a => Fin.ext ?_)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 1 + 1 * 0 = (grid0.coords t 1).val; omega
  | ⟨2, _⟩ => show (0#32).toNat * 4096 + 1 * j.val = j.val; simp
  | ⟨3, _⟩ => show (0#32).toNat * 128 + 1 * d.val = d.val; simp

/-- A grid point's block at row `r`, column `d`, is the attention's output there. -/
theorem block_row (c : Dev nD) (hq : AttnSpec.Finite (qOf m c)) (hk : AttnSpec.Finite (kOf m c)) (t : Fin cfg0.N) (r : Fin 512) (d : Fin 128)
    (s : Fin 4096) (hs : s.val = 512 * (grid0.coords t 2).val + r.val) :
    diag (iblk m c 0 t) (kTile (iblk m c 1 t) (grid0.coords t 2).val) (vTile (iblk m c 2 t) (grid0.coords t 2).val)
        (st (iblk m c 0 t) (iblk m c 1 t) (iblk m c 2 t) (grid0.coords t 2).val) (ix3 0 r d)
      = AttnSpec.out (qOf m c) (kOf m c) (vOf m c) (grid0.coords t 0) (grid0.coords t 1) s d := by
  have e1 : ∀ j, sc (iblk m c 0 t) (iblk m c 1 t) r j = AttnSpec.score (qOf m c) (kOf m c) (grid0.coords t 0) (grid0.coords t 1) s j := fun j =>
    Finset.sum_congr rfl fun e _ => by rw [iblk0_apply m c t r e s hs, iblk1_apply]
  have e2 : ms (iblk m c 0 t) (iblk m c 1 t) (grid0.coords t 2).val r = AttnSpec.masked (qOf m c) (kOf m c) (grid0.coords t 0) (grid0.coords t 1) s :=
    funext fun j => by unfold ms AttnSpec.masked; rw [e1, hs]
  have e3 : vl (iblk m c 2 t) d = AttnSpec.val (vOf m c) (grid0.coords t 0) (grid0.coords t 1) d :=
    funext fun j => iblk2_apply m c t _ d
  rw [diag_row _ _ _ _ r d (fun j => by rw [e1]; exact AttnSpec.score_ne_top hq hk _ _ _ _), e2, e3]
  exact (AttnSpec.out_eq_tile _ _ _ _ _ _ _ _ (c2_lt t) (by have := r.isLt; omega)).symm

/-- What a grid point writes back is its block of the result. -/
theorem flushed_eq (c : Dev nD) (hq : AttnSpec.Finite (qOf m c)) (hk : AttnSpec.Finite (kOf m c)) (t : Fin cfg0.N) :
    (dats m 0 c).flushed 3 t = ((cfg0.win 3).blk t).view.read (Elt Ideal) (result m c) := by
  have h0 := ofNat_small (c0_lt t)
  have h1 := ofNat_small ((c1_lt t).trans (by omega))
  have h2 := ofNat_small ((c2_lt t).trans (by omega))
  have c1 := c1_lt t
  have c2 := c2_lt t
  rw [Value.flushed3_A, out_eq]
  funext y
  obtain ⟨z, r, d, rfl⟩ : ∃ (z : Fin 1) (r : Fin 512) (d : Fin 128), y = ix3 z r d := ⟨y 0, y 1, y 2, eq_ix3 y⟩
  obtain rfl : z = 0 := Subsingleton.elim _ _
  rw [View.read_apply]
  have hr := r.isLt
  have hd := d.isLt
  refine (block_row m c hq hk t r d ⟨512 * (grid0.coords t 2).val + r.val, by omega⟩ rfl).trans ?_
  unfold result
  have a0 : ((((cfg0.win 3).blk t).view.emb (ix3 0 r d) : S16x4096x1024.Idx) 0).val = (grid0.coords t 0).val := by
    show (BitVec.ofNat 32 (grid0.coords t 0).val).toNat * 1 + 1 * 0 = (grid0.coords t 0).val; omega
  have a1 : ((((cfg0.win 3).blk t).view.emb (ix3 0 r d) : S16x4096x1024.Idx) 1).val = 512 * (grid0.coords t 2).val + r.val := by
    show (BitVec.ofNat 32 (grid0.coords t 2).val).toNat * 512 + 1 * r.val = _; omega
  have a2 : ((((cfg0.win 3).blk t).view.emb (ix3 0 r d) : S16x4096x1024.Idx) 2).val = 128 * (grid0.coords t 1).val + d.val := by
    show (BitVec.ofNat 32 (grid0.coords t 1).val).toNat * 128 + 1 * d.val = _; omega
  have b1 : Fin.ofNat 8 (((((cfg0.win 3).blk t).view.emb (ix3 0 r d) : S16x4096x1024.Idx) 2).val / 128) = grid0.coords t 1 :=
    Fin.ext (by rw [a2]; show (128 * (grid0.coords t 1).val + d.val) / 128 % 8 = _; omega)
  have b2 : Fin.ofNat 128 (((((cfg0.win 3).blk t).view.emb (ix3 0 r d) : S16x4096x1024.Idx) 2).val % 128) = d :=
    Fin.ext (by rw [a2]; show (128 * (grid0.coords t 1).val + d.val) % 128 % 128 = _; omega)
  show _ = AttnSpec.out _ _ _ _ _ _ _
  rw [b1, b2]
  exact congrArg₂ (fun x y => AttnSpec.out (qOf m c) (kOf m c) (vOf m c) x (grid0.coords t 1) y d) (Fin.ext a0.symm) (Fin.ext a1.symm)

theorem coords_eq : ∀ t : Fin grid0.N, (grid0.coords t 0).val = t.val / 64 ∧ (grid0.coords t 1).val = t.val / 8 % 8 ∧ (grid0.coords t 2).val = t.val % 8 := by
  decide +kernel

/-- The result array after the run. -/
theorem final (c : Dev nD) (hq : AttnSpec.Finite (qOf m c)) (hk : AttnSpec.Finite (kOf m c)) : (dats m 0 c).arrAt 3 cfg0.N = result m c :=
  (dats m 0 c).arrAt_eq_of_cover 3 (result m c) (fun t _ => flushed_eq m c hq hk t) fun i => by
    have h0 : ((i : S16x4096x1024.Idx) 0).val < 16 := ((i : S16x4096x1024.Idx) 0).isLt
    have h1 : ((i : S16x4096x1024.Idx) 1).val < 4096 := ((i : S16x4096x1024.Idx) 1).isLt
    have h2 : ((i : S16x4096x1024.Idx) 2).val < 1024 := ((i : S16x4096x1024.Idx) 2).isLt
    have hN : cfg0.N = 1024 := by decide +kernel
    generalize hb : ((i : S16x4096x1024.Idx) 0).val = b at *
    generalize hs : ((i : S16x4096x1024.Idx) 1).val = s at *
    generalize hd : ((i : S16x4096x1024.Idx) 2).val = d at *
    let t : Fin cfg0.N := ⟨64 * b + 8 * (d / 128) + s / 512, by rw [hN]; omega⟩
    obtain ⟨e0, e1, e2⟩ := coords_eq t
    have tv : t.val = 64 * b + 8 * (d / 128) + s / 512 := rfl
    have k0 := ofNat_small (c0_lt t)
    have k1 := ofNat_small ((c1_lt t).trans (by omega))
    have k2 := ofNat_small ((c2_lt t).trans (by omega))
    refine ⟨t, flush0_3 t, ?_⟩
    show i ∈ ((View.whole main_v0).slice (win0_3.rect t)).set
    rw [View.set_slice_whole, Rect.mem_set_unit]
    intro a
    match a with
    | ⟨0, _⟩ =>
      show (BitVec.ofNat 32 (grid0.coords t 0).val).toNat * 1 ≤ ((i : S16x4096x1024.Idx) 0).val ∧ ((i : S16x4096x1024.Idx) 0).val < (BitVec.ofNat 32 (grid0.coords t 0).val).toNat * 1 + 1
      omega
    | ⟨1, _⟩ =>
      show (BitVec.ofNat 32 (grid0.coords t 2).val).toNat * 512 ≤ ((i : S16x4096x1024.Idx) 1).val ∧ ((i : S16x4096x1024.Idx) 1).val < (BitVec.ofNat 32 (grid0.coords t 2).val).toNat * 512 + 512
      omega
    | ⟨2, _⟩ =>
      show (BitVec.ofNat 32 (grid0.coords t 1).val).toNat * 128 ≤ ((i : S16x4096x1024.Idx) 2).val ∧ ((i : S16x4096x1024.Idx) 2).val < (BitVec.ofNat 32 (grid0.coords t 1).val).toNat * 128 + 128
      omega

end Cert.AttnIdeal.Array

end
-- ==== Proof.AttnRef.lean ====
/- What the attention's reference computes. -/
module

public import proofs.«01_k».proof.Proof.AttnSpec
public import proofs.«01_k».proof.Proof.Gen.AttnRefIdeal.Read

@[expose] public section

set_option maxRecDepth 16384

noncomputable section

namespace Cert.AttnRefIdeal.Ref

open Idealize.ShloMosaic Idealize.ShloMosaic.ValueIdx Finset
open Cert.AttnRefIdeal Cert.AttnRefIdeal.Gen Cert.AttnRefIdeal.Read Cert.Online

/-- Division by 64, rounding down, as the reference takes it on 32-bit integers. -/
def group (r : BitVec 32) : BitVec 32 :=
  Scalar.select (IntOp.andi (IntOp.cmpi .ne (if r = 0 then 0 else if r.msb then -1 else 1 : BitVec 32) (if (64#32) = 0 then 0 else if (64#32).msb then -1 else 1 : BitVec 32))
    (IntOp.cmpi .ne (IntOp.remsi .host r 64#32) 0#32)) (IntOp.subi (IntOp.divsi .host r 64#32) 1#32) (IntOp.divsi .host r 64#32)

theorem group_eq : ∀ r : Fin 4096, group (BitVec.ofNat 32 r.val) = BitVec.ofNat 32 (r.val / 64) := by decide +kernel

/-- A position's group of 64. -/
theorem v4_apply (r : Fin 4096) : val_main_v4 (F := Ideal) (ix1 r) = BitVec.ofNat 32 (r.val / 64) := by
  rw [← group_eq r, val_main_v4_apply, val_main_call0_v11_apply, val_main_call0_v6_apply, val_main_call0_v10_apply, val_main_call0_v8_apply,
    val_main_call0_v13_apply, val_main_call0_v2_apply, val_main_call0_v5_apply, val_main_call0_v7_apply, val_main_call0_v9_apply,
    val_main_call0_v12_apply, val_main_call0_v1_apply]
  rfl

theorem sge_eq (a b : Fin 64) : IntOp.cmpi .sge (BitVec.ofNat 32 a.val) (BitVec.ofNat 32 b.val) = if b.val ≤ a.val then 1#1 else 0#1 := by
  revert a b; decide +kernel

/-- The mask: a key is visible when its group is no later than the query's. -/
theorem v9_apply (s k : Fin 4096) : val_main_v9 (F := Ideal) (ix2 s k) = if k.val / 64 ≤ s.val / 64 then 1#1 else 0#1 := by
  rw [val_main_v9_apply, val_main_v7_apply, val_main_v8_apply, val_main_v5_apply, val_main_v6_apply]
  have e1 : idx_main_v5 (idx_main_v7 (ix2 s k)) = ix1 s := funext fun a => by match a with | ⟨0, _⟩ => rfl
  have e2 : idx_main_v6 (idx_main_v8 (ix2 s k)) = ix1 k := funext fun a => by match a with | ⟨0, _⟩ => rfl
  rw [e1, e2, v4_apply, v4_apply]
  exact sge_eq ⟨s.val / 64, by have := s.isLt; omega⟩ ⟨k.val / 64, by have := k.isLt; omega⟩

theorem fin_ofNat {n : ℕ} [NeZero n] (k : Fin n) : Fin.ofNat n k.val = k := Fin.ext (Nat.mod_eq_of_lt k.isLt)

/-- The scores. -/
theorem v2_apply (q k : AttnSpec.QK) (b : Fin 16) (h : Fin 8) (s j : Fin 4096) :
    val_main_v2 (F := Ideal) q k (ix4 b h s j) = AttnSpec.score q k b h s j.val := by
  rw [val_main_v2_apply]
  refine sum_congr rfl fun e _ => congrArg₂ (· * ·) ?_ ?_
  · exact congrArg q (funext fun a => by match a with | ⟨0, _⟩ => rfl | ⟨1, _⟩ => rfl | ⟨2, _⟩ => rfl | ⟨3, _⟩ => rfl)
  · rw [fin_ofNat]
    exact congrArg k (funext fun a => by match a with | ⟨0, _⟩ => rfl | ⟨1, _⟩ => rfl | ⟨2, _⟩ => rfl | ⟨3, _⟩ => rfl)

theorem ofBits_ninf : (FloatOps.ofBits .f32 0xFF800000#32 : Ideal .f32) = (⊥ : EReal) := by
  show Ideal.ofBits .f32 0xFF800000#32 = ⊥
  simp [Ideal.ofBits, Ideal.ieee]

/-- The masked scores. -/
theorem v10_apply (q k : AttnSpec.QK) (b : Fin 16) (h : Fin 8) (s j : Fin 4096) :
    val_main_v10 (F := Ideal) q k (ix4 b h s j) = AttnSpec.masked q k b h s j.val := by
  rw [val_main_v10_apply, val_main_call1_v1_apply, v2_apply]
  have e1 : idx_main_call1_v1 (ix4 b h s j) = ix2 s j := funext fun a => by match a with | ⟨0, _⟩ => rfl | ⟨1, _⟩ => rfl
  have e2 : val_main_call1_v2 (F := Ideal) (ix4 b h s j) = (⊥ : EReal) := (val_main_call1_v2_apply _).trans ofBits_ninf
  rw [e1, v9_apply, e2]
  unfold AttnSpec.masked
  split_ifs <;> rfl

/-- A row's maximum. -/
theorem v13_apply (q k : AttnSpec.QK) (b : Fin 16) (h : Fin 8) (s : Fin 4096) :
    val_main_v13 (F := Ideal) q k (ix3 b h s) = mx (AttnSpec.masked q k b h s) 4096 := by
  have e1 : val_main_v12 (F := Ideal) (ix3 b h s) = (⊥ : EReal) := (val_main_v12_apply _).trans ofBits_ninf
  have e2 : val_main_v11 (F := Ideal) q k (ix3 b h s) = mx (AttnSpec.masked q k b h s) 4096 := by
    unfold val_main_v11
    have hr : S16x8x4096x4096.Reduces [3] S16x8x4096 := by decide
    haveI : Std.Commutative (FloatOps.maximumf (F := Ideal) (φ := .f32)) := ⟨fun a b => max_comm (α := EReal) a b⟩
    haveI : Std.Associative (FloatOps.maximumf (F := Ideal) (φ := .f32)) := ⟨fun a b c => max_assoc (α := EReal) a b c⟩
    refine (Host.reduce_eq_fold_single _ _ _ reducesTo_S16x8x4096x4096_S16x8x4096_d3 hr h_S_ (ix3 b h s)).trans ?_
    have e3 : (val_main_cst_0 (F := Ideal) (Shape.Idx.first h_S_)) = (⊥ : EReal) := ofBits_ninf
    rw [e3]
    refine fold_max_eq_sup (b := 4096) _ _ fun j => ?_
    refine Eq.trans (congrArg (val_main_v10 (F := Ideal) q k) ?_) (v10_apply q k b h s j)
    funext a
    match a with | ⟨0, _⟩ => rfl | ⟨1, _⟩ => rfl | ⟨2, _⟩ => rfl | ⟨3, _⟩ => rfl
  rw [val_main_v13_apply, e1, e2]
  exact bot_sup_eq (α := EReal) _

/-- The exponentials. -/
theorem v17_apply (q k : AttnSpec.QK) (b : Fin 16) (h : Fin 8) (s j : Fin 4096) :
    val_main_v17 (F := Ideal) q k (ix4 b h s j)
      = Ideal.exp (AttnSpec.masked q k b h s j.val - mx (AttnSpec.masked q k b h s) 4096) := by
  rw [val_main_v17_apply, val_main_v16_apply, v10_apply, val_main_v15_apply, val_main_v14_apply]
  have e : idx_main_v14 (idx_main_v15 (ix4 b h s j)) = ix3 b h s := funext fun a => by match a with | ⟨0, _⟩ => rfl | ⟨1, _⟩ => rfl | ⟨2, _⟩ => rfl
  rw [e, v13_apply]
  rfl

/-- The softmax weights. -/
theorem v21_apply (q k : AttnSpec.QK) (b : Fin 16) (h : Fin 8) (s j : Fin 4096) :
    val_main_v21 (F := Ideal) q k (ix4 b h s j)
      = Ideal.div (Ideal.exp (AttnSpec.masked q k b h s j.val - mx (AttnSpec.masked q k b h s) 4096)) (den (AttnSpec.masked q k b h s) 4096) := by
  rw [val_main_v21_apply, v17_apply, val_main_v20_apply, val_main_v19_apply]
  have e : idx_main_v19 (idx_main_v20 (ix4 b h s j)) = ix3 b h s := funext fun a => by match a with | ⟨0, _⟩ => rfl | ⟨1, _⟩ => rfl | ⟨2, _⟩ => rfl
  rw [e, val_main_v18_apply]
  have e0 : val_main_cst_2 (F := Ideal) (Shape.Idx.first h_S_) = (0 : EReal) := Ideal.ofBits_zero_f32
  rw [e0, zero_add]
  refine congrArg (Ideal.div _) (sum_eq_range _ _ fun i => ?_)
  refine Eq.trans (congrArg (val_main_v17 (F := Ideal) q k) ?_) (v17_apply q k b h s i)
  funext a
  match a with | ⟨0, _⟩ => rfl | ⟨1, _⟩ => rfl | ⟨2, _⟩ => rfl | ⟨3, _⟩ => rfl

/-- The reference's result is the attention's output. -/
theorem v26_apply (q k : AttnSpec.QK) (v : AttnSpec.VV) (hq : AttnSpec.Finite q) (hk : AttnSpec.Finite k) (b : Fin 16) (s : Fin 4096) (c : Fin 1024) :
    val_main_v26 (F := Ideal) q k v (ix3 b s c) = AttnSpec.out q k v b (Fin.ofNat 8 (c.val / 128)) s (Fin.ofNat 128 (c.val % 128)) := by
  have h0 := b.isLt
  have h1 := s.isLt
  have h2 := c.isLt
  rw [AttnSpec.out_eq_sum hq hk, val_main_v26_apply, val_main_v25_apply, val_main_v24_apply]
  have e : idx_main_v24 (idx_main_v25 (ix3 b s c)) = ix4 b (Fin.ofNat 8 (c.val / 128)) (Fin.ofNat 128 (c.val % 128)) s :=
    funext fun a => Fin.ext (by
      match a with
      | ⟨0, _⟩ => show ((b.val * 4096 + s.val) * 1024 + c.val) / 4194304 = b.val; omega
      | ⟨1, _⟩ => show ((b.val * 4096 + s.val) * 1024 + c.val) / 128 % 8 = c.val / 128 % 8; omega
      | ⟨2, _⟩ => show ((b.val * 4096 + s.val) * 1024 + c.val) % 128 = c.val % 128 % 128; omega
      | ⟨3, _⟩ => show ((b.val * 4096 + s.val) * 1024 + c.val) / 1024 % 4096 = s.val; omega)
  rw [e]
  refine Eq.trans (val_main_v23_apply q k v _) (sum_eq_range _ _ fun j => congrArg₂ (· * ·) ?_ ?_)
  · unfold AttnSpec.val
    rw [fin_ofNat]
    exact congrArg v (funext fun a => by match a with | ⟨0, _⟩ => rfl | ⟨1, _⟩ => rfl | ⟨2, _⟩ => rfl | ⟨3, _⟩ => rfl)
  · refine Eq.trans (congrArg (val_main_v21 (F := Ideal) q k) ?_) (v21_apply q k b (Fin.ofNat 8 (c.val / 128)) s j)
    funext a
    match a with | ⟨0, _⟩ => rfl | ⟨1, _⟩ => rfl | ⟨2, _⟩ => rfl | ⟨3, _⟩ => rfl

end Cert.AttnRefIdeal.Ref

end
-- ==== Proof.AttnEq.lean ====
/- The attention kernel computes its reference: both end with the same array. -/
module

public import proofs.«01_k».proof.Defs
public import proofs.«01_k».proof.Proof.AttnArray
public import proofs.«01_k».proof.Proof.AttnRef

@[expose] public section

noncomputable section

namespace Cert.AttnEq

open Idealize.ShloMosaic Idealize.ShloMosaic.ValueIdx Idealize.SL.Sem

theorem ofBits_inf : FloatOps.ofBits (F := Ideal) .bf16 0x7F80#16 = (⊤ : EReal) := by
  show Ideal.ofBits .bf16 0x7F80#16 = ⊤
  simp [Ideal.ofBits, Ideal.ieee]

/-- A number whose absolute value is less than infinity is a real number. -/
theorem real_of_olt (x : EReal) (h : FloatOps.cmpf (F := Ideal) (φ := .bf16) .olt (FloatOps.absf (F := Ideal) (φ := .bf16) x) (FloatOps.ofBits (F := Ideal) .bf16 0x7F80#16) = 1#1) :
    ∃ r : ℝ, x = (r : EReal) := by
  rw [ofBits_inf, Ideal.cmpf_def, Ideal.absf_def] at h
  induction x with
  | bot => simp [Ideal.cmp] at h
  | top => simp [Ideal.cmp] at h
  | coe r => exact ⟨r, rfl⟩

/-- The precondition says that queries and keys are finite. -/
theorem finite_of_pre [Cert.Pre_finite_queries_keys.Facts] (q k : AttnSpec.QK) (v : AttnSpec.VV)
    (h : (Cert.Pre_finite_queries_keys.fn (F := Ideal) q k v).1 = (fun _ => 1#1) ∧ (Cert.Pre_finite_queries_keys.fn (F := Ideal) q k v).2 = (fun _ => 1#1)) :
    AttnSpec.Finite q ∧ AttnSpec.Finite k :=
  ⟨fun i => real_of_olt _ (congrFun h.1 i), fun i => real_of_olt _ (congrFun h.2 i)⟩

/-- Kernel and reference, from the same queries, keys and values, end with the same array and keep their arguments. -/
theorem algebraic [Cert.Pre_finite_queries_keys.Facts] : Cert.algebraic_AttnIdeal_AttnRefIdeal_pre_finite_queries_keys := by
  intro m ρ m' ρ' hpre hagree
  refine ⟨fun c => Cert.AttnIdeal.Array.result m c, ?_, ?_⟩
  · refine (θ_run Cert.AttnIdeal.defs _ _).mono (fun _ h c => ⟨(h c).1.trans ?_, (h c).2⟩) (Cert.AttnIdeal.Value.run_blocks (F := Ideal) m ρ)
    obtain ⟨hq, hk⟩ := finite_of_pre _ _ _ (hpre c)
    exact Cert.AttnIdeal.Array.final m c hq hk
  · refine (θ_run Cert.AttnRefIdeal.defs _ _).mono (fun _ h c => ⟨(h c).1.trans ?_, (h c).2⟩) (Cert.AttnRefIdeal.Value.run (F := Ideal) m' ρ')
    obtain ⟨hq, hk⟩ := finite_of_pre _ _ _ (hpre c)
    obtain ⟨e0, e1, e2⟩ := hagree c
    rw [Cert.AttnRefIdeal.Read.val_main_v26_eq, e0, e1, e2]
    funext i
    rw [eq_ix3 (i : Cert.AttnRefIdeal.S16x4096x1024.Idx)]
    exact Cert.AttnRefIdeal.Ref.v26_apply _ _ _ hq hk _ _ _

end Cert.AttnEq

end
-- ==== Proof.FfnSpec.lean ====
/- The feed-forward layer's mathematics, entry by entry: modulated input, first product, convolution along the sequence,
   gate, second product, residual sum and layer norm. -/
module

public import Idealize.ShloMosaic.Lib.ValueIdxCore
public import Idealize.ShloMosaic.PureOps.Ideal
public import Idealize.ShloMosaic.PureOps.Ideal.Laws

@[expose] public section

noncomputable section

namespace Cert.FfnSpec

open Idealize.ShloMosaic Idealize.ShloMosaic.ValueIdx Finset

/-- The constants, as the float literals they are: 1/2, 1, √(1/2), √2, 1024 and 10⁻⁵, each rounded to single precision. -/
def cHalf : EReal := FloatOps.ofBits (F := Ideal) .f32 0x3F000000#32
def cOne : EReal := FloatOps.ofBits (F := Ideal) .f32 0x3F800000#32
def cRootHalf : EReal := FloatOps.ofBits (F := Ideal) .f32 0x3F3504F3#32
def cRootTwo : EReal := FloatOps.ofBits (F := Ideal) .f32 0x3FB504F3#32
def cWidth : EReal := FloatOps.ofBits (F := Ideal) .f32 0x44800000#32
def cEps : EReal := FloatOps.ofBits (F := Ideal) .f32 0x3727C5AC#32

/-- The Gauss error linear unit. -/
def gelu (v : EReal) : EReal := cHalf * v * (cOne + Ideal.erf (v * cRootHalf))

/-- The three taps of the convolution, the newest entry last. -/
def taps (c0 c1 c2 g2 g1 g0 : EReal) : EReal := c0 * g2 + c1 * g1 + c2 * g0

/-- The mean of a row. -/
def mean (z : Fin 1024 → EReal) : EReal := Ideal.div (∑ k, z k) cWidth

/-- Entry `d` of a row's layer norm, scaled by `g` and moved by `b`. -/
def norm (z : Fin 1024 → EReal) (g b : EReal) (d : Fin 1024) : EReal :=
  (z d - mean z) * Ideal.rsqrt (mean (fun k => (z k - mean z) * (z k - mean z)) + cEps) * g + b

abbrev XX : Type := (⟨3, ![16, 4096, 1024]⟩ : Shape).Idx → EReal
abbrev MM : Type := (⟨3, ![16, 3, 1024]⟩ : Shape).Idx → EReal
abbrev GG : Type := (⟨1, ![1024]⟩ : Shape).Idx → EReal
abbrev UU : Type := (⟨2, ![1024, 5632]⟩ : Shape).Idx → EReal
abbrev CC : Type := (⟨2, ![3, 2816]⟩ : Shape).Idx → EReal
abbrev DD : Type := (⟨2, ![2816, 1024]⟩ : Shape).Idx → EReal

/-- The modulated input. -/
def modIn (x : XX) (m : MM) (b : Fin 16) (s : Fin 4096) (k : Fin 1024) : EReal :=
  x (ix3 b s k) * (cOne + m (ix3 b 1 k)) + m (ix3 b 0 k)

/-- The first product. -/
def up (x : XX) (m : MM) (u : UU) (b : Fin 16) (s : Fin 4096) (j : Fin 5632) : EReal :=
  ∑ k : Fin 1024, modIn x m b s k * u (ix2 k j)

/-- The gate's entry `n` rows back: zero before the sequence's start. -/
def gateBack (x : XX) (m : MM) (u : UU) (b : Fin 16) (s : Fin 4096) (j : Fin 2816) (n : ℕ) : EReal :=
  if s.val < n then 0 else up x m u b (Fin.ofNat 4096 (s.val - n)) (Fin.ofNat 5632 (2816 + j.val))

/-- The activation: value half times gate half. -/
def act (x : XX) (m : MM) (u : UU) (w : CC) (b : Fin 16) (s : Fin 4096) (j : Fin 2816) : EReal :=
  up x m u b s (Fin.ofNat 5632 j.val)
    * gelu (taps (w (ix2 0 j)) (w (ix2 1 j)) (w (ix2 2 j)) (gateBack x m u b s j 2) (gateBack x m u b s j 1) (gateBack x m u b s j 0))

/-- The residual sum. -/
def resid (x : XX) (m : MM) (u : UU) (w : CC) (v : DD) (b : Fin 16) (s : Fin 4096) (d : Fin 1024) : EReal :=
  cRootTwo * x (ix3 b s d) + m (ix3 b 2 d) * ∑ j : Fin 2816, act x m u w b s j * v (ix2 j d)

/-- The layer's output. -/
def out (x : XX) (m : MM) (g h : GG) (u : UU) (w : CC) (v : DD) (b : Fin 16) (s : Fin 4096) (d : Fin 1024) : EReal :=
  norm (resid x m u w v b s) (g (ix1 d)) (h (ix1 d)) d

/-- A sum over 2816 columns is the sum of its first `256 n` and so on: a sum over a multiple of 256, tile by tile. -/
theorem sum_tile (f : ℕ → EReal) (n : ℕ) :
    ∑ j ∈ range (256 * n), f j + ∑ c : Fin 256, f (256 * n + c.val) = ∑ j ∈ range (256 * (n + 1)), f j := by
  rw [Nat.mul_succ, sum_range_add, ← Finset.sum_range fun c => f (256 * n + c)]

end Cert.FfnSpec

end
-- ==== Proof.EvenSpec.lean ====
/- The input projection of the even layers, entry by entry: the product of the modulated input, the convolution of the
   queries' and keys' columns along the sequence, and the gates. -/
module

public import proofs.«01_k».proof.Proof.FfnSpec
public import Idealize.ShloMosaic.Lib.IdealHost

@[expose] public section

noncomputable section

namespace Cert.EvenSpec

open Idealize.ShloMosaic Idealize.ShloMosaic.ValueIdx Finset
open Cert.FfnSpec (XX MM modIn cOne)

/-- The keys' scale, 128^(−1/2), rounded to single precision. -/
def cKey : EReal := FloatOps.ofBits (F := Ideal) .f32 0x3DB504F3#32

abbrev WI : Type := (⟨2, ![1024, 2568]⟩ : Shape).Idx → EReal
abbrev GB : Type := (⟨1, ![8]⟩ : Shape).Idx → EReal
abbrev CV : Type := (⟨2, ![4, 1024]⟩ : Shape).Idx → EReal

/-- Entry `e` of the product. -/
def proj (x : XX) (m : MM) (w : WI) (b : Fin 16) (s : Fin 4096) (e : Fin 2568) : EReal := ∑ k : Fin 1024, modIn x m b s k * w (ix2 k e)

/-- The logistic function, and a number times its logistic. -/
def logis (v : EReal) : EReal := Ideal.div cOne (cOne + Ideal.exp (-v))
def silu (v : EReal) : EReal := v * logis v

/-- The logarithm of the logistic function. -/
def logSig (v : EReal) : EReal := min v 0 - Ideal.log1p (Ideal.exp (-(max v (-v))))

/-- Column `c` of the queries' and keys' product, `n` rows back: zero before the sequence's start. -/
def back (x : XX) (m : MM) (w : WI) (b : Fin 16) (s : Fin 4096) (c : Fin 1024) (n : ℕ) : EReal :=
  if s.val < n then 0 else proj x m w b (Fin.ofNat 4096 (s.val - n)) ⟨512 + c.val, by omega⟩

/-- The convolution's four taps, the oldest entry last. -/
def taps (c0 c1 c2 c3 g0 g1 g2 g3 : EReal) : EReal := g3 * c0 + g2 * c1 + g1 * c2 + g0 * c3

def conv (x : XX) (m : MM) (w : WI) (t : CV) (b : Fin 16) (s : Fin 4096) (c : Fin 1024) : EReal :=
  taps (t (ix2 0 c)) (t (ix2 1 c)) (t (ix2 2 c)) (t (ix2 3 c)) (back x m w b s c 0) (back x m w b s c 1) (back x m w b s c 2) (back x m w b s c 3)

/-- The results: queries, keys, values, the output's gate, and the eight gates of every position. -/
def qOut (x : XX) (m : MM) (w : WI) (t : CV) (b : Fin 16) (s : Fin 4096) (d : Fin 512) : EReal := silu (conv x m w t b s ⟨d.val, by omega⟩)
def kOut (x : XX) (m : MM) (w : WI) (t : CV) (b : Fin 16) (s : Fin 4096) (d : Fin 512) : EReal := silu (conv x m w t b s ⟨512 + d.val, by omega⟩) * cKey
def vOut (x : XX) (m : MM) (w : WI) (b : Fin 16) (s : Fin 4096) (d : Fin 512) : EReal := proj x m w b s ⟨1536 + d.val, by omega⟩
def oOut (x : XX) (m : MM) (w : WI) (b : Fin 16) (s : Fin 4096) (d : Fin 512) : EReal := logis (proj x m w b s ⟨2048 + d.val, by omega⟩)
def gate (x : XX) (m : MM) (w : WI) (g : GB) (b : Fin 16) (s : Fin 4096) (j : Fin 8) : EReal := proj x m w b s ⟨2560 + j.val, by omega⟩ + g (ix1 j)
def gOut (x : XX) (m : MM) (w : WI) (g : GB) (b : Fin 16) (j : Fin 8) (s : Fin 4096) : EReal :=
  if j.val < 4 then gate x m w g b s j else logSig (gate x m w g b s j)

/-! ## The logarithm of the logistic function, from its negative -/

/-- The exponential of a number that is never positive infinity is a real number that is not negative. -/
theorem exp_real (v : EReal) : ∃ r : ℝ, 0 ≤ r ∧ Ideal.exp (-(max v (-v))) = (r : EReal) := by
  induction v using EReal.rec with
  | bot => exact ⟨0, le_rfl, by rw [EReal.neg_bot, max_eq_right bot_le, EReal.neg_top]; rfl⟩
  | top => exact ⟨0, le_rfl, by rw [EReal.neg_top, max_eq_left bot_le, EReal.neg_top]; rfl⟩
  | coe r =>
    refine ⟨Real.exp (-(max r (-r))), (Real.exp_pos _).le, ?_⟩
    rw [← EReal.coe_neg, ← EReal.coe_strictMono.monotone.map_max, ← EReal.coe_neg]
    rfl

/-- `log (1 + exp (−|v|))` is finite. -/
theorem tail_fin (v : EReal) : Ideal.log1p (Ideal.exp (-(max v (-v)))) ≠ ⊥ ∧ Ideal.log1p (Ideal.exp (-(max v (-v)))) ≠ ⊤ := by
  obtain ⟨r, h0, h⟩ := exp_real v
  have e : Ideal.log1p (r : EReal) = (Real.log (1 + r) : EReal) := by
    show Ideal.log ((1 : ℝ) + r : EReal) = _
    rw [← EReal.coe_add, Ideal.log_coe, if_neg (by linarith)]
  rw [h, e]
  exact ⟨EReal.coe_ne_bot _, EReal.coe_ne_top _⟩

/-- The negative of the larger of a number's negative and zero, with the tail added, is the smaller less the tail. -/
theorem logSig_neg (v : EReal) : -(max (-v) 0 + Ideal.log1p (Ideal.exp (-(max v (-v))))) = logSig v := by
  obtain ⟨h1, h2⟩ := tail_fin v
  unfold logSig
  rw [EReal.neg_add (.inr h2) (.inr h1), sub_eq_add_neg, sub_eq_add_neg]
  refine congrArg (· + _) ?_
  rcases le_total v 0 with h | h
  · rw [max_eq_left (EReal.neg_nonneg.2 h), min_eq_left h, neg_neg]
  · rw [max_eq_right (EReal.neg_le.2 (neg_zero.trans_le h)), min_eq_right h, neg_zero]

end Cert.EvenSpec

end
-- ==== Proof.FfnState.lean ====
/- What one grid point of the feed-forward kernel leaves in its output block and in the rows it carries to the next
   point, as functions of its input blocks: eleven column tiles of one and the same form, added up. -/
module

public import proofs.«01_k».proof.Proof.Gen.FfnIdeal.Frame
public import Idealize.ShloMosaic.Lib.Pipeline.Value
public import Idealize.ShloMosaic.Lib.Pipeline.ValueKit.Tiles
public import Idealize.ShloMosaic.Lib.ValueIdxCore
public import Idealize.ShloMosaic.PureOps.Ideal

@[expose] public section

set_option maxRecDepth 16384

noncomputable section

namespace Cert.FfnIdeal.Block

open Idealize.ShloMosaic Idealize.ShloMosaic.TcCoe Idealize.ShloMosaic.ValueIdx Cert.FfnIdeal Cert.FfnIdeal.Gen

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl

/-! ## Tiles of the arrays -/

/-- 256 columns of the first weight matrix, from column `n` on. -/
def upTile (x : Vec F S1024x5632 .bf16) (n : ℕ) : Vec F S1024x256 .bf16 :=
  fun y => x (ix2 (y 0) (Fin.ofNat 5632 (n + (y 1).val)))

/-- 256 columns of the convolution's weights. -/
def cwTile (x : Vec F S3x2816 .f32) (n : ℕ) : Vec F S3x256 .f32 :=
  fun y => x (ix2 (y 0) (Fin.ofNat 2816 (n + (y 1).val)))

/-- 256 columns of the carried rows. -/
def haloTile (x : Vec F S8x2816 .f32) (n : ℕ) : Vec F S8x256 .f32 :=
  fun y => x (ix2 (y 0) (Fin.ofNat 2816 (n + (y 1).val)))

/-- 256 rows of the second weight matrix. -/
def dnTile (x : Vec F S2816x1024 .bf16) (n : ℕ) : Vec F S256x1024 .bf16 :=
  fun y => x (ix2 (Fin.ofNat 2816 (n + (y 0).val)) (y 1))

theorem ld_upTile (x : Vec F S1024x5632 .bf16) (n : ℕ) (inb : ∀ a, (![0, n] : Fin 2 → ℕ) a + S1024x256.size a ≤ S1024x5632.size a) :
    View.ld x (Rect.unit ![0, n] S1024x256.size inb) = upTile x n := by
  funext y
  have h0 := (y 1).isLt
  have h1 : n + (y 1).val < 5632 := by have := inb 1; change n + 256 ≤ 5632 at this; change (y 1).val < 256 at h0; omega
  refine congrArg x (funext fun a => Fin.ext ?_)
  match a with
  | ⟨0, _⟩ => show 0 + 1 * (y 0).val = (y 0).val; omega
  | ⟨1, _⟩ => show n + 1 * (y 1).val = (n + (y 1).val) % 5632; rw [Nat.mod_eq_of_lt h1]; omega

theorem ld_cwTile (x : Vec F S3x2816 .f32) (n : ℕ) (inb : ∀ a, (![0, n] : Fin 2 → ℕ) a + S3x256.size a ≤ S3x2816.size a) :
    View.ld x (Rect.unit ![0, n] S3x256.size inb) = cwTile x n := by
  funext y
  have h0 := (y 1).isLt
  have h1 : n + (y 1).val < 2816 := by have := inb 1; change n + 256 ≤ 2816 at this; change (y 1).val < 256 at h0; omega
  refine congrArg x (funext fun a => Fin.ext ?_)
  match a with
  | ⟨0, _⟩ => show 0 + 1 * (y 0).val = (y 0).val; omega
  | ⟨1, _⟩ => show n + 1 * (y 1).val = (n + (y 1).val) % 2816; rw [Nat.mod_eq_of_lt h1]; omega

theorem ld_haloTile (x : Vec F S8x2816 .f32) (n : ℕ) (inb : ∀ a, (![0, n] : Fin 2 → ℕ) a + S8x256.size a ≤ S8x2816.size a) :
    View.ld x (Rect.unit ![0, n] S8x256.size inb) = haloTile x n := by
  funext y
  have h0 := (y 1).isLt
  have h1 : n + (y 1).val < 2816 := by have := inb 1; change n + 256 ≤ 2816 at this; change (y 1).val < 256 at h0; omega
  refine congrArg x (funext fun a => Fin.ext ?_)
  match a with
  | ⟨0, _⟩ => show 0 + 1 * (y 0).val = (y 0).val; omega
  | ⟨1, _⟩ => show n + 1 * (y 1).val = (n + (y 1).val) % 2816; rw [Nat.mod_eq_of_lt h1]; omega

theorem ld_dnTile (x : Vec F S2816x1024 .bf16) (n : ℕ) (inb : ∀ a, (![n, 0] : Fin 2 → ℕ) a + S256x1024.size a ≤ S2816x1024.size a) :
    View.ld x (Rect.unit ![n, 0] S256x1024.size inb) = dnTile x n := by
  funext y
  have h0 := (y 0).isLt
  have h1 : n + (y 0).val < 2816 := by have := inb 0; change n + 256 ≤ 2816 at this; change (y 0).val < 256 at h0; omega
  refine congrArg x (funext fun a => Fin.ext ?_)
  match a with
  | ⟨0, _⟩ => show n + 1 * (y 0).val = (n + (y 0).val) % 2816; rw [Nat.mod_eq_of_lt h1]; omega
  | ⟨1, _⟩ => show 0 + 1 * (y 1).val = (y 1).val; omega

/-! ## One column tile -/

/-- The row number of each entry. -/
def rows : IVec S512x256 32 := iota .tc S512x256 32 [0] iota_S512x256_d0_w32

/-- The first product on a tile of the weights. -/
def proj (h : FVec F S512x1024 .bf16) (w : Vec F S1024x256 .bf16) : FVec F S512x256 .f32 :=
  matmul dot_S512x1024_S1024x256_S512x256_1_0_0_1_n_n none h (shapeCast S1024x256 w shapeCasts_S1024x256_S1024x256) (constant S512x256 .f32 0x00000000#32)

/-- The last eight rows, which the point carries on. -/
def tailRows (g : FVec F S512x256 .f32) : FVec F S8x256 .f32 :=
  shapeCast S8x256 (extractStridedSlice S8x256 ![504, 0] g slices_S512x256_o504_0_S8x256) shapeCasts_S8x256_S8x256

/-- Carried row 7 and carried row 6, on every row. -/
def carried7 (hl : Vec F S8x256 .f32) : FVec F S512x256 .f32 :=
  broadcastTo S512x256 (shapeCast S1x256 (extractStridedSlice S1x256 ![7, 0] hl slices_S8x256_o7_0_S1x256) shapeCasts_S1x256_S1x256) broadcasts_S1x256_S512x256
def carried6 (hl : Vec F S8x256 .f32) : FVec F S512x256 .f32 :=
  broadcastTo S512x256 (shapeCast S1x256 (extractStridedSlice S1x256 ![6, 0] hl slices_S8x256_o6_0_S1x256) shapeCasts_S1x256_S1x256) broadcasts_S1x256_S512x256

/-- One row back, and two rows back. -/
def back1 (hl : Vec F S8x256 .f32) (g : FVec F S512x256 .f32) : FVec F S512x256 .f32 :=
  select (cmpi .eq rows (broadcast S512x256 0#32)) (carried7 hl) (dynamicRotate 0 1#32 none g rotates_S512x256_d0)
def back2 (hl : Vec F S8x256 .f32) (g : FVec F S512x256 .f32) : FVec F S512x256 .f32 :=
  select (cmpi .eq rows (broadcast S512x256 0#32)) (carried6 hl)
    (select (cmpi .eq rows (broadcast S512x256 1#32)) (carried7 hl) (dynamicRotate 0 2#32 none g rotates_S512x256_d0))

/-- The convolution along the rows. -/
def conv (hl : Vec F S8x256 .f32) (cw : Vec F S3x256 .f32) (g : FVec F S512x256 .f32) : FVec F S512x256 .f32 :=
  addf (addf
    (mulf (broadcastTo S512x256 (extractStridedSlice S1x256 ![0, 0] cw slices_S3x256_o0_0_S1x256) broadcasts_S1x256_S512x256) (back2 hl g))
    (mulf (broadcastTo S512x256 (extractStridedSlice S1x256 ![1, 0] cw slices_S3x256_o1_0_S1x256) broadcasts_S1x256_S512x256) (back1 hl g)))
    (mulf (broadcastTo S512x256 (extractStridedSlice S1x256 ![2, 0] cw slices_S3x256_o2_0_S1x256) broadcasts_S1x256_S512x256) g)

/-- The gate: the Gauss error linear unit. -/
def gelu (v : FVec F S512x256 .f32) : FVec F S512x256 .f32 :=
  mulf (mulf (broadcast S512x256 (Scalar.ofBits .f32 0x3F000000#32)) v)
    (addf (broadcast S512x256 (Scalar.ofBits .f32 0x3F800000#32)) (erf (mulf v (broadcast S512x256 (Scalar.ofBits .f32 0x3F3504F3#32)))))

/-- A tile's share of the second product. -/
def share (h : FVec F S512x1024 .bf16) (wa wg : Vec F S1024x256 .bf16) (hl : Vec F S8x256 .f32) (cw : Vec F S3x256 .f32) (wd : Vec F S256x1024 .bf16) :
    FVec F S512x1024 .f32 :=
  matmul dot_S512x256_S256x1024_S512x1024_1_0_0_1_n_n none (truncf .bf16 (mulf (proj h wa) (gelu (conv hl cw (proj h wg)))) bitsLt_bf16_f32)
    (shapeCast S256x1024 wd shapeCasts_S256x1024_S256x1024) (constant S512x1024 .f32 0x00000000#32)

/-- Tile `n`'s share, from the whole arrays. -/
def shareAt (h : FVec F S512x1024 .bf16) (x4 : Vec F S1024x5632 .bf16) (x5 : Vec F S3x2816 .f32) (x6 : Vec F S2816x1024 .bf16) (hl : Vec F S8x2816 .f32) (n : ℕ) :
    FVec F S512x1024 .f32 :=
  share h (upTile x4 n) (upTile x4 (2816 + n)) (haloTile hl n) (cwTile x5 n) (dnTile x6 n)

/-- The sum of the first `n + 1` tiles' shares. -/
def shares (h : FVec F S512x1024 .bf16) (x4 : Vec F S1024x5632 .bf16) (x5 : Vec F S3x2816 .f32) (x6 : Vec F S2816x1024 .bf16) (hl : Vec F S8x2816 .f32) :
    ℕ → FVec F S512x1024 .f32
  | 0 => shareAt h x4 x5 x6 hl 0
  | n + 1 => addf (shares h x4 x5 x6 hl n) (shareAt h x4 x5 x6 hl (256 * (n + 1)))

/-! ## The whole block -/

/-- The residual sum. -/
def resid (gate : FVec F S1x1024 .f32) (x y : FVec F S512x1024 .f32) : FVec F S512x1024 .f32 :=
  addf (mulf (broadcast S512x1024 (Scalar.ofBits .f32 0x3FB504F3#32)) x) (mulf (broadcastTo S512x1024 gate broadcasts_S1x1024_S512x1024) y)

/-- A row's mean, on every row. -/
def rowMean (z : FVec F S512x1024 .f32) : FVec F S512x1 .f32 :=
  divf (shapeCast S512x1 (multiReduction .add [1] S512 z 0x00000000#32 reduces_S512x1024_S512 (.inl rfl) rfl) shapeCasts_S512_S512x1)
    (broadcast S512x1 (Scalar.ofBits .f32 0x44800000#32))

/-- A row less its mean. -/
def centred (z : FVec F S512x1024 .f32) : FVec F S512x1024 .f32 :=
  subf z (broadcastTo S512x1024 (rowMean z) broadcasts_S512x1_S512x1024)

/-- The rows normalized. -/
def normed (z : FVec F S512x1024 .f32) : FVec F S512x1024 .f32 :=
  mulf (centred z) (broadcastTo S512x1024
    (rsqrt (addf (rowMean (mulf (centred z) (centred z))) (broadcast S512x1 (Scalar.ofBits .f32 0x3727C5AC#32)))) broadcasts_S512x1_S512x1024)

/-- The block a point stores. -/
def outBlock (x0 : Vec F S1x512x1024 .f32) (x1 : Vec F S1x3x1024 .f32) (x2 x3 : Vec F S1x1024 .f32) (x4 : Vec F S1024x5632 .bf16)
    (x5 : Vec F S3x2816 .f32) (x6 : Vec F S2816x1024 .bf16) (hl : Vec F S8x2816 .f32) : Vec F S1x512x1024 .f32 :=
  k0_pay1 (k0_pay90 x3) (normed (resid (k0_pay4 x1) (k0_pay5 x0) (shares (k0_pay6 x1 x0) x4 x5 x6 hl 10))) (k0_pay92 x2)

/-- The rows a point carries on. -/
def carry (x0 : Vec F S1x512x1024 .f32) (x1 : Vec F S1x3x1024 .f32) (x4 : Vec F S1024x5632 .bf16) : Vec F S8x2816 .f32 := fun y =>
  tailRows (proj (k0_pay6 x1 x0) (upTile x4 (2816 + 256 * ((y 1).val / 256)))) (ix2 (y 0) (Fin.ofNat 256 ((y 1).val % 256)))

section Case
variable (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x2816 .f32) (harg7 : arg7.IsWhole) (arg8 : Memref sig .tc .vmem S2816x1024 .bf16) (harg8 : arg8.IsWhole) (arg9 : Memref sig .tc .vmem S1x512x1024 .f32) (harg9 : arg9.IsWhole) (arg10 : Memref sig .tc .vmem S8x2816 .f32) (harg10 : arg10.IsWhole)
  (x0 : Vec F S1x512x1024 .f32) (x1 : Vec F S1x3x1024 .f32) (x2 x3 : Vec F S1x1024 .f32) (x4 : Vec F S1024x5632 .bf16) (x5 : Vec F S3x2816 .f32) (x6 : Vec F S2816x1024 .bf16)

theorem r0 : arg2.view.readAt (Elt F) (Rect.unit (s := S1x512x1024) ![0, 0, 0] ![1, 512, 1024] inb_S1x512x1024_S1x512x1024_0_0_0).toLoadRect (harg2.unread x0) = x0 := by
  rw [View.readAt_eq_ld, harg2.read_unread]; exact View.ld_unit_zero z3 _ _
theorem r1 : arg3.view.readAt (Elt F) (Rect.unit (s := S1x3x1024) ![0, 0, 0] ![1, 3, 1024] inb_S1x3x1024_S1x3x1024_0_0_0).toLoadRect (harg3.unread x1) = x1 := by
  rw [View.readAt_eq_ld, harg3.read_unread]; exact View.ld_unit_zero z3 _ _
theorem r2 : arg4.view.readAt (Elt F) (Rect.unit (s := S1x1024) ![0, 0] ![1, 1024] inb_S1x1024_S1x1024_0_0).toLoadRect (harg4.unread x2) = x2 := by
  rw [View.readAt_eq_ld, harg4.read_unread]; exact View.ld_unit_zero z2 _ _
theorem r4 (n : ℕ) (inb : ∀ a, (![0, n] : Fin 2 → ℕ) a + S1024x256.size a ≤ S1024x5632.size a) :
    arg6.view.readAt (Elt F) (Rect.unit (s := S1024x5632) ![0, n] ![1024, 256] inb).toLoadRect (harg6.unread x4) = upTile x4 n := by
  rw [View.readAt_eq_ld, harg6.read_unread]; exact ld_upTile _ _ _
theorem r5 (n : ℕ) (inb : ∀ a, (![0, n] : Fin 2 → ℕ) a + S3x256.size a ≤ S3x2816.size a) :
    arg7.view.readAt (Elt F) (Rect.unit (s := S3x2816) ![0, n] ![3, 256] inb).toLoadRect (harg7.unread x5) = cwTile x5 n := by
  rw [View.readAt_eq_ld, harg7.read_unread]; exact ld_cwTile _ _ _
theorem r6 (n : ℕ) (inb : ∀ a, (![n, 0] : Fin 2 → ℕ) a + S256x1024.size a ≤ S2816x1024.size a) :
    arg8.view.readAt (Elt F) (Rect.unit (s := S2816x1024) ![n, 0] ![256, 1024] inb).toLoadRect (harg8.unread x6) = dnTile x6 n := by
  rw [View.readAt_eq_ld, harg8.read_unread]; exact ld_dnTile _ _ _
theorem rs (xs0 : Vec F S8x2816 .f32) (n : ℕ) (inb : ∀ a, (![0, n] : Fin 2 → ℕ) a + S8x256.size a ≤ S8x2816.size a) :
    arg10.view.readAt (Elt F) (Rect.unit (s := S8x2816) ![0, n] ![8, 256] inb).toLoadRect (harg10.unread xs0) = haloTile xs0 n := by
  rw [View.readAt_eq_ld, harg10.read_unread]; exact ld_haloTile _ _ _

/-- A point that goes on from the one before stores this block. -/
theorem out_B (hc0 : ¬cond0_0 i) (xs0 : Vec F S8x2816 .f32) :
    out0_B_7 c i arg2 harg2 arg3 harg3 arg4 harg4 arg5 harg5 arg6 harg6 arg7 harg7 arg8 harg8 arg9 harg9 arg10 harg10 hc0 x0 x1 x2 x3 x4 x5 x6 xs0
      = outBlock x0 x1 x2 x3 x4 x5 x6 xs0 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  rw [View.canon_unit_zero z3]
  simp only [r0, r1, r2, r4, r5, r6, rs]
  rfl

/-- The carried rows at a point that starts a sequence: zeros, in every tile not yet stored. -/
theorem rz (L : List (View.Piece (Elt F) S8x2816 .f32)) (n : ℕ) (inb : ∀ a, (![0, n] : Fin 2 → ℕ) a + S8x256.size a ≤ S8x2816.size a)
    (h : ∀ y : S8x2816.Idx, n ≤ (y 1).val → View.canon L y = k0_pay2 y) :
    arg10.view.readCov L (Rect.unit (s := S8x2816) ![0, n] ![8, 256] inb).toLoadRect = haloTile k0_pay2 n := by
  rw [View.readCov_eq_canon', ← ld_haloTile _ _ inb]
  funext j
  exact h _ (by show n ≤ n + 1 * (j 1).val; omega)

theorem canon_zero (inb : ∀ a, (![0, 0] : Fin 2 → ℕ) a + S8x2816.size a ≤ S8x2816.size a) (n : ℕ) (y : S8x2816.Idx) (hy : n ≤ (y 1).val) :
    View.canon [(⟨Rect.unit (s := S8x2816) ![0, 0] ![8, 2816] inb, k0_pay2⟩ : View.Piece (Elt F) S8x2816 .f32)] y = k0_pay2 y := by
  rw [View.canon_unit_zero z2]

/-- A stored tile of columns before `n` leaves the columns from `n` on as they were. -/
theorem canon_past (L : List (View.Piece (Elt F) S8x2816 .f32)) (k n : ℕ) (inb : ∀ a, (![0, k] : Fin 2 → ℕ) a + S8x256.size a ≤ S8x2816.size a)
    (w : (Rect.unit (s := S8x2816) ![0, k] ![8, 256] inb).shape.Idx → Elt F .f32) (hk : k + 256 ≤ n)
    (h : ∀ y : S8x2816.Idx, n ≤ (y 1).val → View.canon L y = k0_pay2 y) (y : S8x2816.Idx) (hy : n ≤ (y 1).val) :
    View.canon ((⟨Rect.unit (s := S8x2816) ![0, k] ![8, 256] inb, w⟩ : View.Piece (Elt F) S8x2816 .f32) :: L) y = k0_pay2 y := by
  rw [View.canon_cons_of_not_mem]
  · exact h y hy
  · rw [Rect.mem_set_unit]
    intro hm
    have h1 : (y 1).val < k + 256 := (hm 1).2
    omega

/-- A point that starts a sequence stores this block: the carried rows are zeros. -/
theorem out_A (hc0 : cond0_0 i) :
    out0_A_7 c i arg2 harg2 arg3 harg3 arg4 harg4 arg5 harg5 arg6 harg6 arg7 harg7 arg8 harg8 arg9 harg9 arg10 harg10 hc0 x0 x1 x2 x3 x4 x5 x6
      = outBlock x0 x1 x2 x3 x4 x5 x6 k0_pay2 := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero z3]
  simp (disch := repeat (first | exact canon_zero _ _ | (refine canon_past _ _ _ _ _ ?_ ?_; · decide))) only [r0, r1, r2, r4, r5, r6, rz]
  rfl

/-- One stored tile of carried rows, read back. -/
theorem canon_tile (L : List (View.Piece (Elt F) S8x2816 .f32)) (k : ℕ) (inb : ∀ a, (![0, k] : Fin 2 → ℕ) a + S8x256.size a ≤ S8x2816.size a)
    (hk : k % 256 = 0) (y : S8x2816.Idx) (h : ¬(k ≤ (y 1).val ∧ (y 1).val < k + 256) → View.canon L y = carry x0 x1 x4 y) :
    View.canon ((⟨Rect.unit (s := S8x2816) ![0, k] ![8, 256] inb, tailRows (proj (k0_pay6 x1 x0) (upTile x4 (2816 + k)))⟩ : View.Piece (Elt F) S8x2816 .f32) :: L) y
      = carry x0 x1 x4 y := by
  by_cases hm : k ≤ (y 1).val ∧ (y 1).val < k + 256
  · have h0 := (y 0).isLt
    have e : y = (Rect.unit (s := S8x2816) ![0, k] ![8, 256] inb).emb (ix2 (y 0) (Fin.ofNat 256 ((y 1).val % 256)) : S8x256.Idx) := by
      funext a; apply Fin.ext
      match a with
      | ⟨0, _⟩ => show (y 0).val = 0 + 1 * (y 0).val; omega
      | ⟨1, _⟩ => show (y 1).val = k + 1 * ((y 1).val % 256 % 256); omega
    have e2 : 256 * ((y 1).val / 256) = k := by omega
    unfold carry
    rw [e2]
    conv_lhs => rw [e]
    exact View.canon_cons_emb _ _ _ _
  · rw [View.canon_cons_of_not_mem]
    · exact h hm
    · rw [Rect.mem_set_unit]
      exact fun hh => hm ⟨(hh 1).1, (hh 1).2⟩

/-- A point that goes on from the one before carries these rows on. -/
theorem sout_B (hc0 : ¬cond0_0 i) (xs0 : Vec F S8x2816 .f32) :
    sout0_B_0 c i arg2 harg2 arg3 harg3 arg4 harg4 arg5 harg5 arg6 harg6 arg7 harg7 arg8 harg8 arg9 harg9 arg10 harg10 hc0 x0 x1 x2 x3 x4 x5 x6 xs0
      = carry x0 x1 x4 := by
  unfold sout0_B_0
  rw [View.read_writes_junk_eq_canon]
  unfold kernelRun0_B
  dsimp only
  sl_unfold_words
  simp only [r0, r1, r4]
  funext y
  have hy : (y 1).val < 2816 := (y 1).isLt
  iterate 11 (refine canon_tile x0 x1 x4 _ _ _ (by decide) y fun _ => ?_)
  omega

/-- And so does a point that starts a sequence. -/
theorem sout_A (hc0 : cond0_0 i) :
    sout0_A_0 c i arg2 harg2 arg3 harg3 arg4 harg4 arg5 harg5 arg6 harg6 arg7 harg7 arg8 harg8 arg9 harg9 arg10 harg10 hc0 x0 x1 x2 x3 x4 x5 x6
      = carry x0 x1 x4 := by
  unfold sout0_A_0
  rw [View.read_writes_junk_eq_canon]
  unfold kernelRun0_A
  dsimp only
  sl_unfold_words
  simp only [r0, r1, r4]
  funext y
  have hy : (y 1).val < 2816 := (y 1).isLt
  iterate 11 (refine canon_tile x0 x1 x4 _ _ _ (by decide) y fun _ => ?_)
  omega

end Case

end Cert.FfnIdeal.Block

end
-- ==== Proof.FfnRow.lean ====
/- The feed-forward kernel's block, read at an index over the extended reals: each row is the layer norm of the residual
   sum of that row's input and its activation's product. -/
module

public import proofs.«01_k».proof.Proof.FfnState
public import proofs.«01_k».proof.Proof.FfnSpec
public import Idealize.ShloMosaic.Lib.ValueIdx
public import Idealize.ShloMosaic.Lib.MatmulPlain
public import Idealize.ShloMosaic.Lib.KernelVsHost
public import Idealize.ShloMosaic.PureOps.Ideal.Laws

@[expose] public section

set_option maxRecDepth 16384

noncomputable section

namespace Cert.FfnIdeal.Block

open Idealize.ShloMosaic Idealize.ShloMosaic.TcCoe Idealize.ShloMosaic.ValueIdx Cert.FfnIdeal Cert.FfnIdeal.Gen
open Cert.FfnSpec (cHalf cOne cRootHalf cRootTwo cWidth cEps taps mean)
open Finset

/-! ## Layout -/

theorem lift_ix2 (r : Fin 512) (k : Fin (S512x1024.size 1)) :
    reduces_S512x1024_S512.lift (ix1 r) k = (ix2 r (⟨k.val, k.isLt⟩ : Fin 1024) : S512x1024.Idx) := by
  funext c; apply Fin.ext
  fin_cases c <;> rfl

theorem col_apply {φ : FTy} (x : FVec Ideal S512 φ) (r : Fin 512) :
    shapeCast S512x1 x shapeCasts_S512_S512x1 (ix2 r 0) = x (ix1 r) :=
  shapeCast_apply x _ _ _ (by
    rw [Shape.rowMajor_val_one, Shape.rowMajor_val_two]; show r.val = r.val * 1 + 0; omega)

theorem bcol_apply (x : FVec Ideal S512x1 .f32) (r : Fin 512) (c : Fin 1024) :
    broadcastTo S512x1024 x broadcasts_S512x1_S512x1024 (ix2 r c) = x (ix2 r 0) :=
  broadcastTo_apply x _ _ _ (fun a => by fin_cases a <;> rfl)

theorem brow_apply (x : FVec Ideal S1x1024 .f32) (r : Fin 512) (c : Fin 1024) :
    broadcastTo S512x1024 x broadcasts_S1x1024_S512x1024 (ix2 r c) = x (ix2 0 c) :=
  broadcastTo_apply x _ _ _ (fun a => by fin_cases a <;> rfl)

theorem brow256_apply (x : FVec Ideal S1x256 .f32) (r : Fin 512) (c : Fin 256) :
    broadcastTo S512x256 x broadcasts_S1x256_S512x256 (ix2 r c) = x (ix2 0 c) :=
  broadcastTo_apply x _ _ _ (fun a => by fin_cases a <;> rfl)

theorem squeeze_apply (x : Vec Ideal S1x512x1024 .f32) (r : Fin 512) (k : Fin 1024) :
    k0_pay5 x (ix2 r k) = x (ix3 0 r k) := by
  unfold k0_pay5
  exact shapeCast_apply x _ _ _ (by
    rw [Shape.rowMajor_val_three, Shape.rowMajor_val_two]; show (0 * 512 + r.val) * 1024 + k.val = r.val * 1024 + k.val; omega)

/-- Row `n` of the modulation. -/
theorem modRow_apply (x : Vec Ideal S1x3x1024 .f32) (n : Fin 3) (k : Fin 1024) : k0_pay3 x (ix2 n k) = x (ix3 0 n k) := by
  unfold k0_pay3
  exact shapeCast_apply x _ _ _ (by
    rw [Shape.rowMajor_val_three, Shape.rowMajor_val_two]; show (0 * 3 + n.val) * 1024 + k.val = n.val * 1024 + k.val; omega)

theorem gate_apply (x : Vec Ideal S1x3x1024 .f32) (k : Fin 1024) : k0_pay4 x (ix2 0 k) = x (ix3 0 2 k) := by
  unfold k0_pay4
  refine (extractStridedSlice_apply _ _ _ _ (ix2 2 k) (fun a => by fin_cases a <;> simp)).trans (modRow_apply x 2 k)

/-! ## The tile -/

/-- Entry `k` of row `r` of the modulated block. -/
def hIn (x0 : Vec Ideal S1x512x1024 .f32) (x1 : Vec Ideal S1x3x1024 .f32) (r : Fin 512) (k : Fin 1024) : EReal :=
  x0 (ix3 0 r k) * (cOne + x1 (ix3 0 1 k)) + x1 (ix3 0 0 k)

theorem h_apply (x0 : Vec Ideal S1x512x1024 .f32) (x1 : Vec Ideal S1x3x1024 .f32) (r : Fin 512) (k : Fin 1024) :
    k0_pay6 x1 x0 (ix2 r k) = hIn x0 x1 r k := by
  unfold k0_pay6 hIn
  rw [truncf_apply, addf_apply, mulf_apply, squeeze_apply, brow_apply, brow_apply, addf_apply]
  refine congrArg₂ (· + ·) (congrArg₂ (· * ·) rfl (congrArg₂ (· + ·) rfl ?_)) ?_
  · exact (extractStridedSlice_apply _ _ _ _ (ix2 1 k) (fun a => by fin_cases a <;> simp)).trans (modRow_apply x1 1 k)
  · exact (extractStridedSlice_apply _ _ _ _ (ix2 0 k) (fun a => by fin_cases a <;> simp)).trans (modRow_apply x1 0 k)

/-- Entry `j` of row `r` of the first product. -/
def pr (x0 : Vec Ideal S1x512x1024 .f32) (x1 : Vec Ideal S1x3x1024 .f32) (x4 : Vec Ideal S1024x5632 .bf16) (r : Fin 512) (j : ℕ) : EReal :=
  ∑ k : Fin 1024, hIn x0 x1 r k * x4 (ix2 k (Fin.ofNat 5632 j))

theorem proj_apply (x0 : Vec Ideal S1x512x1024 .f32) (x1 : Vec Ideal S1x3x1024 .f32) (x4 : Vec Ideal S1024x5632 .bf16) (n : ℕ)
    (r : Fin 512) (c : Fin 256) : proj (k0_pay6 x1 x0) (upTile x4 n) (ix2 r c) = pr x0 x1 x4 r (n + c.val) := by
  unfold proj
  refine (Ideal.matmul_plain_apply (M := 512) (K := 1024) (N := 256) none _ _ _ r c).trans ?_
  rw [constant_apply, Ideal.ofBits_zero_f32, zero_add]
  refine sum_congr rfl fun e _ => ?_
  rw [h_apply, shapeCast_self]; rfl

theorem eq0 (r : Fin 512) (n : Fin 2) : IntOp.cmpi .eq (BitVec.ofNat 32 r.val) (BitVec.ofNat 32 n.val) = if r.val = n.val then 1#1 else 0#1 := by
  revert r n; decide +kernel

theorem rows_apply (r : Fin 512) (c : Fin 256) : rows (ix2 r c) = BitVec.ofNat 32 r.val := iota_single_apply _ _ _ _ _ _

theorem carried7_apply (hl : Vec Ideal S8x256 .f32) (r : Fin 512) (c : Fin 256) : carried7 hl (ix2 r c) = hl (ix2 7 c) := by
  unfold carried7
  rw [brow256_apply, shapeCast_self]
  exact extractStridedSlice_apply _ _ _ _ _ (fun a => by fin_cases a <;> simp)

theorem carried6_apply (hl : Vec Ideal S8x256 .f32) (r : Fin 512) (c : Fin 256) : carried6 hl (ix2 r c) = hl (ix2 6 c) := by
  unfold carried6
  rw [brow256_apply, shapeCast_self]
  exact extractStridedSlice_apply _ _ _ _ _ (fun a => by fin_cases a <;> simp)

/-- `n` rows back (`n` = 1, 2), within the tile. -/
theorem rot_apply (g : FVec Ideal S512x256 .f32) (n : ℕ) (hn : n < 512) (r : Fin 512) (c : Fin 256) (hr : n ≤ r.val) :
    dynamicRotate 0 (BitVec.ofNat 32 n) none g rotates_S512x256_d0 (ix2 r c) = g (ix2 ⟨r.val - n, by omega⟩ c) := by
  refine dynamicRotate_apply _ _ _ _ _ _ fun b => ?_
  have e : (BitVec.ofNat 32 n).toNat = n := by rw [BitVec.toNat_ofNat]; exact Nat.mod_eq_of_lt (by omega)
  match b with
  | ⟨0, _⟩ =>
    refine Eq.trans ?_ (if_pos (Fin.ext rfl)).symm
    rw [e]
    show r.val - n = (r.val + 512 - n % 512) % 512
    have := r.isLt; omega
  | ⟨1, _⟩ => exact (if_neg (fun h => by cases congrArg Fin.val h)).symm

theorem back1_apply (hl : Vec Ideal S8x256 .f32) (g : FVec Ideal S512x256 .f32) (r : Fin 512) (c : Fin 256) :
    back1 hl g (ix2 r c) = if r.val = 0 then hl (ix2 7 c) else g (ix2 ⟨r.val - 1, by omega⟩ c) := by
  unfold back1
  rw [select_apply, carried7_apply]
  show Scalar.select (IntOp.cmpi .eq (rows (ix2 r c)) (BitVec.ofNat 32 (0 : Fin 2).val)) _ _ = _
  rw [rows_apply, eq0]
  show Scalar.select (if r.val = 0 then 1#1 else 0#1) _ _ = _
  split_ifs with h
  · rfl
  · exact rot_apply g 1 (by omega) r c (by omega)

theorem back2_apply (hl : Vec Ideal S8x256 .f32) (g : FVec Ideal S512x256 .f32) (r : Fin 512) (c : Fin 256) :
    back2 hl g (ix2 r c) = if r.val = 0 then hl (ix2 6 c) else if r.val = 1 then hl (ix2 7 c) else g (ix2 ⟨r.val - 2, by omega⟩ c) := by
  unfold back2
  rw [select_apply, select_apply, carried7_apply, carried6_apply]
  show Scalar.select (IntOp.cmpi .eq (rows (ix2 r c)) (BitVec.ofNat 32 (0 : Fin 2).val)) _
    (Scalar.select (IntOp.cmpi .eq (rows (ix2 r c)) (BitVec.ofNat 32 (1 : Fin 2).val)) _ _) = _
  rw [rows_apply, eq0, eq0]
  show Scalar.select (if r.val = 0 then 1#1 else 0#1) _ (Scalar.select (if r.val = 1 then 1#1 else 0#1) _ _) = _
  by_cases h : r.val = 0
  · rw [if_pos h, if_pos h]; rfl
  by_cases h' : r.val = 1
  · rw [if_neg h, if_neg h, if_pos h', if_pos h']; rfl
  · rw [if_neg h, if_neg h, if_neg h', if_neg h']
    exact rot_apply g 2 (by omega) r c (by omega)

theorem tap_apply (cw : Vec Ideal S3x256 .f32) (n : Fin 3) {off : Fin 2 → ℕ} (hoff : off = ![n.val, 0]) (hs : S3x256.Slices off S1x256) (r : Fin 512) (c : Fin 256) :
    broadcastTo S512x256 (extractStridedSlice S1x256 off cw hs) broadcasts_S1x256_S512x256 (ix2 r c) = cw (ix2 n c) := by
  subst hoff
  rw [brow256_apply]
  exact extractStridedSlice_apply _ _ _ _ _ (fun a => by fin_cases a <;> simp)

theorem conv_apply (hl : Vec Ideal S8x256 .f32) (cw : Vec Ideal S3x256 .f32) (g : FVec Ideal S512x256 .f32) (r : Fin 512) (c : Fin 256) :
    conv hl cw g (ix2 r c) = taps (cw (ix2 0 c)) (cw (ix2 1 c)) (cw (ix2 2 c)) (back2 hl g (ix2 r c)) (back1 hl g (ix2 r c)) (g (ix2 r c)) := by
  unfold conv taps
  rw [addf_apply, addf_apply, mulf_apply, mulf_apply, mulf_apply, tap_apply cw 0 (off := ![0, 0]) rfl, tap_apply cw 1 (off := ![1, 0]) rfl,
    tap_apply cw 2 (off := ![2, 0]) rfl]

theorem gelu_apply (v : FVec Ideal S512x256 .f32) (r : Fin 512) (c : Fin 256) : gelu v (ix2 r c) = FfnSpec.gelu (v (ix2 r c)) := rfl

/-- The gate's entry `n` rows back in the block (`n` ≤ 2), from the carried rows before the block's start. -/
def prBack (x0 : Vec Ideal S1x512x1024 .f32) (x1 : Vec Ideal S1x3x1024 .f32) (x4 : Vec Ideal S1024x5632 .bf16) (hl : Vec Ideal S8x2816 .f32)
    (r : Fin 512) (j : ℕ) (n : ℕ) : EReal :=
  if r.val < n then hl (ix2 (Fin.ofNat 8 (8 + r.val - n)) (Fin.ofNat 2816 j)) else pr x0 x1 x4 (Fin.ofNat 512 (r.val - n)) (2816 + j)

/-- The block's activation. -/
def actB (x0 : Vec Ideal S1x512x1024 .f32) (x1 : Vec Ideal S1x3x1024 .f32) (x4 : Vec Ideal S1024x5632 .bf16) (x5 : Vec Ideal S3x2816 .f32)
    (hl : Vec Ideal S8x2816 .f32) (r : Fin 512) (j : ℕ) : EReal :=
  pr x0 x1 x4 r j * FfnSpec.gelu (taps (x5 (ix2 0 (Fin.ofNat 2816 j))) (x5 (ix2 1 (Fin.ofNat 2816 j))) (x5 (ix2 2 (Fin.ofNat 2816 j)))
    (prBack x0 x1 x4 hl r j 2) (prBack x0 x1 x4 hl r j 1) (prBack x0 x1 x4 hl r j 0))

theorem back1_tile (x0 : Vec Ideal S1x512x1024 .f32) (x1 : Vec Ideal S1x3x1024 .f32) (x4 : Vec Ideal S1024x5632 .bf16) (hl : Vec Ideal S8x2816 .f32)
    (n : ℕ) (r : Fin 512) (c : Fin 256) :
    back1 (haloTile hl n) (proj (k0_pay6 x1 x0) (upTile x4 (2816 + n))) (ix2 r c) = prBack x0 x1 x4 hl r (n + c.val) 1 := by
  rw [back1_apply, proj_apply]
  unfold prBack
  have hr := r.isLt
  by_cases h : r.val = 0
  · rw [if_pos h, if_pos (by omega), h]; rfl
  · rw [if_neg h, if_neg (by omega)]
    exact congrArg₂ (pr x0 x1 x4) (Fin.ext (by show r.val - 1 = (r.val - 1) % 512; omega)) (by omega)

theorem back2_tile (x0 : Vec Ideal S1x512x1024 .f32) (x1 : Vec Ideal S1x3x1024 .f32) (x4 : Vec Ideal S1024x5632 .bf16) (hl : Vec Ideal S8x2816 .f32)
    (n : ℕ) (r : Fin 512) (c : Fin 256) :
    back2 (haloTile hl n) (proj (k0_pay6 x1 x0) (upTile x4 (2816 + n))) (ix2 r c) = prBack x0 x1 x4 hl r (n + c.val) 2 := by
  rw [back2_apply, proj_apply]
  unfold prBack
  have hr := r.isLt
  by_cases h : r.val = 0
  · rw [if_pos h, if_pos (by omega), h]; rfl
  by_cases h1 : r.val = 1
  · rw [if_neg h, if_pos h1, if_pos (by omega), h1]; rfl
  · rw [if_neg h, if_neg h1, if_neg (by omega)]
    exact congrArg₂ (pr x0 x1 x4) (Fin.ext (by show r.val - 2 = (r.val - 2) % 512; omega)) (by omega)

/-- A tile's share of the second product at an entry. -/
theorem shareAt_apply (x0 : Vec Ideal S1x512x1024 .f32) (x1 : Vec Ideal S1x3x1024 .f32) (x4 : Vec Ideal S1024x5632 .bf16) (x5 : Vec Ideal S3x2816 .f32)
    (x6 : Vec Ideal S2816x1024 .bf16) (hl : Vec Ideal S8x2816 .f32) (n : ℕ) (r : Fin 512) (d : Fin 1024) :
    shareAt (k0_pay6 x1 x0) x4 x5 x6 hl n (ix2 r d)
      = ∑ c : Fin 256, actB x0 x1 x4 x5 hl r (n + c.val) * x6 (ix2 (Fin.ofNat 2816 (n + c.val)) d) := by
  unfold shareAt share
  refine (Ideal.matmul_plain_apply (M := 512) (K := 256) (N := 1024) none _ _ _ r d).trans ?_
  rw [constant_apply, Ideal.ofBits_zero_f32, zero_add]
  refine sum_congr rfl fun c _ => ?_
  rw [truncf_apply, mulf_apply, shapeCast_self, proj_apply, gelu_apply, conv_apply, back1_tile, back2_tile, proj_apply]
  refine congrArg₂ (· * ·) ?_ rfl
  unfold actB
  refine congrArg₂ (· * ·) rfl (congrArg FfnSpec.gelu ?_)
  refine congrArg (taps _ _ _ _ _) ?_
  unfold prBack
  rw [if_neg (by omega)]
  exact congrArg₂ (pr x0 x1 x4) (Fin.ext (by show r.val = (r.val - 0) % 512; have := r.isLt; omega)) (by omega)

theorem shares_apply (x0 : Vec Ideal S1x512x1024 .f32) (x1 : Vec Ideal S1x3x1024 .f32) (x4 : Vec Ideal S1024x5632 .bf16) (x5 : Vec Ideal S3x2816 .f32)
    (x6 : Vec Ideal S2816x1024 .bf16) (hl : Vec Ideal S8x2816 .f32) (n : ℕ) (r : Fin 512) (d : Fin 1024) :
    shares (k0_pay6 x1 x0) x4 x5 x6 hl n (ix2 r d)
      = ∑ j ∈ range (256 * (n + 1)), actB x0 x1 x4 x5 hl r j * x6 (ix2 (Fin.ofNat 2816 j) d) := by
  induction n with
  | zero =>
    refine (shareAt_apply x0 x1 x4 x5 x6 hl 0 r d).trans ?_
    rw [← FfnSpec.sum_tile, Nat.mul_zero, range_zero, sum_empty, zero_add]
  | succ n ih =>
    rw [← FfnSpec.sum_tile, ← ih, ← shareAt_apply]
    rfl

/-! ## The layer norm -/

theorem rowSum_apply (z : FVec Ideal S512x1024 .f32) (r : Fin 512) :
    multiReduction .add [1] S512 z 0x00000000#32 reduces_S512x1024_S512 (.inl rfl) rfl (ix1 r) = ∑ c : Fin 1024, z (ix2 r c) :=
  (Ideal.multiReduction_add_single z _ _ _ _ (ix1 r)).trans (sum_congr rfl fun k _ => congrArg z (lift_ix2 r k))

theorem rowMean_apply (z : FVec Ideal S512x1024 .f32) (r : Fin 512) : rowMean z (ix2 r 0) = mean fun k => z (ix2 r k) := by
  unfold rowMean mean
  rw [divf_apply, col_apply, rowSum_apply]
  rfl

theorem centred_apply (z : FVec Ideal S512x1024 .f32) (r : Fin 512) (d : Fin 1024) :
    centred z (ix2 r d) = z (ix2 r d) - mean fun k => z (ix2 r k) := by
  unfold centred
  rw [subf_apply, bcol_apply, rowMean_apply]

theorem normed_apply (z : FVec Ideal S512x1024 .f32) (r : Fin 512) (d : Fin 1024) :
    normed z (ix2 r d) = (z (ix2 r d) - mean fun k => z (ix2 r k))
      * Ideal.rsqrt (mean (fun k => (z (ix2 r k) - mean fun k => z (ix2 r k)) * (z (ix2 r k) - mean fun k => z (ix2 r k))) + cEps) := by
  unfold normed
  rw [mulf_apply, bcol_apply, centred_apply]
  show _ * Ideal.rsqrt (rowMean (mulf (centred z) (centred z)) (ix2 r 0) + cEps) = _
  rw [rowMean_apply]
  simp only [mulf_apply, centred_apply]

/-- The residual sum of a row of the block. -/
def residB (x0 : Vec Ideal S1x512x1024 .f32) (x1 : Vec Ideal S1x3x1024 .f32) (x4 : Vec Ideal S1024x5632 .bf16) (x5 : Vec Ideal S3x2816 .f32)
    (x6 : Vec Ideal S2816x1024 .bf16) (hl : Vec Ideal S8x2816 .f32) (r : Fin 512) (d : Fin 1024) : EReal :=
  cRootTwo * x0 (ix3 0 r d) + x1 (ix3 0 2 d) * ∑ j ∈ range 2816, actB x0 x1 x4 x5 hl r j * x6 (ix2 (Fin.ofNat 2816 j) d)

/-- The block at row `r`, column `d`. -/
theorem outBlock_apply (x0 : Vec Ideal S1x512x1024 .f32) (x1 : Vec Ideal S1x3x1024 .f32) (x2 x3 : Vec Ideal S1x1024 .f32) (x4 : Vec Ideal S1024x5632 .bf16)
    (x5 : Vec Ideal S3x2816 .f32) (x6 : Vec Ideal S2816x1024 .bf16) (hl : Vec Ideal S8x2816 .f32) (r : Fin 512) (d : Fin 1024) :
    outBlock x0 x1 x2 x3 x4 x5 x6 hl (ix3 0 r d) = FfnSpec.norm (residB x0 x1 x4 x5 x6 hl r) (x2 (ix2 0 d)) (x3 (ix2 0 d)) d := by
  have hz : ∀ k, resid (k0_pay4 x1) (k0_pay5 x0) (shares (k0_pay6 x1 x0) x4 x5 x6 hl 10) (ix2 r k) = residB x0 x1 x4 x5 x6 hl r k := fun k => by
    unfold resid residB
    rw [addf_apply, mulf_apply, mulf_apply, brow_apply, gate_apply, squeeze_apply, shares_apply]
    rfl
  unfold outBlock k0_pay1
  refine (shapeCast_apply _ _ _ (ix2 r d) (by
    rw [Shape.rowMajor_val_three, Shape.rowMajor_val_two]; show r.val * 1024 + d.val = (0 * 512 + r.val) * 1024 + d.val; omega)).trans ?_
  unfold k0_pay90 k0_pay92
  rw [addf_apply, mulf_apply, brow_apply, brow_apply, shapeCast_self, shapeCast_self, normed_apply]
  simp only [hz]
  rfl

/-- The carried rows: row `8 - n` of them is the gate's row `512 - n`. -/
theorem carry_apply (x0 : Vec Ideal S1x512x1024 .f32) (x1 : Vec Ideal S1x3x1024 .f32) (x4 : Vec Ideal S1024x5632 .bf16) (q : Fin 8) (j : Fin 2816) :
    carry x0 x1 x4 (ix2 q j) = pr x0 x1 x4 (Fin.ofNat 512 (504 + q.val)) (2816 + j.val) := by
  have hq := q.isLt
  have hj := j.isLt
  show tailRows (proj (k0_pay6 x1 x0) (upTile x4 (2816 + 256 * (j.val / 256)))) (ix2 q (Fin.ofNat 256 (j.val % 256))) = _
  unfold tailRows
  rw [shapeCast_self]
  refine (extractStridedSlice_apply _ _ _ _ (ix2 (Fin.ofNat 512 (504 + q.val)) (Fin.ofNat 256 (j.val % 256))) (fun a => ?_)).trans ?_
  · match a with
    | ⟨0, _⟩ => show (504 + q.val) % 512 = 504 + q.val; omega
    | ⟨1, _⟩ => show j.val % 256 % 256 = 0 + j.val % 256 % 256; omega
  · rw [proj_apply]
    exact congrArg (pr x0 x1 x4 _) (by show 2816 + 256 * (j.val / 256) + j.val % 256 % 256 = _; omega)

end Cert.FfnIdeal.Block

end
-- ==== Proof.EvenRow.lean ====
/- The even layers' input projection, read at an index over the extended reals: the products with the weights' columns, the
   convolution, the gates. -/
module

public import proofs.«01_k».proof.Proof.Gen.EvenProjIdeal.Skeleton
public import proofs.«01_k».proof.Proof.EvenSpec
public import proofs.«01_k».proof.Proof.FfnRow
public import Idealize.ShloMosaic.Lib.ValueIdx
public import Idealize.ShloMosaic.Lib.MatmulPlain
public import Idealize.ShloMosaic.PureOps.Ideal.Laws

@[expose] public section

set_option maxRecDepth 16384

noncomputable section

namespace Cert.EvenProjIdeal.Block

open Idealize.ShloMosaic Idealize.ShloMosaic.TcCoe Idealize.ShloMosaic.ValueIdx Cert.EvenProjIdeal Cert.EvenProjIdeal.Gen
open Cert.EvenSpec (cKey logis silu logSig taps)
open Cert.FfnSpec (cOne)
open Finset

/-! ## The products -/

/-- `w` columns of the weights, from column `n` on. -/
def cols (x : Vec Ideal S1024x2688 .bf16) (w n : ℕ) : Vec Ideal ⟨2, ![1024, w]⟩ .bf16 :=
  fun y => x (ix2 (y 0) (Fin.ofNat 2688 (n + (y 1).val)))

/-- Entry `e` of row `r` of the product. -/
def u (x0 : Vec Ideal S1x512x1024 .f32) (x1 : Vec Ideal S1x3x1024 .f32) (x2 : Vec Ideal S1024x2688 .bf16) (r : Fin 512) (e : ℕ) : EReal :=
  ∑ k : Fin 1024, FfnIdeal.Block.hIn x0 x1 r k * x2 (ix2 k (Fin.ofNat 2688 e))

theorem z_apply {e : FTy} (x : FVec Ideal S512x512 e) (a : Fin 1) (r c : Fin 512) (h : S512x512.ShapeCasts S1x512x512) :
    shapeCast S1x512x512 x h (ix3 a r c) = x (ix2 r c) := by
  obtain rfl : a = 0 := Subsingleton.elim _ _
  exact shapeCast_apply x _ _ _ (by
    rw [Shape.rowMajor_val_two, Shape.rowMajor_val_three]; show r.val * 512 + c.val = (0 * 512 + r.val) * 512 + c.val; omega)

/-- The queries' and keys' product. -/
theorem qk_apply (x0 : Vec Ideal S1x512x1024 .f32) (x1 : Vec Ideal S1x3x1024 .f32) (x2 : Vec Ideal S1024x2688 .bf16) (r : Fin 512) (c : Fin 1024) :
    k0_pay9 x1 x0 (cols x2 1024 512) (ix2 r c) = u x0 x1 x2 r (512 + c.val) := by
  unfold k0_pay9
  rw [shapeCast_self, shapeCast_self]
  refine (Ideal.matmul_plain_apply (M := 512) (K := 1024) (N := 1024) (φ₂ := .bf16) none _ _ _ r c).trans ?_
  rw [constant_apply, Ideal.ofBits_zero_f32, zero_add]
  exact sum_congr rfl fun k _ => congrArg₂ (· * ·) (FfnIdeal.Block.h_apply x0 x1 r k) rfl

/-- The values. -/
theorem v_apply (x0 : Vec Ideal S1x512x1024 .f32) (x1 : Vec Ideal S1x3x1024 .f32) (x2 : Vec Ideal S1024x2688 .bf16) (a : Fin 1) (r c : Fin 512) :
    k0_pay11 (k0_pay10 x1 x0 (cols x2 512 1536)) (ix3 a r c) = u x0 x1 x2 r (1536 + c.val) := by
  unfold k0_pay11 k0_pay10
  refine (z_apply _ a r c _).trans ?_
  rw [shapeCast_self, truncf_apply]
  refine (Ideal.matmul_plain_apply (M := 512) (K := 1024) (N := 512) (φ₂ := .bf16) none _ _ _ r c).trans ?_
  rw [constant_apply, Ideal.ofBits_zero_f32, zero_add]
  exact sum_congr rfl fun k _ => congrArg₂ (· * ·) (FfnIdeal.Block.h_apply x0 x1 r k) rfl

/-- The output's gate. -/
theorem o_apply (x0 : Vec Ideal S1x512x1024 .f32) (x1 : Vec Ideal S1x3x1024 .f32) (x2 : Vec Ideal S1024x2688 .bf16) (a : Fin 1) (r c : Fin 512) :
    k0_pay12 (k0_pay7 x1 x0) (cols x2 512 2048) (ix3 a r c) = logis (u x0 x1 x2 r (2048 + c.val)) := by
  unfold k0_pay12 logis
  refine (z_apply _ a r c _).trans ?_
  refine congrArg (fun z => Ideal.div cOne (cOne + Ideal.exp z)) ?_
  rw [subf_apply]
  refine (congrArg₂ (· - ·) Ideal.ofBits_zero_f32 ?_).trans (zero_sub _)
  rw [shapeCast_self]
  refine (Ideal.matmul_plain_apply (M := 512) (K := 1024) (N := 512) (φ₂ := .bf16) none _ _ _ r c).trans ?_
  rw [constant_apply, Ideal.ofBits_zero_f32, zero_add]
  exact sum_congr rfl fun k _ => congrArg₂ (· * ·) (FfnIdeal.Block.h_apply x0 x1 r k) rfl

/-! ## The gates -/

/-- Gate `j` of row `r`, before the logarithm. -/
def gt (x0 : Vec Ideal S1x512x1024 .f32) (x1 : Vec Ideal S1x3x1024 .f32) (x2 : Vec Ideal S1024x2688 .bf16) (x3 : Vec Ideal S1x128 .f32)
    (r : Fin 512) (j : Fin 128) : EReal := u x0 x1 x2 r (2560 + j.val) + x3 (ix2 0 j)

theorem late (j : Fin 128) : IntOp.cmpi .sge (BitVec.ofNat 32 j.val) 4#32 = if j.val < 4 then 0#1 else 1#1 := by
  revert j; decide +kernel

theorem gate_apply (x0 : Vec Ideal S1x512x1024 .f32) (x1 : Vec Ideal S1x3x1024 .f32) (x2 : Vec Ideal S1024x2688 .bf16) (x3 : Vec Ideal S1x128 .f32)
    (r : Fin 512) (j : Fin 128) : k0_pay13 (k0_pay7 x1 x0) (cols x2 128 2560) x3 (ix2 r j)
      = if j.val < 4 then gt x0 x1 x2 x3 r j else logSig (gt x0 x1 x2 x3 r j) := by
  unfold k0_pay13
  have hg : ∀ (z : FVec Ideal S512x128 .f32) (b : FVec Ideal S1x128 .f32), z = matmul (φ₂ := .bf16) dot_S512x1024_S1024x128_S512x128_1_0_0_1_n_n none (k0_pay7 x1 x0) (cols x2 128 2560) (constant S512x128 .f32 0x00000000#32) →
      b = x3 → addf z (broadcastTo S512x128 b broadcasts_S1x128_S512x128) (ix2 r j) = gt x0 x1 x2 x3 r j := by
    rintro z b rfl rfl
    unfold gt
    rw [addf_apply]
    refine congrArg₂ (· + ·) ?_ (broadcastTo_apply _ _ _ (ix2 0 j) (fun a => by fin_cases a <;> rfl))
    refine (Ideal.matmul_plain_apply (M := 512) (K := 1024) (N := 128) (φ₂ := .bf16) none _ _ _ r j).trans ?_
    rw [constant_apply, Ideal.ofBits_zero_f32, zero_add]
    exact sum_congr rfl fun k _ => congrArg₂ (· * ·) (FfnIdeal.Block.h_apply x0 x1 r k) rfl
  rw [shapeCast_self, shapeCast_self]
  have h := hg _ _ rfl rfl
  dsimp only
  generalize addf (matmul (φ₂ := .bf16) dot_S512x1024_S1024x128_S512x128_1_0_0_1_n_n none (k0_pay7 x1 x0) (cols x2 128 2560) (constant S512x128 .f32 0x00000000#32))
    (broadcastTo S512x128 x3 broadcasts_S1x128_S512x128) = g at h ⊢
  have hi : iota .tc S512x128 32 [1] iota_S512x128_d1_w32 (ix2 r j) = BitVec.ofNat 32 j.val := iota_single_apply _ _ _ _ _ _
  show (if IntOp.cmpi .sge (iota .tc S512x128 32 [1] iota_S512x128_d1_w32 (ix2 r j)) 4#32 = 1#1
    then min (g (ix2 r j)) (Ideal.ofBits .f32 0x00000000#32) - Ideal.log1p (Ideal.exp (Ideal.ofBits .f32 0x00000000#32 - max (g (ix2 r j)) (-g (ix2 r j)))) else g (ix2 r j)) = _
  rw [hi, late, h, Ideal.ofBits_zero_f32, zero_sub]
  by_cases hj : j.val < 4
  · rw [if_pos hj, if_pos hj, if_neg (by decide)]
  · rw [if_neg hj, if_neg hj, if_pos rfl]; rfl

/-- The eight gates, a row for each. -/
theorem g_apply (z : FVec Ideal S512x128 .f32) (a : Fin 1) (j : Fin 8) (r : Fin 512) : k0_pay15 z (ix3 a j r) = z (ix2 r ⟨j.val, by omega⟩) := by
  obtain rfl : a = 0 := Subsingleton.elim _ _
  unfold k0_pay15
  refine (shapeCast_apply _ _ _ (ix2 j r) (by
    rw [Shape.rowMajor_val_two, Shape.rowMajor_val_three]; show j.val * 512 + r.val = (0 * 8 + j.val) * 512 + r.val; omega)).trans ?_
  refine (extractStridedSlice_apply _ _ _ _ (ix2 ⟨j.val, by omega⟩ r) (fun b => by fin_cases b <;> simp)).trans ?_
  exact transpose_apply _ _ _ _ _ (fun b => by fin_cases b <;> rfl)

/-! ## The convolution -/

theorem tap_apply (x : Vec Ideal S4x1024 .f32) (n : ℕ) (hn : n < 4) (h : S4x1024.Slices ![n, 0] S1x1024) (r : Fin 512) (c : Fin 1024) :
    broadcastTo S512x1024 (extractStridedSlice S1x1024 ![n, 0] x h) broadcasts_S1x1024_S512x1024 (ix2 r c) = x (ix2 ⟨n, hn⟩ c) :=
  (FfnIdeal.Block.brow_apply _ r c).trans (extractStridedSlice_apply _ _ _ _ (ix2 ⟨n, hn⟩ c) (fun a => by fin_cases a <;> simp))

theorem conv_apply (x6 : Vec Ideal S4x1024 .f32) (g0 g3 g2 g1 : Vec Ideal S512x1024 .f32) (r : Fin 512) (c : Fin 1024) :
    k0_pay25 x6 g0 g3 g2 g1 (ix2 r c) = taps (x6 (ix2 0 c)) (x6 (ix2 1 c)) (x6 (ix2 2 c)) (x6 (ix2 3 c))
      (g0 (ix2 r c)) (g1 (ix2 r c)) (g2 (ix2 r c)) (g3 (ix2 r c)) := by
  unfold k0_pay25 taps
  rw [addf_apply, addf_apply, addf_apply, mulf_apply, mulf_apply, mulf_apply, mulf_apply,
    tap_apply x6 0 (by decide), tap_apply x6 1 (by decide), tap_apply x6 2 (by decide), tap_apply x6 3 (by decide)]
  show g0 (ix2 r c) * x6 (ix2 3 c) + g3 (ix2 r c) * x6 (ix2 0 c) + g2 (ix2 r c) * x6 (ix2 1 c) + g1 (ix2 r c) * x6 (ix2 2 c) = _
  ac_rfl

theorem silu_apply (z : FVec Ideal S512x1024 .f32) (r : Fin 512) (c : Fin 1024) : k0_pay1 z (ix2 r c) = silu (z (ix2 r c)) := by
  unfold k0_pay1 silu logis
  refine congrArg (fun y => z (ix2 r c) * Ideal.div cOne (cOne + Ideal.exp y)) ?_
  rw [subf_apply]
  exact (congrArg (· - z (ix2 r c)) Ideal.ofBits_zero_f32).trans (zero_sub _)

theorem q_apply (z : FVec Ideal S512x1024 .f32) (a : Fin 1) (r c : Fin 512) : k0_pay2 z (ix3 a r c) = silu (z (ix2 r ⟨c.val, by omega⟩)) := by
  unfold k0_pay2
  refine (z_apply _ a r c _).trans ?_
  rw [truncf_apply]
  exact (extractStridedSlice_apply _ _ _ _ (ix2 r ⟨c.val, by omega⟩) (fun a => by fin_cases a <;> simp)).trans (silu_apply z r _)

theorem k_apply (z : FVec Ideal S512x1024 .f32) (a : Fin 1) (r c : Fin 512) : k0_pay3 z (ix3 a r c) = silu (z (ix2 r ⟨512 + c.val, by omega⟩)) * cKey := by
  unfold k0_pay3
  refine (z_apply _ a r c _).trans ?_
  rw [truncf_apply, mulf_apply]
  refine congrArg₂ (· * ·) ?_ rfl
  exact (extractStridedSlice_apply _ _ slices_S512x1024_o0_512_S512x512 _ (ix2 r ⟨512 + c.val, by omega⟩) (fun a => by fin_cases a <;> simp)).trans (silu_apply z r _)

end Cert.EvenProjIdeal.Block

end
-- ==== Proof.EvenState.lean ====
/- What one grid point of the even layers' input projection leaves in five of its output blocks and in the rows of the
   queries' and keys' product it carries to the next point. -/
module

public import proofs.«01_k».proof.Proof.Gen.EvenProjIdeal.Frame
public import proofs.«01_k».proof.Proof.EvenRow
public import Idealize.ShloMosaic.Lib.Pipeline.Value
public import Idealize.ShloMosaic.Lib.Pipeline.ValueKit.Tiles

@[expose] public section

set_option maxRecDepth 16384

noncomputable section

namespace Cert.EvenProjIdeal.Block

open Idealize.ShloMosaic Idealize.ShloMosaic.TcCoe Idealize.ShloMosaic.ValueIdx Idealize.ShloMosaic.Tactic Cert.EvenProjIdeal Cert.EvenProjIdeal.Gen

/-! ## The rows kept between points -/

/-- The kept rows: eight from before the block, then the block's. -/
def buf (h : Vec Ideal S8x1024 .f32) (z : FVec Ideal S512x1024 .f32) : Vec Ideal S520x1024 .f32 := fun y =>
  if (y 0).val < 8 then h (ix2 (Fin.ofNat 8 (y 0).val) (y 1)) else z (ix2 (Fin.ofNat 512 ((y 0).val - 8)) (y 1))

/-- 512 of the kept rows, from row `n` on. -/
def rowsFrom (x : Vec Ideal S520x1024 .f32) (n : ℕ) : Vec Ideal S512x1024 .f32 := fun y => x (ix2 (Fin.ofNat 520 (n + (y 0).val)) (y 1))

/-- The first eight of the kept rows, and the last eight of a block. -/
def top (x : Vec Ideal S520x1024 .f32) : Vec Ideal S8x1024 .f32 := fun y => x (ix2 (Fin.ofNat 520 (y 0).val) (y 1))
def last (z : FVec Ideal S512x1024 .f32) : Vec Ideal S8x1024 .f32 := fun y => z (ix2 (Fin.ofNat 512 (504 + (y 0).val)) (y 1))

theorem ld_rows (x : Vec Ideal S520x1024 .f32) (n : ℕ) (inb : ∀ a, (![n, 0] : Fin 2 → ℕ) a + (![512, 1024] : Fin 2 → ℕ) a ≤ S520x1024.size a) :
    View.ld x (Rect.unit (s := S520x1024) ![n, 0] ![512, 1024] inb) = rowsFrom x n := by
  funext y
  have h0 : (y 0).val < 512 := (y 0).isLt
  have h1 : n + 512 ≤ 520 := inb 0
  refine congrArg x (funext fun a => Fin.ext ?_)
  match a with
  | ⟨0, _⟩ => show n + 1 * (y 0).val = (n + (y 0).val) % 520; rw [Nat.mod_eq_of_lt (by omega)]; omega
  | ⟨1, _⟩ => show 0 + 1 * (y 1).val = (y 1).val; omega

/-- The block's rows, once stored. -/
theorem canon_block (L : List (View.Piece (Elt Ideal) S520x1024 .f32)) (z : FVec Ideal S512x1024 .f32)
    (inb : ∀ a, (![8, 0] : Fin 2 → ℕ) a + (![512, 1024] : Fin 2 → ℕ) a ≤ S520x1024.size a) (h : Vec Ideal S8x1024 .f32)
    (y : S520x1024.Idx) (hy : ¬(y 0).val < 8) :
    View.canon ((⟨Rect.unit (s := S520x1024) ![8, 0] ![512, 1024] inb, z⟩ : View.Piece (Elt Ideal) S520x1024 .f32) :: L) y = buf h z y := by
  have h0 : (y 0).val < 520 := (y 0).isLt
  have e : y = (Rect.unit (s := S520x1024) ![8, 0] ![512, 1024] inb).emb (ix2 (Fin.ofNat 512 ((y 0).val - 8)) (y 1) : S512x1024.Idx) := by
    funext a; apply Fin.ext
    match a with
    | ⟨0, _⟩ => show (y 0).val = 8 + 1 * (((y 0).val - 8) % 512); omega
    | ⟨1, _⟩ => show (y 1).val = 0 + 1 * (y 1).val; omega
  unfold buf
  rw [if_neg hy]
  conv_lhs => rw [e]
  exact View.canon_cons_emb _ _ _ _

/-- A row before the block isn't one of the block's. -/
theorem not_block (inb : ∀ a, (![8, 0] : Fin 2 → ℕ) a + (![512, 1024] : Fin 2 → ℕ) a ≤ S520x1024.size a) (y : S520x1024.Idx) (hy : (y 0).val < 8) :
    y ∉ (Rect.unit (s := S520x1024) ![8, 0] ![512, 1024] inb).set := by
  rw [Rect.mem_set_unit]
  intro hm
  have h1 : 8 ≤ (y 0).val := (hm 0).1
  omega

/-- The eight rows, once stored. -/
theorem canon_halo (L : List (View.Piece (Elt Ideal) S520x1024 .f32)) (z : FVec Ideal S512x1024 .f32)
    (inb : ∀ a, (![0, 0] : Fin 2 → ℕ) a + (![8, 1024] : Fin 2 → ℕ) a ≤ S520x1024.size a) (h : Vec Ideal S8x1024 .f32)
    (y : S520x1024.Idx) (hy : (y 0).val < 8) :
    View.canon ((⟨Rect.unit (s := S520x1024) ![0, 0] ![8, 1024] inb, h⟩ : View.Piece (Elt Ideal) S520x1024 .f32) :: L) y = buf h z y := by
  have e : y = (Rect.unit (s := S520x1024) ![0, 0] ![8, 1024] inb).emb (ix2 (Fin.ofNat 8 (y 0).val) (y 1) : S8x1024.Idx) := by
    funext a; apply Fin.ext
    match a with
    | ⟨0, _⟩ => show (y 0).val = 0 + 1 * ((y 0).val % 8); omega
    | ⟨1, _⟩ => show (y 1).val = 0 + 1 * (y 1).val; omega
  unfold buf
  rw [if_pos hy]
  conv_lhs => rw [e]
  exact View.canon_cons_emb _ _ _ _

/-- The block stored over eight rows stored before. -/
theorem canon_both (z : FVec Ideal S512x1024 .f32) (h : Vec Ideal S8x1024 .f32)
    (inb : ∀ a, (![8, 0] : Fin 2 → ℕ) a + (![512, 1024] : Fin 2 → ℕ) a ≤ S520x1024.size a)
    (inb' : ∀ a, (![0, 0] : Fin 2 → ℕ) a + (![8, 1024] : Fin 2 → ℕ) a ≤ S520x1024.size a) :
    View.canon [(⟨Rect.unit (s := S520x1024) ![8, 0] ![512, 1024] inb, z⟩ : View.Piece (Elt Ideal) S520x1024 .f32),
      ⟨Rect.unit (s := S520x1024) ![0, 0] ![8, 1024] inb', h⟩] = buf h z := by
  funext y
  by_cases hy : (y 0).val < 8
  · rw [View.canon_cons_of_not_mem]
    · exact canon_halo _ z inb' h y hy
    · exact not_block inb y hy
  · exact canon_block _ z inb h y hy

/-- Eight rows stored over the block. -/
theorem canon_after (L : List (View.Piece (Elt Ideal) S520x1024 .f32)) (z : FVec Ideal S512x1024 .f32) (h : Vec Ideal S8x1024 .f32)
    (inb : ∀ a, (![8, 0] : Fin 2 → ℕ) a + (![512, 1024] : Fin 2 → ℕ) a ≤ S520x1024.size a)
    (inb' : ∀ a, (![0, 0] : Fin 2 → ℕ) a + (![8, 1024] : Fin 2 → ℕ) a ≤ S520x1024.size a) :
    View.canon ((⟨Rect.unit (s := S520x1024) ![0, 0] ![8, 1024] inb', h⟩ : View.Piece (Elt Ideal) S520x1024 .f32)
      :: ⟨Rect.unit (s := S520x1024) ![8, 0] ![512, 1024] inb, z⟩ :: L) = buf h z := by
  funext y
  by_cases hy : (y 0).val < 8
  · exact canon_halo _ z inb' h y hy
  · rw [View.canon_cons_of_not_mem]
    · exact canon_block _ z inb h y hy
    · rw [Rect.mem_set_unit]
      intro hm
      have h1 : (y 0).val < 0 + 8 := (hm 0).2
      omega

/-- The convolution's block, of the eight rows before and the block's own. -/
def convBlock (x0 : Vec Ideal S1x512x1024 .f32) (x1 : Vec Ideal S1x3x1024 .f32) (x2 : Vec Ideal S1024x2688 .bf16) (x6 : Vec Ideal S4x1024 .f32)
    (h : Vec Ideal S8x1024 .f32) : FVec Ideal S512x1024 .f32 :=
  k0_pay25 x6 (rowsFrom (buf h (k0_pay9 x1 x0 (cols x2 1024 512))) 8) (rowsFrom (buf h (k0_pay9 x1 x0 (cols x2 1024 512))) 5)
    (rowsFrom (buf h (k0_pay9 x1 x0 (cols x2 1024 512))) 6) (rowsFrom (buf h (k0_pay9 x1 x0 (cols x2 1024 512))) 7)

section Case
variable (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S1024x2688 .bf16) (harg4 : arg4.IsWhole) (arg5 : Memref sig .tc .vmem S1x128 .f32) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S4x1024 .f32) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .f32) (harg13 : arg13.IsWhole) (arg14 : Memref sig .tc .vmem S1x512x128 .f32) (harg14 : arg14.IsWhole) (arg15 : Memref sig .tc .vmem S1x8x512 .f32) (harg15 : arg15.IsWhole) (arg16 : Memref sig .tc .vmem S528x512 .f32) (harg16 : arg16.IsWhole) (arg17 : Memref sig .tc .vmem S520x1024 .f32) (harg17 : arg17.IsWhole)
  (x0 : Vec Ideal S1x512x1024 .f32) (x1 : Vec Ideal S1x3x1024 .f32) (x2 : Vec Ideal S1024x2688 .bf16) (x3 : Vec Ideal S1x128 .f32) (x4 : Vec Ideal S4x128x128 .bf16) (x5 : Vec Ideal S1x512 .f32) (x6 : Vec Ideal S4x1024 .f32)

theorem r0 (inb : ∀ a, (![0, 0, 0] : Fin 3 → ℕ) a + S1x512x1024.size a ≤ S1x512x1024.size a) :
    arg2.view.readAt (Elt Ideal) (Rect.unit (s := S1x512x1024) ![0, 0, 0] ![1, 512, 1024] inb).toLoadRect (harg2.unread x0) = x0 := by
  rw [View.readAt_eq_ld, harg2.read_unread]; exact View.ld_unit_zero FfnIdeal.Block.z3 _ _
theorem r1 (inb : ∀ a, (![0, 0, 0] : Fin 3 → ℕ) a + S1x3x1024.size a ≤ S1x3x1024.size a) :
    arg3.view.readAt (Elt Ideal) (Rect.unit (s := S1x3x1024) ![0, 0, 0] ![1, 3, 1024] inb).toLoadRect (harg3.unread x1) = x1 := by
  rw [View.readAt_eq_ld, harg3.read_unread]; exact View.ld_unit_zero FfnIdeal.Block.z3 _ _
theorem r3 (inb : ∀ a, (![0, 0] : Fin 2 → ℕ) a + S1x128.size a ≤ S1x128.size a) :
    arg5.view.readAt (Elt Ideal) (Rect.unit (s := S1x128) ![0, 0] ![1, 128] inb).toLoadRect (harg5.unread x3) = x3 := by
  rw [View.readAt_eq_ld, harg5.read_unread]; exact View.ld_unit_zero FfnIdeal.Block.z2 _ _
theorem r6 (inb : ∀ a, (![0, 0] : Fin 2 → ℕ) a + S4x1024.size a ≤ S4x1024.size a) :
    arg8.view.readAt (Elt Ideal) (Rect.unit (s := S4x1024) ![0, 0] ![4, 1024] inb).toLoadRect (harg8.unread x6) = x6 := by
  rw [View.readAt_eq_ld, harg8.read_unread]; exact View.ld_unit_zero FfnIdeal.Block.z2 _ _
theorem r2 (w n : ℕ) (inb : ∀ a, (![0, n] : Fin 2 → ℕ) a + (![1024, w] : Fin 2 → ℕ) a ≤ S1024x2688.size a) :
    arg4.view.readAt (Elt Ideal) (Rect.unit (s := S1024x2688) ![0, n] ![1024, w] inb).toLoadRect (harg4.unread x2) = cols x2 w n := by
  rw [View.readAt_eq_ld, harg4.read_unread]
  funext y
  have h0 : (y 1).val < w := (y 1).isLt
  have h1 : n + w ≤ 2688 := inb 1
  refine congrArg x2 (funext fun a => Fin.ext ?_)
  match a with
  | ⟨0, _⟩ => show 0 + 1 * (y 0).val = (y 0).val; omega
  | ⟨1, _⟩ => show n + 1 * (y 1).val = (n + (y 1).val) % 2688; rw [Nat.mod_eq_of_lt (by omega)]; omega

/-- The kept rows, loaded after the block was stored over a start of zeros. -/
theorem rz (z : FVec Ideal S512x1024 .f32) (h : Vec Ideal S8x1024 .f32) (n : ℕ)
    (inb : ∀ a, (![8, 0] : Fin 2 → ℕ) a + (![512, 1024] : Fin 2 → ℕ) a ≤ S520x1024.size a)
    (inb' : ∀ a, (![0, 0] : Fin 2 → ℕ) a + (![8, 1024] : Fin 2 → ℕ) a ≤ S520x1024.size a)
    (inb'' : ∀ a, (![n, 0] : Fin 2 → ℕ) a + (![512, 1024] : Fin 2 → ℕ) a ≤ S520x1024.size a) :
    arg17.view.readCov [(⟨Rect.unit (s := S520x1024) ![8, 0] ![512, 1024] inb, z⟩ : View.Piece (Elt Ideal) S520x1024 .f32),
      ⟨Rect.unit (s := S520x1024) ![0, 0] ![8, 1024] inb', h⟩] (Rect.unit (s := S520x1024) ![n, 0] ![512, 1024] inb'').toLoadRect = rowsFrom (buf h z) n := by
  rw [View.readCov_eq_canon', canon_both, ← ld_rows _ _ inb'']

/-- The block's own rows, loaded after it was stored. -/
theorem rb (L : List (View.Piece (Elt Ideal) S520x1024 .f32)) (z : FVec Ideal S512x1024 .f32) (h : Vec Ideal S8x1024 .f32)
    (inb : ∀ a, (![8, 0] : Fin 2 → ℕ) a + (![512, 1024] : Fin 2 → ℕ) a ≤ S520x1024.size a) :
    arg17.view.readCov ((⟨Rect.unit (s := S520x1024) ![8, 0] ![512, 1024] inb, z⟩ : View.Piece (Elt Ideal) S520x1024 .f32) :: L)
      (Rect.unit (s := S520x1024) ![8, 0] ![512, 1024] inb).toLoadRect = rowsFrom (buf h z) 8 := by
  rw [View.readCov_eq_canon', ← ld_rows _ _ inb]
  funext j
  exact canon_block _ z inb h _ (by show ¬8 + 1 * (j 0).val < 8; omega)

/-- The block's last eight rows, loaded after it was stored. -/
theorem rl (L : List (View.Piece (Elt Ideal) S520x1024 .f32)) (z : FVec Ideal S512x1024 .f32)
    (inb : ∀ a, (![8, 0] : Fin 2 → ℕ) a + (![512, 1024] : Fin 2 → ℕ) a ≤ S520x1024.size a)
    (inb' : ∀ a, (![512, 0] : Fin 2 → ℕ) a + (![8, 1024] : Fin 2 → ℕ) a ≤ S520x1024.size a) :
    arg17.view.readCov ((⟨Rect.unit (s := S520x1024) ![8, 0] ![512, 1024] inb, z⟩ : View.Piece (Elt Ideal) S520x1024 .f32) :: L)
      (Rect.unit (s := S520x1024) ![512, 0] ![8, 1024] inb').toLoadRect = last z := by
  rw [View.readCov_eq_canon']
  funext j
  have hj : (j 0).val < 8 := (j 0).isLt
  refine (canon_block _ z inb (fun _ => 0) _ (by show ¬512 + 1 * (j 0).val < 8; omega)).trans ?_
  unfold buf last
  rw [if_neg (by show ¬512 + 1 * (j 0).val < 8; omega)]
  refine congrArg z (funext fun a => Fin.ext ?_)
  match a with
  | ⟨0, _⟩ => show (512 + 1 * (j 0).val - 8) % 512 = (504 + (j 0).val) % 512; omega
  | ⟨1, _⟩ => show 0 + 1 * (j 1).val = (j 1).val; omega

/-- The kept rows, loaded after the block was stored over the rows the point before left. -/
theorem rs (xs1 : Vec Ideal S520x1024 .f32) (z : FVec Ideal S512x1024 .f32) (n : ℕ)
    (inb : ∀ a, (![8, 0] : Fin 2 → ℕ) a + (![512, 1024] : Fin 2 → ℕ) a ≤ S520x1024.size a)
    (inb'' : ∀ a, (![n, 0] : Fin 2 → ℕ) a + (![512, 1024] : Fin 2 → ℕ) a ≤ S520x1024.size a) :
    arg17.view.readAt (Elt Ideal) (Rect.unit (s := S520x1024) ![n, 0] ![512, 1024] inb'').toLoadRect
      (arg17.view.writes (Elt Ideal) (harg17.unread xs1) [⟨Rect.unit (s := S520x1024) ![8, 0] ![512, 1024] inb, z⟩]) = rowsFrom (buf (top xs1) z) n := by
  rw [View.readAt_eq_ld, ← ld_rows _ _ inb'']
  refine congrArg (fun f => View.ld f (Rect.unit (s := S520x1024) ![n, 0] ![512, 1024] inb'')) ?_
  funext y
  by_cases hy : (y 0).val < 8
  · rw [View.read_writes_apply_of_forall_not_mem, harg17.read_unread]
    · unfold buf top
      rw [if_pos hy]
      refine congrArg xs1 (funext fun a => Fin.ext ?_)
      match a with
      | ⟨0, _⟩ => show (y 0).val = (y 0).val % 8 % 520; omega
      | ⟨1, _⟩ => rfl
    · intro p hp
      obtain rfl := List.mem_singleton.1 hp
      exact not_block inb y hy
  · refine Eq.trans ?_ (canon_block [] z inb (top xs1) y hy)
    rw [← View.read_writes_junk_eq_canon arg17.view]
    refine View.read_writes_apply_eq _ _ _ _ y _ ⟨_, List.mem_singleton.2 rfl, ?_⟩
    have h0 : (y 0).val < 520 := (y 0).isLt
    have h1 : (y 1).val < 1024 := (y 1).isLt
    rw [Rect.mem_set_unit]
    intro a
    match a with
    | ⟨0, _⟩ => exact ⟨by show 8 ≤ (y 0).val; omega, by show (y 0).val < 8 + 512; omega⟩
    | ⟨1, _⟩ => exact ⟨Nat.zero_le _, by show (y 1).val < 0 + 1024; omega⟩

/-! ### A point that starts a sequence -/

/-- The queries' block. -/
theorem out8_A (hc0 : cond0_0 i) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6
      = k0_pay2 (convBlock x0 x1 x2 x6 (k0_pay6 (F := Ideal))) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6)]
  unfold kernelRun0_A
  dsimp only
  sl_unfold_words
  rw [View.canon_unit_zero FfnIdeal.Block.z3]
  simp only [r0, r1, r2, r6, rz, convBlock]

/-- The keys' block. -/
theorem out9_A (hc0 : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6
      = k0_pay3 (convBlock x0 x1 x2 x6 (k0_pay6 (F := Ideal))) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6)]
  unfold kernelRun0_A
  dsimp only
  sl_unfold_words
  rw [View.canon_unit_zero FfnIdeal.Block.z3]
  simp only [r0, r1, r2, r6, rz, convBlock]

/-- The values' block. -/
theorem out10_A (hc0 : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6
      = k0_pay11 (k0_pay10 x1 x0 (cols x2 512 1536)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6)]
  unfold kernelRun0_A
  dsimp only
  sl_unfold_words
  rw [View.canon_unit_zero FfnIdeal.Block.z3]
  simp only [r0, r1, r2]

/-- The output gate's block. -/
theorem out11_A (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6
      = k0_pay12 (k0_pay7 x1 x0) (cols x2 512 2048) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6)]
  unfold kernelRun0_A
  dsimp only
  sl_unfold_words
  rw [View.canon_unit_zero FfnIdeal.Block.z3]
  simp only [r0, r1, r2]

/-- The gates' block. -/
theorem out13_A (hc0 : cond0_0 i) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6
      = k0_pay15 (k0_pay13 (k0_pay7 x1 x0) (cols x2 128 2560) x3) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6)]
  unfold kernelRun0_A
  dsimp only
  sl_unfold_words
  rw [View.canon_unit_zero FfnIdeal.Block.z3]
  simp only [r0, r1, r2, r3]

/-- The rows a point keeps: its last eight, then its block's. -/
theorem sout_A (hc0 : cond0_0 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6
      = buf (last (k0_pay9 x1 x0 (cols x2 1024 512))) (k0_pay9 x1 x0 (cols x2 1024 512)) := by
  unfold sout0_A_1
  rw [View.read_writes_junk_eq_canon]
  unfold kernelRun0_A
  dsimp only
  sl_unfold_words
  simp only [r0, r1, r2, rl, k0_pay4, shapeCast_self]
  exact canon_after _ _ _ _ _

/-! ### A point that goes on from the one before -/

/-- The queries' block. -/
theorem out8_B (hc0 : ¬cond0_0 i) (xs0 : Vec Ideal S528x512 .f32) (xs1 : Vec Ideal S520x1024 .f32) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1
      = k0_pay2 (convBlock x0 x1 x2 x6 (top xs1)) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1)]
  unfold kernelRun0_B
  dsimp only
  sl_unfold_words
  rw [View.canon_unit_zero FfnIdeal.Block.z3]
  simp only [r0, r1, r2, r6, rs, rb _ _ _ (top xs1), convBlock]

/-- The keys' block. -/
theorem out9_B (hc0 : ¬cond0_0 i) (xs0 : Vec Ideal S528x512 .f32) (xs1 : Vec Ideal S520x1024 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1
      = k0_pay3 (convBlock x0 x1 x2 x6 (top xs1)) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1)]
  unfold kernelRun0_B
  dsimp only
  sl_unfold_words
  rw [View.canon_unit_zero FfnIdeal.Block.z3]
  simp only [r0, r1, r2, r6, rs, rb _ _ _ (top xs1), convBlock]

/-- The values' block. -/
theorem out10_B (hc0 : ¬cond0_0 i) (xs0 : Vec Ideal S528x512 .f32) (xs1 : Vec Ideal S520x1024 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1
      = k0_pay11 (k0_pay10 x1 x0 (cols x2 512 1536)) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1)]
  unfold kernelRun0_B
  dsimp only
  sl_unfold_words
  rw [View.canon_unit_zero FfnIdeal.Block.z3]
  simp only [r0, r1, r2]

/-- The output gate's block. -/
theorem out11_B (hc0 : ¬cond0_0 i) (xs0 : Vec Ideal S528x512 .f32) (xs1 : Vec Ideal S520x1024 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1
      = k0_pay12 (k0_pay7 x1 x0) (cols x2 512 2048) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1)]
  unfold kernelRun0_B
  dsimp only
  sl_unfold_words
  rw [View.canon_unit_zero FfnIdeal.Block.z3]
  simp only [r0, r1, r2]

/-- The gates' block. -/
theorem out13_B (hc0 : ¬cond0_0 i) (xs0 : Vec Ideal S528x512 .f32) (xs1 : Vec Ideal S520x1024 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1
      = k0_pay15 (k0_pay13 (k0_pay7 x1 x0) (cols x2 128 2560) x3) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1)]
  unfold kernelRun0_B
  dsimp only
  sl_unfold_words
  rw [View.canon_unit_zero FfnIdeal.Block.z3]
  simp only [r0, r1, r2, r3]

/-- The rows a point keeps: its last eight, then its block's. -/
theorem sout_B (hc0 : ¬cond0_0 i) (xs0 : Vec Ideal S528x512 .f32) (xs1 : Vec Ideal S520x1024 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1
      = buf (last (k0_pay9 x1 x0 (cols x2 1024 512))) (k0_pay9 x1 x0 (cols x2 1024 512)) := by
  unfold sout0_B_1
  rw [View.read_writes_junk_eq_canon]
  unfold kernelRun0_B
  dsimp only
  sl_unfold_words
  simp only [r0, r1, r2, rl, k0_pay4, shapeCast_self]
  exact canon_after _ _ _ _ _

end Case

end Cert.EvenProjIdeal.Block

end
-- ==== Proof.FfnArray.lean ====
/- What the feed-forward kernel's result array holds. -/
module

public import proofs.«01_k».proof.Proof.FfnRow
public import proofs.«01_k».proof.Proof.FfnSpec
public import proofs.«01_k».proof.Proof.Gen.FfnIdeal.Value
public import Idealize.ShloMosaic.Lib.StableHlo.Run

@[expose] public section

set_option maxRecDepth 16384

noncomputable section

namespace Cert.FfnIdeal.Array

open Idealize.ShloMosaic Idealize.ShloMosaic.TcCoe Idealize.ShloMosaic.ValueIdx Idealize.SL.Sem
open Cert.FfnIdeal Cert.FfnIdeal.Gen Cert.FfnIdeal.Block
open Cert.FfnSpec (cRootTwo)

variable (m : (ℓ : Loc nD τ sig) → Buf (Elt Ideal) ℓ)

/-- The arguments in a memory: input, modulation, the norm's scale and shift, the first weights, the taps, the second weights. -/
abbrev xOf (c : Dev nD) : FfnSpec.XX := m ((c : Thread nD τ).loc main_arg0)
abbrev mOf (c : Dev nD) : FfnSpec.MM := m ((c : Thread nD τ).loc main_arg1)
abbrev gOf (c : Dev nD) : FfnSpec.GG := m ((c : Thread nD τ).loc main_arg2)
abbrev hOf (c : Dev nD) : FfnSpec.GG := m ((c : Thread nD τ).loc main_arg3)
abbrev uOf (c : Dev nD) : FfnSpec.UU := m ((c : Thread nD τ).loc main_arg4)
abbrev wOf (c : Dev nD) : FfnSpec.CC := m ((c : Thread nD τ).loc main_arg5)
abbrev vOf (c : Dev nD) : FfnSpec.DD := m ((c : Thread nD τ).loc main_arg6)

/-- The result array: the layer's output. -/
def result (c : Dev nD) : Buf (Elt Ideal) ((c : Thread nD τ).loc main_v4) := fun (i : S16x4096x1024.Idx) =>
  FfnSpec.out (xOf m c) (mOf m c) (gOf m c) (hOf m c) (uOf m c) (wOf m c) (vOf m c) (i 0) (i 1) (i 2)

/-! ## The blocks -/

theorem c0_lt (t : Fin cfg0.N) : (grid0.coords t 0).val < 16 := (grid0.coords t 0).isLt
theorem c1_lt (t : Fin cfg0.N) : (grid0.coords t 1).val < 8 := (grid0.coords t 1).isLt

theorem coords_eq : ∀ t : Fin grid0.N, (grid0.coords t 0).val = t.val / 8 ∧ (grid0.coords t 1).val = t.val % 8 := by
  decide +kernel

theorem ofNat_small {n : ℕ} (h : n < 16) : (BitVec.ofNat 32 n).toNat = n := by
  rw [BitVec.toNat_ofNat]; exact Nat.mod_eq_of_lt (by omega)

theorem V_v0 (c : Dev nD) : V m c main_v0 = shapeCast S1x1024 (gOf m c) shapeCasts_S1024_S1x1024 := by
  show StableHlo.after hostOps0 (fun b => m (c, b)) (main_v0 : DevRef τ sig) = _
  after_results
  rfl

theorem V_v1 (c : Dev nD) : V m c main_v1 = shapeCast S1x1024 (hOf m c) shapeCasts_S1024_S1x1024 := by
  show StableHlo.after hostOps0 (fun b => m (c, b)) (main_v1 : DevRef τ sig) = _
  after_results
  rfl

theorem V_v2 (c : Dev nD) : V m c main_v2 = truncf (F := Ideal) .bf16 (uOf m c) bitsLt_bf16_f32 := by
  show StableHlo.after hostOps0 (fun b => m (c, b)) (main_v2 : DevRef τ sig) = _
  after_results

theorem V_v3 (c : Dev nD) : V m c main_v3 = truncf (F := Ideal) .bf16 (vOf m c) bitsLt_bf16_f32 := by
  show StableHlo.after hostOps0 (fun b => m (c, b)) (main_v3 : DevRef τ sig) = _
  after_results

/-- The block of the input. -/
theorem iblk0_apply (c : Dev nD) (t : Fin cfg0.N) (r : Fin 512) (k : Fin 1024) (s : Fin 4096) (hs : s.val = 512 * (grid0.coords t 1).val + r.val) :
    (iblk m c 0 t : Vec Ideal S1x512x1024 .f32) (ix3 0 r k) = xOf m c (ix3 (grid0.coords t 0) s k) := by
  have h0 := ofNat_small (c0_lt t)
  have h1 := ofNat_small ((c1_lt t).trans (by omega))
  unfold iblk
  rw [View.read_apply]
  show V m c main_arg0 _ = m _ _
  unfold V
  refine congrArg _ (funext fun a => Fin.ext ?_)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 512 + 1 * r.val = s.val; omega
  | ⟨2, _⟩ => show (0#32).toNat * 1024 + 1 * k.val = k.val; simp

/-- The modulation's block. -/
theorem iblk1_apply (c : Dev nD) (t : Fin cfg0.N) (n : Fin 3) (k : Fin 1024) :
    (iblk m c 1 t : Vec Ideal S1x3x1024 .f32) (ix3 0 n k) = mOf m c (ix3 (grid0.coords t 0) n k) := by
  have h0 := ofNat_small (c0_lt t)
  unfold iblk
  rw [View.read_apply]
  show V m c main_arg1 _ = m _ _
  unfold V
  refine congrArg _ (funext fun a => Fin.ext ?_)
  match a with
  | ⟨0, _⟩ => show (BitVec.ofNat 32 (grid0.coords t 0).val).toNat * 1 + 1 * 0 = (grid0.coords t 0).val; omega
  | ⟨1, _⟩ => show (0#32).toNat * 3 + 1 * n.val = n.val; simp
  | ⟨2, _⟩ => show (0#32).toNat * 1024 + 1 * k.val = k.val; simp

/-- A scale or shift written as one row. -/
theorem row_apply (g : FVec Ideal S1024 .f32) (d : Fin 1024) : shapeCast S1x1024 g shapeCasts_S1024_S1x1024 (ix2 0 d) = g (ix1 d) :=
  shapeCast_apply _ _ _ _ (by rw [Shape.rowMajor_val_one, Shape.rowMajor_val_two]; show d.val = 0 * 1024 + d.val; omega)

/-- The norm's scale. -/
theorem iblk2_apply (c : Dev nD) (t : Fin cfg0.N) (d : Fin 1024) : (iblk m c 2 t : Vec Ideal S1x1024 .f32) (ix2 0 d) = gOf m c (ix1 d) := by
  unfold iblk
  rw [View.read_apply]
  show V m c main_v0 _ = _
  rw [V_v0]
  refine Eq.trans (congrArg _ (funext fun a => Fin.ext ?_)) (row_apply (gOf m c) d)
  match a with
  | ⟨0, _⟩ => show (0#32).toNat * 1 + 1 * 0 = 0; simp
  | ⟨1, _⟩ => show (0#32).toNat * 1024 + 1 * d.val = d.val; simp

/-- The norm's shift. -/
theorem iblk3_apply (c : Dev nD) (t : Fin cfg0.N) (d : Fin 1024) : (iblk m c 3 t : Vec Ideal S1x1024 .f32) (ix2 0 d) = hOf m c (ix1 d) := by
  unfold iblk
  rw [View.read_apply]
  show V m c main_v1 _ = _
  rw [V_v1]
  refine Eq.trans (congrArg _ (funext fun a => Fin.ext ?_)) (row_apply (hOf m c) d)
  match a with
  | ⟨0, _⟩ => show (0#32).toNat * 1 + 1 * 0 = 0; simp
  | ⟨1, _⟩ => show (0#32).toNat * 1024 + 1 * d.val = d.val; simp

/-- The first weights. -/
theorem iblk4_apply (c : Dev nD) (t : Fin cfg0.N) (k : Fin 1024) (j : Fin 5632) :
    (iblk m c 4 t : Vec Ideal S1024x5632 .bf16) (ix2 k j) = uOf m c (ix2 k j) := by
  unfold iblk
  rw [View.read_apply]
  show V m c main_v2 _ = _
  rw [V_v2]
  show uOf m c _ = _
  refine congrArg _ (funext fun a => Fin.ext ?_)
  match a with
  | ⟨0, _⟩ => show (0#32).toNat * 1024 + 1 * k.val = k.val; simp
  | ⟨1, _⟩ => show (0#32).toNat * 5632 + 1 * j.val = j.val; simp

/-- The taps. -/
theorem iblk5_apply (c : Dev nD) (t : Fin cfg0.N) (n : Fin 3) (j : Fin 2816) :
    (iblk m c 5 t : Vec Ideal S3x2816 .f32) (ix2 n j) = wOf m c (ix2 n j) := by
  unfold iblk
  rw [View.read_apply]
  show V m c main_arg5 _ = m _ _
  unfold V
  refine congrArg _ (funext fun a => Fin.ext ?_)
  match a with
  | ⟨0, _⟩ => show (0#32).toNat * 3 + 1 * n.val = n.val; simp
  | ⟨1, _⟩ => show (0#32).toNat * 2816 + 1 * j.val = j.val; simp

/-- The second weights. -/
theorem iblk6_apply (c : Dev nD) (t : Fin cfg0.N) (j : Fin 2816) (d : Fin 1024) :
    (iblk m c 6 t : Vec Ideal S2816x1024 .bf16) (ix2 j d) = vOf m c (ix2 j d) := by
  unfold iblk
  rw [View.read_apply]
  show V m c main_v3 _ = _
  rw [V_v3]
  show vOf m c _ = _
  refine congrArg _ (funext fun a => Fin.ext ?_)
  match a with
  | ⟨0, _⟩ => show (0#32).toNat * 2816 + 1 * j.val = j.val; simp
  | ⟨1, _⟩ => show (0#32).toNat * 1024 + 1 * d.val = d.val; simp

/-! ## The carried rows -/

/-- A grid point's first product is the layer's. -/
theorem pr_eq (c : Dev nD) (t : Fin cfg0.N) (r : Fin 512) (j : ℕ) (s : Fin 4096) (hs : s.val = 512 * (grid0.coords t 1).val + r.val) :
    pr (iblk m c 0 t) (iblk m c 1 t) (iblk m c 4 t) r j
      = FfnSpec.up (xOf m c) (mOf m c) (uOf m c) (grid0.coords t 0) s (Fin.ofNat 5632 j) := by
  unfold pr FfnSpec.up hIn FfnSpec.modIn
  refine Finset.sum_congr rfl fun k _ => ?_
  rw [iblk0_apply m c t r k s hs, iblk1_apply, iblk1_apply, iblk4_apply]

/-- What a grid point carries to the next: its last eight rows of the gate. -/
theorem carried_eq (c : Dev nD) (t : Fin cfg0.N) : (outsAt0 m c t.val t.isLt).2 = carry (iblk m c 0 t) (iblk m c 1 t) (iblk m c 4 t) := by
  by_cases h0 : t.val % 8 = 0
  · rw [outsAt0_A m c t h0]; dsimp only; exact sout_A (F := Ideal) ..
  · rw [outsAt0_B m c t h0]; dsimp only; exact sout_B (F := Ideal) ..

/-- The rows a grid point starts from: zero at a sequence's start, else the point before's. -/
def halo (c : Dev nD) (t : Fin cfg0.N) : Vec Ideal S8x2816 .f32 :=
  if t.val % 8 = 0 then k0_pay2 (F := Ideal) else (outsAt0 m c (t.val - 1) (Nat.lt_of_le_of_lt (Nat.sub_le _ _) t.isLt)).2

/-- What a grid point writes back. -/
theorem flushed_out (c : Dev nD) (t : Fin cfg0.N) : (dats m 0 c).flushed 7 t = (cfg0.win 7).cut (grid0.coords t)
    (outBlock (iblk m c 0 t) (iblk m c 1 t) (iblk m c 2 t) (iblk m c 3 t) (iblk m c 4 t) (iblk m c 5 t) (iblk m c 6 t) (halo m c t)) := by
  unfold halo
  by_cases h0 : t.val % 8 = 0
  · rw [Value.flushed7_A m c t h0, out_A, if_pos h0]
  · rw [Value.flushed7_B m c t h0, out_B, if_neg h0]

theorem halo_apply (c : Dev nD) (t : Fin cfg0.N) (q : Fin 8) (j : Fin 2816) :
    halo m c t (ix2 q j) = if (grid0.coords t 1).val = 0 then 0 else FfnSpec.up (xOf m c) (mOf m c) (uOf m c) (grid0.coords t 0)
      (Fin.ofNat 4096 (512 * (grid0.coords t 1).val + q.val - 8)) (Fin.ofNat 5632 (2816 + j.val)) := by
  obtain ⟨e0, e1⟩ := coords_eq t
  have hq := q.isLt
  have c1 := c1_lt t
  unfold halo
  rw [e1]
  split_ifs with h0
  · unfold k0_pay2
    rw [shapeCast_self]
    exact Ideal.ofBits_zero_f32
  · let t' : Fin cfg0.N := ⟨t.val - 1, Nat.lt_of_le_of_lt (Nat.sub_le _ _) t.isLt⟩
    obtain ⟨f0, f1⟩ := coords_eq t'
    have tv : t'.val = t.val - 1 := rfl
    refine (congrFun (carried_eq m c t') (ix2 q j)).trans ?_
    rw [carry_apply, pr_eq m c t' _ _ (Fin.ofNat 4096 (512 * (t.val % 8) + q.val - 8)) (by
      show (512 * (t.val % 8) + q.val - 8) % 4096 = 512 * (grid0.coords t' 1).val + (504 + q.val) % 512
      omega)]
    have e : grid0.coords t' 0 = grid0.coords t 0 := Fin.ext (by omega)
    rw [e]

/-! ## A row of the block -/

/-- The gate's entry `n` rows back. -/
theorem prBack_eq (c : Dev nD) (t : Fin cfg0.N) (r : Fin 512) (j : Fin 2816) (n : ℕ) (hn : n ≤ 2) (s : Fin 4096)
    (hs : s.val = 512 * (grid0.coords t 1).val + r.val) :
    prBack (iblk m c 0 t) (iblk m c 1 t) (iblk m c 4 t) (halo m c t) r j.val n
      = FfnSpec.gateBack (xOf m c) (mOf m c) (uOf m c) (grid0.coords t 0) s j n := by
  have hr := r.isLt
  have hsl := s.isLt
  have hj : Fin.ofNat 2816 j.val = j := Fin.ext (Nat.mod_eq_of_lt j.isLt)
  unfold prBack FfnSpec.gateBack
  by_cases h : r.val < n
  · rw [if_pos h, hj, halo_apply]
    by_cases h1 : (grid0.coords t 1).val = 0
    · rw [if_pos h1, if_pos (by omega)]
    · rw [if_neg h1, if_neg (by omega)]
      exact congrArg (fun y => FfnSpec.up _ _ _ _ y _) (Fin.ext (by
        show (512 * (grid0.coords t 1).val + (8 + r.val - n) % 8 - 8) % 4096 = (s.val - n) % 4096
        omega))
  · rw [if_neg h, if_neg (by omega)]
    exact pr_eq m c t _ _ _ (by show (s.val - n) % 4096 = _ + (r.val - n) % 512; omega)

theorem actB_eq (c : Dev nD) (t : Fin cfg0.N) (r : Fin 512) (j : Fin 2816) (s : Fin 4096) (hs : s.val = 512 * (grid0.coords t 1).val + r.val) :
    actB (iblk m c 0 t) (iblk m c 1 t) (iblk m c 4 t) (iblk m c 5 t) (halo m c t) r j.val
      = FfnSpec.act (xOf m c) (mOf m c) (uOf m c) (wOf m c) (grid0.coords t 0) s j := by
  have hj : Fin.ofNat 2816 j.val = j := Fin.ext (Nat.mod_eq_of_lt j.isLt)
  unfold actB FfnSpec.act
  rw [pr_eq m c t r j.val s hs, hj, iblk5_apply, iblk5_apply, iblk5_apply, prBack_eq m c t r j 2 le_rfl s hs,
    prBack_eq m c t r j 1 (by omega) s hs, prBack_eq m c t r j 0 (by omega) s hs]

theorem residB_eq (c : Dev nD) (t : Fin cfg0.N) (r : Fin 512) (s : Fin 4096) (hs : s.val = 512 * (grid0.coords t 1).val + r.val) :
    residB (iblk m c 0 t) (iblk m c 1 t) (iblk m c 4 t) (iblk m c 5 t) (iblk m c 6 t) (halo m c t) r
      = FfnSpec.resid (xOf m c) (mOf m c) (uOf m c) (wOf m c) (vOf m c) (grid0.coords t 0) s := by
  funext d
  unfold residB FfnSpec.resid
  rw [iblk0_apply m c t r d s hs, iblk1_apply, Finset.sum_range]
  refine congrArg (fun y => _ + _ * y) (Finset.sum_congr rfl fun j _ => ?_)
  have hj : Fin.ofNat 2816 j.val = j := Fin.ext (Nat.mod_eq_of_lt j.isLt)
  rw [actB_eq m c t r j s hs, hj, iblk6_apply]

/-- A grid point's block at row `r`, column `d`, is the layer's output there. -/
theorem block_row (c : Dev nD) (t : Fin cfg0.N) (r : Fin 512) (d : Fin 1024) (s : Fin 4096) (hs : s.val = 512 * (grid0.coords t 1).val + r.val) :
    outBlock (iblk m c 0 t) (iblk m c 1 t) (iblk m c 2 t) (iblk m c 3 t) (iblk m c 4 t) (iblk m c 5 t) (iblk m c 6 t) (halo m c t) (ix3 0 r d)
      = FfnSpec.out (xOf m c) (mOf m c) (gOf m c) (hOf m c) (uOf m c) (wOf m c) (vOf m c) (grid0.coords t 0) s d := by
  rw [outBlock_apply, residB_eq m c t r s hs, iblk2_apply, iblk3_apply]
  rfl

/-! ## The array -/

/-- What a grid point writes back is its block of the result. -/
theorem flushed_eq (c : Dev nD) (t : Fin cfg0.N) :
    (dats m 0 c).flushed 7 t = ((cfg0.win 7).blk t).view.read (Elt Ideal) (result m c) := by
  have h0 := ofNat_small (c0_lt t)
  have h1 := ofNat_small ((c1_lt t).trans (by omega))
  have c1 := c1_lt t
  rw [flushed_out]
  funext y
  obtain ⟨z, r, d, rfl⟩ : ∃ (z : Fin 1) (r : Fin 512) (d : Fin 1024), y = ix3 z r d := ⟨y 0, y 1, y 2, eq_ix3 y⟩
  obtain rfl : z = 0 := Subsingleton.elim _ _
  rw [View.read_apply]
  have hr := r.isLt
  refine Eq.trans ?_ ((block_row m c t r d ⟨512 * (grid0.coords t 1).val + r.val, by omega⟩ rfl).trans ?_)
  · rfl
  unfold result
  have a0 : ((((cfg0.win 7).blk t).view.emb (ix3 0 r d) : S16x4096x1024.Idx) 0).val = (grid0.coords t 0).val := by
    show (BitVec.ofNat 32 (grid0.coords t 0).val).toNat * 1 + 1 * 0 = (grid0.coords t 0).val; omega
  have a1 : ((((cfg0.win 7).blk t).view.emb (ix3 0 r d) : S16x4096x1024.Idx) 1).val = 512 * (grid0.coords t 1).val + r.val := by
    show (BitVec.ofNat 32 (grid0.coords t 1).val).toNat * 512 + 1 * r.val = _; omega
  have a2 : ((((cfg0.win 7).blk t).view.emb (ix3 0 r d) : S16x4096x1024.Idx) 2).val = d.val := by
    show (0#32).toNat * 1024 + 1 * d.val = _; simp
  have b0 : (((cfg0.win 7).blk t).view.emb (ix3 0 r d) : S16x4096x1024.Idx) 0 = grid0.coords t 0 := Fin.ext a0
  have b1 : (((cfg0.win 7).blk t).view.emb (ix3 0 r d) : S16x4096x1024.Idx) 1 = ⟨512 * (grid0.coords t 1).val + r.val, by omega⟩ := Fin.ext a1
  have b2 : (((cfg0.win 7).blk t).view.emb (ix3 0 r d) : S16x4096x1024.Idx) 2 = d := Fin.ext a2
  show _ = FfnSpec.out _ _ _ _ _ _ _ _ _ _
  rw [b0, b1, b2]
  rfl

/-- The result array after the run. -/
theorem final (c : Dev nD) : (dats m 0 c).arrAt 7 cfg0.N = result m c :=
  (dats m 0 c).arrAt_eq_of_cover 7 (result m c) (fun t _ => flushed_eq m c t) fun i => by
    have h0 : ((i : S16x4096x1024.Idx) 0).val < 16 := ((i : S16x4096x1024.Idx) 0).isLt
    have h1 : ((i : S16x4096x1024.Idx) 1).val < 4096 := ((i : S16x4096x1024.Idx) 1).isLt
    have h2 : ((i : S16x4096x1024.Idx) 2).val < 1024 := ((i : S16x4096x1024.Idx) 2).isLt
    have hN : cfg0.N = 128 := by decide +kernel
    generalize hb : ((i : S16x4096x1024.Idx) 0).val = b at *
    generalize hs : ((i : S16x4096x1024.Idx) 1).val = s at *
    generalize hd : ((i : S16x4096x1024.Idx) 2).val = d at *
    let t : Fin cfg0.N := ⟨8 * b + s / 512, by rw [hN]; omega⟩
    obtain ⟨e0, e1⟩ := coords_eq t
    have tv : t.val = 8 * b + s / 512 := rfl
    have k0 := ofNat_small (c0_lt t)
    have k1 := ofNat_small ((c1_lt t).trans (by omega))
    refine ⟨t, flush0_7 t, ?_⟩
    show i ∈ ((View.whole main_v4).slice (win0_7.rect t)).set
    rw [View.set_slice_whole, Rect.mem_set_unit]
    intro a
    match a with
    | ⟨0, _⟩ =>
      show (BitVec.ofNat 32 (grid0.coords t 0).val).toNat * 1 ≤ ((i : S16x4096x1024.Idx) 0).val ∧ ((i : S16x4096x1024.Idx) 0).val < (BitVec.ofNat 32 (grid0.coords t 0).val).toNat * 1 + 1
      omega
    | ⟨1, _⟩ =>
      show (BitVec.ofNat 32 (grid0.coords t 1).val).toNat * 512 ≤ ((i : S16x4096x1024.Idx) 1).val ∧ ((i : S16x4096x1024.Idx) 1).val < (BitVec.ofNat 32 (grid0.coords t 1).val).toNat * 512 + 512
      omega
    | ⟨2, _⟩ =>
      show (0#32).toNat * 1024 ≤ ((i : S16x4096x1024.Idx) 2).val ∧ ((i : S16x4096x1024.Idx) 2).val < (0#32).toNat * 1024 + 1024
      simp only [BitVec.toNat_zero]
      omega

end Cert.FfnIdeal.Array

end
-- ==== Proof.EvenArray.lean ====
/- What the recurrence's projection's result arrays hold. -/
module

public import proofs.«01_k».proof.Proof.EvenState
public import proofs.«01_k».proof.Proof.FfnArray
public import proofs.«01_k».proof.Proof.Gen.EvenProjIdeal.Value
public import Idealize.ShloMosaic.Lib.KernelVsHost
public import Idealize.ShloMosaic.Lib.StableHlo.Run

@[expose] public section

set_option maxRecDepth 16384

noncomputable section

namespace Cert.EvenProjIdeal.Array

open Idealize.ShloMosaic Idealize.ShloMosaic.TcCoe Idealize.ShloMosaic.ValueIdx Idealize.SL.Sem
open Cert.EvenProjIdeal Cert.EvenProjIdeal.Gen Cert.EvenProjIdeal.Block
open Cert.FfnIdeal.Array (ofNat_small)
open Cert.EvenSpec

/-! ## The prepared arrays -/

/-- The number the weights and the gates' bias are padded with. -/
def zr : FVec Ideal S_ .f32 := sitofp (F := Ideal) .f32 (constantI S_ 32 0#32)

/-- The weights with 120 more columns. -/
def wPad (w : WI) : FVec Ideal S1024x2688 .f32 := pad S1024x2688 ![0, 0] ![0, 120] ![0, 0] w zr pads_S1024x2568_S1024x2688_000_01200 h_S_

theorem wPad_apply (w : WI) (k : Fin 1024) (e : Fin 2568) (e' : Fin 2688) (h : e'.val = e.val) : wPad w (ix2 k e') = w (ix2 k e) := by
  unfold wPad
  refine pad_apply_of_inside _ _ _ _ _ _ _ _ (ix2 k e) (fun a => ?_)
  match a with
  | ⟨0, _⟩ => show k.val = 0 + k.val * (0 + 1); omega
  | ⟨1, _⟩ => show e'.val = 0 + e.val * (0 + 1); omega

/-- The gates' bias with 120 more entries, as one row. -/
def bPad (g : GB) : FVec Ideal S1x128 .f32 := shapeCast S1x128 (pad S128 ![0] ![120] ![0] g zr pads_S8_S128_01200 h_S_) shapeCasts_S128_S1x128

theorem bPad_apply (g : GB) (j : Fin 8) : bPad g (ix2 0 ⟨j.val, by omega⟩) = g (ix1 j) := by
  unfold bPad
  refine (shapeCast_apply _ _ _ (ix1 (⟨j.val, by omega⟩ : Fin 128)) (by
    rw [Shape.rowMajor_val_one, Shape.rowMajor_val_two]; show j.val = 0 * 128 + j.val; omega)).trans ?_
  refine pad_apply_of_inside _ _ _ _ _ _ _ _ (ix1 j) (fun a => ?_)
  match a with
  | ⟨0, _⟩ => show j.val = 0 + j.val * (0 + 1); omega

variable (m : (ℓ : Loc nD τ sig) → Buf (Elt Ideal) ℓ)

/-- The arguments in a memory: input, modulation, weights, the gates' bias and the convolution's taps. -/
abbrev xOf (c : Dev nD) : FfnSpec.XX := m ((c : Thread nD τ).loc main_arg0)
abbrev mOf (c : Dev nD) : FfnSpec.MM := m ((c : Thread nD τ).loc main_arg1)
abbrev wOf (c : Dev nD) : WI := m ((c : Thread nD τ).loc main_arg2)
abbrev gOf (c : Dev nD) : GB := m ((c : Thread nD τ).loc main_arg3)
abbrev tOf (c : Dev nD) : CV := m ((c : Thread nD τ).loc main_arg6)

/-- The result arrays. -/
def resultQ (c : Dev nD) : Buf (Elt Ideal) ((c : Thread nD τ).loc main_v6_1) := fun (i : S16x4096x512.Idx) =>
  qOut (xOf m c) (mOf m c) (wOf m c) (tOf m c) (i 0) (i 1) (i 2)
def resultK (c : Dev nD) : Buf (Elt Ideal) ((c : Thread nD τ).loc main_v6_2) := fun (i : S16x4096x512.Idx) =>
  kOut (xOf m c) (mOf m c) (wOf m c) (tOf m c) (i 0) (i 1) (i 2)
def resultV (c : Dev nD) : Buf (Elt Ideal) ((c : Thread nD τ).loc main_v6_3) := fun (i : S16x4096x512.Idx) =>
  vOut (xOf m c) (mOf m c) (wOf m c) (i 0) (i 1) (i 2)
def resultO (c : Dev nD) : Buf (Elt Ideal) ((c : Thread nD τ).loc main_v6_4) := fun (i : S16x4096x512.Idx) =>
  oOut (xOf m c) (mOf m c) (wOf m c) (i 0) (i 1) (i 2)
def resultG (c : Dev nD) : Buf (Elt Ideal) ((c : Thread nD τ).loc main_v6_6) := fun (i : S16x8x4096.Idx) =>
  gOut (xOf m c) (mOf m c) (wOf m c) (gOf m c) (i 0) (i 1) (i 2)

theorem V_v1 (c : Dev nD) : V m c main_v1 = truncf (F := Ideal) .bf16 (wPad (wOf m c)) bitsLt_bf16_f32 := by
  show StableHlo.after (List.flatten [hostOps0, hostOps0_1, hostOps0_2, hostOps0_3, hostOps0_4]) (fun b => m (c, b)) (main_v1 : DevRef τ sig) = _
  simp only [hostOps0, hostOps0_1, hostOps0_2, hostOps0_3, hostOps0_4, List.flatten_cons, List.flatten_nil, List.cons_append, List.nil_append]
  after_results
  rfl

theorem V_v3 (c : Dev nD) : V m c main_v3 = bPad (gOf m c) := by
  show StableHlo.after (List.flatten [hostOps0, hostOps0_1, hostOps0_2, hostOps0_3, hostOps0_4]) (fun b => m (c, b)) (main_v3 : DevRef τ sig) = _
  simp only [hostOps0, hostOps0_1, hostOps0_2, hostOps0_3, hostOps0_4, List.flatten_cons, List.flatten_nil, List.cons_append, List.nil_append]
  after_results
  rfl

/-! ## The blocks -/

theorem c0_lt (t : Fin cfg0.N) : (grid0.coords t 0).val < 16 := (grid0.coords t 0).isLt
theorem c1_lt (t : Fin cfg0.N) : (grid0.coords t 1).val < 8 := (grid0.coords t 1).isLt

theorem coords_eq : ∀ t : Fin grid0.N, (grid0.coords t 0).val = t.val / 8 ∧ (grid0.coords t 1).val = t.val % 8 := by
  decide +kernel

/-- The block of the input. -/
theorem iblk0_apply (c : Dev nD) (t : Fin cfg0.N) (r : Fin 512) (k : Fin 1024) (s : Fin 4096) (hs : s.val = 512 * (grid0.coords t 1).val + r.val) :
    (iblk m c 0 t : Vec Ideal S1x512x1024 .f32) (ix3 0 r k) = xOf m c (ix3 (grid0.coords t 0) s k) := by
  have h0 := ofNat_small (c0_lt t)
  have h1 := ofNat_small ((c1_lt t).trans (by omega))
  unfold iblk
  rw [View.read_apply]
  show V m c main_arg0 _ = m _ _
  unfold V
  refine congrArg _ (funext fun a => Fin.ext ?_)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 512 + 1 * r.val = s.val; omega
  | ⟨2, _⟩ => show (0#32).toNat * 1024 + 1 * k.val = k.val; simp

/-- The modulation's block. -/
theorem iblk1_apply (c : Dev nD) (t : Fin cfg0.N) (n : Fin 3) (k : Fin 1024) :
    (iblk m c 1 t : Vec Ideal S1x3x1024 .f32) (ix3 0 n k) = mOf m c (ix3 (grid0.coords t 0) n k) := by
  have h0 := ofNat_small (c0_lt t)
  unfold iblk
  rw [View.read_apply]
  show V m c main_arg1 _ = m _ _
  unfold V
  refine congrArg _ (funext fun a => Fin.ext ?_)
  match a with
  | ⟨0, _⟩ => show (BitVec.ofNat 32 (grid0.coords t 0).val).toNat * 1 + 1 * 0 = (grid0.coords t 0).val; omega
  | ⟨1, _⟩ => show (0#32).toNat * 3 + 1 * n.val = n.val; simp
  | ⟨2, _⟩ => show (0#32).toNat * 1024 + 1 * k.val = k.val; simp

/-- The weights. -/
theorem iblk2_apply (c : Dev nD) (t : Fin cfg0.N) (k : Fin 1024) (e : Fin 2688) :
    (iblk m c 2 t : Vec Ideal S1024x2688 .bf16) (ix2 k e) = wPad (wOf m c) (ix2 k e) := by
  unfold iblk
  rw [View.read_apply]
  show V m c main_v1 _ = _
  rw [V_v1]
  refine Eq.trans (congrArg _ (funext fun a => Fin.ext ?_)) (rfl : truncf (F := Ideal) .bf16 (wPad (wOf m c)) bitsLt_bf16_f32 (ix2 k e) = wPad (wOf m c) (ix2 k e))
  match a with
  | ⟨0, _⟩ => show (0#32).toNat * 1024 + 1 * k.val = k.val; simp
  | ⟨1, _⟩ => show (0#32).toNat * 2688 + 1 * e.val = e.val; simp

/-- The gates' bias. -/
theorem iblk3_apply (c : Dev nD) (t : Fin cfg0.N) (j : Fin 8) : (iblk m c 3 t : Vec Ideal S1x128 .f32) (ix2 0 ⟨j.val, by omega⟩) = gOf m c (ix1 j) := by
  unfold iblk
  rw [View.read_apply]
  show V m c main_v3 _ = _
  rw [V_v3]
  refine Eq.trans (congrArg _ (funext fun a => Fin.ext ?_)) (bPad_apply (gOf m c) j)
  match a with
  | ⟨0, _⟩ => show (0#32).toNat * 1 + 1 * 0 = 0; simp
  | ⟨1, _⟩ => show (0#32).toNat * 128 + 1 * j.val = j.val; simp

/-- The convolution's taps. -/
theorem iblk6_apply (c : Dev nD) (t : Fin cfg0.N) (n : Fin 4) (j : Fin 1024) :
    (iblk m c 6 t : Vec Ideal S4x1024 .f32) (ix2 n j) = tOf m c (ix2 n j) := by
  unfold iblk
  rw [View.read_apply]
  show V m c main_arg6 _ = m _ _
  unfold V
  refine congrArg _ (funext fun a => Fin.ext ?_)
  match a with
  | ⟨0, _⟩ => show (0#32).toNat * 4 + 1 * n.val = n.val; simp
  | ⟨1, _⟩ => show (0#32).toNat * 1024 + 1 * j.val = j.val; simp

/-- A grid point's product is the layer's. -/
theorem u_eq (c : Dev nD) (t : Fin cfg0.N) (r : Fin 512) (s : Fin 4096) (hs : s.val = 512 * (grid0.coords t 1).val + r.val) (n : ℕ) (e : Fin 2568)
    (he : n = e.val) : u (iblk m c 0 t) (iblk m c 1 t) (iblk m c 2 t) r n = proj (xOf m c) (mOf m c) (wOf m c) (grid0.coords t 0) s e := by
  have h := e.isLt
  unfold u proj FfnIdeal.Block.hIn FfnSpec.modIn
  refine Finset.sum_congr rfl fun k _ => ?_
  rw [iblk0_apply m c t r k s hs, iblk1_apply, iblk1_apply, iblk2_apply, wPad_apply _ k e _ (by show n % 2688 = e.val; omega)]

/-! ## The carried rows -/

/-- A grid point's columns of the queries and keys, before the convolution. -/
abbrev zOf (c : Dev nD) (t : Fin cfg0.N) : FVec Ideal S512x1024 .f32 := k0_pay9 (iblk m c 1 t) (iblk m c 0 t) (cols (iblk m c 2 t) 1024 512)

/-- What a grid point carries to the next. -/
theorem carried_eq (c : Dev nD) (t : Fin cfg0.N) : (outsAt0 m c t.val t.isLt).2.2.2.2.2.2.2.2 = buf (last (zOf m c t)) (zOf m c t) := by
  by_cases h0 : t.val % 8 = 0
  · rw [outsAt0_A m c t h0]; dsimp only; exact sout_A ..
  · rw [outsAt0_B m c t h0]; dsimp only; exact sout_B ..

/-- The eight rows a grid point starts from: zero at a sequence's start, else the point before's. -/
def halo (c : Dev nD) (t : Fin cfg0.N) : Vec Ideal S8x1024 .f32 :=
  if t.val % 8 = 0 then k0_pay6 (F := Ideal) else top (outsAt0 m c (t.val - 1) (Nat.lt_of_le_of_lt (Nat.sub_le _ _) t.isLt)).2.2.2.2.2.2.2.2

theorem top_buf (h : Vec Ideal S8x1024 .f32) (z : FVec Ideal S512x1024 .f32) (q : Fin 8) (j : Fin 1024) : top (buf h z) (ix2 q j) = h (ix2 q j) := by
  have hq := q.isLt
  unfold top buf
  refine (if_pos (by show q.val % 520 < 8; omega)).trans (congrArg h (funext fun a => Fin.ext ?_))
  match a with
  | ⟨0, _⟩ => show q.val % 520 % 8 = q.val; omega
  | ⟨1, _⟩ => rfl

theorem halo_apply (c : Dev nD) (t : Fin cfg0.N) (q : Fin 8) (j : Fin 1024) :
    halo m c t (ix2 q j) = if (grid0.coords t 1).val = 0 then 0 else proj (xOf m c) (mOf m c) (wOf m c) (grid0.coords t 0)
      (Fin.ofNat 4096 (512 * (grid0.coords t 1).val + q.val - 8)) ⟨512 + j.val, by omega⟩ := by
  obtain ⟨e0, e1⟩ := coords_eq t
  have hq := q.isLt
  have c1 := c1_lt t
  unfold halo
  rw [e1]
  by_cases h0 : t.val % 8 = 0
  · rw [if_pos h0, if_pos h0]
    unfold k0_pay6
    rw [shapeCast_self]
    exact Ideal.ofBits_zero_f32
  · rw [if_neg h0, if_neg h0]
    let t' : Fin cfg0.N := ⟨t.val - 1, Nat.lt_of_le_of_lt (Nat.sub_le _ _) t.isLt⟩
    obtain ⟨f0, f1⟩ := coords_eq t'
    have tv : t'.val = t.val - 1 := rfl
    have e : grid0.coords t' 0 = grid0.coords t 0 := Fin.ext (by omega)
    refine (congrFun (congrArg top (carried_eq m c t')) (ix2 q j)).trans ?_
    rw [top_buf, ← e]
    unfold last
    refine (qk_apply _ _ _ _ _).trans ?_
    exact u_eq m c t' _ (Fin.ofNat 4096 (512 * (t.val % 8) + q.val - 8)) (by
      show (512 * (t.val % 8) + q.val - 8) % 4096 = 512 * (grid0.coords t' 1).val + (504 + q.val) % 512
      omega) _ _ rfl

/-! ## A row of the block -/

section Row
variable (c : Dev nD) (t : Fin cfg0.N) (r : Fin 512) (s : Fin 4096) (hs : s.val = 512 * (grid0.coords t 1).val + r.val)
include hs

/-- A column of the queries and keys, `n` rows back. -/
theorem rows_eq (j : Fin 1024) (n p : ℕ) (hn : n ≤ 3) (hp : p = 8 - n) :
    rowsFrom (buf (halo m c t) (zOf m c t)) p (ix2 r j) = back (xOf m c) (mOf m c) (wOf m c) (grid0.coords t 0) s j n := by
  have hr := r.isLt
  have hsl := s.isLt
  unfold rowsFrom buf back
  by_cases h : r.val < n
  · refine (if_pos (by show (p + r.val) % 520 < 8; omega)).trans ?_
    refine (halo_apply m c t _ _).trans ?_
    by_cases h1 : (grid0.coords t 1).val = 0
    · rw [if_pos h1, if_pos (by omega)]
    · rw [if_neg h1, if_neg (by omega)]
      exact congrArg (fun y => proj _ _ _ _ y _) (Fin.ext (by
        show (512 * (grid0.coords t 1).val + (p + r.val) % 520 % 8 - 8) % 4096 = (s.val - n) % 4096
        omega))
  · refine (if_neg (by show ¬(p + r.val) % 520 < 8; omega)).trans ?_
    rw [if_neg (by omega)]
    refine (qk_apply _ _ _ _ _).trans ?_
    exact u_eq m c t _ _ (by show (s.val - n) % 4096 = _ + ((p + r.val) % 520 - 8) % 512; omega) _ _ rfl

/-- The convolution. -/
theorem conv_row (j : Fin 1024) : convBlock (iblk m c 0 t) (iblk m c 1 t) (iblk m c 2 t) (iblk m c 6 t) (halo m c t) (ix2 r j)
    = conv (xOf m c) (mOf m c) (wOf m c) (tOf m c) (grid0.coords t 0) s j := by
  unfold convBlock conv
  rw [conv_apply, rows_eq m c t r s hs j 0 8 (by omega) rfl, rows_eq m c t r s hs j 1 7 (by omega) rfl, rows_eq m c t r s hs j 2 6 (by omega) rfl,
    rows_eq m c t r s hs j 3 5 le_rfl rfl, iblk6_apply, iblk6_apply, iblk6_apply, iblk6_apply]

theorem q_row (d : Fin 512) : k0_pay2 (convBlock (iblk m c 0 t) (iblk m c 1 t) (iblk m c 2 t) (iblk m c 6 t) (halo m c t)) (ix3 0 r d)
    = qOut (xOf m c) (mOf m c) (wOf m c) (tOf m c) (grid0.coords t 0) s d := by
  rw [q_apply, conv_row m c t r s hs]
  rfl

theorem k_row (d : Fin 512) : k0_pay3 (convBlock (iblk m c 0 t) (iblk m c 1 t) (iblk m c 2 t) (iblk m c 6 t) (halo m c t)) (ix3 0 r d)
    = kOut (xOf m c) (mOf m c) (wOf m c) (tOf m c) (grid0.coords t 0) s d := by
  rw [k_apply, conv_row m c t r s hs]
  rfl

theorem v_row (d : Fin 512) : k0_pay11 (k0_pay10 (iblk m c 1 t) (iblk m c 0 t) (cols (iblk m c 2 t) 512 1536)) (ix3 0 r d)
    = vOut (xOf m c) (mOf m c) (wOf m c) (grid0.coords t 0) s d := (v_apply _ _ _ _ _ _).trans (u_eq m c t r s hs _ _ rfl)

theorem o_row (d : Fin 512) : k0_pay12 (k0_pay7 (iblk m c 1 t) (iblk m c 0 t)) (cols (iblk m c 2 t) 512 2048) (ix3 0 r d)
    = oOut (xOf m c) (mOf m c) (wOf m c) (grid0.coords t 0) s d := (o_apply _ _ _ _ _ _).trans (congrArg logis (u_eq m c t r s hs _ _ rfl))

theorem g_row (j : Fin 8) : k0_pay15 (k0_pay13 (k0_pay7 (iblk m c 1 t) (iblk m c 0 t)) (cols (iblk m c 2 t) 128 2560) (iblk m c 3 t)) (ix3 0 j r)
    = gOut (xOf m c) (mOf m c) (wOf m c) (gOf m c) (grid0.coords t 0) j s := by
  have e : gt (iblk m c 0 t) (iblk m c 1 t) (iblk m c 2 t) (iblk m c 3 t) r ⟨j.val, by omega⟩
      = gate (xOf m c) (mOf m c) (wOf m c) (gOf m c) (grid0.coords t 0) s j :=
    congrArg₂ (· + ·) (u_eq m c t r s hs _ _ rfl) (iblk3_apply m c t j)
  rw [g_apply, gate_apply, e]
  rfl

end Row

/-! ## The arrays -/

/-- Where a grid point's block lies in an array of 512 columns. -/
theorem place (t : Fin cfg0.N) (r d : Fin 512) (h : 512 * (grid0.coords t 1).val + r.val < 4096) (i : S16x4096x512.Idx)
    (h0 : (i 0).val = (BitVec.ofNat 32 (grid0.coords t 0).val).toNat * 1 + 1 * 0)
    (h1 : (i 1).val = (BitVec.ofNat 32 (grid0.coords t 1).val).toNat * 512 + 1 * r.val) (h2 : (i 2).val = (0#32).toNat * 512 + 1 * d.val) :
    i 0 = grid0.coords t 0 ∧ i 1 = (⟨512 * (grid0.coords t 1).val + r.val, h⟩ : Fin 4096) ∧ i 2 = d := by
  have k0 := ofNat_small (c0_lt t)
  have k1 := ofNat_small ((c1_lt t).trans (by omega))
  refine ⟨Fin.ext (by omega), Fin.ext ?_, Fin.ext ?_⟩
  · show (i 1).val = 512 * (grid0.coords t 1).val + r.val; omega
  · rw [h2]; simp

/-- The grid point that writes an entry, of sequence `b` and position `s`. -/
theorem point_lt (b : Fin 16) (s : Fin 4096) : 8 * b.val + s.val / 512 < cfg0.N := by
  have hb := b.isLt
  have h2 := s.isLt
  have hN : cfg0.N = 128 := by decide +kernel
  omega

theorem inBlock (t : Fin cfg0.N) (i : S16x4096x512.Idx) (ht : t.val = 8 * (i 0).val + (i 1).val / 512) (a : Fin 3) :
    (![(BitVec.ofNat 32 (grid0.coords t 0).val).toNat * 1, (BitVec.ofNat 32 (grid0.coords t 1).val).toNat * 512, (0#32).toNat * 512] : Fin 3 → ℕ) a ≤ (i a).val
      ∧ (i a).val < (![(BitVec.ofNat 32 (grid0.coords t 0).val).toNat * 1, (BitVec.ofNat 32 (grid0.coords t 1).val).toNat * 512, (0#32).toNat * 512] : Fin 3 → ℕ) a
        + (![1, 512, 512] : Fin 3 → ℕ) a := by
  have h0 : (i 0).val < 16 := (i 0).isLt
  have h1 : (i 1).val < 4096 := (i 1).isLt
  have h2 : (i 2).val < 512 := (i 2).isLt
  obtain ⟨e0, e1⟩ := coords_eq t
  have k0 := ofNat_small (c0_lt t)
  have k1 := ofNat_small ((c1_lt t).trans (by omega))
  match a with
  | ⟨0, _⟩ =>
    show (BitVec.ofNat 32 (grid0.coords t 0).val).toNat * 1 ≤ (i 0).val ∧ (i 0).val < (BitVec.ofNat 32 (grid0.coords t 0).val).toNat * 1 + 1
    omega
  | ⟨1, _⟩ =>
    show (BitVec.ofNat 32 (grid0.coords t 1).val).toNat * 512 ≤ (i 1).val ∧ (i 1).val < (BitVec.ofNat 32 (grid0.coords t 1).val).toNat * 512 + 512
    omega
  | ⟨2, _⟩ =>
    show (0#32).toNat * 512 ≤ (i 2).val ∧ (i 2).val < (0#32).toNat * 512 + 512
    simp only [BitVec.toNat_zero]
    omega

/-- What a grid point writes back of the queries. -/
theorem flushedQ (c : Dev nD) (t : Fin cfg0.N) : (dats m 0 c).flushed 8 t = (cfg0.win 8).cut (grid0.coords t)
    (k0_pay2 (convBlock (iblk m c 0 t) (iblk m c 1 t) (iblk m c 2 t) (iblk m c 6 t) (halo m c t))) := by
  unfold halo
  by_cases h0 : t.val % 8 = 0
  · rw [Value.flushed8_A m c t h0, out8_A, if_pos h0]
  · rw [Value.flushed8_B m c t h0, out8_B, if_neg h0]

/-- What a grid point writes back of the keys. -/
theorem flushedK (c : Dev nD) (t : Fin cfg0.N) : (dats m 0 c).flushed 9 t = (cfg0.win 9).cut (grid0.coords t)
    (k0_pay3 (convBlock (iblk m c 0 t) (iblk m c 1 t) (iblk m c 2 t) (iblk m c 6 t) (halo m c t))) := by
  unfold halo
  by_cases h0 : t.val % 8 = 0
  · rw [Value.flushed9_A m c t h0, out9_A, if_pos h0]
  · rw [Value.flushed9_B m c t h0, out9_B, if_neg h0]

/-- What a grid point writes back of the values. -/
theorem flushedV (c : Dev nD) (t : Fin cfg0.N) : (dats m 0 c).flushed 10 t = (cfg0.win 10).cut (grid0.coords t)
    (k0_pay11 (k0_pay10 (iblk m c 1 t) (iblk m c 0 t) (cols (iblk m c 2 t) 512 1536))) := by
  by_cases h0 : t.val % 8 = 0
  · rw [Value.flushed10_A m c t h0, out10_A]
  · rw [Value.flushed10_B m c t h0, out10_B]

/-- What a grid point writes back of the output's gate. -/
theorem flushedO (c : Dev nD) (t : Fin cfg0.N) : (dats m 0 c).flushed 11 t = (cfg0.win 11).cut (grid0.coords t)
    (k0_pay12 (k0_pay7 (iblk m c 1 t) (iblk m c 0 t)) (cols (iblk m c 2 t) 512 2048)) := by
  by_cases h0 : t.val % 8 = 0
  · rw [Value.flushed11_A m c t h0, out11_A]
  · rw [Value.flushed11_B m c t h0, out11_B]

/-- What a grid point writes back of the gates. -/
theorem flushedG (c : Dev nD) (t : Fin cfg0.N) : (dats m 0 c).flushed 13 t = (cfg0.win 13).cut (grid0.coords t)
    (k0_pay15 (k0_pay13 (k0_pay7 (iblk m c 1 t) (iblk m c 0 t)) (cols (iblk m c 2 t) 128 2560) (iblk m c 3 t))) := by
  by_cases h0 : t.val % 8 = 0
  · rw [Value.flushed13_A m c t h0, out13_A]
  · rw [Value.flushed13_B m c t h0, out13_B]

/-- The position of a block's row. -/
theorem pos_lt (t : Fin cfg0.N) (r : Fin 512) : 512 * (grid0.coords t 1).val + r.val < 4096 := by
  have c1 := c1_lt t
  have hr := r.isLt
  omega

/-- What a grid point writes back is its block of the queries. -/
theorem flushedQ_eq (c : Dev nD) (t : Fin cfg0.N) : (dats m 0 c).flushed 8 t = ((cfg0.win 8).blk t).view.read (Elt Ideal) (resultQ m c) := by
  rw [flushedQ]
  funext y
  obtain ⟨z, r, d, rfl⟩ : ∃ (z : Fin 1) (r d : Fin 512), y = ix3 z r d := ⟨y 0, y 1, y 2, eq_ix3 y⟩
  obtain rfl : z = 0 := Subsingleton.elim _ _
  rw [View.read_apply]
  refine Eq.trans ?_ ((q_row m c t r ⟨_, pos_lt t r⟩ rfl d).trans ?_)
  · rfl
  obtain ⟨b0, b1, b2⟩ := place t r d (pos_lt t r) (((cfg0.win 8).blk t).view.emb (ix3 0 r d)) rfl rfl rfl
  unfold resultQ
  show _ = qOut _ _ _ _ _ _ _
  rw [b0, b1, b2]

/-- What a grid point writes back is its block of the keys. -/
theorem flushedK_eq (c : Dev nD) (t : Fin cfg0.N) : (dats m 0 c).flushed 9 t = ((cfg0.win 9).blk t).view.read (Elt Ideal) (resultK m c) := by
  rw [flushedK]
  funext y
  obtain ⟨z, r, d, rfl⟩ : ∃ (z : Fin 1) (r d : Fin 512), y = ix3 z r d := ⟨y 0, y 1, y 2, eq_ix3 y⟩
  obtain rfl : z = 0 := Subsingleton.elim _ _
  rw [View.read_apply]
  refine Eq.trans ?_ ((k_row m c t r ⟨_, pos_lt t r⟩ rfl d).trans ?_)
  · rfl
  obtain ⟨b0, b1, b2⟩ := place t r d (pos_lt t r) (((cfg0.win 9).blk t).view.emb (ix3 0 r d)) rfl rfl rfl
  unfold resultK
  show _ = kOut _ _ _ _ _ _ _
  rw [b0, b1, b2]

/-- What a grid point writes back is its block of the values. -/
theorem flushedV_eq (c : Dev nD) (t : Fin cfg0.N) : (dats m 0 c).flushed 10 t = ((cfg0.win 10).blk t).view.read (Elt Ideal) (resultV m c) := by
  rw [flushedV]
  funext y
  obtain ⟨z, r, d, rfl⟩ : ∃ (z : Fin 1) (r d : Fin 512), y = ix3 z r d := ⟨y 0, y 1, y 2, eq_ix3 y⟩
  obtain rfl : z = 0 := Subsingleton.elim _ _
  rw [View.read_apply]
  refine Eq.trans ?_ ((v_row m c t r ⟨_, pos_lt t r⟩ rfl d).trans ?_)
  · rfl
  obtain ⟨b0, b1, b2⟩ := place t r d (pos_lt t r) (((cfg0.win 10).blk t).view.emb (ix3 0 r d)) rfl rfl rfl
  unfold resultV
  show _ = vOut _ _ _ _ _ _
  rw [b0, b1, b2]

/-- What a grid point writes back is its block of the output's gate. -/
theorem flushedO_eq (c : Dev nD) (t : Fin cfg0.N) : (dats m 0 c).flushed 11 t = ((cfg0.win 11).blk t).view.read (Elt Ideal) (resultO m c) := by
  rw [flushedO]
  funext y
  obtain ⟨z, r, d, rfl⟩ : ∃ (z : Fin 1) (r d : Fin 512), y = ix3 z r d := ⟨y 0, y 1, y 2, eq_ix3 y⟩
  obtain rfl : z = 0 := Subsingleton.elim _ _
  rw [View.read_apply]
  refine Eq.trans ?_ ((o_row m c t r ⟨_, pos_lt t r⟩ rfl d).trans ?_)
  · rfl
  obtain ⟨b0, b1, b2⟩ := place t r d (pos_lt t r) (((cfg0.win 11).blk t).view.emb (ix3 0 r d)) rfl rfl rfl
  unfold resultO
  show _ = oOut _ _ _ _ _ _
  rw [b0, b1, b2]

/-- What a grid point writes back is its block of the gates. -/
theorem flushedG_eq (c : Dev nD) (t : Fin cfg0.N) : (dats m 0 c).flushed 13 t = ((cfg0.win 13).blk t).view.read (Elt Ideal) (resultG m c) := by
  have k0 := ofNat_small (c0_lt t)
  have k1 := ofNat_small ((c1_lt t).trans (by omega))
  rw [flushedG]
  funext y
  obtain ⟨z, j, r, rfl⟩ : ∃ (z : Fin 1) (j : Fin 8) (r : Fin 512), y = ix3 z j r := ⟨y 0, y 1, y 2, eq_ix3 y⟩
  obtain rfl : z = 0 := Subsingleton.elim _ _
  rw [View.read_apply]
  refine Eq.trans ?_ ((g_row m c t r ⟨_, pos_lt t r⟩ rfl j).trans ?_)
  · rfl
  have b0 : (((cfg0.win 13).blk t).view.emb (ix3 0 j r) : S16x8x4096.Idx) 0 = grid0.coords t 0 := Fin.ext (by
    show (BitVec.ofNat 32 (grid0.coords t 0).val).toNat * 1 + 1 * 0 = (grid0.coords t 0).val; omega)
  have b1 : (((cfg0.win 13).blk t).view.emb (ix3 0 j r) : S16x8x4096.Idx) 1 = j := Fin.ext (by
    show (0#32).toNat * 8 + 1 * j.val = _; simp)
  have b2 : (((cfg0.win 13).blk t).view.emb (ix3 0 j r) : S16x8x4096.Idx) 2 = (⟨512 * (grid0.coords t 1).val + r.val, pos_lt t r⟩ : Fin 4096) := Fin.ext (by
    show (BitVec.ofNat 32 (grid0.coords t 1).val).toNat * 512 + 1 * r.val = 512 * (grid0.coords t 1).val + r.val; omega)
  unfold resultG
  show _ = gOut _ _ _ _ _ _ _
  rw [b0, b1, b2]

/-- The queries after the run. -/
theorem finalQ (c : Dev nD) : (dats m 0 c).arrAt 8 cfg0.N = resultQ m c :=
  (dats m 0 c).arrAt_eq_of_cover 8 (resultQ m c) (fun t _ => flushedQ_eq m c t) fun i => by
    let t : Fin cfg0.N := ⟨_, point_lt (i 0) (i 1)⟩
    refine ⟨t, flush0_8 t, ?_⟩
    show i ∈ ((View.whole main_v6_1).slice (win0_8.rect t)).set
    rw [View.set_slice_whole, Rect.mem_set_unit]
    intro a
    match a with
    | ⟨0, _⟩ => exact inBlock t i rfl 0
    | ⟨1, _⟩ => exact inBlock t i rfl 1
    | ⟨2, _⟩ => exact inBlock t i rfl 2

/-- The keys after the run. -/
theorem finalK (c : Dev nD) : (dats m 0 c).arrAt 9 cfg0.N = resultK m c :=
  (dats m 0 c).arrAt_eq_of_cover 9 (resultK m c) (fun t _ => flushedK_eq m c t) fun i => by
    let t : Fin cfg0.N := ⟨_, point_lt (i 0) (i 1)⟩
    refine ⟨t, flush0_9 t, ?_⟩
    show i ∈ ((View.whole main_v6_2).slice (win0_9.rect t)).set
    rw [View.set_slice_whole, Rect.mem_set_unit]
    intro a
    match a with
    | ⟨0, _⟩ => exact inBlock t i rfl 0
    | ⟨1, _⟩ => exact inBlock t i rfl 1
    | ⟨2, _⟩ => exact inBlock t i rfl 2

/-- The values after the run. -/
theorem finalV (c : Dev nD) : (dats m 0 c).arrAt 10 cfg0.N = resultV m c :=
  (dats m 0 c).arrAt_eq_of_cover 10 (resultV m c) (fun t _ => flushedV_eq m c t) fun i => by
    let t : Fin cfg0.N := ⟨_, point_lt (i 0) (i 1)⟩
    refine ⟨t, flush0_10 t, ?_⟩
    show i ∈ ((View.whole main_v6_3).slice (win0_10.rect t)).set
    rw [View.set_slice_whole, Rect.mem_set_unit]
    intro a
    match a with
    | ⟨0, _⟩ => exact inBlock t i rfl 0
    | ⟨1, _⟩ => exact inBlock t i rfl 1
    | ⟨2, _⟩ => exact inBlock t i rfl 2

/-- The output's gate after the run. -/
theorem finalO (c : Dev nD) : (dats m 0 c).arrAt 11 cfg0.N = resultO m c :=
  (dats m 0 c).arrAt_eq_of_cover 11 (resultO m c) (fun t _ => flushedO_eq m c t) fun i => by
    let t : Fin cfg0.N := ⟨_, point_lt (i 0) (i 1)⟩
    refine ⟨t, flush0_11 t, ?_⟩
    show i ∈ ((View.whole main_v6_4).slice (win0_11.rect t)).set
    rw [View.set_slice_whole, Rect.mem_set_unit]
    intro a
    match a with
    | ⟨0, _⟩ => exact inBlock t i rfl 0
    | ⟨1, _⟩ => exact inBlock t i rfl 1
    | ⟨2, _⟩ => exact inBlock t i rfl 2

/-- The gates after the run. -/
theorem finalG (c : Dev nD) : (dats m 0 c).arrAt 13 cfg0.N = resultG m c :=
  (dats m 0 c).arrAt_eq_of_cover 13 (resultG m c) (fun t _ => flushedG_eq m c t) fun i => by
    have h0 : ((i : S16x8x4096.Idx) 0).val < 16 := ((i : S16x8x4096.Idx) 0).isLt
    have h1 : ((i : S16x8x4096.Idx) 1).val < 8 := ((i : S16x8x4096.Idx) 1).isLt
    have h2 : ((i : S16x8x4096.Idx) 2).val < 4096 := ((i : S16x8x4096.Idx) 2).isLt
    let t : Fin cfg0.N := ⟨_, point_lt (i 0) (i 2)⟩
    have tv : t.val = 8 * ((i : S16x8x4096.Idx) 0).val + ((i : S16x8x4096.Idx) 2).val / 512 := rfl
    obtain ⟨e0, e1⟩ := coords_eq t
    have k0 := ofNat_small (c0_lt t)
    have k1 := ofNat_small ((c1_lt t).trans (by omega))
    refine ⟨t, flush0_13 t, ?_⟩
    show i ∈ ((View.whole main_v6_6).slice (win0_13.rect t)).set
    rw [View.set_slice_whole, Rect.mem_set_unit]
    intro a
    match a with
    | ⟨0, _⟩ =>
      show (BitVec.ofNat 32 (grid0.coords t 0).val).toNat * 1 ≤ ((i : S16x8x4096.Idx) 0).val ∧ ((i : S16x8x4096.Idx) 0).val < (BitVec.ofNat 32 (grid0.coords t 0).val).toNat * 1 + 1
      omega
    | ⟨1, _⟩ =>
      show (0#32).toNat * 8 ≤ ((i : S16x8x4096.Idx) 1).val ∧ ((i : S16x8x4096.Idx) 1).val < (0#32).toNat * 8 + 8
      simp only [BitVec.toNat_zero]
      omega
    | ⟨2, _⟩ =>
      show (BitVec.ofNat 32 (grid0.coords t 1).val).toNat * 512 ≤ ((i : S16x8x4096.Idx) 2).val ∧ ((i : S16x8x4096.Idx) 2).val < (BitVec.ofNat 32 (grid0.coords t 1).val).toNat * 512 + 512
      omega

end Cert.EvenProjIdeal.Array

end
-- ==== Proof.EvenPool.lean ====
/- The pooling of the even layers' input projection: what it computes entry by entry, and what one grid point leaves in its
   block of the pooling's output and in the rows of the pooled columns it carries to the next point. -/
module

public import proofs.«01_k».proof.Proof.EvenState

@[expose] public section

set_option maxRecDepth 16384

noncomputable section

namespace Cert.EvenSpec

open Idealize.ShloMosaic Idealize.ShloMosaic.ValueIdx Finset
open Cert.FfnSpec (XX MM)

abbrev PW : Type := (⟨3, ![4, 128, 128]⟩ : Shape).Idx → EReal
abbrev PS : Type := (⟨1, ![512]⟩ : Shape).Idx → EReal

/-- The pooling's column `c` of the product, `n` rows back: zero before the sequence's start. -/
def backP (x : XX) (m : MM) (w : WI) (b : Fin 16) (s : Fin 4096) (c : Fin 512) (n : ℕ) : EReal :=
  if s.val < n then 0 else proj x m w b (Fin.ofNat 4096 (s.val - n)) ⟨c.val, by omega⟩

/-- How many of the window's positions lie in the sequence. -/
def count (s win : ℕ) : EReal := FloatOps.sitofp (F := Ideal) .f32 (IntOp.minsi (BitVec.ofNat 32 (s + 1)) (BitVec.ofNat 32 win))

/-- The column `k` of group `g`. -/
def col (g : Fin 4) (k : Fin 128) : Fin 512 := ⟨128 * g.val + k.val, by omega⟩

/-- The windows: 2, 4, 8 and 16 positions. -/
def win (g : Fin 4) : ℕ := 2 ^ (g.val + 1)

/-- The mean over the window that ends at a position, less the position's own entry. -/
def mean (x : XX) (m : MM) (w : WI) (b : Fin 16) (s : Fin 4096) (g : Fin 4) (k : Fin 128) : EReal :=
  Ideal.div (∑ n ∈ range (win g), backP x m w b s (col g k) n) (count s.val (win g)) - backP x m w b s (col g k) 0

/-- The pooling's output: every group's means times its matrix, scaled by column. -/
def yOut (x : XX) (m : MM) (w : WI) (p : PW) (q : PS) (b : Fin 16) (s : Fin 4096) (g : Fin 4) (d : Fin 128) : EReal :=
  (∑ k : Fin 128, mean x m w b s g k * p (ix3 g k d)) * q (ix1 (col g d))

end Cert.EvenSpec

namespace Cert.EvenProjIdeal.Block

open Idealize.ShloMosaic Idealize.ShloMosaic.TcCoe Idealize.ShloMosaic.ValueIdx Idealize.ShloMosaic.Tactic Cert.EvenProjIdeal Cert.EvenProjIdeal.Gen
open Finset

/-! ## One group -/

/-- A group's block from its windows' sums, its own rows, the counts, its matrix and its scales. -/
def mixed (acc cur : FVec Ideal S512x128 .f32) (n : IVec S512x1 32) (w : Vec Ideal S1x128x128 .bf16) (q : Vec Ideal S1x128 .f32) : FVec Ideal S1x512x128 .bf16 :=
  shapeCast S1x512x128 (truncf .bf16 (mulf
    (matmul dot_S512x128_S128x128_S512x128_1_0_0_1_n_n none
      (truncf .bf16 (subf (divf acc (broadcastTo S512x128 (sitofp (F := Ideal) .f32 n) broadcasts_S512x1_S512x128)) cur) bitsLt_bf16_f32 : FVec Ideal S512x128 .bf16)
      (shapeCast S128x128 w shapeCasts_S1x128x128_S128x128 : FVec Ideal S128x128 .bf16) (constant S512x128 .f32 0x00000000#32))
    (broadcastTo S512x128 (shapeCast S1x128 q shapeCasts_S1x128_S1x128 : FVec Ideal S1x128 .f32) broadcasts_S1x128_S512x128)) bitsLt_bf16_f32 : FVec Ideal S512x128 .bf16)
    shapeCasts_S512x128_S1x512x128

/-- A group's block, entry by entry. -/
theorem mixed_apply (acc cur : FVec Ideal S512x128 .f32) (n : IVec S512x1 32) (w : Vec Ideal S1x128x128 .bf16) (q : Vec Ideal S1x128 .f32)
    (a : Fin 1) (r : Fin 512) (d : Fin 128) : mixed acc cur n w q (ix3 a r d)
      = (∑ k : Fin 128, (Ideal.div (acc (ix2 r k)) (FloatOps.sitofp (F := Ideal) .f32 (n (ix2 r 0))) - cur (ix2 r k)) * w (ix3 0 k d)) * q (ix2 0 d) := by
  obtain rfl : a = 0 := Subsingleton.elim _ _
  unfold mixed
  refine (shapeCast_apply _ _ _ (ix2 r d) (by
    rw [Shape.rowMajor_val_two, Shape.rowMajor_val_three]; show r.val * 128 + d.val = (0 * 512 + r.val) * 128 + d.val; omega)).trans ?_
  rw [truncf_apply, mulf_apply]
  refine congrArg₂ (· * ·) ?_ ?_
  · refine (Ideal.matmul_plain_apply (M := 512) (K := 128) (N := 128) (φ₂ := .bf16) none _ _ _ r d).trans ?_
    rw [constant_apply, Ideal.ofBits_zero_f32, zero_add]
    refine sum_congr rfl fun k _ => congrArg₂ (· * ·) ?_ ?_
    · rw [truncf_apply, subf_apply, divf_apply]
      refine congrArg₂ (· - ·) (congrArg (Ideal.div (acc (ix2 r k))) ?_) rfl
      refine (broadcastTo_apply _ _ _ (ix2 r 0) (fun a => ?_)).trans rfl
      match a with | ⟨0, _⟩ => rfl | ⟨1, _⟩ => rfl
    · exact shapeCast_apply _ _ _ (ix3 0 k d) (by
        rw [Shape.rowMajor_val_two, Shape.rowMajor_val_three]; show (0 * 128 + k.val) * 128 + d.val = k.val * 128 + d.val; omega)
  · rw [shapeCast_self]
    refine (broadcastTo_apply _ _ _ (ix2 0 d) (fun a => ?_)).trans rfl
    match a with | ⟨0, _⟩ => rfl | ⟨1, _⟩ => rfl

/-! ## The rows kept between points -/

/-- The kept rows: sixteen from before the block, then the block's. -/
def pbuf (h : Vec Ideal S16x512 .f32) (z : FVec Ideal S512x512 .f32) : Vec Ideal S528x512 .f32 := fun y =>
  if (y 0).val < 16 then h (ix2 (Fin.ofNat 16 (y 0).val) (y 1)) else z (ix2 (Fin.ofNat 512 ((y 0).val - 16)) (y 1))

/-- 512 of the kept rows, from row `n` on, and 128 columns, from column `g` on. -/
def grp (x : Vec Ideal S528x512 .f32) (n g : ℕ) : Vec Ideal S512x128 .f32 := fun y =>
  x (ix2 (Fin.ofNat 528 (n + (y 0).val)) (Fin.ofNat 512 (g + (y 1).val)))

/-- The first sixteen of the kept rows, and the last sixteen of a block. -/
def ptop (x : Vec Ideal S528x512 .f32) : Vec Ideal S16x512 .f32 := fun y => x (ix2 (Fin.ofNat 528 (y 0).val) (y 1))
def plast (z : FVec Ideal S512x512 .f32) : Vec Ideal S16x512 .f32 := fun y => z (ix2 (Fin.ofNat 512 (496 + (y 0).val)) (y 1))

/-- The matrix of a group, and its scales. -/
def wsl (x : Vec Ideal S4x128x128 .bf16) (g : ℕ) : Vec Ideal S1x128x128 .bf16 := fun y => x (ix3 (Fin.ofNat 4 g) (y 1) (y 2))
def qsl (x : Vec Ideal S1x512 .f32) (g : ℕ) : Vec Ideal S1x128 .f32 := fun y => x (ix2 0 (Fin.ofNat 512 (g + (y 1).val)))

/-- The sum of a group's own rows and the `n` before each. -/
def sums (x : Vec Ideal S528x512 .f32) (g : ℕ) : ℕ → FVec Ideal S512x128 .f32
  | 0 => grp x 16 g
  | n + 1 => addf (sums x g n) (grp x (16 - (n + 1)) g)

/-- The sum, entry by entry. -/
theorem sums_apply (x : Vec Ideal S528x512 .f32) (g n : ℕ) (y : S512x128.Idx) : sums x g n y = ∑ j ∈ range (n + 1), (grp x (16 - j) g y : EReal) := by
  induction n with
  | zero => exact (sum_range_one (fun j => (grp x (16 - j) g y : EReal))).symm
  | succ n ih => rw [sum_range_succ, ← ih]; rfl

/-- The counts of a block's rows, cut at the window's length. -/
def counts (a : BitVec 32) (n : BitVec 32) : IVec S512x1 32 := minsi (addi (k0_pay16 a) (broadcast S512x1 1#32)) (broadcast S512x1 n)

/-- The four groups of a grid point. -/
def groups (a : BitVec 32) (x4 : Vec Ideal S4x128x128 .bf16) (x5 : Vec Ideal S1x512 .f32) (B : Vec Ideal S528x512 .f32) : Fin 4 → FVec Ideal S1x512x128 .bf16 := ![
  mixed (sums B 0 1) (grp B 16 0) (counts a 2#32) (wsl x4 0) (qsl x5 0),
  mixed (sums B 128 3) (grp B 16 128) (counts a 4#32) (wsl x4 1) (qsl x5 128),
  mixed (sums B 256 7) (grp B 16 256) (counts a 8#32) (wsl x4 2) (qsl x5 256),
  mixed (sums B 384 15) (grp B 16 384) (counts a 16#32) (wsl x4 3) (qsl x5 384)]

/-- The four groups side by side. -/
def beside (f : Fin 4 → FVec Ideal S1x512x128 .bf16) : Vec Ideal S1x512x512 .bf16 := fun y =>
  f (Fin.ofNat 4 ((y 2).val / 128)) (ix3 (y 0) (y 1) (Fin.ofNat 128 (y 2).val))

/-- An entry of a group stored at its columns. -/
theorem canon_at (L : List (View.Piece (Elt Ideal) S1x512x512 .bf16)) (n : ℕ) (f : Fin 4 → FVec Ideal S1x512x128 .bf16) (g : Fin 4) (hn : n = 128 * g.val)
    (inb : ∀ a, (![0, 0, n] : Fin 3 → ℕ) a + (![1, 512, 128] : Fin 3 → ℕ) a ≤ S1x512x512.size a) (y : S1x512x512.Idx) (hy : (y 2).val / 128 = g.val) :
    View.canon ((⟨Rect.unit (s := S1x512x512) ![0, 0, n] ![1, 512, 128] inb, f g⟩ : View.Piece (Elt Ideal) S1x512x512 .bf16) :: L) y = beside f y := by
  have h0 : (y 2).val < 512 := (y 2).isLt
  have e : y = (Rect.unit (s := S1x512x512) ![0, 0, n] ![1, 512, 128] inb).emb (ix3 (y 0) (y 1) (Fin.ofNat 128 (y 2).val) : S1x512x128.Idx) := by
    funext a; apply Fin.ext
    match a with
    | ⟨0, _⟩ => show (y 0).val = 0 + 1 * (y 0).val; omega
    | ⟨1, _⟩ => show (y 1).val = 0 + 1 * (y 1).val; omega
    | ⟨2, _⟩ => show (y 2).val = n + 1 * ((y 2).val % 128); omega
  have eg : Fin.ofNat 4 ((y 2).val / 128) = g := Fin.ext (by show (y 2).val / 128 % 4 = g.val; omega)
  unfold beside
  rw [eg]
  conv_lhs => rw [e]
  exact View.canon_cons_emb _ _ _ _

/-- An entry of other columns isn't touched. -/
theorem canon_off (L : List (View.Piece (Elt Ideal) S1x512x512 .bf16)) (n : ℕ) (z : FVec Ideal S1x512x128 .bf16)
    (inb : ∀ a, (![0, 0, n] : Fin 3 → ℕ) a + (![1, 512, 128] : Fin 3 → ℕ) a ≤ S1x512x512.size a) (y : S1x512x512.Idx) (hy : (y 2).val < n) :
    View.canon ((⟨Rect.unit (s := S1x512x512) ![0, 0, n] ![1, 512, 128] inb, z⟩ : View.Piece (Elt Ideal) S1x512x512 .bf16) :: L) y = View.canon L y := by
  rw [View.canon_cons_of_not_mem]
  rw [Rect.mem_set_unit]
  intro hm
  have h1 : n ≤ (y 2).val := (hm 2).1
  omega

/-- The four groups, stored one after the other. -/
theorem canon_groups (f : Fin 4 → FVec Ideal S1x512x128 .bf16)
    (i0 : ∀ a, (![0, 0, 0] : Fin 3 → ℕ) a + (![1, 512, 128] : Fin 3 → ℕ) a ≤ S1x512x512.size a)
    (i1 : ∀ a, (![0, 0, 128] : Fin 3 → ℕ) a + (![1, 512, 128] : Fin 3 → ℕ) a ≤ S1x512x512.size a)
    (i2 : ∀ a, (![0, 0, 256] : Fin 3 → ℕ) a + (![1, 512, 128] : Fin 3 → ℕ) a ≤ S1x512x512.size a)
    (i3 : ∀ a, (![0, 0, 384] : Fin 3 → ℕ) a + (![1, 512, 128] : Fin 3 → ℕ) a ≤ S1x512x512.size a) :
    View.canon [(⟨Rect.unit (s := S1x512x512) ![0, 0, 384] ![1, 512, 128] i3, f 3⟩ : View.Piece (Elt Ideal) S1x512x512 .bf16),
      ⟨Rect.unit (s := S1x512x512) ![0, 0, 256] ![1, 512, 128] i2, f 2⟩, ⟨Rect.unit (s := S1x512x512) ![0, 0, 128] ![1, 512, 128] i1, f 1⟩,
      ⟨Rect.unit (s := S1x512x512) ![0, 0, 0] ![1, 512, 128] i0, f 0⟩] = beside f := by
  funext y
  have h0 : (y 2).val < 512 := (y 2).isLt
  by_cases h3 : 384 ≤ (y 2).val
  · exact canon_at _ 384 f 3 rfl i3 y (by show _ = 3; omega)
  refine (canon_off _ 384 _ i3 y (by omega)).trans ?_
  by_cases h2 : 256 ≤ (y 2).val
  · exact canon_at _ 256 f 2 rfl i2 y (by show _ = 2; omega)
  refine (canon_off _ 256 _ i2 y (by omega)).trans ?_
  by_cases h1 : 128 ≤ (y 2).val
  · exact canon_at _ 128 f 1 rfl i1 y (by show _ = 1; omega)
  refine (canon_off _ 128 _ i1 y (by omega)).trans ?_
  exact canon_at _ 0 f 0 rfl i0 y (by show _ = 0; omega)

/-- 512 of the kept rows and 128 of their columns, loaded. -/
theorem ld_grp (x : Vec Ideal S528x512 .f32) (n g : ℕ) (inb : ∀ a, (![n, g] : Fin 2 → ℕ) a + (![512, 128] : Fin 2 → ℕ) a ≤ S528x512.size a) :
    View.ld x (Rect.unit (s := S528x512) ![n, g] ![512, 128] inb) = grp x n g := by
  funext y
  have h0 : (y 0).val < 512 := (y 0).isLt
  have h2 : (y 1).val < 128 := (y 1).isLt
  have h1 : n + 512 ≤ 528 := inb 0
  have h3 : g + 128 ≤ 512 := inb 1
  refine congrArg x (funext fun a => Fin.ext ?_)
  match a with
  | ⟨0, _⟩ => show n + 1 * (y 0).val = (n + (y 0).val) % 528; rw [Nat.mod_eq_of_lt (by omega)]; omega
  | ⟨1, _⟩ => show g + 1 * (y 1).val = (g + (y 1).val) % 512; rw [Nat.mod_eq_of_lt (by omega)]; omega

/-- The block's rows, once stored. -/
theorem pcanon_block (L : List (View.Piece (Elt Ideal) S528x512 .f32)) (z : FVec Ideal S512x512 .f32)
    (inb : ∀ a, (![16, 0] : Fin 2 → ℕ) a + (![512, 512] : Fin 2 → ℕ) a ≤ S528x512.size a) (h : Vec Ideal S16x512 .f32)
    (y : S528x512.Idx) (hy : ¬(y 0).val < 16) :
    View.canon ((⟨Rect.unit (s := S528x512) ![16, 0] ![512, 512] inb, z⟩ : View.Piece (Elt Ideal) S528x512 .f32) :: L) y = pbuf h z y := by
  have h0 : (y 0).val < 528 := (y 0).isLt
  have e : y = (Rect.unit (s := S528x512) ![16, 0] ![512, 512] inb).emb (ix2 (Fin.ofNat 512 ((y 0).val - 16)) (y 1) : S512x512.Idx) := by
    funext a; apply Fin.ext
    match a with
    | ⟨0, _⟩ => show (y 0).val = 16 + 1 * (((y 0).val - 16) % 512); omega
    | ⟨1, _⟩ => show (y 1).val = 0 + 1 * (y 1).val; omega
  unfold pbuf
  rw [if_neg hy]
  conv_lhs => rw [e]
  exact View.canon_cons_emb _ _ _ _

/-- A row before the block isn't one of the block's. -/
theorem pnot_block (inb : ∀ a, (![16, 0] : Fin 2 → ℕ) a + (![512, 512] : Fin 2 → ℕ) a ≤ S528x512.size a) (y : S528x512.Idx) (hy : (y 0).val < 16) :
    y ∉ (Rect.unit (s := S528x512) ![16, 0] ![512, 512] inb).set := by
  rw [Rect.mem_set_unit]
  intro hm
  have h1 : 16 ≤ (y 0).val := (hm 0).1
  omega

/-- The sixteen rows, once stored. -/
theorem pcanon_halo (L : List (View.Piece (Elt Ideal) S528x512 .f32)) (z : FVec Ideal S512x512 .f32)
    (inb : ∀ a, (![0, 0] : Fin 2 → ℕ) a + (![16, 512] : Fin 2 → ℕ) a ≤ S528x512.size a) (h : Vec Ideal S16x512 .f32)
    (y : S528x512.Idx) (hy : (y 0).val < 16) :
    View.canon ((⟨Rect.unit (s := S528x512) ![0, 0] ![16, 512] inb, h⟩ : View.Piece (Elt Ideal) S528x512 .f32) :: L) y = pbuf h z y := by
  have e : y = (Rect.unit (s := S528x512) ![0, 0] ![16, 512] inb).emb (ix2 (Fin.ofNat 16 (y 0).val) (y 1) : S16x512.Idx) := by
    funext a; apply Fin.ext
    match a with
    | ⟨0, _⟩ => show (y 0).val = 0 + 1 * ((y 0).val % 16); omega
    | ⟨1, _⟩ => show (y 1).val = 0 + 1 * (y 1).val; omega
  unfold pbuf
  rw [if_pos hy]
  conv_lhs => rw [e]
  exact View.canon_cons_emb _ _ _ _

/-- The block stored over sixteen rows stored before. -/
theorem pcanon_both (z : FVec Ideal S512x512 .f32) (h : Vec Ideal S16x512 .f32)
    (inb : ∀ a, (![16, 0] : Fin 2 → ℕ) a + (![512, 512] : Fin 2 → ℕ) a ≤ S528x512.size a)
    (inb' : ∀ a, (![0, 0] : Fin 2 → ℕ) a + (![16, 512] : Fin 2 → ℕ) a ≤ S528x512.size a) :
    View.canon [(⟨Rect.unit (s := S528x512) ![16, 0] ![512, 512] inb, z⟩ : View.Piece (Elt Ideal) S528x512 .f32),
      ⟨Rect.unit (s := S528x512) ![0, 0] ![16, 512] inb', h⟩] = pbuf h z := by
  funext y
  by_cases hy : (y 0).val < 16
  · rw [View.canon_cons_of_not_mem]
    · exact pcanon_halo _ z inb' h y hy
    · exact pnot_block inb y hy
  · exact pcanon_block _ z inb h y hy

/-- Sixteen rows stored over the block. -/
theorem pcanon_after (L : List (View.Piece (Elt Ideal) S528x512 .f32)) (z : FVec Ideal S512x512 .f32) (h : Vec Ideal S16x512 .f32)
    (inb : ∀ a, (![16, 0] : Fin 2 → ℕ) a + (![512, 512] : Fin 2 → ℕ) a ≤ S528x512.size a)
    (inb' : ∀ a, (![0, 0] : Fin 2 → ℕ) a + (![16, 512] : Fin 2 → ℕ) a ≤ S528x512.size a) :
    View.canon ((⟨Rect.unit (s := S528x512) ![0, 0] ![16, 512] inb', h⟩ : View.Piece (Elt Ideal) S528x512 .f32)
      :: ⟨Rect.unit (s := S528x512) ![16, 0] ![512, 512] inb, z⟩ :: L) = pbuf h z := by
  funext y
  by_cases hy : (y 0).val < 16
  · exact pcanon_halo _ z inb' h y hy
  · rw [View.canon_cons_of_not_mem]
    · exact pcanon_block _ z inb h y hy
    · rw [Rect.mem_set_unit]
      intro hm
      have h1 : (y 0).val < 0 + 16 := (hm 0).2
      omega

section Case
variable (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S1024x2688 .bf16) (harg4 : arg4.IsWhole) (arg5 : Memref sig .tc .vmem S1x128 .f32) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S4x1024 .f32) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .f32) (harg13 : arg13.IsWhole) (arg14 : Memref sig .tc .vmem S1x512x128 .f32) (harg14 : arg14.IsWhole) (arg15 : Memref sig .tc .vmem S1x8x512 .f32) (harg15 : arg15.IsWhole) (arg16 : Memref sig .tc .vmem S528x512 .f32) (harg16 : arg16.IsWhole) (arg17 : Memref sig .tc .vmem S520x1024 .f32) (harg17 : arg17.IsWhole)
  (x0 : Vec Ideal S1x512x1024 .f32) (x1 : Vec Ideal S1x3x1024 .f32) (x2 : Vec Ideal S1024x2688 .bf16) (x3 : Vec Ideal S1x128 .f32) (x4 : Vec Ideal S4x128x128 .bf16) (x5 : Vec Ideal S1x512 .f32) (x6 : Vec Ideal S4x1024 .f32)

/-- A group's matrix, loaded. -/
theorem r4 (g : ℕ) (inb : ∀ a, (![g, 0, 0] : Fin 3 → ℕ) a + S1x128x128.size a ≤ S4x128x128.size a) :
    arg6.view.readAt (Elt Ideal) (Rect.unit (s := S4x128x128) ![g, 0, 0] ![1, 128, 128] inb).toLoadRect (harg6.unread x4) = wsl x4 g := by
  rw [View.readAt_eq_ld, harg6.read_unread]
  funext y
  have h0 : (y 0).val < 1 := (y 0).isLt
  have h1 : g + 1 ≤ 4 := inb 0
  refine congrArg x4 (funext fun a => Fin.ext ?_)
  match a with
  | ⟨0, _⟩ => show g + 1 * (y 0).val = g % 4; rw [Nat.mod_eq_of_lt (by omega)]; omega
  | ⟨1, _⟩ => show 0 + 1 * (y 1).val = (y 1).val; omega
  | ⟨2, _⟩ => show 0 + 1 * (y 2).val = (y 2).val; omega

/-- A group's scales, loaded. -/
theorem r5 (g : ℕ) (inb : ∀ a, (![0, g] : Fin 2 → ℕ) a + S1x128.size a ≤ S1x512.size a) :
    arg7.view.readAt (Elt Ideal) (Rect.unit (s := S1x512) ![0, g] ![1, 128] inb).toLoadRect (harg7.unread x5) = qsl x5 g := by
  rw [View.readAt_eq_ld, harg7.read_unread]
  funext y
  have h0 : (y 0).val < 1 := (y 0).isLt
  have h2 : (y 1).val < 128 := (y 1).isLt
  have h1 : g + 128 ≤ 512 := inb 1
  refine congrArg x5 (funext fun a => Fin.ext ?_)
  match a with
  | ⟨0, _⟩ => show 0 + 1 * (y 0).val = 0; omega
  | ⟨1, _⟩ => show g + 1 * (y 1).val = (g + (y 1).val) % 512; rw [Nat.mod_eq_of_lt (by omega)]; omega

/-- The kept rows, loaded after the block was stored over a start of zeros. -/
theorem pz (z : FVec Ideal S512x512 .f32) (h : Vec Ideal S16x512 .f32) (n g : ℕ)
    (inb : ∀ a, (![16, 0] : Fin 2 → ℕ) a + (![512, 512] : Fin 2 → ℕ) a ≤ S528x512.size a)
    (inb' : ∀ a, (![0, 0] : Fin 2 → ℕ) a + (![16, 512] : Fin 2 → ℕ) a ≤ S528x512.size a)
    (inb'' : ∀ a, (![n, g] : Fin 2 → ℕ) a + (![512, 128] : Fin 2 → ℕ) a ≤ S528x512.size a) :
    arg16.view.readCov [(⟨Rect.unit (s := S528x512) ![16, 0] ![512, 512] inb, z⟩ : View.Piece (Elt Ideal) S528x512 .f32),
      ⟨Rect.unit (s := S528x512) ![0, 0] ![16, 512] inb', h⟩] (Rect.unit (s := S528x512) ![n, g] ![512, 128] inb'').toLoadRect = grp (pbuf h z) n g := by
  rw [View.readCov_eq_canon', pcanon_both, ← ld_grp _ _ _ inb'']

/-- The block's own rows, loaded after it was stored. -/
theorem pb (L : List (View.Piece (Elt Ideal) S528x512 .f32)) (z : FVec Ideal S512x512 .f32) (h : Vec Ideal S16x512 .f32) (g : ℕ)
    (inb : ∀ a, (![16, 0] : Fin 2 → ℕ) a + (![512, 512] : Fin 2 → ℕ) a ≤ S528x512.size a)
    (inb' : ∀ a, (![16, g] : Fin 2 → ℕ) a + (![512, 128] : Fin 2 → ℕ) a ≤ S528x512.size a) :
    arg16.view.readCov ((⟨Rect.unit (s := S528x512) ![16, 0] ![512, 512] inb, z⟩ : View.Piece (Elt Ideal) S528x512 .f32) :: L)
      (Rect.unit (s := S528x512) ![16, g] ![512, 128] inb').toLoadRect = grp (pbuf h z) 16 g := by
  rw [View.readCov_eq_canon', ← ld_grp _ _ _ inb']
  funext j
  exact pcanon_block _ z inb h _ (by show ¬16 + 1 * (j 0).val < 16; omega)

/-- The block's last sixteen rows, loaded after it was stored. -/
theorem pl (L : List (View.Piece (Elt Ideal) S528x512 .f32)) (z : FVec Ideal S512x512 .f32)
    (inb : ∀ a, (![16, 0] : Fin 2 → ℕ) a + (![512, 512] : Fin 2 → ℕ) a ≤ S528x512.size a)
    (inb' : ∀ a, (![512, 0] : Fin 2 → ℕ) a + (![16, 512] : Fin 2 → ℕ) a ≤ S528x512.size a) :
    arg16.view.readCov ((⟨Rect.unit (s := S528x512) ![16, 0] ![512, 512] inb, z⟩ : View.Piece (Elt Ideal) S528x512 .f32) :: L)
      (Rect.unit (s := S528x512) ![512, 0] ![16, 512] inb').toLoadRect = plast z := by
  rw [View.readCov_eq_canon']
  funext j
  have hj : (j 0).val < 16 := (j 0).isLt
  refine (pcanon_block _ z inb (fun _ => 0) _ (by show ¬512 + 1 * (j 0).val < 16; omega)).trans ?_
  unfold pbuf plast
  rw [if_neg (by show ¬512 + 1 * (j 0).val < 16; omega)]
  refine congrArg z (funext fun a => Fin.ext ?_)
  match a with
  | ⟨0, _⟩ => show (512 + 1 * (j 0).val - 16) % 512 = (496 + (j 0).val) % 512; omega
  | ⟨1, _⟩ => show 0 + 1 * (j 1).val = (j 1).val; omega

/-- The kept rows, loaded after the block was stored over the rows the point before left. -/
theorem ps (xs0 : Vec Ideal S528x512 .f32) (z : FVec Ideal S512x512 .f32) (n g : ℕ)
    (inb : ∀ a, (![16, 0] : Fin 2 → ℕ) a + (![512, 512] : Fin 2 → ℕ) a ≤ S528x512.size a)
    (inb'' : ∀ a, (![n, g] : Fin 2 → ℕ) a + (![512, 128] : Fin 2 → ℕ) a ≤ S528x512.size a) :
    arg16.view.readAt (Elt Ideal) (Rect.unit (s := S528x512) ![n, g] ![512, 128] inb'').toLoadRect
      (arg16.view.writes (Elt Ideal) (harg16.unread xs0) [⟨Rect.unit (s := S528x512) ![16, 0] ![512, 512] inb, z⟩]) = grp (pbuf (ptop xs0) z) n g := by
  rw [View.readAt_eq_ld, ← ld_grp _ _ _ inb'']
  refine congrArg (fun f => View.ld f (Rect.unit (s := S528x512) ![n, g] ![512, 128] inb'')) ?_
  funext y
  by_cases hy : (y 0).val < 16
  · rw [View.read_writes_apply_of_forall_not_mem, harg16.read_unread]
    · unfold pbuf ptop
      rw [if_pos hy]
      refine congrArg xs0 (funext fun a => Fin.ext ?_)
      match a with
      | ⟨0, _⟩ => show (y 0).val = (y 0).val % 16 % 528; omega
      | ⟨1, _⟩ => rfl
    · intro p hp
      obtain rfl := List.mem_singleton.1 hp
      exact pnot_block inb y hy
  · refine Eq.trans ?_ (pcanon_block [] z inb (ptop xs0) y hy)
    rw [← View.read_writes_junk_eq_canon arg16.view]
    refine View.read_writes_apply_eq _ _ _ _ y _ ⟨_, List.mem_singleton.2 rfl, ?_⟩
    have h0 : (y 0).val < 528 := (y 0).isLt
    have h1 : (y 1).val < 512 := (y 1).isLt
    rw [Rect.mem_set_unit]
    intro a
    match a with
    | ⟨0, _⟩ => exact ⟨by show 16 ≤ (y 0).val; omega, by show (y 0).val < 16 + 512; omega⟩
    | ⟨1, _⟩ => exact ⟨Nat.zero_le _, by show (y 1).val < 0 + 512; omega⟩

/-- The pooling's block at a point that starts a sequence. -/
theorem out7_A (hc0 : cond0_0 i) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6
      = beside (groups (BitVec.ofNat 32 (i 1).val) x4 x5 (pbuf (k0_pay5 (F := Ideal)) (k0_pay8 x1 x0 (cols x2 512 0)))) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6)]
  unfold kernelRun0_A
  dsimp only
  sl_unfold_words
  simp only [r0, r1, r2, r4, r5, pz]
  exact canon_groups (groups _ _ _ _) _ _ _ _

/-- The rows it keeps: the pooled columns' last sixteen, then its block's. -/
theorem sout7_A (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6
      = pbuf (plast (k0_pay8 x1 x0 (cols x2 512 0))) (k0_pay8 x1 x0 (cols x2 512 0)) := by
  unfold sout0_A_0
  rw [View.read_writes_junk_eq_canon]
  unfold kernelRun0_A
  dsimp only
  sl_unfold_words
  simp only [r0, r1, r2, pl, k0_pay24, shapeCast_self]
  exact pcanon_after _ _ _ _ _

/-- The pooling's block at a point that goes on from the one before. -/
theorem out7_B (hc0 : ¬cond0_0 i) (xs0 : Vec Ideal S528x512 .f32) (xs1 : Vec Ideal S520x1024 .f32) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1
      = beside (groups (BitVec.ofNat 32 (i 1).val) x4 x5 (pbuf (ptop xs0) (k0_pay8 x1 x0 (cols x2 512 0)))) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1)]
  unfold kernelRun0_B
  dsimp only
  sl_unfold_words
  simp only [r0, r1, r2, r4, r5, ps, pb _ _ _ (ptop xs0)]
  exact canon_groups (groups _ _ _ _) _ _ _ _

/-- The rows it keeps: the pooled columns' last sixteen, then its block's. -/
theorem sout7_B (hc0 : ¬cond0_0 i) (xs0 : Vec Ideal S528x512 .f32) (xs1 : Vec Ideal S520x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1
      = pbuf (plast (k0_pay8 x1 x0 (cols x2 512 0))) (k0_pay8 x1 x0 (cols x2 512 0)) := by
  unfold sout0_B_0
  rw [View.read_writes_junk_eq_canon]
  unfold kernelRun0_B
  dsimp only
  sl_unfold_words
  simp only [r0, r1, r2, pl, k0_pay24, shapeCast_self]
  exact pcanon_after _ _ _ _ _

end Case

end Cert.EvenProjIdeal.Block

end
-- ==== Proof.EvenPoolArray.lean ====
/- What the pooling's output holds after the run. -/
module

public import proofs.«01_k».proof.Proof.EvenArray
public import proofs.«01_k».proof.Proof.EvenPool

@[expose] public section

set_option maxRecDepth 16384

noncomputable section

namespace Cert.EvenProjIdeal.Array

open Idealize.ShloMosaic Idealize.ShloMosaic.TcCoe Idealize.ShloMosaic.ValueIdx Idealize.SL.Sem
open Cert.EvenProjIdeal Cert.EvenProjIdeal.Gen Cert.EvenProjIdeal.Block
open Cert.FfnIdeal.Array (ofNat_small)
open Cert.EvenSpec Finset

variable (m : (ℓ : Loc nD τ sig) → Buf (Elt Ideal) ℓ)

/-- The groups' matrices and the columns' scales in a memory. -/
abbrev pOf (c : Dev nD) : PW := m ((c : Thread nD τ).loc main_arg4)
abbrev sOf (c : Dev nD) : PS := m ((c : Thread nD τ).loc main_arg5)

/-- The result array. -/
def resultY (c : Dev nD) : Buf (Elt Ideal) ((c : Thread nD τ).loc main_v6_0) := fun (i : S16x4096x512.Idx) =>
  yOut (xOf m c) (mOf m c) (wOf m c) (pOf m c) (sOf m c) (i 0) (i 1) (Fin.ofNat 4 ((i 2).val / 128)) (Fin.ofNat 128 (i 2).val)

/-- The matrices that reach the call. -/
theorem V_v4 (c : Dev nD) : V m c main_v4 = truncf (F := Ideal) .bf16 (pOf m c : FVec Ideal S4x128x128 .f32) bitsLt_bf16_f32 := by
  show StableHlo.after (List.flatten [hostOps0, hostOps0_1, hostOps0_2, hostOps0_3, hostOps0_4]) (fun b => m (c, b)) (main_v4 : DevRef τ sig) = _
  simp only [hostOps0, hostOps0_1, hostOps0_2, hostOps0_3, hostOps0_4, List.flatten_cons, List.flatten_nil, List.cons_append, List.nil_append]
  after_results

/-- The scales that reach the call, as one row. -/
theorem V_v5 (c : Dev nD) : V m c main_v5 = shapeCast S1x512 (sOf m c : FVec Ideal S512 .f32) shapeCasts_S512_S1x512 := by
  show StableHlo.after (List.flatten [hostOps0, hostOps0_1, hostOps0_2, hostOps0_3, hostOps0_4]) (fun b => m (c, b)) (main_v5 : DevRef τ sig) = _
  simp only [hostOps0, hostOps0_1, hostOps0_2, hostOps0_3, hostOps0_4, List.flatten_cons, List.flatten_nil, List.cons_append, List.nil_append]
  after_results
  rfl

/-- The matrices' block. -/
theorem iblk4_apply (c : Dev nD) (t : Fin cfg0.N) (g : Fin 4) (k d : Fin 128) :
    (iblk m c 4 t : Vec Ideal S4x128x128 .bf16) (ix3 g k d) = pOf m c (ix3 g k d) := by
  unfold iblk
  rw [View.read_apply]
  show V m c main_v4 _ = _
  rw [V_v4]
  refine Eq.trans (congrArg _ (funext fun a => Fin.ext ?_)) (rfl : truncf (F := Ideal) .bf16 (pOf m c : FVec Ideal S4x128x128 .f32) bitsLt_bf16_f32 (ix3 g k d) = pOf m c (ix3 g k d))
  match a with
  | ⟨0, _⟩ => show (0#32).toNat * 4 + 1 * g.val = g.val; simp
  | ⟨1, _⟩ => show (0#32).toNat * 128 + 1 * k.val = k.val; simp
  | ⟨2, _⟩ => show (0#32).toNat * 128 + 1 * d.val = d.val; simp

/-- The scales' block. -/
theorem iblk5_apply (c : Dev nD) (t : Fin cfg0.N) (j : Fin 512) : (iblk m c 5 t : Vec Ideal S1x512 .f32) (ix2 0 j) = sOf m c (ix1 j) := by
  unfold iblk
  rw [View.read_apply]
  show V m c main_v5 _ = _
  rw [V_v5]
  refine shapeCast_apply _ _ _ (ix1 j) ?_
  rw [Shape.rowMajor_val_one, Shape.rowMajor_val_two]
  show j.val = ((0#32).toNat * 1 + 1 * 0) * 512 + ((0#32).toNat * 512 + 1 * j.val)
  simp

/-! ## The carried rows -/

/-- A grid point's pooled columns. -/
abbrev pzOf (c : Dev nD) (t : Fin cfg0.N) : FVec Ideal S512x512 .f32 := k0_pay8 (iblk m c 1 t) (iblk m c 0 t) (cols (iblk m c 2 t) 512 0)

/-- A grid point's pooled columns are the layer's. -/
theorem pz_apply (c : Dev nD) (t : Fin cfg0.N) (r j : Fin 512) (s : Fin 4096) (hs : s.val = 512 * (grid0.coords t 1).val + r.val) :
    pzOf m c t (ix2 r j) = proj (xOf m c) (mOf m c) (wOf m c) (grid0.coords t 0) s ⟨j.val, by omega⟩ := by
  refine Eq.trans ?_ (u_eq m c t r s hs (0 + j.val) ⟨j.val, by omega⟩ (Nat.zero_add _))
  unfold pzOf k0_pay8
  rw [shapeCast_self, shapeCast_self]
  refine (Ideal.matmul_plain_apply (M := 512) (K := 1024) (N := 512) (φ₂ := .bf16) none _ _ _ r j).trans ?_
  rw [constant_apply, Ideal.ofBits_zero_f32, zero_add]
  exact sum_congr rfl fun k _ => congrArg₂ (· * ·) (FfnIdeal.Block.h_apply _ _ r k) rfl

/-- What a grid point carries to the next of the pooled columns. -/
theorem pcarried_eq (c : Dev nD) (t : Fin cfg0.N) : (outsAt0 m c t.val t.isLt).2.2.2.2.2.2.2.1 = pbuf (plast (pzOf m c t)) (pzOf m c t) := by
  by_cases h0 : t.val % 8 = 0
  · rw [outsAt0_A m c t h0]; dsimp only; exact sout7_A ..
  · rw [outsAt0_B m c t h0]; dsimp only; exact sout7_B ..

/-- The sixteen rows a grid point starts from: zero at a sequence's start, else the point before's. -/
def phalo (c : Dev nD) (t : Fin cfg0.N) : Vec Ideal S16x512 .f32 :=
  if t.val % 8 = 0 then k0_pay5 (F := Ideal) else ptop (outsAt0 m c (t.val - 1) (Nat.lt_of_le_of_lt (Nat.sub_le _ _) t.isLt)).2.2.2.2.2.2.2.1

/-- The first rows of the kept ones. -/
theorem ptop_pbuf (h : Vec Ideal S16x512 .f32) (z : FVec Ideal S512x512 .f32) (q : Fin 16) (j : Fin 512) : ptop (pbuf h z) (ix2 q j) = h (ix2 q j) := by
  have hq := q.isLt
  unfold ptop pbuf
  refine (if_pos (by show q.val % 528 < 16; omega)).trans (congrArg h (funext fun a => Fin.ext ?_))
  match a with
  | ⟨0, _⟩ => show q.val % 528 % 16 = q.val; omega
  | ⟨1, _⟩ => rfl

/-- The rows a grid point starts from, entry by entry. -/
theorem phalo_apply (c : Dev nD) (t : Fin cfg0.N) (q : Fin 16) (j : Fin 512) :
    phalo m c t (ix2 q j) = if (grid0.coords t 1).val = 0 then 0 else proj (xOf m c) (mOf m c) (wOf m c) (grid0.coords t 0)
      (Fin.ofNat 4096 (512 * (grid0.coords t 1).val + q.val - 16)) ⟨j.val, by omega⟩ := by
  obtain ⟨e0, e1⟩ := coords_eq t
  have hq := q.isLt
  have c1 := c1_lt t
  unfold phalo
  rw [e1]
  by_cases h0 : t.val % 8 = 0
  · rw [if_pos h0, if_pos h0]
    unfold k0_pay5
    rw [shapeCast_self]
    exact Ideal.ofBits_zero_f32
  · rw [if_neg h0, if_neg h0]
    let t' : Fin cfg0.N := ⟨t.val - 1, Nat.lt_of_le_of_lt (Nat.sub_le _ _) t.isLt⟩
    obtain ⟨f0, f1⟩ := coords_eq t'
    have tv : t'.val = t.val - 1 := rfl
    have e : grid0.coords t' 0 = grid0.coords t 0 := Fin.ext (by omega)
    refine (congrFun (congrArg ptop (pcarried_eq m c t')) (ix2 q j)).trans ?_
    rw [ptop_pbuf, ← e]
    unfold plast
    exact pz_apply m c t' _ j (Fin.ofNat 4096 (512 * (t.val % 8) + q.val - 16)) (by
      show (512 * (t.val % 8) + q.val - 16) % 4096 = 512 * (grid0.coords t' 1).val + (496 + q.val) % 512
      omega)

/-! ## A row of the block -/

section Row
variable (c : Dev nD) (t : Fin cfg0.N) (r : Fin 512) (s : Fin 4096) (hs : s.val = 512 * (grid0.coords t 1).val + r.val)

/-- The rows a grid point works on: those it starts from, then its own. -/
abbrev kept (c : Dev nD) (t : Fin cfg0.N) : Vec Ideal S528x512 .f32 := pbuf (phalo m c t) (pzOf m c t)

include hs

/-- A pooled column, `n` rows back. -/
theorem grp_eq (k : Fin 128) (g : Fin 4) (o n : ℕ) (ho : o = 128 * g.val) (hn : n ≤ 15) :
    grp (kept m c t) (16 - n) o (ix2 r k) = backP (xOf m c) (mOf m c) (wOf m c) (grid0.coords t 0) s (col g k) n := by
  have hr := r.isLt
  have hsl := s.isLt
  have hk := k.isLt
  have hg := g.isLt
  have hj : Fin.ofNat 512 (o + k.val) = col g k := Fin.ext (by show (o + k.val) % 512 = 128 * g.val + k.val; omega)
  unfold grp
  show kept m c t (ix2 (Fin.ofNat 528 (16 - n + r.val)) (Fin.ofNat 512 (o + k.val))) = _
  rw [hj]
  unfold kept pbuf backP
  by_cases h : r.val < n
  · refine (if_pos (by show (16 - n + r.val) % 528 < 16; omega)).trans ?_
    refine (phalo_apply m c t _ _).trans ?_
    by_cases h1 : (grid0.coords t 1).val = 0
    · rw [if_pos h1, if_pos (by omega)]
    · rw [if_neg h1, if_neg (by omega)]
      exact congrArg (fun y => proj _ _ _ _ y _) (Fin.ext (by
        show (512 * (grid0.coords t 1).val + (16 - n + r.val) % 528 % 16 - 16) % 4096 = (s.val - n) % 4096
        omega))
  · refine (if_neg (by show ¬(16 - n + r.val) % 528 < 16; omega)).trans ?_
    rw [if_neg (by omega)]
    exact pz_apply m c t _ _ _ (by show (s.val - n) % 4096 = _ + ((16 - n + r.val) % 528 - 16) % 512; omega)

/-- The count of a row's window. -/
theorem counts_eq (w : ℕ) : FloatOps.sitofp (F := Ideal) .f32 (counts (BitVec.ofNat 32 (grid0.coords t 1).val) (BitVec.ofNat 32 w) (ix2 r 0)) = EvenSpec.count s.val w := by
  unfold EvenSpec.count
  refine congrArg (fun z => FloatOps.sitofp (F := Ideal) .f32 (IntOp.minsi z (BitVec.ofNat 32 w))) ?_
  rw [hs]
  have hi : iota .tc S512x1 32 [0] iota_S512x1_d0_w32 (ix2 r 0) = BitVec.ofNat 32 r.val := iota_single_apply _ _ _ _ _ _
  show BitVec.ofNat 32 (grid0.coords t 1).val * BitVec.ofNat 32 512 + iota .tc S512x1 32 [0] iota_S512x1_d0_w32 (ix2 r 0) + BitVec.ofNat 32 1 = _
  rw [hi, ← BitVec.ofNat_mul, ← BitVec.ofNat_add, ← BitVec.ofNat_add, Nat.mul_comm]

/-- A group's row. -/
theorem mixed_row (g : Fin 4) (d : Fin 128) (o n : ℕ) (ho : o = 128 * g.val) (hn : n + 1 = win g) (hw : n ≤ 15) :
    mixed (sums (kept m c t) o n) (grp (kept m c t) 16 o) (counts (BitVec.ofNat 32 (grid0.coords t 1).val) (BitVec.ofNat 32 (win g)))
      (wsl (iblk m c 4 t) g.val) (qsl (iblk m c 5 t) o) (ix3 0 r d)
      = yOut (xOf m c) (mOf m c) (wOf m c) (pOf m c) (sOf m c) (grid0.coords t 0) s g d := by
  have hd := d.isLt
  have hg := g.isLt
  rw [mixed_apply]
  unfold yOut mean
  refine congrArg₂ (· * ·) (sum_congr rfl fun k _ => congrArg₂ (· * ·) (congrArg₂ (· - ·) (congrArg₂ Ideal.div ?_ ?_) ?_) ?_) ?_
  · rw [sums_apply, hn]
    exact sum_congr rfl fun j hj => grp_eq m c t r s hs k g o j ho (by have := mem_range.1 hj; omega)
  · exact counts_eq t r s hs (win g)
  · exact grp_eq m c t r s hs k g o 0 ho (Nat.zero_le _)
  · refine Eq.trans ?_ (iblk4_apply m c t g k d)
    refine congrArg (iblk m c 4 t : Vec Ideal S4x128x128 .bf16) (funext fun a => Fin.ext ?_)
    match a with
    | ⟨0, _⟩ => show g.val % 4 = g.val; omega
    | ⟨1, _⟩ => rfl
    | ⟨2, _⟩ => rfl
  · refine Eq.trans ?_ (iblk5_apply m c t (col g d))
    refine congrArg (iblk m c 5 t : Vec Ideal S1x512 .f32) (funext fun a => Fin.ext ?_)
    match a with
    | ⟨0, _⟩ => rfl
    | ⟨1, _⟩ => show (o + d.val) % 512 = 128 * g.val + d.val; omega

/-- A row of the four groups. -/
theorem y_row (g : Fin 4) (d : Fin 128) :
    groups (BitVec.ofNat 32 (grid0.coords t 1).val) (iblk m c 4 t) (iblk m c 5 t) (kept m c t) g (ix3 0 r d)
      = yOut (xOf m c) (mOf m c) (wOf m c) (pOf m c) (sOf m c) (grid0.coords t 0) s g d := by
  match g with
  | ⟨0, _⟩ => exact mixed_row m c t r s hs 0 d 0 1 rfl rfl (by omega)
  | ⟨1, _⟩ => exact mixed_row m c t r s hs 1 d 128 3 rfl rfl (by omega)
  | ⟨2, _⟩ => exact mixed_row m c t r s hs 2 d 256 7 rfl rfl (by omega)
  | ⟨3, _⟩ => exact mixed_row m c t r s hs 3 d 384 15 rfl rfl (by omega)

end Row

/-! ## The array -/

/-- What a grid point writes back of the pooling's output. -/
theorem flushedY (c : Dev nD) (t : Fin cfg0.N) : (dats m 0 c).flushed 7 t = (cfg0.win 7).cut (grid0.coords t)
    (beside (groups (BitVec.ofNat 32 (grid0.coords t 1).val) (iblk m c 4 t) (iblk m c 5 t) (kept m c t))) := by
  unfold kept phalo
  by_cases h0 : t.val % 8 = 0
  · rw [Value.flushed7_A m c t h0, out7_A, if_pos h0]
  · rw [Value.flushed7_B m c t h0, out7_B, if_neg h0]

/-- What a grid point writes back is its block of the pooling's output. -/
theorem flushedY_eq (c : Dev nD) (t : Fin cfg0.N) : (dats m 0 c).flushed 7 t = ((cfg0.win 7).blk t).view.read (Elt Ideal) (resultY m c) := by
  rw [flushedY]
  funext y
  obtain ⟨z, r, d, rfl⟩ : ∃ (z : Fin 1) (r d : Fin 512), y = ix3 z r d := ⟨y 0, y 1, y 2, eq_ix3 y⟩
  obtain rfl : z = 0 := Subsingleton.elim _ _
  rw [View.read_apply]
  refine Eq.trans ?_ ((y_row m c t r ⟨_, pos_lt t r⟩ rfl (Fin.ofNat 4 (d.val / 128)) (Fin.ofNat 128 d.val)).trans ?_)
  · rfl
  obtain ⟨b0, b1, b2⟩ := place t r d (pos_lt t r) (((cfg0.win 7).blk t).view.emb (ix3 0 r d)) rfl rfl rfl
  unfold resultY
  show _ = yOut _ _ _ _ _ _ _ _ _
  rw [b0, b1, b2]

/-- The pooling's output after the run. -/
theorem finalY (c : Dev nD) : (dats m 0 c).arrAt 7 cfg0.N = resultY m c :=
  (dats m 0 c).arrAt_eq_of_cover 7 (resultY m c) (fun t _ => flushedY_eq m c t) fun i => by
    let t : Fin cfg0.N := ⟨_, point_lt (i 0) (i 1)⟩
    refine ⟨t, flush0_7 t, ?_⟩
    show i ∈ ((View.whole main_v6_0).slice (win0_7.rect t)).set
    rw [View.set_slice_whole, Rect.mem_set_unit]
    intro a
    match a with
    | ⟨0, _⟩ => exact inBlock t i rfl 0
    | ⟨1, _⟩ => exact inBlock t i rfl 1
    | ⟨2, _⟩ => exact inBlock t i rfl 2

end Cert.EvenProjIdeal.Array

end
-- ==== Proof.EvenRef.lean ====
/- What the recurrence's projection's reference computes. -/
module

public import proofs.«01_k».proof.Proof.EvenSpec
public import proofs.«01_k».proof.Proof.Gen.EvenProjRefIdeal.Read
public import Idealize.ShloMosaic.Lib.KernelVsHost

@[expose] public section

set_option maxRecDepth 16384

noncomputable section

namespace Cert.EvenProjRefIdeal.Ref

open Idealize.ShloMosaic Idealize.ShloMosaic.ValueIdx Finset
open Cert.EvenProjRefIdeal Cert.EvenProjRefIdeal.Gen Cert.EvenProjRefIdeal.Read Cert.EvenSpec
open Cert.FfnSpec (XX MM modIn cOne)

variable (x : XX) (m : MM) (w : WI) (g : GB) (t : CV)

/-! ## The product -/

/-- The modulated input. -/
theorem v7_apply (b : Fin 16) (s : Fin 4096) (k : Fin 1024) : val_main_v7 (F := Ideal) x m (ix3 b s k) = modIn x m b s k := by
  rw [val_main_v7_apply, val_main_v5_apply, val_main_v4_apply, val_main_v3_apply, val_main_v6_apply, val_main_v0_apply, val_main_v1_apply]
  refine congrArg₂ (· + ·) (congrArg₂ (· * ·) rfl (congrArg₂ (· + ·) ?_ ?_)) ?_
  · exact (val_main_v2_apply _).trans rfl
  · exact congrArg m (funext fun a => by match a with | ⟨0, _⟩ => rfl | ⟨1, _⟩ => rfl | ⟨2, _⟩ => rfl)
  · exact congrArg m (funext fun a => by match a with | ⟨0, _⟩ => rfl | ⟨1, _⟩ => rfl | ⟨2, _⟩ => rfl)

/-- The product. -/
theorem v8_apply (b : Fin 16) (s : Fin 4096) (e : Fin 2568) (i : S16x4096x2568.Idx) (h0 : i 0 = b) (h1 : i 1 = s) (h2 : (i 2).val = e.val) :
    val_main_v8 (F := Ideal) x m w i = proj x m w b s e := by
  have hi : i = ix3 b s e := (eq_ix3 i).trans (by rw [h0, h1, (Fin.ext h2 : i 2 = e)]; rfl)
  rw [hi, val_main_v8_apply]
  refine sum_congr rfl fun k _ => congrArg₂ (· * ·) ?_ ?_
  · refine (congrArg (val_main_v7 (F := Ideal) x m) (funext fun a => ?_)).trans (v7_apply x m b s k)
    match a with | ⟨0, _⟩ => rfl | ⟨1, _⟩ => rfl | ⟨2, _⟩ => rfl
  · exact congrArg w (funext fun a => by match a with | ⟨0, _⟩ => rfl | ⟨1, _⟩ => rfl)

/-! ## The convolution -/

/-- The padded product's row `s + (3 - n)` is the product `n` rows back from `s`. -/
theorem v14_apply (b : Fin 16) (s : Fin 4096) (c : Fin 1024) (n : ℕ) (hn : n ≤ 3) (p : S16x4099x1024.Idx)
    (h0 : p 0 = b) (h1 : (p 1).val = 3 - n + s.val) (h2 : p 2 = c) :
    val_main_v14 (F := Ideal) x m w p = back x m w b s c n := by
  unfold back val_main_v14
  have hs := s.isLt
  split_ifs with hc
  · refine (pad_apply_of_not_inside _ _ _ _ _ _ _ p 1 (fun hin => ?_)).trans ?_
    · have : 3 ≤ (p 1).val := hin.1
      omega
    · show (((0#32).toInt : ℝ) : EReal) = 0
      simp
  · refine (pad_apply_of_inside _ _ _ _ _ _ _ p (ix3 b (Fin.ofNat 4096 (s.val - n)) c) (fun a => ?_)).trans
      ((val_main_v10_apply _ _ _ _).trans (v8_apply x m w b _ _ _ rfl rfl rfl))
    match a with
    | ⟨0, _⟩ => show (p 0).val = 0 + b.val * (0 + 1); rw [h0]; omega
    | ⟨1, _⟩ => show (p 1).val = 3 + (s.val - n) % 4096 * (0 + 1); rw [h1]; omega
    | ⟨2, _⟩ => show (p 2).val = 0 + c.val * (0 + 1); rw [h2]; omega

/-- The convolution. -/
theorem v41_apply (b : Fin 16) (s : Fin 4096) (c : Fin 1024) :
    val_main_v41 (F := Ideal) x m w t (ix3 b s c) = conv x m w t b s c := by
  have hc : c.val % 1024 = c.val := Nat.mod_eq_of_lt c.isLt
  rw [val_main_v41_apply, val_main_v34_apply, val_main_v27_apply, val_main_v20_apply, val_main_v26_apply, val_main_v33_apply, val_main_v40_apply,
    val_main_v15_apply, val_main_v21_apply, val_main_v28_apply, val_main_v35_apply,
    val_main_v19_apply, val_main_v18_apply, val_main_v17_apply, val_main_v16_apply, val_main_v25_apply, val_main_v24_apply, val_main_v23_apply,
    val_main_v22_apply, val_main_v32_apply, val_main_v31_apply, val_main_v30_apply, val_main_v29_apply, val_main_v39_apply, val_main_v38_apply,
    val_main_v37_apply, val_main_v36_apply,
    v14_apply x m w b s c 3 le_rfl _ rfl (by show s.val = 3 - 3 + s.val; omega) rfl,
    v14_apply x m w b s c 2 (by omega) _ rfl (by show 1 + s.val = 3 - 2 + s.val; omega) rfl,
    v14_apply x m w b s c 1 (by omega) _ rfl (by show 2 + s.val = 3 - 1 + s.val; omega) rfl,
    v14_apply x m w b s c 0 (by omega) _ rfl (by show 3 + s.val = 3 - 0 + s.val; omega) rfl]
  refine congrArg₂ (· + ·) (congrArg₂ (· + ·) (congrArg₂ (· + ·) ?_ ?_) ?_) ?_ <;>
  · refine congrArg₂ (· * ·) rfl (congrArg t (funext fun a => ?_))
    match a with
    | ⟨0, _⟩ => rfl
    | ⟨1, _⟩ => exact Fin.ext hc

/-- The convolution times its logistic. -/
theorem v42_apply (b : Fin 16) (s : Fin 4096) (c : Fin 1024) (i : S16x4096x1024.Idx) (h0 : i 0 = b) (h1 : i 1 = s) (h2 : (i 2).val = c.val) :
    val_main_v42 (F := Ideal) x m w t i = silu (conv x m w t b s c) := by
  have hi : i = ix3 b s c := (eq_ix3 i).trans (by rw [h0, h1, (Fin.ext h2 : i 2 = c)]; rfl)
  rw [hi, val_main_v42_apply, val_main_call1_v5_apply, val_main_call1_v3_apply, val_main_call1_v1_apply, val_main_call1_v0_apply, v41_apply,
    val_main_call1_v4_apply, val_main_call1_v2_apply]
  rfl

/-! ## The results -/

/-- The queries. -/
theorem v54_apply (b : Fin 16) (s : Fin 4096) (d : Fin 512) : val_main_v54 (F := Ideal) x m w t (ix3 b s d) = qOut x m w t b s d := by
  rw [val_main_v54_apply]
  exact (val_main_v43_apply _ _ _ _ _).trans (v42_apply x m w t b s _ _ rfl rfl rfl)

/-- The keys. -/
theorem v55_apply (b : Fin 16) (s : Fin 4096) (d : Fin 512) : val_main_v55 (F := Ideal) x m w t (ix3 b s d) = kOut x m w t b s d := by
  rw [val_main_v55_apply, val_main_v46_apply]
  exact congrArg₂ (· * ·) ((val_main_v44_apply _ _ _ _ _).trans (v42_apply x m w t b s _ _ rfl rfl rfl)) ((val_main_v45_apply _).trans rfl)

/-- The values. -/
theorem v56_apply (b : Fin 16) (s : Fin 4096) (d : Fin 512) : val_main_v56 (F := Ideal) x m w (ix3 b s d) = vOut x m w b s d := by
  rw [val_main_v56_apply]
  exact (val_main_v11_apply _ _ _ _).trans (v8_apply x m w b s _ _ rfl rfl rfl)

/-- The output's gate. -/
theorem v62_apply (b : Fin 16) (s : Fin 4096) (d : Fin 512) : val_main_v62 (F := Ideal) x m w (ix3 b s d) = oOut x m w b s d := by
  rw [val_main_v62_apply, val_main_v61_apply, val_main_v60_apply, val_main_v59_apply, val_main_v58_apply, val_main_v57_apply,
    val_main_v12_apply, v8_apply x m w b s ⟨2048 + d.val, by omega⟩ _ rfl rfl rfl]
  rfl

/-- A gate before its logarithm. -/
theorem v49_apply (b : Fin 16) (s : Fin 4096) (j : Fin 8) (i : S16x4096x8.Idx) (h0 : i 0 = b) (h1 : i 1 = s) (h2 : (i 2).val = j.val) :
    val_main_v49 (F := Ideal) x m w g i = gate x m w g b s j := by
  have hi : i = ix3 b s j := (eq_ix3 i).trans (by rw [h0, h1, (Fin.ext h2 : i 2 = j)]; rfl)
  rw [hi, val_main_v49_apply, val_main_v13_apply, val_main_v48_apply, val_main_v47_apply]
  refine congrArg₂ (· + ·) (v8_apply x m w b s _ _ rfl rfl rfl) (congrArg g (funext fun a => ?_))
  match a with | ⟨0, _⟩ => rfl

/-- The logarithm of a gate's logistic. -/
theorem v52_apply (b : Fin 16) (s : Fin 4096) (j : Fin 4) :
    val_main_v52 (F := Ideal) x m w g (ix3 b s j) = logSig (gate x m w g b s ⟨4 + j.val, by omega⟩) := by
  rw [val_main_v52_apply, val_main_call2_v1_apply, val_main_call2_call0_v4_apply, val_main_call2_call0_v11_apply, val_main_call2_call0_v10_apply,
    val_main_call2_call0_v9_apply, val_main_call2_call0_v8_apply, val_main_call2_call0_v7_apply, val_main_call2_call0_v3_apply,
    val_main_call2_call0_v2_apply, val_main_call2_call0_v1_apply, val_main_call2_call0_v0_apply, val_main_call2_v0_apply, val_main_v51_apply,
    v49_apply x m w g b s ⟨4 + j.val, by omega⟩ _ rfl rfl rfl]
  generalize gate x m w g b s _ = v
  have z : (FloatOps.ofBits (F := Ideal) .f32 0x00000000#32 : EReal) = 0 := Ideal.ofBits_zero_f32
  have e : FloatOps.subf (F := Ideal) (φ := .f32) (FloatOps.hostNegf (F := Ideal) (φ := .f32) v) (FloatOps.ofBits (F := Ideal) .f32 0x00000000#32) = (-v : EReal) := by
    rw [z]; show (-v : EReal) - 0 = -v; exact sub_zero _
  have ne : FloatOps.cmpf (F := Ideal) (φ := .f32) .une (-v : EReal) (-v : EReal) = 0#1 := by
    show BitVec.ofBool (decide ((-v : EReal) ≠ -v)) = 0#1; simp
  rw [val_main_call2_call0_cst_apply, e, ne]
  show -(max (-v) (FloatOps.ofBits (F := Ideal) .f32 0x00000000#32 : EReal) + Ideal.log1p (Ideal.exp (-(max (-v) (-(-v)))))) = logSig v
  rw [z, neg_neg, max_comm (-v) v]
  exact logSig_neg v

/-- The gates. -/
theorem v53_apply (b : Fin 16) (s : Fin 4096) (j : Fin 8) : val_main_v53 (F := Ideal) x m w g (ix3 b s j) = gOut x m w g b j s := by
  have hj := j.isLt
  unfold gOut val_main_v53
  by_cases h : j.val < 4
  · rw [if_pos h]
    refine (concatenate_pair_apply_left (t := S16x4096x8) (s₁ := S16x4096x4) (s₂ := S16x4096x4) 2 _ _ concatenates_S16x4096x4_S16x4096x4_S16x4096x8_d2 _ rfl
      (ix3 b s (⟨j.val, h⟩ : Fin 4)) (fun a => by match a with | ⟨0, _⟩ => rfl | ⟨1, _⟩ => rfl | ⟨2, _⟩ => rfl)).trans ?_
    exact (val_main_v50_apply _ _ _ _ _).trans (v49_apply x m w g b s j _ rfl rfl rfl)
  · rw [if_neg h]
    have t4 := v52_apply x m w g b s ⟨j.val - 4, by omega⟩
    refine (concatenate_pair_apply_right (t := S16x4096x8) (s₁ := S16x4096x4) (s₂ := S16x4096x4) 2 _ _ concatenates_S16x4096x4_S16x4096x4_S16x4096x8_d2 _ rfl rfl
      (ix3 b s (⟨j.val - 4, by omega⟩ : Fin 4)) ?_ ?_).trans ?_
    · intro a ha
      match a with
      | ⟨0, _⟩ => rfl
      | ⟨1, _⟩ => rfl
      | ⟨2, _⟩ => exact absurd rfl ha
    · show j.val - 4 + 4 = j.val
      omega
    refine t4.trans (congrArg (fun y => logSig (gate x m w g b s y)) (Fin.ext ?_))
    show 4 + (j.val - 4) = j.val
    omega

/-- The gates with the positions last. -/
theorem v63_apply (b : Fin 16) (j : Fin 8) (s : Fin 4096) : val_main_v63 (F := Ideal) x m w g (ix3 b j s) = gOut x m w g b j s := by
  rw [val_main_v63_apply]
  refine (congrArg (val_main_v53 (F := Ideal) x m w g) (funext fun a => ?_)).trans (v53_apply x m w g b s j)
  match a with | ⟨0, _⟩ => rfl | ⟨1, _⟩ => rfl | ⟨2, _⟩ => rfl

end Cert.EvenProjRefIdeal.Ref

end
-- ==== Proof.EvenPoolRef.lean ====
/- What the reference of the recurrence's projection computes of the pooling. -/
module

public import proofs.«01_k».proof.Proof.EvenRef
public import proofs.«01_k».proof.Proof.EvenPool

@[expose] public section

set_option maxRecDepth 16384

noncomputable section

namespace Cert.EvenProjRefIdeal.Ref

open Idealize.ShloMosaic Idealize.ShloMosaic.ValueIdx Finset
open Cert.EvenProjRefIdeal Cert.EvenProjRefIdeal.Gen Cert.EvenProjRefIdeal.Read Cert.EvenSpec
open Cert.FfnSpec (XX MM)

variable (x : XX) (m : MM) (w : WI) (p : PW) (q : PS)

/-- The integer zero, as a number. -/
theorem zero_int (i : S_.Idx) : sitofp (F := Ideal) .f32 (constantI S_ 32 0#32) i = (0 : EReal) := by
  show (((0#32).toInt : ℝ) : EReal) = 0
  simp

/-- An array of 128 columns with `W` rows of zeros before its own: row `W - n + s` is the row `n` before `s`. -/
theorem padded_apply (W : ℕ) (y : FVec Ideal S16x4096x128 .f32) (z : FVec Ideal S_ .f32)
    (h : Shape.Pads S16x4096x128 ![0, W, 0] ![0, 0, 0] ![0, 0, 0] ⟨3, ![16, 4096 + W, 128]⟩) (h' : 0 < S_.numel) (hz : ∀ i, z i = (0 : EReal))
    (b : Fin 16) (s : Fin 4096) (k : Fin 128) (n : ℕ) (hn : n ≤ W) (i : (⟨3, ![16, 4096 + W, 128]⟩ : Shape).Idx)
    (h0 : (i 0).val = b.val) (h1 : (i 1).val = W - n + s.val) (h2 : (i 2).val = k.val) :
    pad ⟨3, ![16, 4096 + W, 128]⟩ ![0, W, 0] ![0, 0, 0] ![0, 0, 0] y z h h' i = if s.val < n then (0 : EReal) else y (ix3 b (Fin.ofNat 4096 (s.val - n)) k) := by
  have hs := s.isLt
  split_ifs with hc
  · refine (pad_apply_of_not_inside _ _ _ _ _ _ _ i 1 (fun hin => ?_)).trans (hz _)
    have : W ≤ (i 1).val := hin.1
    omega
  · refine pad_apply_of_inside _ _ _ _ _ _ _ i (ix3 b (Fin.ofNat 4096 (s.val - n)) k) (fun a => ?_)
    match a with
    | ⟨0, _⟩ => show (i 0).val = 0 + b.val * (0 + 1); rw [h0]; omega
    | ⟨1, _⟩ => show (i 1).val = W + (s.val - n) % 4096 * (0 + 1); rw [h1]; omega
    | ⟨2, _⟩ => show (i 2).val = 0 + k.val * (0 + 1); rw [h2]; omega

/-- No rows back is the position's own entry. -/
theorem backP_zero (b : Fin 16) (s : Fin 4096) (c : Fin 512) : backP x m w b s c 0 = proj x m w b s ⟨c.val, by omega⟩ := by
  have hs := s.isLt
  unfold backP
  rw [if_neg (Nat.not_lt_zero _)]
  exact congrArg (fun y => proj x m w b y _) (Fin.ext (by show (s.val - 0) % 4096 = s.val; omega))

/-- The count of a window that ends at position `s`. -/
theorem count_eq (s win : ℕ) :
    FloatOps.sitofp (F := Ideal) .f32 (IntOp.minsi (IntOp.addi 1#32 (BitVec.ofNat 32 s)) (BitVec.ofNat 32 win)) = EvenSpec.count s win := by
  unfold EvenSpec.count
  refine congrArg (fun z => FloatOps.sitofp (F := Ideal) .f32 (IntOp.minsi z (BitVec.ofNat 32 win))) ?_
  rw [BitVec.ofNat_add, BitVec.add_comm]
  rfl

/-! ## The groups -/

/-- The columns of group 0. -/
theorem v64_apply (b : Fin 16) (s : Fin 4096) (k : Fin 128) :
    val_main_v64 (F := Ideal) x m w (ix3 b s k) = proj x m w b s ⟨(col 0 k).val, by omega⟩ :=
  (val_main_v64_apply _ _ _ _).trans ((val_main_v9_apply _ _ _ _).trans (v8_apply x m w b s _ _ rfl rfl (Nat.zero_add _).symm))

/-- The padded rows of group 0: row `1 - n + s` is the row `n` before `s`. -/
theorem v65_apply (b : Fin 16) (s : Fin 4096) (k : Fin 128) (n : ℕ) (hn : n ≤ 1) (p : S16x4097x128.Idx)
    (h0 : p 0 = b) (h1 : (p 1).val = 1 - n + s.val) (h2 : p 2 = k) :
    val_main_v65 (F := Ideal) x m w p = backP x m w b s (col 0 k) n := by
  refine (padded_apply 1 _ _ _ _ zero_int b s k n hn p (congrArg Fin.val h0) h1 (congrArg Fin.val h2)).trans ?_
  unfold backP
  split_ifs
  · rfl
  · exact v64_apply x m w b _ k

/-- The sums over the windows of group 0. -/
theorem v67_apply (b : Fin 16) (s : Fin 4096) (k : Fin 128) :
    val_main_v67 (F := Ideal) x m w (ix3 b s k) = ∑ n ∈ range 2, backP x m w b s (col 0 k) n := by
  simp only [sum_range_succ, sum_range_zero, zero_add]
  rw [val_main_v67_apply,
    val_main_v66_apply, v65_apply x m w b s k 1 (by omega) _ rfl (by show s.val = 1 - 1 + s.val; omega) rfl,
    (v64_apply x m w b s k).trans (backP_zero x m w b s _).symm]
  rfl

/-- The counts of the windows of group 0. -/
theorem v75_apply (b : Fin 16) (s : Fin 4096) (k : Fin 128) : val_main_v75 (F := Ideal) (ix3 b s k) = EvenSpec.count s.val 2 := by
  rw [val_main_v75_apply, val_main_v74_apply, val_main_v73_apply, val_main_v72_apply, val_main_v71_apply, val_main_v70_apply, val_main_v69_apply]
  exact count_eq s.val _

/-- The means of group 0, less the position's own entry. -/
theorem v77_apply (b : Fin 16) (s : Fin 4096) (k : Fin 128) : val_main_v77 (F := Ideal) x m w (ix3 b s k) = mean x m w b s 0 k := by
  rw [val_main_v77_apply, val_main_v76_apply, v67_apply, v75_apply, (v64_apply x m w b s k).trans (backP_zero x m w b s _).symm]
  rfl

/-- Group 0's product with its matrix. -/
theorem v166_apply (b : Fin 16) (s : Fin 4096) (d : Fin 128) :
    val_main_v166 (F := Ideal) x m w p (ix3 b s d) = ∑ k : Fin 128, mean x m w b s 0 k * p (ix3 0 k d) := by
  have hd := d.isLt
  rw [val_main_v166_apply]
  refine sum_congr rfl fun k _ => congrArg₂ (· * ·) ?_ ?_
  · refine (congrArg (val_main_v77 (F := Ideal) x m w) (funext fun a => ?_)).trans (v77_apply x m w b s k)
    match a with | ⟨0, _⟩ => rfl | ⟨1, _⟩ => rfl | ⟨2, _⟩ => rfl
  · rw [val_main_v165_apply, val_main_v164_apply]
    have hk := k.isLt
    refine congrArg p (funext fun a => Fin.ext ?_)
    match a with
    | ⟨0, _⟩ => rfl
    | ⟨1, _⟩ => show (k.val * 128 + d.val) / 128 % 128 = k.val; omega
    | ⟨2, _⟩ => show (k.val * 128 + d.val) % 128 = d.val; omega

/-- The columns of group 1. -/
theorem v78_apply (b : Fin 16) (s : Fin 4096) (k : Fin 128) :
    val_main_v78 (F := Ideal) x m w (ix3 b s k) = proj x m w b s ⟨(col 1 k).val, by omega⟩ :=
  (val_main_v78_apply _ _ _ _).trans ((val_main_v9_apply _ _ _ _).trans (v8_apply x m w b s _ _ rfl rfl rfl))

/-- The padded rows of group 1: row `3 - n + s` is the row `n` before `s`. -/
theorem v79_apply (b : Fin 16) (s : Fin 4096) (k : Fin 128) (n : ℕ) (hn : n ≤ 3) (p : S16x4099x128.Idx)
    (h0 : p 0 = b) (h1 : (p 1).val = 3 - n + s.val) (h2 : p 2 = k) :
    val_main_v79 (F := Ideal) x m w p = backP x m w b s (col 1 k) n := by
  refine (padded_apply 3 _ _ _ _ zero_int b s k n hn p (congrArg Fin.val h0) h1 (congrArg Fin.val h2)).trans ?_
  unfold backP
  split_ifs
  · rfl
  · exact v78_apply x m w b _ k

/-- The sums over the windows of group 1. -/
theorem v85_apply (b : Fin 16) (s : Fin 4096) (k : Fin 128) :
    val_main_v85 (F := Ideal) x m w (ix3 b s k) = ∑ n ∈ range 4, backP x m w b s (col 1 k) n := by
  simp only [sum_range_succ, sum_range_zero, zero_add]
  rw [val_main_v85_apply, val_main_v83_apply, val_main_v81_apply,
    val_main_v80_apply, v79_apply x m w b s k 1 (by omega) _ rfl (by show 2 + s.val = 3 - 1 + s.val; omega) rfl,
    val_main_v82_apply, v79_apply x m w b s k 2 (by omega) _ rfl (by show 1 + s.val = 3 - 2 + s.val; omega) rfl,
    val_main_v84_apply, v79_apply x m w b s k 3 (by omega) _ rfl (by show s.val = 3 - 3 + s.val; omega) rfl,
    (v78_apply x m w b s k).trans (backP_zero x m w b s _).symm]
  rfl

/-- The counts of the windows of group 1. -/
theorem v93_apply (b : Fin 16) (s : Fin 4096) (k : Fin 128) : val_main_v93 (F := Ideal) (ix3 b s k) = EvenSpec.count s.val 4 := by
  rw [val_main_v93_apply, val_main_v92_apply, val_main_v91_apply, val_main_v90_apply, val_main_v89_apply, val_main_v88_apply, val_main_v87_apply]
  exact count_eq s.val _

/-- The means of group 1, less the position's own entry. -/
theorem v95_apply (b : Fin 16) (s : Fin 4096) (k : Fin 128) : val_main_v95 (F := Ideal) x m w (ix3 b s k) = mean x m w b s 1 k := by
  rw [val_main_v95_apply, val_main_v94_apply, v85_apply, v93_apply, (v78_apply x m w b s k).trans (backP_zero x m w b s _).symm]
  rfl

/-- Group 1's product with its matrix. -/
theorem v169_apply (b : Fin 16) (s : Fin 4096) (d : Fin 128) :
    val_main_v169 (F := Ideal) x m w p (ix3 b s d) = ∑ k : Fin 128, mean x m w b s 1 k * p (ix3 1 k d) := by
  have hd := d.isLt
  rw [val_main_v169_apply]
  refine sum_congr rfl fun k _ => congrArg₂ (· * ·) ?_ ?_
  · refine (congrArg (val_main_v95 (F := Ideal) x m w) (funext fun a => ?_)).trans (v95_apply x m w b s k)
    match a with | ⟨0, _⟩ => rfl | ⟨1, _⟩ => rfl | ⟨2, _⟩ => rfl
  · rw [val_main_v168_apply, val_main_v167_apply]
    have hk := k.isLt
    refine congrArg p (funext fun a => Fin.ext ?_)
    match a with
    | ⟨0, _⟩ => rfl
    | ⟨1, _⟩ => show (k.val * 128 + d.val) / 128 % 128 = k.val; omega
    | ⟨2, _⟩ => show (k.val * 128 + d.val) % 128 = d.val; omega

/-- The columns of group 2. -/
theorem v96_apply (b : Fin 16) (s : Fin 4096) (k : Fin 128) :
    val_main_v96 (F := Ideal) x m w (ix3 b s k) = proj x m w b s ⟨(col 2 k).val, by omega⟩ :=
  (val_main_v96_apply _ _ _ _).trans ((val_main_v9_apply _ _ _ _).trans (v8_apply x m w b s _ _ rfl rfl rfl))

/-- The padded rows of group 2: row `7 - n + s` is the row `n` before `s`. -/
theorem v97_apply (b : Fin 16) (s : Fin 4096) (k : Fin 128) (n : ℕ) (hn : n ≤ 7) (p : S16x4103x128.Idx)
    (h0 : p 0 = b) (h1 : (p 1).val = 7 - n + s.val) (h2 : p 2 = k) :
    val_main_v97 (F := Ideal) x m w p = backP x m w b s (col 2 k) n := by
  refine (padded_apply 7 _ _ _ _ zero_int b s k n hn p (congrArg Fin.val h0) h1 (congrArg Fin.val h2)).trans ?_
  unfold backP
  split_ifs
  · rfl
  · exact v96_apply x m w b _ k

/-- The sums over the windows of group 2. -/
theorem v111_apply (b : Fin 16) (s : Fin 4096) (k : Fin 128) :
    val_main_v111 (F := Ideal) x m w (ix3 b s k) = ∑ n ∈ range 8, backP x m w b s (col 2 k) n := by
  simp only [sum_range_succ, sum_range_zero, zero_add]
  rw [val_main_v111_apply, val_main_v109_apply, val_main_v107_apply, val_main_v105_apply, val_main_v103_apply, val_main_v101_apply, val_main_v99_apply,
    val_main_v98_apply, v97_apply x m w b s k 1 (by omega) _ rfl (by show 6 + s.val = 7 - 1 + s.val; omega) rfl,
    val_main_v100_apply, v97_apply x m w b s k 2 (by omega) _ rfl (by show 5 + s.val = 7 - 2 + s.val; omega) rfl,
    val_main_v102_apply, v97_apply x m w b s k 3 (by omega) _ rfl (by show 4 + s.val = 7 - 3 + s.val; omega) rfl,
    val_main_v104_apply, v97_apply x m w b s k 4 (by omega) _ rfl (by show 3 + s.val = 7 - 4 + s.val; omega) rfl,
    val_main_v106_apply, v97_apply x m w b s k 5 (by omega) _ rfl (by show 2 + s.val = 7 - 5 + s.val; omega) rfl,
    val_main_v108_apply, v97_apply x m w b s k 6 (by omega) _ rfl (by show 1 + s.val = 7 - 6 + s.val; omega) rfl,
    val_main_v110_apply, v97_apply x m w b s k 7 (by omega) _ rfl (by show s.val = 7 - 7 + s.val; omega) rfl,
    (v96_apply x m w b s k).trans (backP_zero x m w b s _).symm]
  rfl

/-- The counts of the windows of group 2. -/
theorem v119_apply (b : Fin 16) (s : Fin 4096) (k : Fin 128) : val_main_v119 (F := Ideal) (ix3 b s k) = EvenSpec.count s.val 8 := by
  rw [val_main_v119_apply, val_main_v118_apply, val_main_v117_apply, val_main_v116_apply, val_main_v115_apply, val_main_v114_apply, val_main_v113_apply]
  exact count_eq s.val _

/-- The means of group 2, less the position's own entry. -/
theorem v121_apply (b : Fin 16) (s : Fin 4096) (k : Fin 128) : val_main_v121 (F := Ideal) x m w (ix3 b s k) = mean x m w b s 2 k := by
  rw [val_main_v121_apply, val_main_v120_apply, v111_apply, v119_apply, (v96_apply x m w b s k).trans (backP_zero x m w b s _).symm]
  rfl

/-- Group 2's product with its matrix. -/
theorem v172_apply (b : Fin 16) (s : Fin 4096) (d : Fin 128) :
    val_main_v172 (F := Ideal) x m w p (ix3 b s d) = ∑ k : Fin 128, mean x m w b s 2 k * p (ix3 2 k d) := by
  have hd := d.isLt
  rw [val_main_v172_apply]
  refine sum_congr rfl fun k _ => congrArg₂ (· * ·) ?_ ?_
  · refine (congrArg (val_main_v121 (F := Ideal) x m w) (funext fun a => ?_)).trans (v121_apply x m w b s k)
    match a with | ⟨0, _⟩ => rfl | ⟨1, _⟩ => rfl | ⟨2, _⟩ => rfl
  · rw [val_main_v171_apply, val_main_v170_apply]
    have hk := k.isLt
    refine congrArg p (funext fun a => Fin.ext ?_)
    match a with
    | ⟨0, _⟩ => rfl
    | ⟨1, _⟩ => show (k.val * 128 + d.val) / 128 % 128 = k.val; omega
    | ⟨2, _⟩ => show (k.val * 128 + d.val) % 128 = d.val; omega

/-- The columns of group 3. -/
theorem v122_apply (b : Fin 16) (s : Fin 4096) (k : Fin 128) :
    val_main_v122 (F := Ideal) x m w (ix3 b s k) = proj x m w b s ⟨(col 3 k).val, by omega⟩ :=
  (val_main_v122_apply _ _ _ _).trans ((val_main_v9_apply _ _ _ _).trans (v8_apply x m w b s _ _ rfl rfl rfl))

/-- The padded rows of group 3: row `15 - n + s` is the row `n` before `s`. -/
theorem v123_apply (b : Fin 16) (s : Fin 4096) (k : Fin 128) (n : ℕ) (hn : n ≤ 15) (p : S16x4111x128.Idx)
    (h0 : p 0 = b) (h1 : (p 1).val = 15 - n + s.val) (h2 : p 2 = k) :
    val_main_v123 (F := Ideal) x m w p = backP x m w b s (col 3 k) n := by
  refine (padded_apply 15 _ _ _ _ zero_int b s k n hn p (congrArg Fin.val h0) h1 (congrArg Fin.val h2)).trans ?_
  unfold backP
  split_ifs
  · rfl
  · exact v122_apply x m w b _ k

/-- The sums over the windows of group 3. -/
theorem v153_apply (b : Fin 16) (s : Fin 4096) (k : Fin 128) :
    val_main_v153 (F := Ideal) x m w (ix3 b s k) = ∑ n ∈ range 16, backP x m w b s (col 3 k) n := by
  simp only [sum_range_succ, sum_range_zero, zero_add]
  rw [val_main_v153_apply, val_main_v151_apply, val_main_v149_apply, val_main_v147_apply, val_main_v145_apply, val_main_v143_apply, val_main_v141_apply, val_main_v139_apply, val_main_v137_apply, val_main_v135_apply, val_main_v133_apply, val_main_v131_apply, val_main_v129_apply, val_main_v127_apply, val_main_v125_apply,
    val_main_v124_apply, v123_apply x m w b s k 1 (by omega) _ rfl (by show 14 + s.val = 15 - 1 + s.val; omega) rfl,
    val_main_v126_apply, v123_apply x m w b s k 2 (by omega) _ rfl (by show 13 + s.val = 15 - 2 + s.val; omega) rfl,
    val_main_v128_apply, v123_apply x m w b s k 3 (by omega) _ rfl (by show 12 + s.val = 15 - 3 + s.val; omega) rfl,
    val_main_v130_apply, v123_apply x m w b s k 4 (by omega) _ rfl (by show 11 + s.val = 15 - 4 + s.val; omega) rfl,
    val_main_v132_apply, v123_apply x m w b s k 5 (by omega) _ rfl (by show 10 + s.val = 15 - 5 + s.val; omega) rfl,
    val_main_v134_apply, v123_apply x m w b s k 6 (by omega) _ rfl (by show 9 + s.val = 15 - 6 + s.val; omega) rfl,
    val_main_v136_apply, v123_apply x m w b s k 7 (by omega) _ rfl (by show 8 + s.val = 15 - 7 + s.val; omega) rfl,
    val_main_v138_apply, v123_apply x m w b s k 8 (by omega) _ rfl (by show 7 + s.val = 15 - 8 + s.val; omega) rfl,
    val_main_v140_apply, v123_apply x m w b s k 9 (by omega) _ rfl (by show 6 + s.val = 15 - 9 + s.val; omega) rfl,
    val_main_v142_apply, v123_apply x m w b s k 10 (by omega) _ rfl (by show 5 + s.val = 15 - 10 + s.val; omega) rfl,
    val_main_v144_apply, v123_apply x m w b s k 11 (by omega) _ rfl (by show 4 + s.val = 15 - 11 + s.val; omega) rfl,
    val_main_v146_apply, v123_apply x m w b s k 12 (by omega) _ rfl (by show 3 + s.val = 15 - 12 + s.val; omega) rfl,
    val_main_v148_apply, v123_apply x m w b s k 13 (by omega) _ rfl (by show 2 + s.val = 15 - 13 + s.val; omega) rfl,
    val_main_v150_apply, v123_apply x m w b s k 14 (by omega) _ rfl (by show 1 + s.val = 15 - 14 + s.val; omega) rfl,
    val_main_v152_apply, v123_apply x m w b s k 15 (by omega) _ rfl (by show s.val = 15 - 15 + s.val; omega) rfl,
    (v122_apply x m w b s k).trans (backP_zero x m w b s _).symm]
  rfl

/-- The counts of the windows of group 3. -/
theorem v161_apply (b : Fin 16) (s : Fin 4096) (k : Fin 128) : val_main_v161 (F := Ideal) (ix3 b s k) = EvenSpec.count s.val 16 := by
  rw [val_main_v161_apply, val_main_v160_apply, val_main_v159_apply, val_main_v158_apply, val_main_v157_apply, val_main_v156_apply, val_main_v155_apply]
  exact count_eq s.val _

/-- The means of group 3, less the position's own entry. -/
theorem v163_apply (b : Fin 16) (s : Fin 4096) (k : Fin 128) : val_main_v163 (F := Ideal) x m w (ix3 b s k) = mean x m w b s 3 k := by
  rw [val_main_v163_apply, val_main_v162_apply, v153_apply, v161_apply, (v122_apply x m w b s k).trans (backP_zero x m w b s _).symm]
  rfl

/-- Group 3's product with its matrix. -/
theorem v175_apply (b : Fin 16) (s : Fin 4096) (d : Fin 128) :
    val_main_v175 (F := Ideal) x m w p (ix3 b s d) = ∑ k : Fin 128, mean x m w b s 3 k * p (ix3 3 k d) := by
  have hd := d.isLt
  rw [val_main_v175_apply]
  refine sum_congr rfl fun k _ => congrArg₂ (· * ·) ?_ ?_
  · refine (congrArg (val_main_v163 (F := Ideal) x m w) (funext fun a => ?_)).trans (v163_apply x m w b s k)
    match a with | ⟨0, _⟩ => rfl | ⟨1, _⟩ => rfl | ⟨2, _⟩ => rfl
  · rw [val_main_v174_apply, val_main_v173_apply]
    have hk := k.isLt
    refine congrArg p (funext fun a => Fin.ext ?_)
    match a with
    | ⟨0, _⟩ => rfl
    | ⟨1, _⟩ => show (k.val * 128 + d.val) / 128 % 128 = k.val; omega
    | ⟨2, _⟩ => show (k.val * 128 + d.val) % 128 = d.val; omega

/-! ## The result -/

/-- The four products side by side. -/
theorem v176_apply (b : Fin 16) (s : Fin 4096) (j : Fin 512) : val_main_v176 (F := Ideal) x m w p (ix3 b s j)
    = ∑ k : Fin 128, mean x m w b s (Fin.ofNat 4 (j.val / 128)) k * p (ix3 (Fin.ofNat 4 (j.val / 128)) k (Fin.ofNat 128 j.val)) := by
  have hj := j.isLt
  unfold val_main_v176
  refine (concatenate_ofFn_apply (t := S16x4096x512) (s₁ := S16x4096x128) 2
    ![val_main_v166 (F := Ideal) x m w p, val_main_v169 (F := Ideal) x m w p, val_main_v172 (F := Ideal) x m w p, val_main_v175 (F := Ideal) x m w p]
    concatenates_S16x4096x128_S16x4096x128_S16x4096x128_S16x4096x128_S16x4096x512_d2 rfl 128 rfl (ix3 b s j) (Fin.ofNat 4 (j.val / 128))
    (by show j.val / 128 = j.val / 128 % 4; omega) (ix3 b s (Fin.ofNat 128 j.val)) rfl ?_).trans ?_
  · intro a ha
    match a with
    | ⟨0, _⟩ => rfl
    | ⟨1, _⟩ => rfl
    | ⟨2, _⟩ => exact absurd rfl ha
  · generalize Fin.ofNat 4 (j.val / 128) = g
    match g with
    | ⟨0, _⟩ => exact v166_apply x m w p b s _
    | ⟨1, _⟩ => exact v169_apply x m w p b s _
    | ⟨2, _⟩ => exact v172_apply x m w p b s _
    | ⟨3, _⟩ => exact v175_apply x m w p b s _

/-- The pooling's output. -/
theorem v180_apply (b : Fin 16) (s : Fin 4096) (j : Fin 512) : val_main_v180 (F := Ideal) x m w p q (ix3 b s j)
    = yOut x m w p q b s (Fin.ofNat 4 (j.val / 128)) (Fin.ofNat 128 j.val) := by
  have hj := j.isLt
  rw [val_main_v180_apply, val_main_v179_apply, v176_apply, val_main_v178_apply, val_main_v177_apply]
  unfold yOut
  refine congrArg₂ (· * ·) rfl (congrArg q (funext fun a => Fin.ext ?_))
  match a with
  | ⟨0, _⟩ => show j.val = 128 * (j.val / 128 % 4) + j.val % 128; omega

end Cert.EvenProjRefIdeal.Ref

end
-- ==== Proof.EvenProjEq.lean ====
/- The recurrence's projection computes its reference: both end with the same pooling, queries, keys, values, output's gate and gates. -/
module

public import proofs.«01_k».proof.Defs
public import proofs.«01_k».proof.Proof.EvenPoolArray
public import proofs.«01_k».proof.Proof.EvenPoolRef
public import proofs.«01_k».proof.Proof.Gen.EvenProjRefIdeal.Run

@[expose] public section

noncomputable section

namespace Cert.EvenProjEq

open Idealize.ShloMosaic Idealize.ShloMosaic.ValueIdx Idealize.SL.Sem

/-- Kernel and reference, from the same arguments, end with the same six arrays and keep their arguments. -/
theorem algebraic : Cert.algebraic_EvenProjIdeal_EvenProjRefIdeal := by
  intro m ρ m' ρ' _ hagree
  refine ⟨fun c => Cert.EvenProjIdeal.Array.resultY m c, fun c => Cert.EvenProjIdeal.Array.resultQ m c, fun c => Cert.EvenProjIdeal.Array.resultK m c, fun c => Cert.EvenProjIdeal.Array.resultV m c,
    fun c => Cert.EvenProjIdeal.Array.resultO m c, fun c => Cert.EvenProjIdeal.Array.resultG m c, ?_, ?_⟩
  · refine (θ_run Cert.EvenProjIdeal.defs _ _).mono (fun _ h c => ?_) (Cert.EvenProjIdeal.Value.run_blocks (F := Ideal) m ρ)
    obtain ⟨hy, hq, hk, hv, ho, _, hg, keep⟩ := h c
    exact ⟨hy.trans (Cert.EvenProjIdeal.Array.finalY m c), hq.trans (Cert.EvenProjIdeal.Array.finalQ m c), hk.trans (Cert.EvenProjIdeal.Array.finalK m c), hv.trans (Cert.EvenProjIdeal.Array.finalV m c),
      ho.trans (Cert.EvenProjIdeal.Array.finalO m c), hg.trans (Cert.EvenProjIdeal.Array.finalG m c), keep⟩
  · refine (θ_run Cert.EvenProjRefIdeal.defs _ _).mono (fun _ h c => ?_) (Cert.EvenProjRefIdeal.Value.run (F := Ideal) m' ρ')
    obtain ⟨hy, hq, hk, hv, ho, hg, keep⟩ := h c
    obtain ⟨e0, e1, e2, e3, e4, e5, e6⟩ := hagree c
    change StableHlo.launchContents m' c (Proc.devRef .tc Cert.EvenProjRefIdeal.main_arg0) = _ at e0
    change StableHlo.launchContents m' c (Proc.devRef .tc Cert.EvenProjRefIdeal.main_arg1) = _ at e1
    change StableHlo.launchContents m' c (Proc.devRef .tc Cert.EvenProjRefIdeal.main_arg2) = _ at e2
    change StableHlo.launchContents m' c (Proc.devRef .tc Cert.EvenProjRefIdeal.main_arg3) = _ at e3
    change StableHlo.launchContents m' c (Proc.devRef .tc Cert.EvenProjRefIdeal.main_arg4) = _ at e4
    change StableHlo.launchContents m' c (Proc.devRef .tc Cert.EvenProjRefIdeal.main_arg5) = _ at e5
    change StableHlo.launchContents m' c (Proc.devRef .tc Cert.EvenProjRefIdeal.main_arg6) = _ at e6
    refine ⟨hy.trans ?_, hq.trans ?_, hk.trans ?_, hv.trans ?_, ho.trans ?_, hg.trans ?_, keep⟩
    · rw [Cert.EvenProjRefIdeal.Read.val_main_v180_eq, e0, e1, e2, e4, e5]
      funext i
      rw [eq_ix3 (i : Cert.EvenProjRefIdeal.S16x4096x512.Idx)]
      exact Cert.EvenProjRefIdeal.Ref.v180_apply _ _ _ _ _ _ _ _
    · rw [Cert.EvenProjRefIdeal.Read.val_main_v54_eq, e0, e1, e2, e6]
      funext i
      rw [eq_ix3 (i : Cert.EvenProjRefIdeal.S16x4096x512.Idx)]
      exact Cert.EvenProjRefIdeal.Ref.v54_apply _ _ _ _ _ _ _
    · rw [Cert.EvenProjRefIdeal.Read.val_main_v55_eq, e0, e1, e2, e6]
      funext i
      rw [eq_ix3 (i : Cert.EvenProjRefIdeal.S16x4096x512.Idx)]
      exact Cert.EvenProjRefIdeal.Ref.v55_apply _ _ _ _ _ _ _
    · rw [Cert.EvenProjRefIdeal.Read.val_main_v56_eq, e0, e1, e2]
      funext i
      rw [eq_ix3 (i : Cert.EvenProjRefIdeal.S16x4096x512.Idx)]
      exact Cert.EvenProjRefIdeal.Ref.v56_apply _ _ _ _ _ _
    · rw [Cert.EvenProjRefIdeal.Read.val_main_v62_eq, e0, e1, e2]
      funext i
      rw [eq_ix3 (i : Cert.EvenProjRefIdeal.S16x4096x512.Idx)]
      exact Cert.EvenProjRefIdeal.Ref.v62_apply _ _ _ _ _ _
    · rw [Cert.EvenProjRefIdeal.Read.val_main_v63_eq, e0, e1, e2, e3]
      funext i
      rw [eq_ix3 (i : Cert.EvenProjRefIdeal.S16x8x4096.Idx)]
      exact Cert.EvenProjRefIdeal.Ref.v63_apply _ _ _ _ _ _ _

end Cert.EvenProjEq

end
-- ==== Proof.FfnRef.lean ====
/- What the feed-forward layer's reference computes. -/
module

public import proofs.«01_k».proof.Proof.FfnSpec
public import proofs.«01_k».proof.Proof.Gen.FfnRefIdeal.Read
public import Idealize.ShloMosaic.Lib.KernelVsHost

@[expose] public section

set_option maxRecDepth 16384

noncomputable section

namespace Cert.FfnRefIdeal.Ref

open Idealize.ShloMosaic Idealize.ShloMosaic.ValueIdx Finset
open Cert.FfnRefIdeal Cert.FfnRefIdeal.Gen Cert.FfnRefIdeal.Read Cert.FfnSpec

variable (x : XX) (m : MM) (g h : GG) (u : UU) (w : CC) (v : DD)

/-- The modulated input. -/
theorem v8_apply (b : Fin 16) (s : Fin 4096) (k : Fin 1024) : val_main_v8 (F := Ideal) x m (ix3 b s k) = modIn x m b s k := by
  rw [val_main_v8_apply, val_main_v6_apply, val_main_v5_apply, val_main_v4_apply, val_main_v7_apply, val_main_v0_apply, val_main_v1_apply]
  refine congrArg₂ (· + ·) (congrArg₂ (· * ·) rfl (congrArg₂ (· + ·) ?_ ?_)) ?_
  · exact (val_main_v3_apply _).trans rfl
  · exact congrArg m (funext fun a => by match a with | ⟨0, _⟩ => rfl | ⟨1, _⟩ => rfl | ⟨2, _⟩ => rfl)
  · exact congrArg m (funext fun a => by match a with | ⟨0, _⟩ => rfl | ⟨1, _⟩ => rfl | ⟨2, _⟩ => rfl)

/-- The first product. -/
theorem v9_apply (b : Fin 16) (s : Fin 4096) (j : Fin 5632) : val_main_v9 (F := Ideal) x m u (ix3 b s j) = up x m u b s j := by
  rw [val_main_v9_apply]
  refine sum_congr rfl fun k _ => congrArg₂ (· * ·) ?_ ?_
  · refine (congrArg (val_main_v8 (F := Ideal) x m) (funext fun a => ?_)).trans (v8_apply x m b s k)
    match a with | ⟨0, _⟩ => rfl | ⟨1, _⟩ => rfl | ⟨2, _⟩ => rfl
  · exact congrArg u (funext fun a => by match a with | ⟨0, _⟩ => rfl | ⟨1, _⟩ => rfl)

theorem v11_apply (b : Fin 16) (s : Fin 4096) (j : Fin 2816) :
    val_main_v11 (F := Ideal) x m u (ix3 b s j) = up x m u b s (Fin.ofNat 5632 (2816 + j.val)) := by
  rw [val_main_v11_apply]
  refine (congrArg (val_main_v9 (F := Ideal) x m u) (funext fun a => ?_)).trans (v9_apply x m u b s _)
  match a with
  | ⟨0, _⟩ => rfl
  | ⟨1, _⟩ => rfl
  | ⟨2, _⟩ => exact Fin.ext (by show 2816 + j.val = (2816 + j.val) % 5632; have := j.isLt; omega)

/-- The padded gate's row `s + (2 - n)` is the gate `n` rows back from `s`. -/
theorem v12_apply (b : Fin 16) (s : Fin 4096) (j : Fin 2816) (n : ℕ) (hn : n ≤ 2) (p : S16x4098x2816.Idx)
    (h0 : p 0 = b) (h1 : (p 1).val = 2 - n + s.val) (h2 : p 2 = j) :
    val_main_v12 (F := Ideal) x m u p = gateBack x m u b s j n := by
  unfold gateBack val_main_v12
  have hs := s.isLt
  split_ifs with hc
  · refine (pad_apply_of_not_inside _ _ _ _ _ _ _ p 1 (fun hin => ?_)).trans ?_
    · have : 2 ≤ (p 1).val := hin.1
      omega
    · show (((0#32).toInt : ℝ) : EReal) = 0
      simp
  · refine (pad_apply_of_inside _ _ _ _ _ _ _ p (ix3 b (Fin.ofNat 4096 (s.val - n)) j) (fun a => ?_)).trans (v11_apply x m u b _ j)
    match a with
    | ⟨0, _⟩ => show (p 0).val = 0 + b.val * (0 + 1); rw [h0]; omega
    | ⟨1, _⟩ => show (p 1).val = 2 + (s.val - n) % 4096 * (0 + 1); rw [h1]; omega
    | ⟨2, _⟩ => show (p 2).val = 0 + j.val * (0 + 1); rw [h2]; omega

/-- The convolution. -/
theorem v32_apply (b : Fin 16) (s : Fin 4096) (j : Fin 2816) :
    val_main_v32 (F := Ideal) x m u w (ix3 b s j)
      = taps (w (ix2 0 j)) (w (ix2 1 j)) (w (ix2 2 j)) (gateBack x m u b s j 2) (gateBack x m u b s j 1) (gateBack x m u b s j 0) := by
  have hj : j.val % 2816 = j.val := Nat.mod_eq_of_lt j.isLt
  rw [val_main_v32_apply, val_main_v25_apply, val_main_v18_apply, val_main_v24_apply, val_main_v31_apply, val_main_v13_apply, val_main_v19_apply,
    val_main_v26_apply, val_main_v17_apply, val_main_v16_apply, val_main_v15_apply, val_main_v14_apply, val_main_v23_apply, val_main_v22_apply,
    val_main_v21_apply, val_main_v20_apply, val_main_v30_apply, val_main_v29_apply, val_main_v28_apply, val_main_v27_apply,
    v12_apply x m u b s j 2 le_rfl _ rfl (by show s.val = 2 - 2 + s.val; omega) rfl,
    v12_apply x m u b s j 1 (by omega) _ rfl (by show 1 + s.val = 2 - 1 + s.val; omega) rfl,
    v12_apply x m u b s j 0 (by omega) _ rfl (by show 2 + s.val = 2 - 0 + s.val; omega) rfl]
  refine congrArg₂ (· + ·) (congrArg₂ (· + ·) ?_ ?_) ?_ <;>
  · refine (mul_comm _ _).trans (congrArg₂ (· * ·) (congrArg w (funext fun a => ?_)) rfl)
    match a with
    | ⟨0, _⟩ => rfl
    | ⟨1, _⟩ => exact Fin.ext hj

/-- The activation. -/
theorem v41_apply (b : Fin 16) (s : Fin 4096) (j : Fin 2816) : val_main_v41 (F := Ideal) x m u w (ix3 b s j) = act x m u w b s j := by
  rw [val_main_v41_apply, val_main_v40_apply, val_main_v34_apply, val_main_v39_apply, val_main_v37_apply, val_main_v36_apply, v32_apply,
    val_main_v33_apply, val_main_v35_apply, val_main_v38_apply, val_main_v10_apply]
  refine congrArg₂ (· * ·) ?_ rfl
  refine (congrArg (val_main_v9 (F := Ideal) x m u) (funext fun a => ?_)).trans (v9_apply x m u b s _)
  match a with
  | ⟨0, _⟩ => rfl
  | ⟨1, _⟩ => rfl
  | ⟨2, _⟩ => exact Fin.ext (by show j.val = j.val % 5632; have := j.isLt; omega)

/-- The residual sum. -/
theorem v47_apply (b : Fin 16) (s : Fin 4096) (d : Fin 1024) : val_main_v47 (F := Ideal) x m u w v (ix3 b s d) = resid x m u w v b s d := by
  rw [val_main_v47_apply, val_main_v44_apply, val_main_v46_apply, val_main_v43_apply, val_main_v45_apply, val_main_v2_apply, val_main_v42_apply]
  refine congrArg₂ (· + ·) rfl (congrArg₂ (· * ·) (congrArg m (funext fun a => ?_)) (sum_congr rfl fun j _ => congrArg₂ (· * ·) ?_ (congrArg v (funext fun a => ?_))))
  · match a with | ⟨0, _⟩ => rfl | ⟨1, _⟩ => rfl | ⟨2, _⟩ => rfl
  · refine (congrArg (val_main_v41 (F := Ideal) x m u w) (funext fun a => ?_)).trans (v41_apply x m u w b s j)
    match a with | ⟨0, _⟩ => rfl | ⟨1, _⟩ => rfl | ⟨2, _⟩ => rfl
  · match a with | ⟨0, _⟩ => rfl | ⟨1, _⟩ => rfl

/-- A row's mean. -/
theorem v51_apply (b : Fin 16) (s : Fin 4096) : val_main_v51 (F := Ideal) x m u w v (ix3 b s 0) = mean (resid x m u w v b s) := by
  rw [val_main_v51_apply, val_main_v49_apply, val_main_v48_apply, val_main_v50_apply]
  refine congrArg₂ Ideal.div ?_ rfl
  refine (congrArg₂ (· + ·) Ideal.ofBits_zero_f32 (sum_congr rfl fun k _ => ?_)).trans (zero_add _)
  refine (congrArg (val_main_v47 (F := Ideal) x m u w v) (funext fun a => ?_)).trans (v47_apply x m u w v b s k)
  match a with | ⟨0, _⟩ => rfl | ⟨1, _⟩ => rfl | ⟨2, _⟩ => rfl

/-- An entry less its row's mean. -/
theorem v53_apply (b : Fin 16) (s : Fin 4096) (d : Fin 1024) :
    val_main_v53 (F := Ideal) x m u w v (ix3 b s d) = resid x m u w v b s d - mean (resid x m u w v b s) := by
  rw [val_main_v53_apply, v47_apply, val_main_v52_apply]
  refine congrArg₂ (· - ·) rfl ((congrArg (val_main_v51 (F := Ideal) x m u w v) (funext fun a => ?_)).trans (v51_apply x m u w v b s))
  match a with | ⟨0, _⟩ => rfl | ⟨1, _⟩ => rfl | ⟨2, _⟩ => rfl

theorem v60_apply (b : Fin 16) (s : Fin 4096) (d : Fin 1024) :
    val_main_v60 (F := Ideal) x m u w v (ix3 b s d) = resid x m u w v b s d - mean (resid x m u w v b s) := by
  rw [val_main_v60_apply, v47_apply, val_main_v59_apply]
  refine congrArg₂ (· - ·) rfl ((congrArg (val_main_v51 (F := Ideal) x m u w v) (funext fun a => ?_)).trans (v51_apply x m u w v b s))
  match a with | ⟨0, _⟩ => rfl | ⟨1, _⟩ => rfl | ⟨2, _⟩ => rfl

/-- A row's variance. -/
theorem v58_apply (b : Fin 16) (s : Fin 4096) : val_main_v58 (F := Ideal) x m u w v (ix3 b s 0)
    = mean (fun k => (resid x m u w v b s k - mean (resid x m u w v b s)) * (resid x m u w v b s k - mean (resid x m u w v b s))) := by
  rw [val_main_v58_apply, val_main_v56_apply, val_main_v55_apply, val_main_v57_apply]
  refine congrArg₂ Ideal.div ?_ rfl
  refine (congrArg₂ (· + ·) Ideal.ofBits_zero_f32 (sum_congr rfl fun k _ => ?_)).trans (zero_add _)
  refine Eq.trans ?_ (congrArg₂ (· * ·) (v53_apply x m u w v b s k) (v53_apply x m u w v b s k))
  have e : idx_main_v55 (idx_main_v56 (ix3 b s 0)) k = ix3 b s k := funext fun a => by
    match a with | ⟨0, _⟩ => rfl | ⟨1, _⟩ => rfl | ⟨2, _⟩ => rfl
  rw [e, val_main_v54_apply]
  rfl

/-- The reference's result. -/
theorem v71_apply (b : Fin 16) (s : Fin 4096) (d : Fin 1024) :
    val_main_v71 (F := Ideal) x m g h u w v (ix3 b s d) = FfnSpec.out x m g h u w v b s d := by
  rw [val_main_v71_apply, val_main_v68_apply, val_main_v65_apply, v60_apply, val_main_v64_apply, val_main_v67_apply, val_main_v66_apply,
    val_main_v70_apply, val_main_v69_apply, val_main_v63_apply, val_main_v62_apply, val_main_v61_apply]
  have e : idx_main_v64 (ix3 b s d) = ix3 b s 0 := funext fun a => by
    match a with | ⟨0, _⟩ => rfl | ⟨1, _⟩ => rfl | ⟨2, _⟩ => rfl
  rw [e, v58_apply]
  refine congrArg₂ (· + ·) (congrArg₂ (· * ·) rfl (congrArg g (funext fun a => ?_))) (congrArg h (funext fun a => ?_))
  · match a with | ⟨0, _⟩ => rfl
  · match a with | ⟨0, _⟩ => rfl

end Cert.FfnRefIdeal.Ref

end
-- ==== Proof.FfnEq.lean ====
/- The feed-forward kernel computes its reference: both end with the same array. -/
module

public import proofs.«01_k».proof.Defs
public import proofs.«01_k».proof.Proof.FfnArray
public import proofs.«01_k».proof.Proof.FfnRef

@[expose] public section

noncomputable section

namespace Cert.FfnEq

open Idealize.ShloMosaic Idealize.ShloMosaic.ValueIdx Idealize.SL.Sem

/-- Kernel and reference, from the same arguments, end with the same array and keep their arguments. -/
theorem algebraic : Cert.algebraic_FfnIdeal_FfnRefIdeal := by
  intro m ρ m' ρ' _ hagree
  refine ⟨fun c => Cert.FfnIdeal.Array.result m c, ?_, ?_⟩
  · exact (θ_run Cert.FfnIdeal.defs _ _).mono (fun _ h c => ⟨(h c).1.trans (Cert.FfnIdeal.Array.final m c), (h c).2⟩)
      (Cert.FfnIdeal.Value.run_blocks (F := Ideal) m ρ)
  · refine (θ_run Cert.FfnRefIdeal.defs _ _).mono (fun _ h c => ⟨(h c).1.trans ?_, (h c).2⟩) (Cert.FfnRefIdeal.Value.run (F := Ideal) m' ρ')
    obtain ⟨e0, e1, e2, e3, e4, e5, e6⟩ := hagree c
    rw [Cert.FfnRefIdeal.Read.val_main_v71_eq, e0, e1, e2, e3, e4, e5, e6]
    funext i
    rw [eq_ix3 (i : Cert.FfnRefIdeal.S16x4096x1024.Idx)]
    exact Cert.FfnRefIdeal.Ref.v71_apply _ _ _ _ _ _ _ _ _ _

end Cert.FfnEq

end
-- ==== Proof.MlaSpec.lean ====
/- The input projection of the latent attention, entry by entry: the product of the modulated input, the two latents' norms, the
   queries, keys and values they give, and the rotation by the position. -/
module

public import proofs.«01_k».proof.Proof.FfnSpec
public import Idealize.ShloMosaic.Lib.IdealHost

@[expose] public section

noncomputable section

namespace Cert.MlaSpec

open Idealize.ShloMosaic Idealize.ShloMosaic.ValueIdx Finset
open Cert.FfnSpec (XX MM modIn cOne)

/-- The constants, as the float literals they are: 512, 256, 10⁻⁶, 192^(−1/2), −1, 10⁴ and 32, each rounded to single precision. -/
def cQ : EReal := FloatOps.ofBits (F := Ideal) .f32 0x44000000#32
def cKV : EReal := FloatOps.ofBits (F := Ideal) .f32 0x43800000#32
def cTiny : EReal := FloatOps.ofBits (F := Ideal) .f32 0x358637BD#32
def cScale : EReal := FloatOps.ofBits (F := Ideal) .f32 0x3D93CD3A#32
def cMinus : EReal := FloatOps.ofBits (F := Ideal) .f32 0xBF800000#32
def cTheta : EReal := FloatOps.ofBits (F := Ideal) .f32 0x461C4000#32
def cHalfRope : EReal := FloatOps.ofBits (F := Ideal) .f32 0x42000000#32

theorem cMinus_eq : cMinus = -1 := by
  show Ideal.ofBits .f32 0xBF800000#32 = _
  rw [show (-1 : EReal) = ((-1 : ℝ) : EReal) by rw [EReal.coe_neg, EReal.coe_one]]
  simp [Ideal.ofBits, Ideal.ieee, -EReal.coe_mul, -EReal.coe_neg]; norm_num

theorem cOne_eq : cOne = 1 := Ideal.ofBits_one_f32

/-- The scale is finite and not negative. -/
theorem cScale_fin : 0 ≤ cScale ∧ cScale ≠ ⊤ := by
  have h : ∃ r : ℝ, 0 ≤ r ∧ Ideal.ofBits .f32 0x3D93CD3A#32 = (r : EReal) := by
    refine ⟨_, ?_, by simp [Ideal.ofBits, Ideal.ieee, -EReal.coe_mul]; rfl⟩
    positivity
  obtain ⟨r, h0, h⟩ := h
  show 0 ≤ Ideal.ofBits .f32 0x3D93CD3A#32 ∧ Ideal.ofBits .f32 0x3D93CD3A#32 ≠ ⊤
  rw [h]; exact ⟨EReal.coe_nonneg.2 h0, EReal.coe_ne_top r⟩

abbrev PP : Type := (⟨2, ![16, 4096]⟩ : Shape).Idx → BitVec 32
abbrev WI : Type := (⟨2, ![1024, 832]⟩ : Shape).Idx → EReal
abbrev GQ : Type := (⟨1, ![512]⟩ : Shape).Idx → EReal
abbrev GK : Type := (⟨1, ![256]⟩ : Shape).Idx → EReal
abbrev WQ : Type := (⟨2, ![512, 1536]⟩ : Shape).Idx → EReal
abbrev WK : Type := (⟨2, ![256, 2048]⟩ : Shape).Idx → EReal

/-- Entry `d` of a row's root-mean-square norm, scaled by `g`. -/
def rms {n : ℕ} (z : Fin n → EReal) (width g : EReal) (d : Fin n) : EReal :=
  z d * Ideal.rsqrt (Ideal.div (∑ k, z k * z k) width + cTiny) * g

/-- The input's product. -/
def lat (x : XX) (m : MM) (w : WI) (b : Fin 16) (s : Fin 4096) (e : Fin 832) : EReal := ∑ k : Fin 1024, modIn x m b s k * w (ix2 k e)

/-- The queries' latent, normed. -/
def latQ (x : XX) (m : MM) (w : WI) (g : GQ) (b : Fin 16) (s : Fin 4096) (j : Fin 512) : EReal :=
  rms (fun k : Fin 512 => lat x m w b s ⟨k.val, by omega⟩) cQ (g (ix1 j)) j

/-- The keys' and values' latent, normed. -/
def latK (x : XX) (m : MM) (w : WI) (g : GK) (b : Fin 16) (s : Fin 4096) (j : Fin 256) : EReal :=
  rms (fun k : Fin 256 => lat x m w b s ⟨512 + k.val, by omega⟩) cKV (g (ix1 j)) j

/-- Entry `d` of head `h`'s query, before the rotation. -/
def query (x : XX) (m : MM) (w : WI) (g : GQ) (wq : WQ) (b : Fin 16) (s : Fin 4096) (h : Fin 8) (d : Fin 192) : EReal :=
  ∑ j : Fin 512, latQ x m w g b s j * wq (ix2 j ⟨192 * h.val + d.val, by omega⟩)

/-- Entry `d` of head `h`'s key (the first 128 entries) and value (the rest). -/
def keyVal (x : XX) (m : MM) (w : WI) (g : GK) (wk : WK) (b : Fin 16) (s : Fin 4096) (h : Fin 8) (d : Fin 256) : EReal :=
  ∑ j : Fin 256, latK x m w g b s j * wk (ix2 j ⟨256 * h.val + d.val, by omega⟩)

/-- The angle a position turns the pair of entries `j` and `j + 32` by. -/
def freq (j : Fin 32) : EReal := Ideal.pow cTheta (Ideal.div (-(((BitVec.ofNat 32 j.val).toInt : ℝ) : EReal)) cHalfRope)
def angle (p : PP) (b : Fin 16) (s : Fin 4096) (j : Fin 32) : EReal := (((p (ix2 b s)).toInt : ℝ) : EReal) * freq j

/-- Sixty-four entries turned by thirty-two angles. -/
def rope (a : Fin 64 → EReal) (th : Fin 32 → EReal) (d : Fin 64) : EReal :=
  if h : d.val < 32 then a d * Ideal.cos (th ⟨d.val, h⟩) - a ⟨d.val + 32, by omega⟩ * Ideal.sin (th ⟨d.val, h⟩)
  else a ⟨d.val - 32, by omega⟩ * Ideal.sin (th ⟨d.val - 32, by omega⟩) + a d * Ideal.cos (th ⟨d.val - 32, by omega⟩)

/-- The results: queries, keys and values of every head. -/
def qOut (x : XX) (m : MM) (p : PP) (w : WI) (g : GQ) (wq : WQ) (b : Fin 16) (h : Fin 8) (s : Fin 4096) (d : Fin 192) : EReal :=
  (if d.val < 128 then query x m w g wq b s h d
    else rope (fun e => query x m w g wq b s h ⟨128 + e.val, by omega⟩) (angle p b s) ⟨d.val - 128, by omega⟩) * cScale

def kOut (x : XX) (m : MM) (p : PP) (w : WI) (g : GK) (wk : WK) (b : Fin 16) (h : Fin 8) (s : Fin 4096) (d : Fin 192) : EReal :=
  if d.val < 128 then keyVal x m w g wk b s h ⟨d.val, by omega⟩
    else rope (fun e => lat x m w b s ⟨768 + e.val, by omega⟩) (angle p b s) ⟨d.val - 128, by omega⟩

def vOut (x : XX) (m : MM) (w : WI) (g : GK) (wk : WK) (b : Fin 16) (h : Fin 8) (s : Fin 4096) (d : Fin 128) : EReal :=
  keyVal x m w g wk b s h ⟨128 + d.val, by omega⟩

/-! ## The rotation by swapped columns -/

/-- The other entry of an entry's pair. -/
def mate (d : Fin 64) : Fin 64 := ⟨(d.val + 32) % 64, by omega⟩

/-- The sign an entry's mate comes with. -/
def sgn (l : ℕ) : EReal := if l % 64 < 32 then cMinus else cOne

/-- The rotation as one product with the cosine and one of the mate with the signed sine. -/
theorem rope_mate (a : Fin 64 → EReal) (th : Fin 32 → EReal) (d : Fin 64) :
    rope a th d = a d * Ideal.cos (th ⟨d.val % 32, by omega⟩) + a (mate d) * (Ideal.sin (th ⟨d.val % 32, by omega⟩) * sgn d.val) := by
  unfold rope sgn
  by_cases h : d.val < 32
  · rw [dif_pos h, if_pos (by omega), cMinus_eq, mul_neg, mul_one, mul_neg, ← sub_eq_add_neg]
    have e : (⟨d.val % 32, by omega⟩ : Fin 32) = ⟨d.val, h⟩ := Fin.ext (by show d.val % 32 = d.val; omega)
    have f : mate d = ⟨d.val + 32, by omega⟩ := Fin.ext (by show (d.val + 32) % 64 = d.val + 32; omega)
    rw [e, f]
  · rw [dif_neg h, if_neg (by omega), cOne_eq, mul_one, add_comm]
    have e : (⟨d.val % 32, by omega⟩ : Fin 32) = ⟨d.val - 32, by omega⟩ := Fin.ext (by show d.val % 32 = d.val - 32; omega)
    have f : mate d = ⟨d.val - 32, by omega⟩ := Fin.ext (by show (d.val + 32) % 64 = d.val - 32; omega)
    rw [e, f]

/-- Scaling the entries before the rotation, by a finite number that is not negative, scales the result. -/
theorem rope_scaled (a : Fin 64 → EReal) (th : Fin 32 → EReal) (d : Fin 64) :
    a d * cScale * Ideal.cos (th ⟨d.val % 32, by omega⟩) + a (mate d) * cScale * (Ideal.sin (th ⟨d.val % 32, by omega⟩) * sgn d.val)
      = rope a th d * cScale := by
  rw [rope_mate, mul_comm (_ + _) cScale, EReal.left_distrib_of_nonneg_of_ne_top cScale_fin.1 cScale_fin.2]
  refine congrArg₂ (· + ·) ?_ ?_
  · rw [mul_comm (a d) cScale, mul_assoc]
  · rw [mul_comm (a (mate d)) cScale, mul_assoc]

end Cert.MlaSpec

end
-- ==== Proof.MlaRow.lean ====
/- The input projection's block, read at an index over the extended reals: the latents' norms, the products with the
   rearranged weights and the rotation. -/
module

public import proofs.«01_k».proof.Proof.Gen.MlaProjIdeal.Value
public import proofs.«01_k».proof.Proof.MlaSpec
public import proofs.«01_k».proof.Proof.FfnRow
public import Idealize.ShloMosaic.Lib.ValueIdx
public import Idealize.ShloMosaic.Lib.MatmulPlain
public import Idealize.ShloMosaic.PureOps.Ideal.Laws

@[expose] public section

set_option maxRecDepth 16384

noncomputable section

namespace Cert.MlaProjIdeal.Block

open Idealize.ShloMosaic Idealize.ShloMosaic.TcCoe Idealize.ShloMosaic.ValueIdx Cert.MlaProjIdeal Cert.MlaProjIdeal.Gen
open Cert.MlaSpec (cQ cKV cScale cTiny cMinus sgn)
open Cert.FfnSpec (cOne)
open Finset

/-! ## The input's product -/

/-- Entry `e` of row `r` of the product. -/
def u (x0 : Vec Ideal S1x512x1024 .f32) (x1 : Vec Ideal S1x3x1024 .f32) (x4 : Vec Ideal S1024x896 .bf16) (r : Fin 512) (e : Fin 896) : EReal :=
  ∑ k : Fin 1024, FfnIdeal.Block.hIn x0 x1 r k * x4 (ix2 k e)

theorem u_apply (x0 : Vec Ideal S1x512x1024 .f32) (x1 : Vec Ideal S1x3x1024 .f32) (x4 : Vec Ideal S1024x896 .bf16) (r : Fin 512) (e : Fin 896) :
    k0_pay2 x1 x0 x4 (ix2 r e) = u x0 x1 x4 r e := by
  unfold k0_pay2
  refine (Ideal.matmul_plain_apply (M := 512) (K := 1024) (N := 896) none _ _ _ r e).trans ?_
  rw [constant_apply, Ideal.ofBits_zero_f32, zero_add]
  refine sum_congr rfl fun k _ => ?_
  rw [shapeCast_self]
  exact congrArg₂ (· * ·) (FfnIdeal.Block.h_apply x0 x1 r k) rfl

/-! ## The latents' norms -/

theorem lift512 (r : Fin 512) (k : Fin (S512x512.size 1)) :
    reduces_S512x512_S512.lift (ix1 r) k = (ix2 r (⟨k.val, k.isLt⟩ : Fin 512) : S512x512.Idx) := by
  funext c; apply Fin.ext
  fin_cases c <;> rfl

theorem lift256 (r : Fin 512) (k : Fin (S512x256.size 1)) :
    reduces_S512x256_S512.lift (ix1 r) k = (ix2 r (⟨k.val, k.isLt⟩ : Fin 256) : S512x256.Idx) := by
  funext c; apply Fin.ext
  fin_cases c <;> rfl

theorem sum512 (z : FVec Ideal S512x512 .f32) (r : Fin 512) :
    multiReduction .add [1] S512 z 0x00000000#32 reduces_S512x512_S512 (.inl rfl) rfl (ix1 r) = ∑ c : Fin 512, z (ix2 r c) :=
  (Ideal.multiReduction_add_single z _ _ _ _ (ix1 r)).trans (sum_congr rfl fun k _ => congrArg z (lift512 r k))

theorem sum256 (z : FVec Ideal S512x256 .f32) (r : Fin 512) :
    multiReduction .add [1] S512 z 0x00000000#32 reduces_S512x256_S512 (.inl rfl) rfl (ix1 r) = ∑ c : Fin 256, z (ix2 r c) :=
  (Ideal.multiReduction_add_single z _ _ _ _ (ix1 r)).trans (sum_congr rfl fun k _ => congrArg z (lift256 r k))

/-- Row `r` of the queries' latent, normed. -/
def cq (x0 : Vec Ideal S1x512x1024 .f32) (x1 : Vec Ideal S1x3x1024 .f32) (x4 : Vec Ideal S1024x896 .bf16) (x5 : Vec Ideal S1x512 .f32)
    (r : Fin 512) (j : Fin 512) : EReal :=
  MlaSpec.rms (fun k : Fin 512 => u x0 x1 x4 r ⟨k.val, by omega⟩) cQ (x5 (ix2 0 j)) j

theorem cq_apply (x0 : Vec Ideal S1x512x1024 .f32) (x1 : Vec Ideal S1x3x1024 .f32) (x4 : Vec Ideal S1024x896 .bf16) (x5 : Vec Ideal S1x512 .f32)
    (r : Fin 512) (j : Fin 512) : k0_pay3 x1 x0 x4 x5 (ix2 r j) = cq x0 x1 x4 x5 r j := by
  have hz : ∀ k : Fin 512, extractStridedSlice S512x512 ![0, 0] (k0_pay2 x1 x0 x4) slices_S512x896_o0_0_S512x512 (ix2 r k)
      = u x0 x1 x4 r ⟨k.val, by omega⟩ := fun k =>
    (extractStridedSlice_apply _ _ _ _ (ix2 r ⟨k.val, by omega⟩) (fun a => by fin_cases a <;> simp)).trans (u_apply x0 x1 x4 r _)
  unfold k0_pay3
  generalize extractStridedSlice S512x512 ![0, 0] (k0_pay2 x1 x0 x4) slices_S512x896_o0_0_S512x512 = z at hz ⊢
  unfold cq MlaSpec.rms
  simp only [← hz]
  rw [truncf_apply, mulf_apply, mulf_apply]
  refine congrArg₂ (· * ·) (congrArg (z (ix2 r j) * ·) ?_) ?_
  · refine (broadcastTo_apply _ _ _ (ix2 r 0) (fun a => by fin_cases a <;> rfl)).trans ?_
    refine congrArg Ideal.rsqrt (congrArg₂ (· + ·) (congrArg₂ Ideal.div ?_ rfl) rfl)
    rw [FfnIdeal.Block.col_apply, sum512]
    rfl
  · refine (broadcastTo_apply _ _ _ (ix2 0 j) (fun a => by fin_cases a <;> rfl)).trans ?_
    rw [shapeCast_self]

/-- Row `r` of the keys' and values' latent, normed. -/
def ckv (x0 : Vec Ideal S1x512x1024 .f32) (x1 : Vec Ideal S1x3x1024 .f32) (x4 : Vec Ideal S1024x896 .bf16) (x6 : Vec Ideal S1x256 .f32)
    (r : Fin 512) (j : Fin 256) : EReal :=
  MlaSpec.rms (fun k : Fin 256 => u x0 x1 x4 r ⟨512 + k.val, by omega⟩) cKV (x6 (ix2 0 j)) j

/-- The latent as the kernel has it. -/
def ckvBlock (x0 : Vec Ideal S1x512x1024 .f32) (x1 : Vec Ideal S1x3x1024 .f32) (x4 : Vec Ideal S1024x896 .bf16) (x6 : Vec Ideal S1x256 .f32) :
    FVec Ideal S512x256 .bf16 :=
  k0_pay8 (k0_pay4 x1 x0 x4) (k0_pay5 x6) (k0_pay6 x1 x0 x4) k0_pay7

theorem ckv_apply (x0 : Vec Ideal S1x512x1024 .f32) (x1 : Vec Ideal S1x3x1024 .f32) (x4 : Vec Ideal S1024x896 .bf16) (x6 : Vec Ideal S1x256 .f32)
    (r : Fin 512) (j : Fin 256) : ckvBlock x0 x1 x4 x6 (ix2 r j) = ckv x0 x1 x4 x6 r j := by
  have hz : ∀ k : Fin 256, k0_pay4 x1 x0 x4 (ix2 r k) = u x0 x1 x4 r ⟨512 + k.val, by omega⟩ := fun k =>
    (extractStridedSlice_apply _ _ slices_S512x896_o0_512_S512x256 _ (ix2 r ⟨512 + k.val, by omega⟩) (fun a => by fin_cases a <;> simp)).trans (u_apply x0 x1 x4 r _)
  unfold ckvBlock k0_pay8 k0_pay6
  generalize k0_pay4 x1 x0 x4 = z at hz ⊢
  unfold ckv MlaSpec.rms
  simp only [← hz]
  rw [truncf_apply, mulf_apply, mulf_apply]
  refine congrArg₂ (· * ·) (congrArg (z (ix2 r j) * ·) ?_) ?_
  · refine (broadcastTo_apply _ _ _ (ix2 r 0) (fun a => by fin_cases a <;> rfl)).trans ?_
    refine congrArg Ideal.rsqrt (congrArg₂ (· + ·) (congrArg₂ Ideal.div ?_ rfl) rfl)
    rw [FfnIdeal.Block.col_apply, sum256]
    rfl
  · refine (FfnIdeal.Block.brow256_apply _ r j).trans ?_
    unfold k0_pay5
    rw [shapeCast_self]

/-! ## The angles -/

/-- The angle at row `r`, lane `l`. -/
def ang (x2 : Vec Ideal S1x1x512 .f32) (x3 : Vec Ideal S1x128 .f32) (r : Fin 512) (l : Fin 128) : EReal := x2 (ix3 0 0 r) * x3 (ix2 0 l)

theorem ang_apply (x2 : Vec Ideal S1x1x512 .f32) (x3 : Vec Ideal S1x128 .f32) (r : Fin 512) (l : Fin 128) :
    k0_pay10 x2 x3 (ix2 r l) = ang x2 x3 r l := by
  unfold k0_pay10 ang
  rw [mulf_apply]
  refine congrArg₂ (· * ·) ?_ ?_
  · refine (transpose_apply _ _ _ _ (ix2 l r) (fun b => by fin_cases b <;> rfl)).trans ?_
    refine (broadcastTo_apply _ _ _ (ix2 0 r) (fun a => by fin_cases a <;> rfl)).trans ?_
    rw [shapeCast_self]
    exact shapeCast_apply x2 _ _ _ (by
      rw [Shape.rowMajor_val_three, Shape.rowMajor_val_two]; show (0 * 1 + 0) * 512 + r.val = 0 * 512 + r.val; omega)
  · refine (broadcastTo_apply _ _ _ (ix2 0 l) (fun a => by fin_cases a <;> rfl)).trans ?_
    rw [shapeCast_self]

theorem cos_apply (x2 : Vec Ideal S1x1x512 .f32) (x3 : Vec Ideal S1x128 .f32) (r : Fin 512) (l : Fin 128) :
    k0_pay11 x2 x3 (ix2 r l) = Ideal.cos (ang x2 x3 r l) := congrArg Ideal.cos (ang_apply x2 x3 r l)

/-- The mask of the lanes in the first half of their group of 64, of a lane's number. -/
def firstHalf (l : BitVec 32) : BitVec 1 :=
  let n : BitVec 32 := Scalar.select (Scalar.cmpi .eq 64#32 0#32) 1#32 64#32
  let q := IntOp.remsi .vector l n
  IntOp.cmpi .slt (Scalar.select (IntOp.andi (IntOp.xori (IntOp.cmpi .slt q 0#32) (Scalar.cmpi .slt n 0#32)) (IntOp.cmpi .ne q 0#32)) (IntOp.addi q n) q) 32#32

theorem firstHalf_eq (l : Fin 128) : firstHalf (BitVec.ofNat 32 l.val) = if l.val % 64 < 32 then 1#1 else 0#1 := by
  revert l; decide +kernel

theorem sin_apply (x2 : Vec Ideal S1x1x512 .f32) (x3 : Vec Ideal S1x128 .f32) (r : Fin 512) (l : Fin 128) :
    k0_pay12 x2 x3 (ix2 r l) = Ideal.sin (ang x2 x3 r l) * sgn l.val := by
  unfold k0_pay12
  rw [mulf_apply]
  refine congrArg₂ (· * ·) (congrArg Ideal.sin (ang_apply x2 x3 r l)) ?_
  refine (broadcastTo_apply _ _ _ (ix2 0 l) (fun a => by fin_cases a <;> rfl)).trans ?_
  have hi : iota .tc S1x128 32 [1] iota_S1x128_d1_w32 (ix2 0 l) = BitVec.ofNat 32 l.val := iota_single_apply _ _ _ _ _ _
  show (if firstHalf (iota .tc S1x128 32 [1] iota_S1x128_d1_w32 (ix2 0 l)) = 1#1 then cMinus else cOne) = _
  rw [hi, firstHalf_eq]
  unfold sgn
  by_cases h : l.val % 64 < 32
  · rw [if_pos h, if_pos h, if_pos rfl]
  · rw [if_neg h, if_neg h, if_neg (by decide)]

/-! ## The queries -/

/-- Entry `e` of row `r` of the scaled product. -/
def qa (y : Fin 512 → EReal) (x7 : Vec Ideal S512x2048 .bf16) (e : Fin 2048) : EReal := (∑ j : Fin 512, y j * x7 (ix2 j e)) * cScale

theorem qa_apply (y : FVec Ideal S512x512 .bf16) (x7 : Vec Ideal S512x2048 .bf16) (r : Fin 512) (e : Fin 2048) :
    k0_pay13 y x7 (ix2 r e) = qa (fun j => y (ix2 r j)) x7 e := by
  unfold k0_pay13 qa
  rw [mulf_apply]
  refine congrArg₂ (· * ·) ?_ rfl
  refine (Ideal.matmul_plain_apply (M := 512) (K := 512) (N := 2048) none _ _ _ r e).trans ?_
  rw [constant_apply, Ideal.ofBits_zero_f32, zero_add, shapeCast_self]

theorem four_apply (x : FVec Ideal S512x128 .f32) (r : Fin 512) (f : Fin 512) :
    concatenate S512x512 1 [⟨S512x128, x⟩, ⟨S512x128, x⟩, ⟨S512x128, x⟩, ⟨S512x128, x⟩]
      concatenates_S512x128_S512x128_S512x128_S512x128_S512x512_d1 (ix2 r f) = x (ix2 r ⟨f.val % 128, by omega⟩) :=
  concatenate_ofFn_apply (t := S512x512) (s₁ := S512x128) 1 (fun _ : Fin 4 => x) concatenates_S512x128_S512x128_S512x128_S512x128_S512x512_d1 rfl 128 rfl
    (ix2 r f) ⟨f.val / 128, by omega⟩ rfl (ix2 r ⟨f.val % 128, by omega⟩) rfl (fun b hb => by
      match b with
      | ⟨0, _⟩ => rfl
      | ⟨1, _⟩ => exact absurd rfl hb)

theorem qrope_apply (y : FVec Ideal S512x512 .bf16) (c s : FVec Ideal S512x128 .f32) (x7 : Vec Ideal S512x2048 .bf16) (r : Fin 512) (f : Fin 512) :
    k0_pay14 y c s x7 (ix2 r f) = k0_pay13 y x7 (ix2 r ⟨1024 + f.val, by omega⟩) * c (ix2 r ⟨f.val % 128, by omega⟩)
      + k0_pay13 y x7 (ix2 r ⟨1536 + f.val, by omega⟩) * s (ix2 r ⟨f.val % 128, by omega⟩) := by
  unfold k0_pay14
  rw [addf_apply, mulf_apply, mulf_apply, four_apply, four_apply]
  refine congrArg₂ (· + ·) (congrArg₂ (· * ·) ?_ rfl) (congrArg₂ (· * ·) ?_ rfl)
  · exact extractStridedSlice_apply _ _ _ _ (ix2 r ⟨1024 + f.val, by omega⟩) (fun a => by fin_cases a <;> simp)
  · exact extractStridedSlice_apply _ _ _ _ (ix2 r ⟨1536 + f.val, by omega⟩) (fun a => by fin_cases a <;> simp)

/-! ## The keys and values -/

theorem kv_apply (y : FVec Ideal S512x256 .bf16) (x8 : Vec Ideal S256x2048 .bf16) (r : Fin 512) (e : Fin 2048) :
    k0_pay16 y x8 (ix2 r e) = ∑ j : Fin 256, y (ix2 r j) * x8 (ix2 j e) := by
  unfold k0_pay16
  refine (Ideal.matmul_plain_apply (M := 512) (K := 256) (N := 2048) none _ _ _ r e).trans ?_
  rw [constant_apply, Ideal.ofBits_zero_f32, zero_add, shapeCast_self]

theorem krope_apply (z : FVec Ideal S512x896 .f32) (c s : FVec Ideal S512x128 .f32) (r : Fin 512) (d : Fin 64) :
    k0_pay15 (k0_pay9 z) c s (ix2 r d) = z (ix2 r ⟨768 + d.val, by omega⟩) * c (ix2 r ⟨d.val, by omega⟩)
      + z (ix2 r ⟨832 + d.val, by omega⟩) * s (ix2 r ⟨d.val, by omega⟩) := by
  unfold k0_pay15
  rw [truncf_apply, addf_apply, mulf_apply, mulf_apply]
  refine congrArg₂ (· + ·) (congrArg₂ (· * ·) ?_ ?_) (congrArg₂ (· * ·) ?_ ?_)
  · refine (extractStridedSlice_apply _ _ _ _ (ix2 r ⟨d.val, by omega⟩) (fun a => by fin_cases a <;> simp)).trans ?_
    exact extractStridedSlice_apply _ _ slices_S512x896_o0_768_S512x128 _ (ix2 r ⟨768 + d.val, by omega⟩) (fun a => by fin_cases a <;> simp)
  · exact extractStridedSlice_apply _ _ _ _ (ix2 r ⟨d.val, by omega⟩) (fun a => by fin_cases a <;> simp)
  · refine (extractStridedSlice_apply _ _ _ _ (ix2 r ⟨64 + d.val, by omega⟩) (fun a => by fin_cases a <;> simp)).trans ?_
    exact extractStridedSlice_apply _ _ slices_S512x896_o0_768_S512x128 _ (ix2 r ⟨832 + d.val, by omega⟩) (fun a => by fin_cases a <;> simp [← add_assoc])
  · exact extractStridedSlice_apply _ _ _ _ (ix2 r ⟨d.val, by omega⟩) (fun a => by fin_cases a <;> simp)

end Cert.MlaProjIdeal.Block

end
-- ==== Proof.MlaBlock.lean ====
/- What one grid point of the input projection leaves in its three output blocks: the heads' columns of the queries,
   keys and values, placed head by head. -/
module

public import proofs.«01_k».proof.Proof.MlaRow
public import proofs.«01_k».proof.Proof.FfnState
public import Idealize.ShloMosaic.Lib.Pipeline.Value
public import Idealize.ShloMosaic.Lib.Pipeline.ValueKit.Tiles

@[expose] public section

set_option maxRecDepth 16384

noncomputable section

namespace Cert.MlaProjIdeal.Block

open Idealize.ShloMosaic Idealize.ShloMosaic.TcCoe Idealize.ShloMosaic.ValueIdx Idealize.ShloMosaic.Tactic Cert.MlaProjIdeal Cert.MlaProjIdeal.Gen

/-! ## The stored tiles -/

/-- A tile as wide as `w`, from column `n` on, stored as a block of one head. -/
def tile {N w : ℕ} (z : FVec Ideal ⟨2, ![512, N]⟩ .f32) (n : ℕ) (hs : (⟨2, ![512, N]⟩ : Shape).Slices ![0, n] ⟨2, ![512, w]⟩)
    (hc : (⟨2, ![512, w]⟩ : Shape).ShapeCasts ⟨4, ![1, 1, 512, w]⟩) : FVec Ideal ⟨4, ![1, 1, 512, w]⟩ .bf16 :=
  shapeCast ⟨4, ![1, 1, 512, w]⟩ (truncf .bf16 (extractStridedSlice ⟨2, ![512, w]⟩ ![0, n] z hs) bitsLt_bf16_f32) hc

theorem cast_apply {w : ℕ} (z : FVec Ideal ⟨2, ![512, w]⟩ .bf16) (hc : (⟨2, ![512, w]⟩ : Shape).ShapeCasts ⟨4, ![1, 1, 512, w]⟩)
    (a b : Fin 1) (r : Fin 512) (d : Fin w) : shapeCast ⟨4, ![1, 1, 512, w]⟩ z hc (ix4 a b r d) = z (ix2 r d) := by
  obtain rfl : a = 0 := Subsingleton.elim _ _
  obtain rfl : b = 0 := Subsingleton.elim _ _
  exact shapeCast_apply z _ _ _ (by
    rw [Shape.rowMajor_val_two, Shape.rowMajor_val_four]
    show r.val * w + d.val = ((0 * 1 + 0) * 512 + r.val) * w + d.val
    simp)

theorem tile_apply {N w : ℕ} (z : FVec Ideal ⟨2, ![512, N]⟩ .f32) (n : ℕ) (hs : (⟨2, ![512, N]⟩ : Shape).Slices ![0, n] ⟨2, ![512, w]⟩)
    (hc : (⟨2, ![512, w]⟩ : Shape).ShapeCasts ⟨4, ![1, 1, 512, w]⟩) (a b : Fin 1) (r : Fin 512) (d : Fin w) (e : Fin N) (he : e.val = n + d.val) :
    tile z n hs hc (ix4 a b r d) = z (ix2 r e) :=
  (cast_apply _ hc a b r d).trans (extractStridedSlice_apply _ _ hs _ (ix2 r e) (fun k => by
    match k with
    | ⟨0, _⟩ => show r.val = 0 + r.val; omega
    | ⟨1, _⟩ => exact he))

/-! ## The blocks -/

/-- The queries' block, of the columns without and with the rotation. -/
def blockQ (a : FVec Ideal S512x2048 .f32) (b : FVec Ideal S512x512 .f32) : Vec Ideal S1x8x512x192 .bf16 := fun y =>
  if (y 3).val < 128 then a (ix2 (y 2) (Fin.ofNat 2048 (128 * (y 1).val + (y 3).val)))
  else b (ix2 (y 2) (Fin.ofNat 512 (64 * (y 1).val + ((y 3).val - 128))))

/-- The keys' block: the rotated columns are the same for every head. -/
def blockK (a : FVec Ideal S512x2048 .f32) (b : FVec Ideal S512x64 .bf16) : Vec Ideal S1x8x512x192 .bf16 := fun y =>
  if (y 3).val < 128 then a (ix2 (y 2) (Fin.ofNat 2048 (128 * (y 1).val + (y 3).val)))
  else b (ix2 (y 2) (Fin.ofNat 64 ((y 3).val - 128)))

/-- The values' block. -/
def blockV (a : FVec Ideal S512x2048 .f32) : Vec Ideal S1x8x512x128 .bf16 := fun y =>
  a (ix2 (y 2) (Fin.ofNat 2048 (1024 + 128 * (y 1).val + (y 3).val)))

/-- A head's place in a block of width `D`, from column `o` on, `w` columns. -/
theorem place {D w : ℕ} (h o : ℕ) (inb : ∀ a, (![0, h, 0, o] : Fin 4 → ℕ) a + (![1, 1, 512, w] : Fin 4 → ℕ) a ≤ (⟨4, ![1, 8, 512, D]⟩ : Shape).size a)
    (a b : Fin 1) (r : Fin 512) (d : Fin w) :
    ∃ (hh : h < 8) (ho : o + d.val < D),
      (Rect.unit (s := ⟨4, ![1, 8, 512, D]⟩) ![0, h, 0, o] ![1, 1, 512, w] inb).emb (ix4 a b r d : (⟨4, ![1, 1, 512, w]⟩ : Shape).Idx) = ix4 0 ⟨h, hh⟩ r ⟨o + d.val, ho⟩ := by
  have h1 : h + 1 ≤ 8 := inb 1
  have h3 : o + w ≤ D := inb 3
  have hd := d.isLt
  refine ⟨by omega, by omega, funext fun k => Fin.ext ?_⟩
  match k with
  | ⟨0, _⟩ => show 0 + 1 * a.val = 0; omega
  | ⟨1, _⟩ => show h + 1 * b.val = h; omega
  | ⟨2, _⟩ => show 0 + 1 * r.val = r.val; omega
  | ⟨3, _⟩ => show o + 1 * d.val = o + d.val; omega

theorem q_plain (a : FVec Ideal S512x2048 .f32) (b : FVec Ideal S512x512 .f32) (h n : ℕ) (hn : n = 128 * h)
    (hs : (⟨2, ![512, 2048]⟩ : Shape).Slices ![0, n] ⟨2, ![512, 128]⟩) (hc : (⟨2, ![512, 128]⟩ : Shape).ShapeCasts ⟨4, ![1, 1, 512, 128]⟩)
    (inb : ∀ a, (![0, h, 0, 0] : Fin 4 → ℕ) a + (![1, 1, 512, 128] : Fin 4 → ℕ) a ≤ S1x8x512x192.size a) (x : (⟨4, ![1, 1, 512, 128]⟩ : Shape).Idx) :
    tile a n hs hc x = blockQ a b ((Rect.unit (s := S1x8x512x192) ![0, h, 0, 0] ![1, 1, 512, 128] inb).emb x) := by
  obtain ⟨k, l, r, d, rfl⟩ : ∃ (k l : Fin 1) (r : Fin 512) (d : Fin 128), x = ix4 k l r d := ⟨x 0, x 1, x 2, x 3, eq_ix4 x⟩
  obtain ⟨hh, ho, e⟩ := place (D := 192) h 0 inb k l r d
  rw [e]
  have hd := d.isLt
  refine (tile_apply a n hs hc k l r d ⟨n + d.val, by omega⟩ rfl).trans (Eq.trans (congrArg a (congrArg (ix2 r) (Fin.ext ?_))) (if_pos ?_).symm)
  · show n + d.val = (128 * h + (0 + d.val)) % 2048
    omega
  · show 0 + d.val < 128
    omega

theorem q_rope (a : FVec Ideal S512x2048 .f32) (b : FVec Ideal S512x512 .f32) (h n : ℕ) (hn : n = 64 * h)
    (hs : (⟨2, ![512, 512]⟩ : Shape).Slices ![0, n] ⟨2, ![512, 64]⟩) (hc : (⟨2, ![512, 64]⟩ : Shape).ShapeCasts ⟨4, ![1, 1, 512, 64]⟩)
    (inb : ∀ a, (![0, h, 0, 128] : Fin 4 → ℕ) a + (![1, 1, 512, 64] : Fin 4 → ℕ) a ≤ S1x8x512x192.size a) (x : (⟨4, ![1, 1, 512, 64]⟩ : Shape).Idx) :
    tile b n hs hc x = blockQ a b ((Rect.unit (s := S1x8x512x192) ![0, h, 0, 128] ![1, 1, 512, 64] inb).emb x) := by
  obtain ⟨k, l, r, d, rfl⟩ : ∃ (k l : Fin 1) (r : Fin 512) (d : Fin 64), x = ix4 k l r d := ⟨x 0, x 1, x 2, x 3, eq_ix4 x⟩
  obtain ⟨hh, ho, e⟩ := place (D := 192) h 128 inb k l r d
  rw [e]
  have hd := d.isLt
  refine (tile_apply b n hs hc k l r d ⟨n + d.val, by omega⟩ rfl).trans (Eq.trans (congrArg b (congrArg (ix2 r) (Fin.ext ?_))) (if_neg ?_).symm)
  · show n + d.val = (64 * h + (128 + d.val - 128)) % 512
    omega
  · show ¬128 + d.val < 128
    omega

theorem k_plain (a : FVec Ideal S512x2048 .f32) (b : FVec Ideal S512x64 .bf16) (h n : ℕ) (hn : n = 128 * h)
    (hs : (⟨2, ![512, 2048]⟩ : Shape).Slices ![0, n] ⟨2, ![512, 128]⟩) (hc : (⟨2, ![512, 128]⟩ : Shape).ShapeCasts ⟨4, ![1, 1, 512, 128]⟩)
    (inb : ∀ a, (![0, h, 0, 0] : Fin 4 → ℕ) a + (![1, 1, 512, 128] : Fin 4 → ℕ) a ≤ S1x8x512x192.size a) (x : (⟨4, ![1, 1, 512, 128]⟩ : Shape).Idx) :
    tile a n hs hc x = blockK a b ((Rect.unit (s := S1x8x512x192) ![0, h, 0, 0] ![1, 1, 512, 128] inb).emb x) :=
  q_plain a (fun _ => 0) h n hn hs hc inb x |>.trans (by
    obtain ⟨k, l, r, d, rfl⟩ : ∃ (k l : Fin 1) (r : Fin 512) (d : Fin 128), x = ix4 k l r d := ⟨x 0, x 1, x 2, x 3, eq_ix4 x⟩
    obtain ⟨hh, ho, e⟩ := place (D := 192) h 0 inb k l r d
    rw [e]
    have hd : 0 + d.val < 128 := by omega
    exact (if_pos hd).trans (if_pos hd).symm)

theorem k_rope (a : FVec Ideal S512x2048 .f32) (b : FVec Ideal S512x64 .bf16) (h : ℕ) (hc : (⟨2, ![512, 64]⟩ : Shape).ShapeCasts ⟨4, ![1, 1, 512, 64]⟩)
    (inb : ∀ a, (![0, h, 0, 128] : Fin 4 → ℕ) a + (![1, 1, 512, 64] : Fin 4 → ℕ) a ≤ S1x8x512x192.size a) (x : (⟨4, ![1, 1, 512, 64]⟩ : Shape).Idx) :
    shapeCast ⟨4, ![1, 1, 512, 64]⟩ b hc x = blockK a b ((Rect.unit (s := S1x8x512x192) ![0, h, 0, 128] ![1, 1, 512, 64] inb).emb x) := by
  obtain ⟨k, l, r, d, rfl⟩ : ∃ (k l : Fin 1) (r : Fin 512) (d : Fin 64), x = ix4 k l r d := ⟨x 0, x 1, x 2, x 3, eq_ix4 x⟩
  obtain ⟨hh, ho, e⟩ := place (D := 192) h 128 inb k l r d
  rw [e]
  have hd := d.isLt
  refine (cast_apply b hc k l r d).trans (Eq.trans (congrArg b (congrArg (ix2 r) (Fin.ext ?_))) (if_neg ?_).symm)
  · show d.val = (128 + d.val - 128) % 64
    omega
  · show ¬128 + d.val < 128
    omega

theorem v_tile (a : FVec Ideal S512x2048 .f32) (h n : ℕ) (hn : n = 1024 + 128 * h)
    (hs : (⟨2, ![512, 2048]⟩ : Shape).Slices ![0, n] ⟨2, ![512, 128]⟩) (hc : (⟨2, ![512, 128]⟩ : Shape).ShapeCasts ⟨4, ![1, 1, 512, 128]⟩)
    (inb : ∀ a, (![0, h, 0, 0] : Fin 4 → ℕ) a + (![1, 1, 512, 128] : Fin 4 → ℕ) a ≤ S1x8x512x128.size a) (x : (⟨4, ![1, 1, 512, 128]⟩ : Shape).Idx) :
    tile a n hs hc x = blockV a ((Rect.unit (s := S1x8x512x128) ![0, h, 0, 0] ![1, 1, 512, 128] inb).emb x) := by
  obtain ⟨k, l, r, d, rfl⟩ : ∃ (k l : Fin 1) (r : Fin 512) (d : Fin 128), x = ix4 k l r d := ⟨x 0, x 1, x 2, x 3, eq_ix4 x⟩
  obtain ⟨hh, ho, e⟩ := place (D := 128) h 0 inb k l r d
  rw [e]
  have hd := d.isLt
  refine (tile_apply a n hs hc k l r d ⟨n + d.val, by omega⟩ rfl).trans (congrArg a (congrArg (ix2 r) (Fin.ext ?_)))
  show n + d.val = (1024 + 128 * h + (0 + d.val)) % 2048
  omega

/-! ## The stored blocks -/

section Case
variable (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S1x1x512 .f32) (harg4 : arg4.IsWhole) (arg5 : Memref sig .tc .vmem S1x128 .f32) (harg5 : arg5.IsWhole) (arg6 : Memref sig .tc .vmem S1024x896 .bf16) (harg6 : arg6.IsWhole) (arg7 : Memref sig .tc .vmem S1x512 .f32) (harg7 : arg7.IsWhole) (arg8 : Memref sig .tc .vmem S1x256 .f32) (harg8 : arg8.IsWhole) (arg9 : Memref sig .tc .vmem S512x2048 .bf16) (harg9 : arg9.IsWhole) (arg10 : Memref sig .tc .vmem S256x2048 .bf16) (harg10 : arg10.IsWhole) (arg11 : Memref sig .tc .vmem S1x8x512x192 .bf16) (harg11 : arg11.IsWhole) (arg12 : Memref sig .tc .vmem S1x8x512x192 .bf16) (harg12 : arg12.IsWhole) (arg13 : Memref sig .tc .vmem S1x8x512x128 .bf16) (harg13 : arg13.IsWhole)
  (x0 : Vec Ideal S1x512x1024 .f32) (x1 : Vec Ideal S1x3x1024 .f32) (x2 : Vec Ideal S1x1x512 .f32) (x3 : Vec Ideal S1x128 .f32) (x4 : Vec Ideal S1024x896 .bf16) (x5 : Vec Ideal S1x512 .f32) (x6 : Vec Ideal S1x256 .f32) (x7 : Vec Ideal S512x2048 .bf16) (x8 : Vec Ideal S256x2048 .bf16)

theorem r0 (inb : ∀ a, (![0, 0, 0] : Fin 3 → ℕ) a + S1x512x1024.size a ≤ S1x512x1024.size a) :
    arg2.view.readAt (Elt Ideal) (Rect.unit (s := S1x512x1024) ![0, 0, 0] ![1, 512, 1024] inb).toLoadRect (harg2.unread x0) = x0 := by
  rw [View.readAt_eq_ld, harg2.read_unread]; exact View.ld_unit_zero FfnIdeal.Block.z3 _ _
theorem r1 (inb : ∀ a, (![0, 0, 0] : Fin 3 → ℕ) a + S1x3x1024.size a ≤ S1x3x1024.size a) :
    arg3.view.readAt (Elt Ideal) (Rect.unit (s := S1x3x1024) ![0, 0, 0] ![1, 3, 1024] inb).toLoadRect (harg3.unread x1) = x1 := by
  rw [View.readAt_eq_ld, harg3.read_unread]; exact View.ld_unit_zero FfnIdeal.Block.z3 _ _
theorem r2 (inb : ∀ a, (![0, 0, 0] : Fin 3 → ℕ) a + S1x1x512.size a ≤ S1x1x512.size a) :
    arg4.view.readAt (Elt Ideal) (Rect.unit (s := S1x1x512) ![0, 0, 0] ![1, 1, 512] inb).toLoadRect (harg4.unread x2) = x2 := by
  rw [View.readAt_eq_ld, harg4.read_unread]; exact View.ld_unit_zero FfnIdeal.Block.z3 _ _
theorem r3 (inb : ∀ a, (![0, 0] : Fin 2 → ℕ) a + S1x128.size a ≤ S1x128.size a) :
    arg5.view.readAt (Elt Ideal) (Rect.unit (s := S1x128) ![0, 0] ![1, 128] inb).toLoadRect (harg5.unread x3) = x3 := by
  rw [View.readAt_eq_ld, harg5.read_unread]; exact View.ld_unit_zero FfnIdeal.Block.z2 _ _
theorem r4 (inb : ∀ a, (![0, 0] : Fin 2 → ℕ) a + S1024x896.size a ≤ S1024x896.size a) :
    arg6.view.readAt (Elt Ideal) (Rect.unit (s := S1024x896) ![0, 0] ![1024, 896] inb).toLoadRect (harg6.unread x4) = x4 := by
  rw [View.readAt_eq_ld, harg6.read_unread]; exact View.ld_unit_zero FfnIdeal.Block.z2 _ _
theorem r5 (inb : ∀ a, (![0, 0] : Fin 2 → ℕ) a + S1x512.size a ≤ S1x512.size a) :
    arg7.view.readAt (Elt Ideal) (Rect.unit (s := S1x512) ![0, 0] ![1, 512] inb).toLoadRect (harg7.unread x5) = x5 := by
  rw [View.readAt_eq_ld, harg7.read_unread]; exact View.ld_unit_zero FfnIdeal.Block.z2 _ _
theorem r6 (inb : ∀ a, (![0, 0] : Fin 2 → ℕ) a + S1x256.size a ≤ S1x256.size a) :
    arg8.view.readAt (Elt Ideal) (Rect.unit (s := S1x256) ![0, 0] ![1, 256] inb).toLoadRect (harg8.unread x6) = x6 := by
  rw [View.readAt_eq_ld, harg8.read_unread]; exact View.ld_unit_zero FfnIdeal.Block.z2 _ _
theorem r7 (inb : ∀ a, (![0, 0] : Fin 2 → ℕ) a + S512x2048.size a ≤ S512x2048.size a) :
    arg9.view.readAt (Elt Ideal) (Rect.unit (s := S512x2048) ![0, 0] ![512, 2048] inb).toLoadRect (harg9.unread x7) = x7 := by
  rw [View.readAt_eq_ld, harg9.read_unread]; exact View.ld_unit_zero FfnIdeal.Block.z2 _ _
theorem r8 (inb : ∀ a, (![0, 0] : Fin 2 → ℕ) a + S256x2048.size a ≤ S256x2048.size a) :
    arg10.view.readAt (Elt Ideal) (Rect.unit (s := S256x2048) ![0, 0] ![256, 2048] inb).toLoadRect (harg10.unread x8) = x8 := by
  rw [View.readAt_eq_ld, harg10.read_unread]; exact View.ld_unit_zero FfnIdeal.Block.z2 _ _

/-- The queries' block. -/
theorem out9_eq : out0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = blockQ (k0_pay13 (k0_pay3 x1 x0 x4 x5) x7) (k0_pay14 (k0_pay3 x1 x0 x4 x5) (k0_pay11 x2 x3) (k0_pay12 x2 x3) x7) := by
  funext y
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  refine View.canon_apply_of_pieces _ _ ?_ y (cover0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 y)
  unfold kernelRun0_A
  dsimp only
  sl_unfold_words
  simp only [r0, r1, r2, r3, r4, r5, r6, r7, r8]
  repeat
    refine List.forall_mem_cons.2 ⟨fun x => q_rope (k0_pay13 (k0_pay3 x1 x0 x4 x5) x7) (k0_pay14 (k0_pay3 x1 x0 x4 x5) (k0_pay11 x2 x3) (k0_pay12 x2 x3) x7) _ _ ?_ ?_ ?_ ?_ x, ?_⟩
    any_goals first | rfl | decide
    refine List.forall_mem_cons.2 ⟨fun x => q_plain (k0_pay13 (k0_pay3 x1 x0 x4 x5) x7) (k0_pay14 (k0_pay3 x1 x0 x4 x5) (k0_pay11 x2 x3) (k0_pay12 x2 x3) x7) _ _ ?_ ?_ ?_ ?_ x, ?_⟩
    any_goals first | rfl | decide
  exact List.forall_mem_nil _

/-- The keys' block. -/
theorem out10_eq : out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = blockK (k0_pay16 (ckvBlock x0 x1 x4 x6) x8) (k0_pay15 (k0_pay9 (k0_pay2 x1 x0 x4)) (k0_pay11 x2 x3) (k0_pay12 x2 x3)) := by
  funext y
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  refine View.canon_apply_of_pieces _ _ ?_ y (cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 y)
  unfold kernelRun0_A
  dsimp only
  sl_unfold_words
  simp only [r0, r1, r2, r3, r4, r5, r6, r7, r8]
  repeat
    refine List.forall_mem_cons.2 ⟨fun x => k_rope (k0_pay16 (ckvBlock x0 x1 x4 x6) x8) (k0_pay15 (k0_pay9 (k0_pay2 x1 x0 x4)) (k0_pay11 x2 x3) (k0_pay12 x2 x3)) _ ?_ ?_ x, ?_⟩
    any_goals first | rfl | decide
    refine List.forall_mem_cons.2 ⟨fun x => k_plain (k0_pay16 (ckvBlock x0 x1 x4 x6) x8) (k0_pay15 (k0_pay9 (k0_pay2 x1 x0 x4)) (k0_pay11 x2 x3) (k0_pay12 x2 x3)) _ _ ?_ ?_ ?_ ?_ x, ?_⟩
    any_goals first | rfl | decide
  exact List.forall_mem_nil _

/-- The values' block. -/
theorem out11_eq : out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = blockV (k0_pay16 (ckvBlock x0 x1 x4 x6) x8) := by
  funext y
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  refine View.canon_apply_of_pieces _ _ ?_ y (cover0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 y)
  unfold kernelRun0_A
  dsimp only
  sl_unfold_words
  simp only [r0, r1, r2, r3, r4, r5, r6, r7, r8]
  repeat
    refine List.forall_mem_cons.2 ⟨fun x => v_tile (k0_pay16 (ckvBlock x0 x1 x4 x6) x8) _ _ ?_ ?_ ?_ ?_ x, ?_⟩
    any_goals first | rfl | decide
  exact List.forall_mem_nil _

end Case

end Cert.MlaProjIdeal.Block

end
-- ==== Proof.MlaHost.lean ====
/- The arrays the program prepares for the input projection: the rotation's frequencies, and the weights with their
   columns put in the order the kernel wants them. -/
module

public import proofs.«01_k».proof.Proof.MlaSpec
public import proofs.«01_k».proof.Proof.Gen.MlaProjIdeal.Value
public import Idealize.ShloMosaic.Lib.ValueIdx
public import Idealize.ShloMosaic.Lib.IdealHost
public import Idealize.ShloMosaic.Lib.Pipeline.Value

@[expose] public section

set_option maxRecDepth 16384

noncomputable section

namespace Cert.MlaProjIdeal.Host

open Idealize.ShloMosaic Idealize.ShloMosaic.TcCoe Idealize.ShloMosaic.ValueIdx Cert.MlaProjIdeal Cert.MlaProjIdeal.Gen
open Cert.MlaSpec (WI WQ WK)

/-! ## The frequencies -/

/-- The 32 frequencies. -/
def freqs : FVec Ideal S32 .f32 :=
  Host.powf (F := Ideal) (broadcastInDim S32 ![] bcast_S_S32 (constant (F := Ideal) S_ .f32 0x461C4000#32))
    (Host.divf (F := Ideal) (Host.negf (F := Ideal) (sitofp (F := Ideal) .f32 (iotaInDim S32 32 0)))
      (broadcastInDim S32 ![] bcast_S_S32 (constant (F := Ideal) S_ .f32 0x42000000#32)))

theorem freqs_apply (j : Fin 32) : freqs (ix1 j) = MlaSpec.freq j := rfl

/-- The frequencies four times over, as one row. -/
def freqRow : FVec Ideal S1x128 .f32 :=
  shapeCast S1x128 (shapeCast S128 (broadcastInDim S4x32 ![0, 1] bcast_S1x32_S4x32_0_1 (shapeCast S1x32 freqs shapeCasts_S32_S1x32)) shapeCasts_S4x32_S128)
    shapeCasts_S128_S1x128

theorem freqRow_apply (l : Fin 128) : freqRow (ix2 0 l) = MlaSpec.freq ⟨l.val % 32, by omega⟩ := by
  unfold freqRow
  refine (shapeCast_apply _ _ _ (ix1 l) (by
    rw [Shape.rowMajor_val_one, Shape.rowMajor_val_two]; show l.val = 0 * 128 + l.val; omega)).trans ?_
  refine (shapeCast_apply _ _ _ (ix2 (⟨l.val / 32, by omega⟩ : Fin 4) (⟨l.val % 32, by omega⟩ : Fin 32)) (by
    rw [Shape.rowMajor_val_one, Shape.rowMajor_val_two]; show l.val / 32 * 32 + l.val % 32 = l.val; omega)).trans ?_
  refine (broadcastInDim_apply _ _ _ _ (ix2 (0 : Fin 1) (⟨l.val % 32, by omega⟩ : Fin 32)) (fun a => by fin_cases a <;> rfl)).trans ?_
  exact (shapeCast_apply _ _ _ (ix1 (⟨l.val % 32, by omega⟩ : Fin 32)) (by
    rw [Shape.rowMajor_val_one, Shape.rowMajor_val_two]; show l.val % 32 = 0 * 32 + l.val % 32; omega)).trans (freqs_apply _)

/-! ## The positions -/

/-- The positions as numbers. -/
def posRow (p : MlaSpec.PP) : FVec Ideal S16x1x4096 .f32 := shapeCast S16x1x4096 (sitofp (F := Ideal) .f32 (s := S16x4096) p) shapeCasts_S16x4096_S16x1x4096

theorem posRow_apply (p : MlaSpec.PP) (b : Fin 16) (s : Fin 4096) : posRow p (ix3 b 0 s) = (((p (ix2 b s)).toInt : ℝ) : EReal) :=
  shapeCast_apply _ _ _ (ix2 b s) (by
    rw [Shape.rowMajor_val_two, Shape.rowMajor_val_three]; show b.val * 4096 + s.val = (b.val * 1 + 0) * 4096 + s.val; omega)

/-! ## The input's weights -/

/-- The last 64 columns of the input's weights. -/
def tailCols (w : WI) : FVec Ideal S1024x64 .f32 := extractStridedSlice (s := S1024x832) S1024x64 ![0, 768] w slices_S1024x832_S1024x64_0_768

theorem tailCols_apply (w : WI) (k : Fin 1024) (j : Fin 64) : tailCols w (ix2 k j) = w (ix2 k ⟨768 + j.val, by omega⟩) :=
  extractStridedSlice_apply _ _ _ _ (ix2 k ⟨768 + j.val, by omega⟩) (fun a => by fin_cases a <;> simp)

/-- Those columns with their halves swapped. -/
def tailSwap (w : WI) : FVec Ideal S1024x64 .f32 :=
  concatenate S1024x64 1 [⟨S1024x32, extractStridedSlice S1024x32 ![0, 32] (tailCols w) slices_S1024x64_S1024x32_0_32⟩,
    ⟨S1024x32, extractStridedSlice S1024x32 ![0, 0] (tailCols w) slices_S1024x64_S1024x32_0_0⟩] concatenates_S1024x32_S1024x32_S1024x64_d1

theorem tailSwap_apply (w : WI) (k : Fin 1024) (j : Fin 64) : tailSwap w (ix2 k j) = w (ix2 k ⟨768 + (j.val + 32) % 64, by omega⟩) := by
  by_cases h : j.val < 32
  · refine (concatenate_pair_apply_left (t := S1024x64) (s₁ := S1024x32) (s₂ := S1024x32) 1 _ _ _ _ rfl (ix2 k ⟨j.val, h⟩)
      (fun b => by fin_cases b <;> rfl)).trans ?_
    refine (extractStridedSlice_apply _ _ _ _ (ix2 k (⟨32 + j.val, by omega⟩ : Fin 64)) (fun a => by fin_cases a <;> simp)).trans ?_
    refine (tailCols_apply w k _).trans (congrArg w (congrArg (ix2 k) (Fin.ext ?_)))
    show 768 + (32 + j.val) = 768 + (j.val + 32) % 64
    omega
  · refine (concatenate_pair_apply_right (t := S1024x64) (s₁ := S1024x32) (s₂ := S1024x32) 1 _ _ _ _ rfl rfl (ix2 k ⟨j.val - 32, by omega⟩) ?_ ?_).trans ?_
    · intro b hb
      match b with
      | ⟨0, _⟩ => rfl
      | ⟨1, _⟩ => exact absurd rfl hb
    · show j.val - 32 + 32 = j.val
      omega
    refine (extractStridedSlice_apply _ _ _ _ (ix2 k (⟨j.val - 32, by omega⟩ : Fin 64)) (fun a => by fin_cases a <;> simp)).trans ?_
    refine (tailCols_apply w k _).trans (congrArg w (congrArg (ix2 k) (Fin.ext ?_)))
    show 768 + (j.val - 32) = 768 + (j.val + 32) % 64
    omega

/-- The input's weights with the swapped columns after them. -/
def inCat (w : WI) : FVec Ideal S1024x896 .f32 :=
  concatenate S1024x896 1 [⟨S1024x832, w⟩, ⟨S1024x64, tailSwap w⟩] concatenates_S1024x832_S1024x64_S1024x896_d1

theorem inCat_left (w : WI) (k : Fin 1024) (e : Fin 896) (f : Fin 832) (h : e.val = f.val) : inCat w (ix2 k e) = w (ix2 k f) := by
  unfold inCat
  refine concatenate_pair_apply_left (t := S1024x896) (s₁ := S1024x832) (s₂ := S1024x64) 1 _ _ _ _ rfl (ix2 k f) (fun b => ?_)
  match b with
  | ⟨0, _⟩ => rfl
  | ⟨1, _⟩ => exact h.symm

theorem inCat_right (w : WI) (k : Fin 1024) (e : Fin 896) (j : Fin 64) (h : e.val = 832 + j.val) :
    inCat w (ix2 k e) = w (ix2 k ⟨768 + (j.val + 32) % 64, by omega⟩) := by
  unfold inCat
  refine (concatenate_pair_apply_right (t := S1024x896) (s₁ := S1024x832) (s₂ := S1024x64) 1 _ _ _ _ rfl rfl (ix2 k j) ?_ ?_).trans (tailSwap_apply w k j)
  · intro b hb
    match b with
    | ⟨0, _⟩ => rfl
    | ⟨1, _⟩ => exact absurd rfl hb
  · show j.val + 832 = e.val
    omega

/-! ## The queries' weights -/

/-- The queries' weights, head by head. -/
def qHeads (w : WQ) : FVec Ideal S512x8x192 .f32 := shapeCast (s := S512x1536) S512x8x192 w shapeCasts_S512x1536_S512x8x192

theorem qHeads_apply (w : WQ) (k : Fin 512) (h : Fin 8) (d : Fin 192) : qHeads w (ix3 k h d) = w (ix2 k ⟨192 * h.val + d.val, by omega⟩) :=
  shapeCast_apply _ _ _ (ix2 k ⟨192 * h.val + d.val, by omega⟩) (by
    rw [Shape.rowMajor_val_two, Shape.rowMajor_val_three]
    show k.val * 1536 + (192 * h.val + d.val) = (k.val * 8 + h.val) * 192 + d.val
    omega)

/-- The columns the rotation turns, head by head. -/
def qTurned (w : WQ) : FVec Ideal S512x8x64 .f32 := extractStridedSlice S512x8x64 ![0, 0, 128] (qHeads w) slices_S512x8x192_S512x8x64_0_0_128

theorem qTurned_apply (w : WQ) (k : Fin 512) (h : Fin 8) (d : Fin 64) : qTurned w (ix3 k h d) = w (ix2 k ⟨192 * h.val + (128 + d.val), by omega⟩) :=
  (extractStridedSlice_apply _ _ _ _ (ix3 k h (⟨128 + d.val, by omega⟩ : Fin 192)) (fun a => by fin_cases a <;> simp)).trans (qHeads_apply ..)

/-- Those columns with their halves swapped. -/
def qSwap (w : WQ) : FVec Ideal S512x8x64 .f32 :=
  concatenate S512x8x64 2 [⟨S512x8x32, extractStridedSlice S512x8x32 ![0, 0, 32] (qTurned w) slices_S512x8x64_S512x8x32_0_0_32⟩,
    ⟨S512x8x32, extractStridedSlice S512x8x32 ![0, 0, 0] (qTurned w) slices_S512x8x64_S512x8x32_0_0_0⟩] concatenates_S512x8x32_S512x8x32_S512x8x64_d2

theorem qSwap_apply (w : WQ) (k : Fin 512) (h : Fin 8) (j : Fin 64) :
    qSwap w (ix3 k h j) = w (ix2 k ⟨192 * h.val + (128 + (j.val + 32) % 64), by omega⟩) := by
  by_cases hj : j.val < 32
  · refine (concatenate_pair_apply_left (t := S512x8x64) (s₁ := S512x8x32) (s₂ := S512x8x32) 2 _ _ _ _ rfl (ix3 k h ⟨j.val, hj⟩)
      (fun b => by fin_cases b <;> rfl)).trans ?_
    refine (extractStridedSlice_apply _ _ _ _ (ix3 k h (⟨32 + j.val, by omega⟩ : Fin 64)) (fun a => by fin_cases a <;> simp)).trans ?_
    refine (qTurned_apply w k h _).trans (congrArg w (congrArg (ix2 k) (Fin.ext ?_)))
    show 192 * h.val + (128 + (32 + j.val)) = 192 * h.val + (128 + (j.val + 32) % 64)
    omega
  · refine (concatenate_pair_apply_right (t := S512x8x64) (s₁ := S512x8x32) (s₂ := S512x8x32) 2 _ _ _ _ rfl rfl (ix3 k h ⟨j.val - 32, by omega⟩) ?_ ?_).trans ?_
    · intro b hb
      match b with
      | ⟨0, _⟩ => rfl
      | ⟨1, _⟩ => rfl
      | ⟨2, _⟩ => exact absurd rfl hb
    · show j.val - 32 + 32 = j.val
      omega
    refine (extractStridedSlice_apply _ _ _ _ (ix3 k h (⟨j.val - 32, by omega⟩ : Fin 64)) (fun a => by fin_cases a <;> simp)).trans ?_
    refine (qTurned_apply w k h _).trans (congrArg w (congrArg (ix2 k) (Fin.ext ?_)))
    show 192 * h.val + (128 + (j.val - 32)) = 192 * h.val + (128 + (j.val + 32) % 64)
    omega

/-- The columns without the rotation, those with it, and those with their halves swapped, each for all heads. -/
def qPlain (w : WQ) : FVec Ideal S512x1024 .f32 :=
  shapeCast S512x1024 (extractStridedSlice S512x8x128 ![0, 0, 0] (qHeads w) slices_S512x8x192_S512x8x128_0_0_0) shapeCasts_S512x8x128_S512x1024
def qFlat (z : FVec Ideal S512x8x64 .f32) : FVec Ideal S512x512 .f32 := shapeCast S512x512 z shapeCasts_S512x8x64_S512x512

theorem qPlain_apply (w : WQ) (k : Fin 512) (e : Fin 1024) (h : Fin 8) (d : Fin 128) (he : e.val = 128 * h.val + d.val) :
    qPlain w (ix2 k e) = w (ix2 k ⟨192 * h.val + d.val, by omega⟩) :=
  (shapeCast_apply _ _ _ (ix3 k h d) (by
    rw [Shape.rowMajor_val_two, Shape.rowMajor_val_three]
    show (k.val * 8 + h.val) * 128 + d.val = k.val * 1024 + e.val
    omega)).trans ((extractStridedSlice_apply _ _ _ _ (ix3 k h (⟨d.val, by omega⟩ : Fin 192)) (fun a => by fin_cases a <;> simp)).trans
      (qHeads_apply w k h ⟨d.val, by omega⟩))

theorem qFlat_apply (z : FVec Ideal S512x8x64 .f32) (k : Fin 512) (e : Fin 512) (h : Fin 8) (d : Fin 64) (he : e.val = 64 * h.val + d.val) :
    qFlat z (ix2 k e) = z (ix3 k h d) :=
  shapeCast_apply _ _ _ (ix3 k h d) (by
    rw [Shape.rowMajor_val_two, Shape.rowMajor_val_three]
    show (k.val * 8 + h.val) * 64 + d.val = k.val * 512 + e.val
    omega)

/-- The queries' weights as the kernel wants them. -/
def qCat (w : WQ) : FVec Ideal S512x2048 .f32 :=
  concatenate S512x2048 1 [⟨S512x1024, qPlain w⟩, ⟨S512x512, qFlat (qTurned w)⟩, ⟨S512x512, qFlat (qSwap w)⟩]
    concatenates_S512x1024_S512x512_S512x512_S512x2048_d1

theorem qCat_plain (w : WQ) (k : Fin 512) (e : Fin 2048) (h : Fin 8) (d : Fin 128) (he : e.val = 128 * h.val + d.val) :
    qCat w (ix2 k e) = w (ix2 k ⟨192 * h.val + d.val, by omega⟩) := by
  unfold qCat
  refine (concatenate_apply_piece (t := S512x2048) 1 _ _ _ 0 (by simp) S512x1024 (qPlain w) rfl rfl 0 rfl (ix2 k ⟨128 * h.val + d.val, by omega⟩) ?_ ?_).trans
    (qPlain_apply w k _ h d rfl)
  · intro b hb
    match b with
    | ⟨0, _⟩ => rfl
    | ⟨1, _⟩ => exact absurd rfl hb
  · show 0 + (128 * h.val + d.val) = e.val
    omega

theorem qCat_turned (w : WQ) (k : Fin 512) (e : Fin 2048) (h : Fin 8) (d : Fin 64) (he : e.val = 1024 + (64 * h.val + d.val)) :
    qCat w (ix2 k e) = w (ix2 k ⟨192 * h.val + (128 + d.val), by omega⟩) := by
  unfold qCat
  refine (concatenate_apply_piece (t := S512x2048) 1 _ _ _ 1 (by simp) S512x512 (qFlat (qTurned w)) rfl rfl 1024 rfl (ix2 k ⟨64 * h.val + d.val, by omega⟩) ?_ ?_).trans
    ((qFlat_apply _ k _ h d rfl).trans (qTurned_apply w k h d))
  · intro b hb
    match b with
    | ⟨0, _⟩ => rfl
    | ⟨1, _⟩ => exact absurd rfl hb
  · exact he.symm

theorem qCat_swap (w : WQ) (k : Fin 512) (e : Fin 2048) (h : Fin 8) (d : Fin 64) (he : e.val = 1536 + (64 * h.val + d.val)) :
    qCat w (ix2 k e) = w (ix2 k ⟨192 * h.val + (128 + (d.val + 32) % 64), by omega⟩) := by
  unfold qCat
  refine (concatenate_apply_piece (t := S512x2048) 1 _ _ _ 2 (by simp) S512x512 (qFlat (qSwap w)) rfl rfl 1536 rfl (ix2 k ⟨64 * h.val + d.val, by omega⟩) ?_ ?_).trans
    ((qFlat_apply _ k _ h d rfl).trans (qSwap_apply w k h d))
  · intro b hb
    match b with
    | ⟨0, _⟩ => rfl
    | ⟨1, _⟩ => exact absurd rfl hb
  · exact he.symm

/-! ## The keys' and values' weights -/

/-- The keys' and values' weights, head by head. -/
def kHeads (w : WK) : FVec Ideal S256x8x256 .f32 := shapeCast (s := S256x2048) S256x8x256 w shapeCasts_S256x2048_S256x8x256

theorem kHeads_apply (w : WK) (k : Fin 256) (h : Fin 8) (d : Fin 256) : kHeads w (ix3 k h d) = w (ix2 k ⟨256 * h.val + d.val, by omega⟩) :=
  shapeCast_apply _ _ _ (ix2 k ⟨256 * h.val + d.val, by omega⟩) (by
    rw [Shape.rowMajor_val_two, Shape.rowMajor_val_three]
    show k.val * 2048 + (256 * h.val + d.val) = (k.val * 8 + h.val) * 256 + d.val
    omega)

/-- One half of every head's columns, flattened. -/
def kFlat (z : FVec Ideal S256x8x128 .f32) : FVec Ideal S256x1024 .f32 := shapeCast S256x1024 z shapeCasts_S256x8x128_S256x1024

theorem kFlat_apply (z : FVec Ideal S256x8x128 .f32) (k : Fin 256) (e : Fin 1024) (h : Fin 8) (d : Fin 128) (he : e.val = 128 * h.val + d.val) :
    kFlat z (ix2 k e) = z (ix3 k h d) :=
  shapeCast_apply _ _ _ (ix3 k h d) (by
    rw [Shape.rowMajor_val_two, Shape.rowMajor_val_three]
    show (k.val * 8 + h.val) * 128 + d.val = k.val * 1024 + e.val
    omega)

/-- The keys' and values' weights as the kernel wants them. -/
def kCat (w : WK) : FVec Ideal S256x2048 .f32 :=
  concatenate S256x2048 1 [⟨S256x1024, kFlat (extractStridedSlice S256x8x128 ![0, 0, 0] (kHeads w) slices_S256x8x256_S256x8x128_0_0_0)⟩,
    ⟨S256x1024, kFlat (extractStridedSlice S256x8x128 ![0, 0, 128] (kHeads w) slices_S256x8x256_S256x8x128_0_0_128)⟩]
    concatenates_S256x1024_S256x1024_S256x2048_d1

theorem kCat_key (w : WK) (k : Fin 256) (e : Fin 2048) (h : Fin 8) (d : Fin 128) (he : e.val = 128 * h.val + d.val) :
    kCat w (ix2 k e) = w (ix2 k ⟨256 * h.val + d.val, by omega⟩) := by
  unfold kCat
  refine (concatenate_pair_apply_left (t := S256x2048) (s₁ := S256x1024) (s₂ := S256x1024) 1 _ _ _ _ rfl (ix2 k ⟨128 * h.val + d.val, by omega⟩) ?_).trans
    ((kFlat_apply _ k _ h d rfl).trans ((extractStridedSlice_apply _ _ _ _ (ix3 k h (⟨d.val, by omega⟩ : Fin 256)) (fun a => by fin_cases a <;> simp)).trans
      (kHeads_apply w k h ⟨d.val, by omega⟩)))
  intro b
  match b with
  | ⟨0, _⟩ => rfl
  | ⟨1, _⟩ => exact he.symm

theorem kCat_value (w : WK) (k : Fin 256) (e : Fin 2048) (h : Fin 8) (d : Fin 128) (he : e.val = 1024 + 128 * h.val + d.val) :
    kCat w (ix2 k e) = w (ix2 k ⟨256 * h.val + (128 + d.val), by omega⟩) := by
  unfold kCat
  refine (concatenate_pair_apply_right (t := S256x2048) (s₁ := S256x1024) (s₂ := S256x1024) 1 _ _ _ _ rfl rfl (ix2 k ⟨128 * h.val + d.val, by omega⟩) ?_ ?_).trans
    ((kFlat_apply _ k _ h d rfl).trans ((extractStridedSlice_apply _ _ _ _ (ix3 k h (⟨128 + d.val, by omega⟩ : Fin 256)) (fun a => by fin_cases a <;> simp)).trans
      (kHeads_apply w k h ⟨128 + d.val, by omega⟩)))
  · intro b hb
    match b with
    | ⟨0, _⟩ => rfl
    | ⟨1, _⟩ => exact absurd rfl hb
  · show 128 * h.val + d.val + 1024 = e.val
    omega

end Cert.MlaProjIdeal.Host

end
-- ==== Proof.MlaArray.lean ====
/- What the input projection's result arrays hold: the queries, keys and values of every head. -/
module

public import proofs.«01_k».proof.Proof.MlaBlock
public import proofs.«01_k».proof.Proof.MlaHost
public import proofs.«01_k».proof.Proof.FfnArray
public import Idealize.ShloMosaic.Lib.StableHlo.Run

@[expose] public section

set_option maxRecDepth 16384

noncomputable section

namespace Cert.MlaProjIdeal.Array

open Idealize.ShloMosaic Idealize.ShloMosaic.TcCoe Idealize.ShloMosaic.ValueIdx Idealize.SL.Sem
open Cert.MlaProjIdeal Cert.MlaProjIdeal.Gen Cert.MlaProjIdeal.Block Cert.MlaProjIdeal.Host
open Cert.FfnIdeal.Array (ofNat_small)
open Cert.MlaSpec (cScale sgn mate)

variable (m : (ℓ : Loc nD τ sig) → Buf (Elt Ideal) ℓ)

/-- The arguments in a memory: input, modulation, positions, the input's weights, the norms' scales, the queries' weights
    and the keys' and values' weights. -/
abbrev xOf (c : Dev nD) : FfnSpec.XX := m ((c : Thread nD τ).loc main_arg0)
abbrev mOf (c : Dev nD) : FfnSpec.MM := m ((c : Thread nD τ).loc main_arg1)
abbrev pOf (c : Dev nD) : MlaSpec.PP := m ((c : Thread nD τ).loc main_arg2)
abbrev wOf (c : Dev nD) : MlaSpec.WI := m ((c : Thread nD τ).loc main_arg3)
abbrev gOf (c : Dev nD) : MlaSpec.GQ := m ((c : Thread nD τ).loc main_arg4)
abbrev hOf (c : Dev nD) : MlaSpec.GK := m ((c : Thread nD τ).loc main_arg5)
abbrev wqOf (c : Dev nD) : MlaSpec.WQ := m ((c : Thread nD τ).loc main_arg6)
abbrev wkOf (c : Dev nD) : MlaSpec.WK := m ((c : Thread nD τ).loc main_arg7)

/-- The result arrays. -/
def resultQ (c : Dev nD) : Buf (Elt Ideal) ((c : Thread nD τ).loc main_v38_0) := fun (i : S16x8x4096x192.Idx) =>
  MlaSpec.qOut (xOf m c) (mOf m c) (pOf m c) (wOf m c) (gOf m c) (wqOf m c) (i 0) (i 1) (i 2) (i 3)
def resultK (c : Dev nD) : Buf (Elt Ideal) ((c : Thread nD τ).loc main_v38_1) := fun (i : S16x8x4096x192.Idx) =>
  MlaSpec.kOut (xOf m c) (mOf m c) (pOf m c) (wOf m c) (hOf m c) (wkOf m c) (i 0) (i 1) (i 2) (i 3)
def resultV (c : Dev nD) : Buf (Elt Ideal) ((c : Thread nD τ).loc main_v38_2) := fun (i : S16x8x4096x128.Idx) =>
  MlaSpec.vOut (xOf m c) (mOf m c) (wOf m c) (hOf m c) (wkOf m c) (i 0) (i 1) (i 2) (i 3)

/-! ## The prepared arrays -/

theorem V_v9 (c : Dev nD) : V m c main_v9 = freqRow := by
  show StableHlo.after hostOps0 (fun b => m (c, b)) (main_v9 : DevRef τ sig) = _
  after_results
  rfl

theorem V_v11 (c : Dev nD) : V m c main_v11 = posRow (pOf m c) := by
  show StableHlo.after hostOps0 (fun b => m (c, b)) (main_v11 : DevRef τ sig) = _
  after_results
  rfl

theorem V_v17 (c : Dev nD) : V m c main_v17 = truncf (F := Ideal) .bf16 (inCat (wOf m c)) bitsLt_bf16_f32 := by
  show StableHlo.after hostOps0 (fun b => m (c, b)) (main_v17 : DevRef τ sig) = _
  after_results
  rfl

theorem V_v28 (c : Dev nD) : V m c main_v28 = truncf (F := Ideal) .bf16 (qCat (wqOf m c)) bitsLt_bf16_f32 := by
  show StableHlo.after hostOps0 (fun b => m (c, b)) (main_v28 : DevRef τ sig) = _
  after_results
  rfl

theorem V_v35 (c : Dev nD) : V m c main_v35 = truncf (F := Ideal) .bf16 (kCat (wkOf m c)) bitsLt_bf16_f32 := by
  show StableHlo.after hostOps0 (fun b => m (c, b)) (main_v35 : DevRef τ sig) = _
  after_results
  rfl

theorem V_v36 (c : Dev nD) : V m c main_v36 = shapeCast S1x512 (gOf m c) shapeCasts_S512_S1x512 := by
  show StableHlo.after hostOps0 (fun b => m (c, b)) (main_v36 : DevRef τ sig) = _
  after_results
  rfl

theorem V_v37 (c : Dev nD) : V m c main_v37 = shapeCast S1x256 (hOf m c) shapeCasts_S256_S1x256 := by
  show StableHlo.after hostOps0 (fun b => m (c, b)) (main_v37 : DevRef τ sig) = _
  after_results
  rfl

/-- A scale written as one row. -/
theorem row512 (g : FVec Ideal S512 .f32) (d : Fin 512) : shapeCast S1x512 g shapeCasts_S512_S1x512 (ix2 0 d) = g (ix1 d) :=
  shapeCast_apply _ _ _ _ (by rw [Shape.rowMajor_val_one, Shape.rowMajor_val_two]; show d.val = 0 * 512 + d.val; omega)

/-- The other scale written as one row. -/
theorem row256 (g : FVec Ideal S256 .f32) (d : Fin 256) : shapeCast S1x256 g shapeCasts_S256_S1x256 (ix2 0 d) = g (ix1 d) :=
  shapeCast_apply _ _ _ _ (by rw [Shape.rowMajor_val_one, Shape.rowMajor_val_two]; show d.val = 0 * 256 + d.val; omega)

/-! ## The blocks -/

theorem c0_lt (t : Fin cfg0.N) : (grid0.coords t 0).val < 16 := (grid0.coords t 0).isLt
theorem c1_lt (t : Fin cfg0.N) : (grid0.coords t 1).val < 8 := (grid0.coords t 1).isLt

theorem coords_eq : ∀ t : Fin grid0.N, (grid0.coords t 0).val = t.val / 8 ∧ (grid0.coords t 1).val = t.val % 8 := by
  decide +kernel

/-- The block of the input. -/
theorem iblk0_apply (c : Dev nD) (t : Fin cfg0.N) (r : Fin 512) (k : Fin 1024) (s : Fin 4096) (hs : s.val = 512 * (grid0.coords t 1).val + r.val) :
    (iblk m c 0 t : Vec Ideal S1x512x1024 .f32) (ix3 0 r k) = xOf m c (ix3 (grid0.coords t 0) s k) := by
  have h0 := ofNat_small (c0_lt t)
  have h1 := ofNat_small ((c1_lt t).trans (by omega))
  unfold iblk
  rw [View.read_apply]
  show V m c main_arg0 _ = m _ _
  unfold V
  refine congrArg _ (funext fun a => Fin.ext ?_)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 512 + 1 * r.val = s.val; omega
  | ⟨2, _⟩ => show (0#32).toNat * 1024 + 1 * k.val = k.val; simp

/-- The modulation's block. -/
theorem iblk1_apply (c : Dev nD) (t : Fin cfg0.N) (n : Fin 3) (k : Fin 1024) :
    (iblk m c 1 t : Vec Ideal S1x3x1024 .f32) (ix3 0 n k) = mOf m c (ix3 (grid0.coords t 0) n k) := by
  have h0 := ofNat_small (c0_lt t)
  unfold iblk
  rw [View.read_apply]
  show V m c main_arg1 _ = m _ _
  unfold V
  refine congrArg _ (funext fun a => Fin.ext ?_)
  match a with
  | ⟨0, _⟩ => show (BitVec.ofNat 32 (grid0.coords t 0).val).toNat * 1 + 1 * 0 = (grid0.coords t 0).val; omega
  | ⟨1, _⟩ => show (0#32).toNat * 3 + 1 * n.val = n.val; simp
  | ⟨2, _⟩ => show (0#32).toNat * 1024 + 1 * k.val = k.val; simp

/-- The block of the positions. -/
theorem iblk2_apply (c : Dev nD) (t : Fin cfg0.N) (r : Fin 512) (s : Fin 4096) (hs : s.val = 512 * (grid0.coords t 1).val + r.val) :
    (iblk m c 2 t : Vec Ideal S1x1x512 .f32) (ix3 0 0 r) = (((pOf m c (ix2 (grid0.coords t 0) s)).toInt : ℝ) : EReal) := by
  have h0 := ofNat_small (c0_lt t)
  have h1 := ofNat_small ((c1_lt t).trans (by omega))
  unfold iblk
  rw [View.read_apply]
  show V m c main_v11 _ = _
  rw [V_v11]
  refine Eq.trans (congrArg _ (funext fun a => Fin.ext ?_)) (posRow_apply (pOf m c) (grid0.coords t 0) s)
  match a with
  | ⟨0, _⟩ => show (BitVec.ofNat 32 (grid0.coords t 0).val).toNat * 1 + 1 * 0 = (grid0.coords t 0).val; omega
  | ⟨1, _⟩ => show (0#32).toNat * 1 + 1 * 0 = 0; simp
  | ⟨2, _⟩ => show (BitVec.ofNat 32 (grid0.coords t 1).val).toNat * 512 + 1 * r.val = s.val; omega

/-- The frequencies. -/
theorem iblk3_apply (c : Dev nD) (t : Fin cfg0.N) (l : Fin 128) : (iblk m c 3 t : Vec Ideal S1x128 .f32) (ix2 0 l) = MlaSpec.freq ⟨l.val % 32, by omega⟩ := by
  unfold iblk
  rw [View.read_apply]
  show V m c main_v9 _ = _
  rw [V_v9]
  refine Eq.trans (congrArg _ (funext fun a => Fin.ext ?_)) (freqRow_apply l)
  match a with
  | ⟨0, _⟩ => show (0#32).toNat * 1 + 1 * 0 = 0; simp
  | ⟨1, _⟩ => show (0#32).toNat * 128 + 1 * l.val = l.val; simp

/-- The input's weights. -/
theorem iblk4_apply (c : Dev nD) (t : Fin cfg0.N) (k : Fin 1024) (e : Fin 896) : (iblk m c 4 t : Vec Ideal S1024x896 .bf16) (ix2 k e) = inCat (wOf m c) (ix2 k e) := by
  unfold iblk
  rw [View.read_apply]
  show V m c main_v17 _ = _
  rw [V_v17]
  refine Eq.trans (congrArg _ (funext fun a => Fin.ext ?_)) (rfl : truncf (F := Ideal) .bf16 (inCat (wOf m c)) bitsLt_bf16_f32 (ix2 k e) = inCat (wOf m c) (ix2 k e))
  match a with
  | ⟨0, _⟩ => show (0#32).toNat * 1024 + 1 * k.val = k.val; simp
  | ⟨1, _⟩ => show (0#32).toNat * 896 + 1 * e.val = e.val; simp

/-- The queries' norm's scale. -/
theorem iblk5_apply (c : Dev nD) (t : Fin cfg0.N) (d : Fin 512) : (iblk m c 5 t : Vec Ideal S1x512 .f32) (ix2 0 d) = gOf m c (ix1 d) := by
  unfold iblk
  rw [View.read_apply]
  show V m c main_v36 _ = _
  rw [V_v36]
  refine Eq.trans (congrArg _ (funext fun a => Fin.ext ?_)) (row512 (gOf m c) d)
  match a with
  | ⟨0, _⟩ => show (0#32).toNat * 1 + 1 * 0 = 0; simp
  | ⟨1, _⟩ => show (0#32).toNat * 512 + 1 * d.val = d.val; simp

/-- The keys' and values' norm's scale. -/
theorem iblk6_apply (c : Dev nD) (t : Fin cfg0.N) (d : Fin 256) : (iblk m c 6 t : Vec Ideal S1x256 .f32) (ix2 0 d) = hOf m c (ix1 d) := by
  unfold iblk
  rw [View.read_apply]
  show V m c main_v37 _ = _
  rw [V_v37]
  refine Eq.trans (congrArg _ (funext fun a => Fin.ext ?_)) (row256 (hOf m c) d)
  match a with
  | ⟨0, _⟩ => show (0#32).toNat * 1 + 1 * 0 = 0; simp
  | ⟨1, _⟩ => show (0#32).toNat * 256 + 1 * d.val = d.val; simp

/-- The queries' weights. -/
theorem iblk7_apply (c : Dev nD) (t : Fin cfg0.N) (k : Fin 512) (e : Fin 2048) : (iblk m c 7 t : Vec Ideal S512x2048 .bf16) (ix2 k e) = qCat (wqOf m c) (ix2 k e) := by
  unfold iblk
  rw [View.read_apply]
  show V m c main_v28 _ = _
  rw [V_v28]
  refine Eq.trans (congrArg _ (funext fun a => Fin.ext ?_)) (rfl : truncf (F := Ideal) .bf16 (qCat (wqOf m c)) bitsLt_bf16_f32 (ix2 k e) = qCat (wqOf m c) (ix2 k e))
  match a with
  | ⟨0, _⟩ => show (0#32).toNat * 512 + 1 * k.val = k.val; simp
  | ⟨1, _⟩ => show (0#32).toNat * 2048 + 1 * e.val = e.val; simp

/-- The keys' and values' weights. -/
theorem iblk8_apply (c : Dev nD) (t : Fin cfg0.N) (k : Fin 256) (e : Fin 2048) : (iblk m c 8 t : Vec Ideal S256x2048 .bf16) (ix2 k e) = kCat (wkOf m c) (ix2 k e) := by
  unfold iblk
  rw [View.read_apply]
  show V m c main_v35 _ = _
  rw [V_v35]
  refine Eq.trans (congrArg _ (funext fun a => Fin.ext ?_)) (rfl : truncf (F := Ideal) .bf16 (kCat (wkOf m c)) bitsLt_bf16_f32 (ix2 k e) = kCat (wkOf m c) (ix2 k e))
  match a with
  | ⟨0, _⟩ => show (0#32).toNat * 256 + 1 * k.val = k.val; simp
  | ⟨1, _⟩ => show (0#32).toNat * 2048 + 1 * e.val = e.val; simp

/-! ## A grid point's rows -/

section Row
variable (c : Dev nD) (t : Fin cfg0.N) (r : Fin 512) (s : Fin 4096) (hs : s.val = 512 * (grid0.coords t 1).val + r.val)
include hs

/-- A row's modulated input. -/
theorem h_row (k : Fin 1024) : FfnIdeal.Block.hIn (iblk m c 0 t) (iblk m c 1 t) r k = FfnSpec.modIn (xOf m c) (mOf m c) (grid0.coords t 0) s k := by
  unfold FfnIdeal.Block.hIn FfnSpec.modIn
  rw [iblk0_apply m c t r k s hs, iblk1_apply, iblk1_apply]

/-- A row's product with the input's weights: their own columns. -/
theorem u_row (e : Fin 896) (f : Fin 832) (h : e.val = f.val) :
    u (iblk m c 0 t) (iblk m c 1 t) (iblk m c 4 t) r e = MlaSpec.lat (xOf m c) (mOf m c) (wOf m c) (grid0.coords t 0) s f := by
  unfold u MlaSpec.lat
  refine Finset.sum_congr rfl fun k _ => ?_
  rw [h_row m c t r s hs, iblk4_apply, inCat_left _ _ _ f h]

/-- And the swapped columns after them. -/
theorem u_swap (e : Fin 896) (j : Fin 64) (h : e.val = 832 + j.val) :
    u (iblk m c 0 t) (iblk m c 1 t) (iblk m c 4 t) r e
      = MlaSpec.lat (xOf m c) (mOf m c) (wOf m c) (grid0.coords t 0) s ⟨768 + (mate j).val, by have := (mate j).isLt; omega⟩ := by
  unfold u MlaSpec.lat
  refine Finset.sum_congr rfl fun k _ => ?_
  rw [h_row m c t r s hs, iblk4_apply, inCat_right _ _ _ j h]
  rfl

/-- A row's normed latents. -/
theorem q_row (j : Fin 512) :
    cq (iblk m c 0 t) (iblk m c 1 t) (iblk m c 4 t) (iblk m c 5 t) r j
      = MlaSpec.latQ (xOf m c) (mOf m c) (wOf m c) (gOf m c) (grid0.coords t 0) s j := by
  unfold cq MlaSpec.latQ
  rw [iblk5_apply]
  exact congrArg (fun z => MlaSpec.rms z _ _ j) (funext fun k => u_row m c t r s hs _ _ rfl)

theorem k_row (j : Fin 256) :
    ckv (iblk m c 0 t) (iblk m c 1 t) (iblk m c 4 t) (iblk m c 6 t) r j
      = MlaSpec.latK (xOf m c) (mOf m c) (wOf m c) (hOf m c) (grid0.coords t 0) s j := by
  unfold ckv MlaSpec.latK
  rw [iblk6_apply]
  exact congrArg (fun z => MlaSpec.rms z _ _ j) (funext fun k => u_row m c t r s hs _ _ rfl)

/-- A row's angles. -/
theorem ang_row (l : Fin 128) :
    ang (iblk m c 2 t) (iblk m c 3 t) r l = MlaSpec.angle (pOf m c) (grid0.coords t 0) s ⟨l.val % 32, by omega⟩ := by
  unfold ang MlaSpec.angle
  rw [iblk2_apply m c t r s hs, iblk3_apply]

/-- A row's scaled queries, by the kind of column. -/
theorem qa_row (e : Fin 2048) :
    k0_pay13 (k0_pay3 (iblk m c 1 t) (iblk m c 0 t) (iblk m c 4 t) (iblk m c 5 t)) (iblk m c 7 t) (ix2 r e)
      = (∑ j : Fin 512, MlaSpec.latQ (xOf m c) (mOf m c) (wOf m c) (gOf m c) (grid0.coords t 0) s j * qCat (wqOf m c) (ix2 j e)) * cScale := by
  rw [qa_apply]
  unfold qa
  refine congrArg (· * cScale) (Finset.sum_congr rfl fun j _ => ?_)
  exact congrArg₂ (· * ·) ((cq_apply ..).trans (q_row m c t r s hs j)) (iblk7_apply ..)

theorem qa_plain (e : Fin 2048) (h : Fin 8) (d : Fin 192) (hd : d.val < 128) (he : e.val = 128 * h.val + d.val) :
    k0_pay13 (k0_pay3 (iblk m c 1 t) (iblk m c 0 t) (iblk m c 4 t) (iblk m c 5 t)) (iblk m c 7 t) (ix2 r e)
      = MlaSpec.query (xOf m c) (mOf m c) (wOf m c) (gOf m c) (wqOf m c) (grid0.coords t 0) s h d * cScale := by
  rw [qa_row m c t r s hs]
  unfold MlaSpec.query
  refine congrArg (· * cScale) (Finset.sum_congr rfl fun j _ => ?_)
  rw [qCat_plain (wqOf m c) j e h ⟨d.val, hd⟩ he]

theorem qa_turned (e : Fin 2048) (h : Fin 8) (d : Fin 64) (he : e.val = 1024 + (64 * h.val + d.val)) :
    k0_pay13 (k0_pay3 (iblk m c 1 t) (iblk m c 0 t) (iblk m c 4 t) (iblk m c 5 t)) (iblk m c 7 t) (ix2 r e)
      = MlaSpec.query (xOf m c) (mOf m c) (wOf m c) (gOf m c) (wqOf m c) (grid0.coords t 0) s h ⟨128 + d.val, by omega⟩ * cScale := by
  rw [qa_row m c t r s hs]
  unfold MlaSpec.query
  refine congrArg (· * cScale) (Finset.sum_congr rfl fun j _ => ?_)
  rw [qCat_turned (wqOf m c) j e h d he]

theorem qa_swap (e : Fin 2048) (h : Fin 8) (d : Fin 64) (he : e.val = 1536 + (64 * h.val + d.val)) :
    k0_pay13 (k0_pay3 (iblk m c 1 t) (iblk m c 0 t) (iblk m c 4 t) (iblk m c 5 t)) (iblk m c 7 t) (ix2 r e)
      = MlaSpec.query (xOf m c) (mOf m c) (wOf m c) (gOf m c) (wqOf m c) (grid0.coords t 0) s h
          ⟨128 + (mate d).val, by have := (mate d).isLt; omega⟩ * cScale := by
  rw [qa_row m c t r s hs]
  unfold MlaSpec.query
  refine congrArg (· * cScale) (Finset.sum_congr rfl fun j _ => ?_)
  rw [qCat_swap (wqOf m c) j e h d he]
  rfl

/-- A row's keys and values. -/
theorem kv_row (e : Fin 2048) :
    k0_pay16 (ckvBlock (iblk m c 0 t) (iblk m c 1 t) (iblk m c 4 t) (iblk m c 6 t)) (iblk m c 8 t) (ix2 r e)
      = ∑ j : Fin 256, MlaSpec.latK (xOf m c) (mOf m c) (wOf m c) (hOf m c) (grid0.coords t 0) s j * kCat (wkOf m c) (ix2 j e) := by
  rw [kv_apply]
  refine Finset.sum_congr rfl fun j _ => ?_
  rw [ckv_apply, k_row m c t r s hs, iblk8_apply]

/-- A grid point's queries at row `r`. -/
theorem blockQ_row (h : Fin 8) (d : Fin 192) :
    blockQ (k0_pay13 (k0_pay3 (iblk m c 1 t) (iblk m c 0 t) (iblk m c 4 t) (iblk m c 5 t)) (iblk m c 7 t))
        (k0_pay14 (k0_pay3 (iblk m c 1 t) (iblk m c 0 t) (iblk m c 4 t) (iblk m c 5 t)) (k0_pay11 (iblk m c 2 t) (iblk m c 3 t))
          (k0_pay12 (iblk m c 2 t) (iblk m c 3 t)) (iblk m c 7 t)) (ix4 0 h r d)
      = MlaSpec.qOut (xOf m c) (mOf m c) (pOf m c) (wOf m c) (gOf m c) (wqOf m c) (grid0.coords t 0) h s d := by
  have hh := h.isLt
  have hd' := d.isLt
  unfold MlaSpec.qOut
  by_cases hd : d.val < 128
  · rw [if_pos hd]
    refine Eq.trans (if_pos hd) ?_
    exact qa_plain m c t r s hs _ h d hd (by show (128 * h.val + d.val) % 2048 = 128 * h.val + d.val; omega)
  · rw [if_neg hd]
    refine Eq.trans (if_neg hd) ?_
    have hf : (Fin.ofNat 512 (64 * h.val + (d.val - 128))).val = 64 * h.val + (d.val - 128) := by
      show (64 * h.val + (d.val - 128)) % 512 = _; omega
    refine (qrope_apply _ _ _ _ r _).trans ?_
    rw [cos_apply, sin_apply, ang_row m c t r s hs,
      qa_turned m c t r s hs _ h ⟨d.val - 128, by omega⟩ (by show 1024 + (Fin.ofNat 512 (64 * h.val + (d.val - 128))).val = _; rw [hf]),
      qa_swap m c t r s hs _ h ⟨d.val - 128, by omega⟩ (by show 1536 + (Fin.ofNat 512 (64 * h.val + (d.val - 128))).val = _; rw [hf])]
    refine Eq.trans ?_ (MlaSpec.rope_scaled (fun e => MlaSpec.query (xOf m c) (mOf m c) (wOf m c) (gOf m c) (wqOf m c) (grid0.coords t 0) s h ⟨128 + e.val, by omega⟩)
      (MlaSpec.angle (pOf m c) (grid0.coords t 0) s) ⟨d.val - 128, by omega⟩)
    have e1 : (⟨(Fin.ofNat 512 (64 * h.val + (d.val - 128))).val % 128 % 32, by omega⟩ : Fin 32) = ⟨(d.val - 128) % 32, by omega⟩ :=
      Fin.ext (by show (Fin.ofNat 512 (64 * h.val + (d.val - 128))).val % 128 % 32 = (d.val - 128) % 32; rw [hf]; omega)
    have e2 : sgn ((Fin.ofNat 512 (64 * h.val + (d.val - 128))).val % 128) = sgn (d.val - 128) := by
      unfold sgn
      rw [hf, show (64 * h.val + (d.val - 128)) % 128 % 64 = (d.val - 128) % 64 by omega]
    show _ * Ideal.cos (MlaSpec.angle _ _ _ ⟨(Fin.ofNat 512 (64 * h.val + (d.val - 128))).val % 128 % 32, _⟩)
      + _ * (Ideal.sin (MlaSpec.angle _ _ _ ⟨(Fin.ofNat 512 (64 * h.val + (d.val - 128))).val % 128 % 32, _⟩) * sgn ((Fin.ofNat 512 (64 * h.val + (d.val - 128))).val % 128)) = _
    rw [e1, e2]

/-- A grid point's keys at row `r`. -/
theorem blockK_row (h : Fin 8) (d : Fin 192) :
    blockK (k0_pay16 (ckvBlock (iblk m c 0 t) (iblk m c 1 t) (iblk m c 4 t) (iblk m c 6 t)) (iblk m c 8 t))
        (k0_pay15 (k0_pay9 (k0_pay2 (iblk m c 1 t) (iblk m c 0 t) (iblk m c 4 t))) (k0_pay11 (iblk m c 2 t) (iblk m c 3 t))
          (k0_pay12 (iblk m c 2 t) (iblk m c 3 t))) (ix4 0 h r d)
      = MlaSpec.kOut (xOf m c) (mOf m c) (pOf m c) (wOf m c) (hOf m c) (wkOf m c) (grid0.coords t 0) h s d := by
  have hh := h.isLt
  have hd' := d.isLt
  unfold MlaSpec.kOut
  by_cases hd : d.val < 128
  · rw [if_pos hd]
    refine Eq.trans (if_pos hd) ?_
    refine (kv_row m c t r s hs _).trans (Finset.sum_congr rfl fun j _ => ?_)
    rw [kCat_key (wkOf m c) j _ h ⟨d.val, hd⟩ (by show (128 * h.val + d.val) % 2048 = 128 * h.val + d.val; omega)]
  · rw [if_neg hd]
    refine Eq.trans (if_neg hd) ?_
    have hf : (Fin.ofNat 64 (d.val - 128)).val = d.val - 128 := by show (d.val - 128) % 64 = _; omega
    refine (krope_apply _ _ _ r _).trans ?_
    rw [cos_apply, sin_apply, ang_row m c t r s hs, u_apply, u_apply,
      u_row m c t r s hs _ ⟨768 + (d.val - 128), by omega⟩ (by show 768 + (Fin.ofNat 64 (d.val - 128)).val = _; rw [hf]),
      u_swap m c t r s hs _ ⟨d.val - 128, by omega⟩ (by show 832 + (Fin.ofNat 64 (d.val - 128)).val = _; rw [hf])]
    refine Eq.trans ?_ (MlaSpec.rope_mate (fun e => MlaSpec.lat (xOf m c) (mOf m c) (wOf m c) (grid0.coords t 0) s ⟨768 + e.val, by omega⟩)
      (MlaSpec.angle (pOf m c) (grid0.coords t 0) s) ⟨d.val - 128, by omega⟩).symm
    have e1 : (⟨(Fin.ofNat 64 (d.val - 128)).val % 32, by omega⟩ : Fin 32) = ⟨(d.val - 128) % 32, by omega⟩ :=
      Fin.ext (by show (Fin.ofNat 64 (d.val - 128)).val % 32 = (d.val - 128) % 32; rw [hf])
    show _ * Ideal.cos (MlaSpec.angle _ _ _ ⟨(Fin.ofNat 64 (d.val - 128)).val % 32, _⟩)
      + _ * (Ideal.sin (MlaSpec.angle _ _ _ ⟨(Fin.ofNat 64 (d.val - 128)).val % 32, _⟩) * sgn (Fin.ofNat 64 (d.val - 128)).val) = _
    have e2 : sgn (Fin.ofNat 64 (d.val - 128)).val = sgn (d.val - 128) := congrArg sgn hf
    rw [e1, e2]

/-- A grid point's values at row `r`. -/
theorem blockV_row (h : Fin 8) (d : Fin 128) :
    blockV (k0_pay16 (ckvBlock (iblk m c 0 t) (iblk m c 1 t) (iblk m c 4 t) (iblk m c 6 t)) (iblk m c 8 t)) (ix4 0 h r d)
      = MlaSpec.vOut (xOf m c) (mOf m c) (wOf m c) (hOf m c) (wkOf m c) (grid0.coords t 0) h s d := by
  have hh := h.isLt
  have hd' := d.isLt
  unfold MlaSpec.vOut MlaSpec.keyVal
  refine (kv_row m c t r s hs _).trans (Finset.sum_congr rfl fun j _ => ?_)
  rw [kCat_value (wkOf m c) j _ h d (by show (1024 + 128 * h.val + d.val) % 2048 = _; omega)]

end Row

/-! ## The arrays -/

/-- Where a grid point's block lies in an array of `D` columns a head. -/
theorem inBlock {D : ℕ} (t : Fin cfg0.N) (i : (⟨4, ![16, 8, 4096, D]⟩ : Shape).Idx) (ht : t.val = 8 * (i 0).val + (i 2).val / 512)
    (a : Fin 4) :
    (![(BitVec.ofNat 32 (grid0.coords t 0).val).toNat * 1, (0#32).toNat * 8, (BitVec.ofNat 32 (grid0.coords t 1).val).toNat * 512, (0#32).toNat * D] : Fin 4 → ℕ) a
        ≤ (i a).val
      ∧ (i a).val < (![(BitVec.ofNat 32 (grid0.coords t 0).val).toNat * 1, (0#32).toNat * 8, (BitVec.ofNat 32 (grid0.coords t 1).val).toNat * 512, (0#32).toNat * D] : Fin 4 → ℕ) a
        + (![1, 8, 512, D] : Fin 4 → ℕ) a := by
  have h0 : (i 0).val < 16 := (i 0).isLt
  have h1 : (i 1).val < 8 := (i 1).isLt
  have h2 : (i 2).val < 4096 := (i 2).isLt
  have h3 : (i 3).val < D := (i 3).isLt
  obtain ⟨e0, e1⟩ := coords_eq t
  have k0 := ofNat_small (c0_lt t)
  have k1 := ofNat_small ((c1_lt t).trans (by omega))
  match a with
  | ⟨0, _⟩ =>
    show (BitVec.ofNat 32 (grid0.coords t 0).val).toNat * 1 ≤ (i 0).val ∧ (i 0).val < (BitVec.ofNat 32 (grid0.coords t 0).val).toNat * 1 + 1
    omega
  | ⟨1, _⟩ =>
    show (0#32).toNat * 8 ≤ (i 1).val ∧ (i 1).val < (0#32).toNat * 8 + 8
    simp only [BitVec.toNat_zero]
    omega
  | ⟨2, _⟩ =>
    show (BitVec.ofNat 32 (grid0.coords t 1).val).toNat * 512 ≤ (i 2).val ∧ (i 2).val < (BitVec.ofNat 32 (grid0.coords t 1).val).toNat * 512 + 512
    omega
  | ⟨3, _⟩ =>
    show (0#32).toNat * D ≤ (i 3).val ∧ (i 3).val < (0#32).toNat * D + D
    simp only [BitVec.toNat_zero]
    omega

/-- The grid point that writes an entry. -/
theorem point_lt {D : ℕ} (i : (⟨4, ![16, 8, 4096, D]⟩ : Shape).Idx) : 8 * (i 0).val + (i 2).val / 512 < cfg0.N := by
  have h0 : (i 0).val < 16 := (i 0).isLt
  have h2 : (i 2).val < 4096 := (i 2).isLt
  have hN : cfg0.N = 128 := by decide +kernel
  omega

/-- What a grid point writes back is its block of the queries. -/
theorem flushedQ_eq (c : Dev nD) (t : Fin cfg0.N) :
    (dats m 0 c).flushed 9 t = ((cfg0.win 9).blk t).view.read (Elt Ideal) (resultQ m c) := by
  have h0 := ofNat_small (c0_lt t)
  have h1 := ofNat_small ((c1_lt t).trans (by omega))
  have c1 := c1_lt t
  rw [Value.flushed9_A, out9_eq]
  funext y
  obtain ⟨z, h, r, d, rfl⟩ : ∃ (z : Fin 1) (h : Fin 8) (r : Fin 512) (d : Fin 192), y = ix4 z h r d := ⟨y 0, y 1, y 2, y 3, eq_ix4 y⟩
  obtain rfl : z = 0 := Subsingleton.elim _ _
  rw [View.read_apply]
  have hr := r.isLt
  refine Eq.trans ?_ ((blockQ_row m c t r ⟨512 * (grid0.coords t 1).val + r.val, by omega⟩ rfl h d).trans ?_)
  · rfl
  unfold resultQ
  have b0 : (((cfg0.win 9).blk t).view.emb (ix4 0 h r d) : S16x8x4096x192.Idx) 0 = grid0.coords t 0 := Fin.ext (by
    show (BitVec.ofNat 32 (grid0.coords t 0).val).toNat * 1 + 1 * 0 = (grid0.coords t 0).val; omega)
  have b1 : (((cfg0.win 9).blk t).view.emb (ix4 0 h r d) : S16x8x4096x192.Idx) 1 = h := Fin.ext (by
    show (0#32).toNat * 8 + 1 * h.val = _; simp)
  have b2 : (((cfg0.win 9).blk t).view.emb (ix4 0 h r d) : S16x8x4096x192.Idx) 2 = (⟨512 * (grid0.coords t 1).val + r.val, by omega⟩ : Fin 4096) := Fin.ext (by
    show (BitVec.ofNat 32 (grid0.coords t 1).val).toNat * 512 + 1 * r.val = 512 * (grid0.coords t 1).val + r.val; omega)
  have b3 : (((cfg0.win 9).blk t).view.emb (ix4 0 h r d) : S16x8x4096x192.Idx) 3 = d := Fin.ext (by
    show (0#32).toNat * 192 + 1 * d.val = _; simp)
  show _ = MlaSpec.qOut _ _ _ _ _ _ _ _ _ _
  rw [b0, b1, b2, b3]

/-- The array after the run. -/
theorem finalQ (c : Dev nD) : (dats m 0 c).arrAt 9 cfg0.N = resultQ m c :=
  (dats m 0 c).arrAt_eq_of_cover 9 (resultQ m c) (fun t _ => flushedQ_eq m c t) fun i => by
    let t : Fin cfg0.N := ⟨_, point_lt (D := 192) i⟩
    refine ⟨t, flush0_9 t, ?_⟩
    show i ∈ ((View.whole main_v38_0).slice (win0_9.rect t)).set
    rw [View.set_slice_whole, Rect.mem_set_unit]
    intro a
    match a with
    | ⟨0, _⟩ => exact inBlock (D := 192) t i rfl 0
    | ⟨1, _⟩ => exact inBlock (D := 192) t i rfl 1
    | ⟨2, _⟩ => exact inBlock (D := 192) t i rfl 2
    | ⟨3, _⟩ => exact inBlock (D := 192) t i rfl 3

/-- What a grid point writes back is its block of the keys. -/
theorem flushedK_eq (c : Dev nD) (t : Fin cfg0.N) :
    (dats m 0 c).flushed 10 t = ((cfg0.win 10).blk t).view.read (Elt Ideal) (resultK m c) := by
  have h0 := ofNat_small (c0_lt t)
  have h1 := ofNat_small ((c1_lt t).trans (by omega))
  have c1 := c1_lt t
  rw [Value.flushed10_A, out10_eq]
  funext y
  obtain ⟨z, h, r, d, rfl⟩ : ∃ (z : Fin 1) (h : Fin 8) (r : Fin 512) (d : Fin 192), y = ix4 z h r d := ⟨y 0, y 1, y 2, y 3, eq_ix4 y⟩
  obtain rfl : z = 0 := Subsingleton.elim _ _
  rw [View.read_apply]
  have hr := r.isLt
  refine Eq.trans ?_ ((blockK_row m c t r ⟨512 * (grid0.coords t 1).val + r.val, by omega⟩ rfl h d).trans ?_)
  · rfl
  unfold resultK
  have b0 : (((cfg0.win 10).blk t).view.emb (ix4 0 h r d) : S16x8x4096x192.Idx) 0 = grid0.coords t 0 := Fin.ext (by
    show (BitVec.ofNat 32 (grid0.coords t 0).val).toNat * 1 + 1 * 0 = (grid0.coords t 0).val; omega)
  have b1 : (((cfg0.win 10).blk t).view.emb (ix4 0 h r d) : S16x8x4096x192.Idx) 1 = h := Fin.ext (by
    show (0#32).toNat * 8 + 1 * h.val = _; simp)
  have b2 : (((cfg0.win 10).blk t).view.emb (ix4 0 h r d) : S16x8x4096x192.Idx) 2 = (⟨512 * (grid0.coords t 1).val + r.val, by omega⟩ : Fin 4096) := Fin.ext (by
    show (BitVec.ofNat 32 (grid0.coords t 1).val).toNat * 512 + 1 * r.val = 512 * (grid0.coords t 1).val + r.val; omega)
  have b3 : (((cfg0.win 10).blk t).view.emb (ix4 0 h r d) : S16x8x4096x192.Idx) 3 = d := Fin.ext (by
    show (0#32).toNat * 192 + 1 * d.val = _; simp)
  show _ = MlaSpec.kOut _ _ _ _ _ _ _ _ _ _
  rw [b0, b1, b2, b3]

/-- The array after the run. -/
theorem finalK (c : Dev nD) : (dats m 0 c).arrAt 10 cfg0.N = resultK m c :=
  (dats m 0 c).arrAt_eq_of_cover 10 (resultK m c) (fun t _ => flushedK_eq m c t) fun i => by
    let t : Fin cfg0.N := ⟨_, point_lt (D := 192) i⟩
    refine ⟨t, flush0_10 t, ?_⟩
    show i ∈ ((View.whole main_v38_1).slice (win0_10.rect t)).set
    rw [View.set_slice_whole, Rect.mem_set_unit]
    intro a
    match a with
    | ⟨0, _⟩ => exact inBlock (D := 192) t i rfl 0
    | ⟨1, _⟩ => exact inBlock (D := 192) t i rfl 1
    | ⟨2, _⟩ => exact inBlock (D := 192) t i rfl 2
    | ⟨3, _⟩ => exact inBlock (D := 192) t i rfl 3

/-- What a grid point writes back is its block of the values. -/
theorem flushedV_eq (c : Dev nD) (t : Fin cfg0.N) :
    (dats m 0 c).flushed 11 t = ((cfg0.win 11).blk t).view.read (Elt Ideal) (resultV m c) := by
  have h0 := ofNat_small (c0_lt t)
  have h1 := ofNat_small ((c1_lt t).trans (by omega))
  have c1 := c1_lt t
  rw [Value.flushed11_A, out11_eq]
  funext y
  obtain ⟨z, h, r, d, rfl⟩ : ∃ (z : Fin 1) (h : Fin 8) (r : Fin 512) (d : Fin 128), y = ix4 z h r d := ⟨y 0, y 1, y 2, y 3, eq_ix4 y⟩
  obtain rfl : z = 0 := Subsingleton.elim _ _
  rw [View.read_apply]
  have hr := r.isLt
  refine Eq.trans ?_ ((blockV_row m c t r ⟨512 * (grid0.coords t 1).val + r.val, by omega⟩ rfl h d).trans ?_)
  · rfl
  unfold resultV
  have b0 : (((cfg0.win 11).blk t).view.emb (ix4 0 h r d) : S16x8x4096x128.Idx) 0 = grid0.coords t 0 := Fin.ext (by
    show (BitVec.ofNat 32 (grid0.coords t 0).val).toNat * 1 + 1 * 0 = (grid0.coords t 0).val; omega)
  have b1 : (((cfg0.win 11).blk t).view.emb (ix4 0 h r d) : S16x8x4096x128.Idx) 1 = h := Fin.ext (by
    show (0#32).toNat * 8 + 1 * h.val = _; simp)
  have b2 : (((cfg0.win 11).blk t).view.emb (ix4 0 h r d) : S16x8x4096x128.Idx) 2 = (⟨512 * (grid0.coords t 1).val + r.val, by omega⟩ : Fin 4096) := Fin.ext (by
    show (BitVec.ofNat 32 (grid0.coords t 1).val).toNat * 512 + 1 * r.val = 512 * (grid0.coords t 1).val + r.val; omega)
  have b3 : (((cfg0.win 11).blk t).view.emb (ix4 0 h r d) : S16x8x4096x128.Idx) 3 = d := Fin.ext (by
    show (0#32).toNat * 128 + 1 * d.val = _; simp)
  show _ = MlaSpec.vOut _ _ _ _ _ _ _ _ _
  rw [b0, b1, b2, b3]

/-- The array after the run. -/
theorem finalV (c : Dev nD) : (dats m 0 c).arrAt 11 cfg0.N = resultV m c :=
  (dats m 0 c).arrAt_eq_of_cover 11 (resultV m c) (fun t _ => flushedV_eq m c t) fun i => by
    let t : Fin cfg0.N := ⟨_, point_lt (D := 128) i⟩
    refine ⟨t, flush0_11 t, ?_⟩
    show i ∈ ((View.whole main_v38_2).slice (win0_11.rect t)).set
    rw [View.set_slice_whole, Rect.mem_set_unit]
    intro a
    match a with
    | ⟨0, _⟩ => exact inBlock (D := 128) t i rfl 0
    | ⟨1, _⟩ => exact inBlock (D := 128) t i rfl 1
    | ⟨2, _⟩ => exact inBlock (D := 128) t i rfl 2
    | ⟨3, _⟩ => exact inBlock (D := 128) t i rfl 3

end Cert.MlaProjIdeal.Array

end
-- ==== Proof.MlaRef.lean ====
/- What the latent attention's projection's reference computes. -/
module

public import proofs.«01_k».proof.Proof.MlaSpec
public import proofs.«01_k».proof.Proof.Gen.MlaProjRefIdeal.Read
public import Idealize.ShloMosaic.Lib.IdealHost
public import Idealize.ShloMosaic.Lib.KernelVsHost

@[expose] public section

set_option maxRecDepth 16384

noncomputable section

namespace Cert.MlaProjRefIdeal.Ref

open Idealize.ShloMosaic Idealize.ShloMosaic.ValueIdx Finset
open Cert.MlaProjRefIdeal Cert.MlaProjRefIdeal.Gen Cert.MlaProjRefIdeal.Read Cert.MlaSpec
open Cert.FfnSpec (XX MM modIn)

variable (x : XX) (m : MM) (p : PP) (w : WI) (g : GQ) (h : GK) (wq : WQ) (wk : WK)

/-! ## The input's product -/

/-- The modulated input. -/
theorem v7_apply (b : Fin 16) (s : Fin 4096) (k : Fin 1024) : val_main_v7 (F := Ideal) x m (ix3 b s k) = modIn x m b s k := by
  rw [val_main_v7_apply, val_main_v5_apply, val_main_v4_apply, val_main_v6_apply, val_main_v3_apply, val_main_v2_apply, val_main_v1_apply, val_main_v0_apply]
  refine congrArg₂ (· + ·) (congrArg₂ (· * ·) rfl (congrArg₂ (· + ·) rfl (congrArg m (funext fun a => ?_)))) (congrArg m (funext fun a => ?_))
  · match a with | ⟨0, _⟩ => rfl | ⟨1, _⟩ => rfl | ⟨2, _⟩ => rfl
  · match a with | ⟨0, _⟩ => rfl | ⟨1, _⟩ => rfl | ⟨2, _⟩ => rfl

/-- Its product. -/
theorem v22_apply (b : Fin 16) (s : Fin 4096) (e : Fin 832) : val_main_v22 (F := Ideal) x m w (ix3 b s e) = lat x m w b s e := by
  have l : ∀ k : Fin 1024, lidx_main_v22 (ix3 b s e) k = ix3 b s k := fun k => funext fun a => by
    match a with | ⟨0, _⟩ => rfl | ⟨1, _⟩ => rfl | ⟨2, _⟩ => rfl
  have r : ∀ k : Fin 1024, ridx_main_v22 (ix3 b s e) k = ix2 k e := fun k => funext fun a => by
    match a with | ⟨0, _⟩ => rfl | ⟨1, _⟩ => rfl
  rw [val_main_v22_apply]
  simp only [l, r, v7_apply]
  rfl

/-- The three parts of the product. -/
theorem v23_apply (b : Fin 16) (s : Fin 4096) (j : Fin 512) : val_main_v23 (F := Ideal) x m w (ix3 b s j) = lat x m w b s ⟨j.val, by omega⟩ :=
  (val_main_v23_apply ..).trans ((congrArg _ (funext fun a => by
    match a with | ⟨0, _⟩ => rfl | ⟨1, _⟩ => rfl | ⟨2, _⟩ => rfl)).trans (v22_apply x m w b s ⟨j.val, by omega⟩))

theorem v24_apply (b : Fin 16) (s : Fin 4096) (j : Fin 256) : val_main_v24 (F := Ideal) x m w (ix3 b s j) = lat x m w b s ⟨512 + j.val, by omega⟩ :=
  (val_main_v24_apply ..).trans ((congrArg _ (funext fun a => by
    match a with | ⟨0, _⟩ => rfl | ⟨1, _⟩ => rfl | ⟨2, _⟩ => rfl)).trans (v22_apply x m w b s ⟨512 + j.val, by omega⟩))

theorem v25_apply (b : Fin 16) (s : Fin 4096) (j : Fin 64) : val_main_v25 (F := Ideal) x m w (ix3 b s j) = lat x m w b s ⟨768 + j.val, by omega⟩ :=
  (val_main_v25_apply ..).trans ((congrArg _ (funext fun a => by
    match a with | ⟨0, _⟩ => rfl | ⟨1, _⟩ => rfl | ⟨2, _⟩ => rfl)).trans (v22_apply x m w b s ⟨768 + j.val, by omega⟩))

/-! ## The norms -/

/-- The queries' latent, normed. -/
theorem v38_apply (b : Fin 16) (s : Fin 4096) (j : Fin 512) : val_main_v38 (F := Ideal) x m w g (ix3 b s j) = latQ x m w g b s j := by
  have q : ∀ k : Fin 512, idx_main_v27 (idx_main_v28 (idx_main_v34 (ix3 b s j))) k = ix3 b s k := fun k => funext fun a => by
    match a with | ⟨0, _⟩ => rfl | ⟨1, _⟩ => rfl | ⟨2, _⟩ => rfl
  rw [val_main_v38_apply, val_main_v35_apply, val_main_v34_apply, val_main_v33_apply, val_main_v32_apply, val_main_v30_apply, val_main_v28_apply,
    val_main_v27_apply, val_main_v37_apply, val_main_v36_apply, v23_apply]
  simp only [q, val_main_v26_apply, v23_apply]
  refine congrArg₂ (· * ·) (congrArg₂ (· * ·) rfl (congrArg Ideal.rsqrt (congrArg₂ (· + ·) (congrArg₂ Ideal.div ?_ ?_) ?_))) (congrArg g (funext fun a => ?_))
  · exact (congrArg (· + _) Ideal.ofBits_zero_f32).trans (zero_add _)
  · exact (val_main_v29_apply ..).trans rfl
  · exact (val_main_v31_apply ..).trans rfl
  · match a with | ⟨0, _⟩ => rfl

/-- The keys' and values' latent, normed. -/
theorem v71_apply (b : Fin 16) (s : Fin 4096) (j : Fin 256) : val_main_v71 (F := Ideal) x m w h (ix3 b s j) = latK x m w h b s j := by
  have q : ∀ k : Fin 256, idx_main_v60 (idx_main_v61 (idx_main_v67 (ix3 b s j))) k = ix3 b s k := fun k => funext fun a => by
    match a with | ⟨0, _⟩ => rfl | ⟨1, _⟩ => rfl | ⟨2, _⟩ => rfl
  rw [val_main_v71_apply, val_main_v68_apply, val_main_v67_apply, val_main_v66_apply, val_main_v65_apply, val_main_v63_apply, val_main_v61_apply,
    val_main_v60_apply, val_main_v70_apply, val_main_v69_apply, v24_apply]
  simp only [q, val_main_v59_apply, v24_apply]
  refine congrArg₂ (· * ·) (congrArg₂ (· * ·) rfl (congrArg Ideal.rsqrt (congrArg₂ (· + ·) (congrArg₂ Ideal.div ?_ ?_) ?_))) (congrArg h (funext fun a => ?_))
  · exact (congrArg (· + _) Ideal.ofBits_zero_f32).trans (zero_add _)
  · exact (val_main_v62_apply ..).trans rfl
  · exact (val_main_v64_apply ..).trans rfl
  · match a with | ⟨0, _⟩ => rfl

/-! ## Queries, keys and values -/

/-- Every head's query, before the rotation. -/
theorem v40_apply (b : Fin 16) (s : Fin 4096) (n : Fin 8) (d : Fin 192) :
    val_main_v40 (F := Ideal) x m w g wq (ix4 b s n d) = query x m w g wq b s n d := by
  have i : idx_main_v40 (ix4 b s n d) = ix3 b s (⟨192 * n.val + d.val, by omega⟩ : Fin 1536) := funext fun a => Fin.ext (by
    have := b.isLt; have := s.isLt; have := n.isLt; have := d.isLt
    match a with
    | ⟨0, _⟩ => show (((b.val * 4096 + s.val) * 8 + n.val) * 192 + d.val) / 6291456 = b.val; omega
    | ⟨1, _⟩ => show (((b.val * 4096 + s.val) * 8 + n.val) * 192 + d.val) / 1536 % 4096 = s.val; omega
    | ⟨2, _⟩ => show (((b.val * 4096 + s.val) * 8 + n.val) * 192 + d.val) % 1536 = 192 * n.val + d.val; omega)
  have l : ∀ k : Fin 512, lidx_main_v39 (ix3 b s (⟨192 * n.val + d.val, by omega⟩ : Fin 1536)) k = ix3 b s k := fun k => funext fun a => by
    match a with | ⟨0, _⟩ => rfl | ⟨1, _⟩ => rfl | ⟨2, _⟩ => rfl
  have r : ∀ k : Fin 512, ridx_main_v39 (ix3 b s (⟨192 * n.val + d.val, by omega⟩ : Fin 1536)) k = ix2 k (⟨192 * n.val + d.val, by omega⟩ : Fin 1536) := fun k => funext fun a => by
    match a with | ⟨0, _⟩ => rfl | ⟨1, _⟩ => rfl
  rw [val_main_v40_apply, i, val_main_v39_apply]
  simp only [l, r, v38_apply]
  rfl

/-- Every head's key and value. -/
theorem v73_apply (b : Fin 16) (s : Fin 4096) (n : Fin 8) (d : Fin 256) :
    val_main_v73 (F := Ideal) x m w h wk (ix4 b s n d) = keyVal x m w h wk b s n d := by
  have i : idx_main_v73 (ix4 b s n d) = ix3 b s (⟨256 * n.val + d.val, by omega⟩ : Fin 2048) := funext fun a => Fin.ext (by
    have := b.isLt; have := s.isLt; have := n.isLt; have := d.isLt
    match a with
    | ⟨0, _⟩ => show (((b.val * 4096 + s.val) * 8 + n.val) * 256 + d.val) / 8388608 = b.val; omega
    | ⟨1, _⟩ => show (((b.val * 4096 + s.val) * 8 + n.val) * 256 + d.val) / 2048 % 4096 = s.val; omega
    | ⟨2, _⟩ => show (((b.val * 4096 + s.val) * 8 + n.val) * 256 + d.val) % 2048 = 256 * n.val + d.val; omega)
  have l : ∀ k : Fin 256, lidx_main_v72 (ix3 b s (⟨256 * n.val + d.val, by omega⟩ : Fin 2048)) k = ix3 b s k := fun k => funext fun a => by
    match a with | ⟨0, _⟩ => rfl | ⟨1, _⟩ => rfl | ⟨2, _⟩ => rfl
  have r : ∀ k : Fin 256, ridx_main_v72 (ix3 b s (⟨256 * n.val + d.val, by omega⟩ : Fin 2048)) k = ix2 k (⟨256 * n.val + d.val, by omega⟩ : Fin 2048) := fun k => funext fun a => by
    match a with | ⟨0, _⟩ => rfl | ⟨1, _⟩ => rfl
  rw [val_main_v73_apply, i, val_main_v72_apply]
  simp only [l, r, v71_apply]
  rfl

/-! ## The rotation -/

/-- The angles. -/
theorem v19_apply (b : Fin 16) (s : Fin 4096) (j : Fin 32) : val_main_v19 (F := Ideal) p (ix3 b s j) = angle p b s j := by
  rw [val_main_v19_apply, val_main_v17_apply, val_main_v15_apply, val_main_v14_apply, val_main_v18_apply, val_main_v16_apply, val_main_v13_apply,
    val_main_v11_apply, val_main_v9_apply, val_main_v12_apply, val_main_v10_apply]
  refine congrArg₂ (· * ·) (congrArg (fun n : BitVec 32 => ((n.toInt : ℝ) : EReal)) (congrArg p (funext fun a => ?_))) rfl
  match a with | ⟨0, _⟩ => rfl | ⟨1, _⟩ => rfl

/-- Cosine and sine of the angles, for every head. -/
theorem v43_apply (b : Fin 16) (s : Fin 4096) (j : Fin 32) : val_main_v43 (F := Ideal) p (ix4 b s 0 j) = Ideal.cos (angle p b s j) :=
  (val_main_v43_apply ..).trans (congrArg Ideal.cos ((congrArg _ (funext fun a => by
    match a with | ⟨0, _⟩ => rfl | ⟨1, _⟩ => rfl | ⟨2, _⟩ => rfl)).trans (v19_apply p b s j)))

theorem v44_apply (b : Fin 16) (s : Fin 4096) (j : Fin 32) : val_main_v44 (F := Ideal) p (ix4 b s 0 j) = Ideal.sin (angle p b s j) :=
  (val_main_v44_apply ..).trans (congrArg Ideal.sin ((congrArg _ (funext fun a => by
    match a with | ⟨0, _⟩ => rfl | ⟨1, _⟩ => rfl | ⟨2, _⟩ => rfl)).trans (v19_apply p b s j)))

/-- The halves of the part of a query that is turned. -/
theorem v45_apply (b : Fin 16) (s : Fin 4096) (n : Fin 8) (j : Fin 32) :
    val_main_v45 (F := Ideal) x m w g wq (ix4 b s n j) = query x m w g wq b s n ⟨128 + j.val, by omega⟩ := by
  rw [val_main_v45_apply, val_main_v42_apply]
  exact (congrArg _ (funext fun a => by
    match a with | ⟨0, _⟩ => rfl | ⟨1, _⟩ => rfl | ⟨2, _⟩ => rfl | ⟨3, _⟩ => rfl)).trans (v40_apply x m w g wq b s n ⟨128 + j.val, by omega⟩)

theorem v46_apply (b : Fin 16) (s : Fin 4096) (n : Fin 8) (j : Fin 32) :
    val_main_v46 (F := Ideal) x m w g wq (ix4 b s n j) = query x m w g wq b s n ⟨128 + (32 + j.val), by omega⟩ := by
  rw [val_main_v46_apply, val_main_v42_apply]
  exact (congrArg _ (funext fun a => by
    match a with | ⟨0, _⟩ => rfl | ⟨1, _⟩ => rfl | ⟨2, _⟩ => rfl | ⟨3, _⟩ => rfl)).trans (v40_apply x m w g wq b s n ⟨128 + (32 + j.val), by omega⟩)

/-- The first half, turned. -/
theorem v51_apply (b : Fin 16) (s : Fin 4096) (n : Fin 8) (j : Fin 32) : val_main_v51 (F := Ideal) x m p w g wq (ix4 b s n j)
    = query x m w g wq b s n ⟨128 + j.val, by omega⟩ * Ideal.cos (angle p b s j)
      - query x m w g wq b s n ⟨128 + (32 + j.val), by omega⟩ * Ideal.sin (angle p b s j) := by
  have c : idx_main_v47 (ix4 b s n j) = ix4 b s 0 j := funext fun a => by
    match a with | ⟨0, _⟩ => rfl | ⟨1, _⟩ => rfl | ⟨2, _⟩ => rfl | ⟨3, _⟩ => rfl
  rw [val_main_v51_apply, val_main_v48_apply, val_main_v50_apply, val_main_v47_apply, val_main_v49_apply, v45_apply, v46_apply]
  exact congrArg₂ (· - ·) (congrArg₂ (· * ·) rfl ((congrArg _ c).trans (v43_apply p b s j))) (congrArg₂ (· * ·) rfl ((congrArg _ c).trans (v44_apply p b s j)))

/-- The second half, turned. -/
theorem v56_apply (b : Fin 16) (s : Fin 4096) (n : Fin 8) (j : Fin 32) : val_main_v56 (F := Ideal) x m p w g wq (ix4 b s n j)
    = query x m w g wq b s n ⟨128 + j.val, by omega⟩ * Ideal.sin (angle p b s j)
      + query x m w g wq b s n ⟨128 + (32 + j.val), by omega⟩ * Ideal.cos (angle p b s j) := by
  have c : idx_main_v52 (ix4 b s n j) = ix4 b s 0 j := funext fun a => by
    match a with | ⟨0, _⟩ => rfl | ⟨1, _⟩ => rfl | ⟨2, _⟩ => rfl | ⟨3, _⟩ => rfl
  rw [val_main_v56_apply, val_main_v53_apply, val_main_v55_apply, val_main_v52_apply, val_main_v54_apply, v45_apply, v46_apply]
  exact congrArg₂ (· + ·) (congrArg₂ (· * ·) rfl ((congrArg _ c).trans (v44_apply p b s j))) (congrArg₂ (· * ·) rfl ((congrArg _ c).trans (v43_apply p b s j)))

/-- The halves of two arrays side by side, turned, are the rotation. -/
theorem rope_halves (a : Fin 64 → EReal) (th : Fin 32 → EReal) (f s : Fin 32 → EReal)
    (hf : ∀ j : Fin 32, f j = a ⟨j.val, by omega⟩ * Ideal.cos (th j) - a ⟨32 + j.val, by omega⟩ * Ideal.sin (th j))
    (hs : ∀ j : Fin 32, s j = a ⟨j.val, by omega⟩ * Ideal.sin (th j) + a ⟨32 + j.val, by omega⟩ * Ideal.cos (th j)) (d : Fin 64) :
    (if e : d.val < 32 then f ⟨d.val, e⟩ else s ⟨d.val - 32, by omega⟩) = rope a th d := by
  unfold rope
  by_cases e : d.val < 32
  · rw [dif_pos e, dif_pos e, hf]
    refine congrArg₂ (· - ·) rfl (congrArg₂ (· * ·) (congrArg a (Fin.ext ?_)) rfl)
    show 32 + d.val = d.val + 32
    omega
  · rw [dif_neg e, dif_neg e, hs]
    refine congrArg₂ (· + ·) rfl (congrArg₂ (· * ·) (congrArg a (Fin.ext ?_)) rfl)
    show 32 + (d.val - 32) = d.val
    omega

/-- A query's turned part. -/
theorem v57_apply (b : Fin 16) (s : Fin 4096) (n : Fin 8) (d : Fin 64) : val_main_v57 (F := Ideal) x m p w g wq (ix4 b s n d)
    = rope (fun e => query x m w g wq b s n ⟨128 + e.val, by omega⟩) (angle p b s) d := by
  rw [← rope_halves (fun e : Fin 64 => query x m w g wq b s n ⟨128 + e.val, by omega⟩) (angle p b s) _ _ (v51_apply x m p w g wq b s n) (v56_apply x m p w g wq b s n) d]
  unfold val_main_v57
  by_cases e : d.val < 32
  · rw [dif_pos e]
    exact concatenate_pair_apply_left (t := S16x4096x8x64) (s₁ := S16x4096x8x32) (s₂ := S16x4096x8x32) 3 _ _
      concatenates_S16x4096x8x32_S16x4096x8x32_S16x4096x8x64_d3 _ rfl (ix4 b s n (⟨d.val, e⟩ : Fin 32)) (fun a => by fin_cases a <;> rfl)
  · rw [dif_neg e]
    refine concatenate_pair_apply_right (t := S16x4096x8x64) (s₁ := S16x4096x8x32) (s₂ := S16x4096x8x32) 3 _ _
      concatenates_S16x4096x8x32_S16x4096x8x32_S16x4096x8x64_d3 _ rfl rfl (ix4 b s n (⟨d.val - 32, by omega⟩ : Fin 32)) (fun a ha => ?_) ?_
    · match a with
      | ⟨0, _⟩ => rfl
      | ⟨1, _⟩ => rfl
      | ⟨2, _⟩ => rfl
      | ⟨3, _⟩ => exact absurd rfl ha
    · show d.val - 32 + 32 = d.val
      omega

/-- A key's part that every head shares, turned. -/
theorem v82_apply (b : Fin 16) (s : Fin 4096) (d : Fin 64) : val_main_v82 (F := Ideal) x m p w (ix3 b s d)
    = rope (fun e => lat x m w b s ⟨768 + e.val, by omega⟩) (angle p b s) d := by
  have e1 : ∀ j : Fin 32, val_main_v74 (F := Ideal) x m w (ix3 b s j) = lat x m w b s ⟨768 + j.val, by omega⟩ := fun j =>
    (val_main_v74_apply ..).trans ((congrArg _ (funext fun a => by
      match a with | ⟨0, _⟩ => rfl | ⟨1, _⟩ => rfl | ⟨2, _⟩ => rfl)).trans (v25_apply x m w b s ⟨j.val, by omega⟩))
  have e2 : ∀ j : Fin 32, val_main_v75 (F := Ideal) x m w (ix3 b s j) = lat x m w b s ⟨768 + (32 + j.val), by omega⟩ := fun j =>
    (val_main_v75_apply ..).trans ((congrArg _ (funext fun a => by
      match a with | ⟨0, _⟩ => rfl | ⟨1, _⟩ => rfl | ⟨2, _⟩ => rfl)).trans (v25_apply x m w b s ⟨32 + j.val, by omega⟩))
  have hc : ∀ j : Fin 32, val_main_v20 (F := Ideal) p (ix3 b s j) = Ideal.cos (angle p b s j) := fun j => congrArg Ideal.cos (v19_apply p b s j)
  have hs : ∀ j : Fin 32, val_main_v21 (F := Ideal) p (ix3 b s j) = Ideal.sin (angle p b s j) := fun j => congrArg Ideal.sin (v19_apply p b s j)
  rw [← rope_halves (fun e : Fin 64 => lat x m w b s ⟨768 + e.val, by omega⟩) (angle p b s) (fun j => val_main_v78 (F := Ideal) x m p w (ix3 b s j))
    (fun j => val_main_v81 (F := Ideal) x m p w (ix3 b s j))
    (fun j => congrArg₂ (· - ·) (congrArg₂ (· * ·) (e1 j) (hc j)) (congrArg₂ (· * ·) (e2 j) (hs j)))
    (fun j => congrArg₂ (· + ·) (congrArg₂ (· * ·) (e1 j) (hs j)) (congrArg₂ (· * ·) (e2 j) (hc j))) d]
  unfold val_main_v82
  by_cases e : d.val < 32
  · rw [dif_pos e]
    exact concatenate_pair_apply_left (t := S16x4096x64) (s₁ := S16x4096x32) (s₂ := S16x4096x32) 2 _ _
      concatenates_S16x4096x32_S16x4096x32_S16x4096x64_d2 _ rfl (ix3 b s (⟨d.val, e⟩ : Fin 32)) (fun a => by fin_cases a <;> rfl)
  · rw [dif_neg e]
    refine concatenate_pair_apply_right (t := S16x4096x64) (s₁ := S16x4096x32) (s₂ := S16x4096x32) 2 _ _
      concatenates_S16x4096x32_S16x4096x32_S16x4096x64_d2 _ rfl rfl (ix3 b s (⟨d.val - 32, by omega⟩ : Fin 32)) (fun a ha => ?_) ?_
    · match a with
      | ⟨0, _⟩ => rfl
      | ⟨1, _⟩ => rfl
      | ⟨2, _⟩ => exact absurd rfl ha
    · show d.val - 32 + 32 = d.val
      omega

/-! ## The results -/

/-- A head's 128 plain entries and 64 turned ones, side by side. -/
theorem head_apply (u : FVec Ideal S16x4096x8x128 .f32) (v : FVec Ideal S16x4096x8x64 .f32) (b : Fin 16) (s : Fin 4096) (n : Fin 8) (d : Fin 192) :
    concatenate S16x4096x8x192 3 [⟨S16x4096x8x128, u⟩, ⟨S16x4096x8x64, v⟩] concatenates_S16x4096x8x128_S16x4096x8x64_S16x4096x8x192_d3 (ix4 b s n d)
      = if e : d.val < 128 then u (ix4 b s n ⟨d.val, e⟩) else v (ix4 b s n ⟨d.val - 128, by omega⟩) := by
  by_cases e : d.val < 128
  · rw [dif_pos e]
    exact concatenate_pair_apply_left (t := S16x4096x8x192) (s₁ := S16x4096x8x128) (s₂ := S16x4096x8x64) 3 u v
      concatenates_S16x4096x8x128_S16x4096x8x64_S16x4096x8x192_d3 _ rfl (ix4 b s n (⟨d.val, e⟩ : Fin 128)) (fun a => by fin_cases a <;> rfl)
  · rw [dif_neg e]
    refine concatenate_pair_apply_right (t := S16x4096x8x192) (s₁ := S16x4096x8x128) (s₂ := S16x4096x8x64) 3 u v
      concatenates_S16x4096x8x128_S16x4096x8x64_S16x4096x8x192_d3 _ rfl rfl (ix4 b s n (⟨d.val - 128, by omega⟩ : Fin 64)) (fun a ha => ?_) ?_
    · match a with
      | ⟨0, _⟩ => rfl
      | ⟨1, _⟩ => rfl
      | ⟨2, _⟩ => rfl
      | ⟨3, _⟩ => exact absurd rfl ha
    · show d.val - 128 + 128 = d.val
      omega

/-- The queries. -/
theorem v90_apply (b : Fin 16) (n : Fin 8) (s : Fin 4096) (d : Fin 192) :
    val_main_v90 (F := Ideal) x m p w g wq (ix4 b n s d) = qOut x m p w g wq b n s d := by
  have i : idx_main_v89 (ix4 b n s d) = ix4 b s n d := funext fun a => by
    match a with | ⟨0, _⟩ => rfl | ⟨1, _⟩ => rfl | ⟨2, _⟩ => rfl | ⟨3, _⟩ => rfl
  refine Eq.trans (val_main_v89_apply (F := Ideal) x m p w g wq (ix4 b n s d)) ?_
  rw [i, val_main_v88_apply, val_main_v87_apply]
  refine congrArg₂ (· * ·) ((head_apply _ _ b s n d).trans ?_) rfl
  by_cases e : d.val < 128
  · rw [dif_pos e, if_pos e]
    exact (val_main_v41_apply ..).trans ((congrArg _ (funext fun a => by
      match a with | ⟨0, _⟩ => rfl | ⟨1, _⟩ => rfl | ⟨2, _⟩ => rfl | ⟨3, _⟩ => rfl)).trans (v40_apply x m w g wq b s n d))
  · rw [dif_neg e, if_neg e, v57_apply]

/-- The keys. -/
theorem v92_apply (b : Fin 16) (n : Fin 8) (s : Fin 4096) (d : Fin 192) :
    val_main_v92 (F := Ideal) x m p w h wk (ix4 b n s d) = kOut x m p w h wk b n s d := by
  have i : idx_main_v91 (ix4 b n s d) = ix4 b s n d := funext fun a => by
    match a with | ⟨0, _⟩ => rfl | ⟨1, _⟩ => rfl | ⟨2, _⟩ => rfl | ⟨3, _⟩ => rfl
  refine Eq.trans (val_main_v91_apply (F := Ideal) x m p w h wk (ix4 b n s d)) ?_
  rw [i]
  refine (head_apply _ _ b s n d).trans ?_
  unfold kOut
  by_cases e : d.val < 128
  · rw [dif_pos e, if_pos e]
    exact (val_main_v85_apply ..).trans ((congrArg _ (funext fun a => by
      match a with | ⟨0, _⟩ => rfl | ⟨1, _⟩ => rfl | ⟨2, _⟩ => rfl | ⟨3, _⟩ => rfl)).trans (v73_apply x m w h wk b s n ⟨d.val, by omega⟩))
  · have t := v82_apply x m p w b s ⟨d.val - 128, by omega⟩
    rw [dif_neg e, if_neg e, val_main_v84_apply, val_main_v83_apply]
    exact (congrArg _ (funext fun a => by
      match a with | ⟨0, _⟩ => rfl | ⟨1, _⟩ => rfl | ⟨2, _⟩ => rfl)).trans t

/-- The values. -/
theorem v95_apply (b : Fin 16) (n : Fin 8) (s : Fin 4096) (d : Fin 128) :
    val_main_v95 (F := Ideal) x m w h wk (ix4 b n s d) = vOut x m w h wk b n s d := by
  refine Eq.trans (val_main_v94_apply (F := Ideal) x m w h wk (ix4 b n s d)) ?_
  rw [val_main_v93_apply]
  exact (congrArg _ (funext fun a => by
    match a with | ⟨0, _⟩ => rfl | ⟨1, _⟩ => rfl | ⟨2, _⟩ => rfl | ⟨3, _⟩ => rfl)).trans (v73_apply x m w h wk b s n ⟨128 + d.val, by omega⟩)

end Cert.MlaProjRefIdeal.Ref

end
-- ==== Proof.MlaProjEq.lean ====
/- The latent attention's projection computes its reference: both end with the same queries, keys and values. -/
module

public import proofs.«01_k».proof.Defs
public import proofs.«01_k».proof.Proof.MlaArray
public import proofs.«01_k».proof.Proof.MlaRef

@[expose] public section

noncomputable section

namespace Cert.MlaProjEq

open Idealize.ShloMosaic Idealize.ShloMosaic.ValueIdx Idealize.SL.Sem

/-- Kernel and reference, from the same arguments, end with the same three arrays and keep their arguments. -/
theorem algebraic : Cert.algebraic_MlaProjIdeal_MlaProjRefIdeal := by
  intro m ρ m' ρ' _ hagree
  refine ⟨fun c => Cert.MlaProjIdeal.Array.resultQ m c, fun c => Cert.MlaProjIdeal.Array.resultK m c, fun c => Cert.MlaProjIdeal.Array.resultV m c, ?_, ?_⟩
  · exact (θ_run Cert.MlaProjIdeal.defs _ _).mono (fun _ h c => ⟨(h c).1.trans (Cert.MlaProjIdeal.Array.finalQ m c),
        (h c).2.1.trans (Cert.MlaProjIdeal.Array.finalK m c), (h c).2.2.1.trans (Cert.MlaProjIdeal.Array.finalV m c), (h c).2.2.2⟩)
      (Cert.MlaProjIdeal.Value.run_blocks (F := Ideal) m ρ)
  · refine (θ_run Cert.MlaProjRefIdeal.defs _ _).mono (fun _ h c => ?_) (Cert.MlaProjRefIdeal.Value.run (F := Ideal) m' ρ')
    obtain ⟨hq, hk, hv, keep⟩ := h c
    obtain ⟨e0, e1, e2, e3, e4, e5, e6, e7⟩ := hagree c
    refine ⟨hq.trans ?_, hk.trans ?_, hv.trans ?_, keep⟩
    · rw [Cert.MlaProjRefIdeal.Read.val_main_v90_eq, e0, e1, e2, e3, e4, e6]
      funext i
      rw [eq_ix4 (i : Cert.MlaProjRefIdeal.S16x8x4096x192.Idx)]
      exact Cert.MlaProjRefIdeal.Ref.v90_apply _ _ _ _ _ _ _ _ _ _
    · rw [Cert.MlaProjRefIdeal.Read.val_main_v92_eq, e0, e1, e2, e3, e5, e7]
      funext i
      rw [eq_ix4 (i : Cert.MlaProjRefIdeal.S16x8x4096x192.Idx)]
      exact Cert.MlaProjRefIdeal.Ref.v92_apply _ _ _ _ _ _ _ _ _ _
    · refine (Cert.MlaProjRefIdeal.Read.val_main_v95_eq _ _ _ _ _).trans ?_
      rw [e0, e1, e3, e5, e7]
      funext i
      rw [eq_ix4 (i : Cert.MlaProjRefIdeal.S16x8x4096x128.Idx)]
      exact Cert.MlaProjRefIdeal.Ref.v95_apply _ _ _ _ _ _ _ _ _

end Cert.MlaProjEq

end
-- ==== Proof.OutSpec.lean ====
/- The output projection's mathematics, entry by entry: the product, the residual sum and the layer norm. -/
module

public import proofs.«01_k».proof.Proof.FfnSpec

@[expose] public section

noncomputable section

namespace Cert.OutSpec

open Idealize.ShloMosaic Idealize.ShloMosaic.ValueIdx Finset
open Cert.FfnSpec (XX MM GG cRootTwo norm)

abbrev WW : Type := (⟨2, ![1024, 1024]⟩ : Shape).Idx → EReal
abbrev PP : Type := (⟨3, ![16, 4096, 512]⟩ : Shape).Idx → EReal

/-- The product of one array of 1024 columns with the weights. -/
def single (w : WW) (o : XX) (b : Fin 16) (s : Fin 4096) (d : Fin 1024) : EReal :=
  ∑ k : Fin 1024, o (ix3 b s k) * w (ix2 k d)

/-- The product of two arrays of 512 columns, side by side, with the weights. -/
def pair (w : WW) (p q : PP) (b : Fin 16) (s : Fin 4096) (d : Fin 1024) : EReal :=
  ∑ k : Fin 512, p (ix3 b s k) * w (ix2 (Fin.castAdd 512 k) d) + ∑ k : Fin 512, q (ix3 b s k) * w (ix2 (Fin.natAdd 512 k) d)

/-- The residual sum of a product `y`. -/
def resid (x : XX) (m : MM) (y : Fin 16 → Fin 4096 → Fin 1024 → EReal) (b : Fin 16) (s : Fin 4096) (d : Fin 1024) : EReal :=
  cRootTwo * x (ix3 b s d) + m (ix3 b 2 d) * y b s d

/-- The layer's output from a product `y`. -/
def out (x : XX) (m : MM) (g h : GG) (y : Fin 16 → Fin 4096 → Fin 1024 → EReal) (b : Fin 16) (s : Fin 4096) (d : Fin 1024) : EReal :=
  norm (resid x m y b s) (g (ix1 d)) (h (ix1 d)) d

end Cert.OutSpec

end
-- ==== Proof.OutRow.lean ====
/- A block of the output projection, read at an index over the extended reals: each row is the layer norm of the residual
   sum of that row's input and its product. -/
module

public import proofs.«01_k».proof.Proof.FfnRow
public import proofs.«01_k».proof.Proof.OutSpec
public import proofs.«01_k».proof.Proof.Gen.OutAttIdeal.Value
public import proofs.«01_k».proof.Proof.Gen.OutPairIdeal.Value

@[expose] public section

set_option maxRecDepth 16384

noncomputable section

/-! ## What the two share -/

namespace Cert.OutRow

open Idealize.ShloMosaic Idealize.ShloMosaic.TcCoe Idealize.ShloMosaic.ValueIdx Cert.FfnIdeal Cert.FfnIdeal.Gen Cert.FfnIdeal.Block
open Cert.FfnSpec (cRootTwo)

/-- The block stored, from the input, the modulation, the norm's scale and shift and the product. -/
def post (x0 : Vec Ideal S1x512x1024 .f32) (x1 : Vec Ideal S1x3x1024 .f32) (x2 x3 : Vec Ideal S1x1024 .f32) (y : FVec Ideal S512x1024 .f32) :
    Vec Ideal S1x512x1024 .f32 :=
  k0_pay1 (k0_pay90 x3) (normed (resid (k0_pay4 x1) (k0_pay5 x0) y)) (k0_pay92 x2)

/-- It at row `r`, column `d`. -/
theorem post_apply (x0 : Vec Ideal S1x512x1024 .f32) (x1 : Vec Ideal S1x3x1024 .f32) (x2 x3 : Vec Ideal S1x1024 .f32) (y : FVec Ideal S512x1024 .f32)
    (r : Fin 512) (d : Fin 1024) : post x0 x1 x2 x3 y (ix3 0 r d)
      = FfnSpec.norm (fun k => cRootTwo * x0 (ix3 0 r k) + x1 (ix3 0 2 k) * y (ix2 r k)) (x2 (ix2 0 d)) (x3 (ix2 0 d)) d := by
  have hz : ∀ k, resid (k0_pay4 x1) (k0_pay5 x0) y (ix2 r k) = cRootTwo * x0 (ix3 0 r k) + x1 (ix3 0 2 k) * y (ix2 r k) := fun k => by
    unfold resid
    rw [addf_apply, mulf_apply, mulf_apply, brow_apply, gate_apply, squeeze_apply]
    rfl
  unfold post k0_pay1
  refine (shapeCast_apply _ _ _ (ix2 r d) (by
    rw [Shape.rowMajor_val_three, Shape.rowMajor_val_two]; show r.val * 1024 + d.val = (0 * 512 + r.val) * 1024 + d.val; omega)).trans ?_
  unfold k0_pay90 k0_pay92
  rw [addf_apply, mulf_apply, brow_apply, brow_apply, shapeCast_self, shapeCast_self, normed_apply]
  simp only [hz]
  rfl

end Cert.OutRow

/-! ## From the attention's output -/

namespace Cert.OutAttIdeal.Block

open Idealize.ShloMosaic Idealize.ShloMosaic.TcCoe Idealize.ShloMosaic.ValueIdx Cert.OutAttIdeal Cert.OutAttIdeal.Gen

/-- The block's product. -/
def prod (x5 : FVec Ideal S1x512x1024 .bf16) (x4 : FVec Ideal S1024x1024 .bf16) : FVec Ideal S512x1024 .f32 :=
  matmul dot_S512x1024_S1024x1024_S512x1024_1_0_0_1_n_n none (shapeCast S512x1024 x5 shapeCasts_S1x512x1024_S512x1024)
    (shapeCast S1024x1024 x4 shapeCasts_S1024x1024_S1024x1024) (constant S512x1024 .f32 0x00000000#32)

theorem prod_apply (x5 : FVec Ideal S1x512x1024 .bf16) (x4 : FVec Ideal S1024x1024 .bf16) (r : Fin 512) (d : Fin 1024) :
    prod x5 x4 (ix2 r d) = ∑ k : Fin 1024, x5 (ix3 0 r k) * x4 (ix2 k d) := by
  unfold prod
  refine (Ideal.matmul_plain_apply (M := 512) (K := 1024) (N := 1024) none _ _ _ r d).trans ?_
  rw [constant_apply, Ideal.ofBits_zero_f32, zero_add]
  refine Finset.sum_congr rfl fun k _ => ?_
  rw [shapeCast_self]
  refine congrArg₂ (· * ·) (shapeCast_apply x5 _ _ _ ?_) rfl
  rw [Shape.rowMajor_val_three, Shape.rowMajor_val_two]; show (0 * 512 + r.val) * 1024 + k.val = r.val * 1024 + k.val; omega

/-- The block a grid point stores. -/
theorem out_eq (x0 : Vec Ideal S1x512x1024 .f32) (x1 : Vec Ideal S1x3x1024 .f32) (x2 x3 : Vec Ideal S1x1024 .f32) (x4 : Vec Ideal S1024x1024 .bf16)
    (x5 : Vec Ideal S1x512x1024 .bf16) : out0_6 x0 x1 x2 x3 x4 x5 = OutRow.post x0 x1 x2 x3 (prod x5 x4) := by
  unfold out0_6
  rw [View.canon_unit_zero FfnIdeal.Block.z3]
  have e0 : View.ld (Val := Elt Ideal) x0 r0_0 = x0 := View.ld_unit_zero FfnIdeal.Block.z3 _ _
  have e1 : View.ld (Val := Elt Ideal) x1 r0_2 = x1 := View.ld_unit_zero FfnIdeal.Block.z3 _ _
  have e2 : ∀ x : Vec Ideal S1x1024 .f32, View.ld (Val := Elt Ideal) x r0_3 = x := View.ld_unit_zero FfnIdeal.Block.z2 _
  have e4 : View.ld (Val := Elt Ideal) x4 r0_1 = x4 := View.ld_unit_zero FfnIdeal.Block.z2 _ _
  have e5 : View.ld (Val := Elt Ideal) x5 r0_0 = x5 := View.ld_unit_zero FfnIdeal.Block.z3 _ _
  rw [e0, e1, e2, e2, e4, e5]
  rfl

end Cert.OutAttIdeal.Block

/-! ## From the pooling's and the recurrence's outputs -/

namespace Cert.OutPairIdeal.Block

open Idealize.ShloMosaic Idealize.ShloMosaic.TcCoe Idealize.ShloMosaic.ValueIdx Cert.OutPairIdeal Cert.OutPairIdeal.Gen

/-- One input's product with its rows of the weights. -/
def prod (x : FVec Ideal S1x512x512 .bf16) (w : FVec Ideal S512x1024 .bf16) : FVec Ideal S512x1024 .f32 :=
  matmul dot_S512x512_S512x1024_S512x1024_1_0_0_1_n_n none (shapeCast S512x512 x shapeCasts_S1x512x512_S512x512)
    (shapeCast S512x1024 w shapeCasts_S512x1024_S512x1024) (constant S512x1024 .f32 0x00000000#32)

theorem prod_apply (x : FVec Ideal S1x512x512 .bf16) (w : FVec Ideal S512x1024 .bf16) (r : Fin 512) (d : Fin 1024) :
    prod x w (ix2 r d) = ∑ k : Fin 512, x (ix3 0 r k) * w (ix2 k d) := by
  unfold prod
  refine (Ideal.matmul_plain_apply (M := 512) (K := 512) (N := 1024) none _ _ _ r d).trans ?_
  rw [constant_apply, Ideal.ofBits_zero_f32, zero_add]
  refine Finset.sum_congr rfl fun k _ => ?_
  rw [shapeCast_self]
  refine congrArg₂ (· * ·) (shapeCast_apply x _ _ _ ?_) rfl
  rw [Shape.rowMajor_val_three, Shape.rowMajor_val_two]; show (0 * 512 + r.val) * 512 + k.val = r.val * 512 + k.val; omega

/-- The block's product: both inputs', added. -/
def prods (x5 x6 : Vec Ideal S1x512x512 .bf16) (x4 : Vec Ideal S1024x1024 .bf16) : FVec Ideal S512x1024 .f32 :=
  addf (prod x5 (View.ld (Val := Elt Ideal) x4 r0_1)) (prod x6 (View.ld (Val := Elt Ideal) x4 r0_2))

theorem prods_apply (x5 x6 : Vec Ideal S1x512x512 .bf16) (x4 : Vec Ideal S1024x1024 .bf16) (r : Fin 512) (d : Fin 1024) :
    prods x5 x6 x4 (ix2 r d) = ∑ k : Fin 512, x5 (ix3 0 r k) * x4 (ix2 (Fin.castAdd 512 k) d)
      + ∑ k : Fin 512, x6 (ix3 0 r k) * x4 (ix2 (Fin.natAdd 512 k) d) := by
  unfold prods
  rw [addf_apply, prod_apply, prod_apply]
  refine congrArg₂ (· + ·) (Finset.sum_congr rfl fun k _ => congrArg _ (congrArg x4 (funext fun a => Fin.ext ?_)))
    (Finset.sum_congr rfl fun k _ => congrArg _ (congrArg x4 (funext fun a => Fin.ext ?_)))
  · match a with
    | ⟨0, _⟩ => show 0 + 1 * k.val = k.val; omega
    | ⟨1, _⟩ => show 0 + 1 * d.val = d.val; omega
  · match a with
    | ⟨0, _⟩ => show 512 + 1 * k.val = 512 + k.val; omega
    | ⟨1, _⟩ => show 0 + 1 * d.val = d.val; omega

/-- The block a grid point stores. -/
theorem out_eq (x0 : Vec Ideal S1x512x1024 .f32) (x1 : Vec Ideal S1x3x1024 .f32) (x2 x3 : Vec Ideal S1x1024 .f32) (x4 : Vec Ideal S1024x1024 .bf16)
    (x5 x6 : Vec Ideal S1x512x512 .bf16) : out0_7 x0 x1 x2 x3 x4 x5 x6 = OutRow.post x0 x1 x2 x3 (prods x5 x6 x4) := by
  unfold out0_7
  rw [View.canon_unit_zero FfnIdeal.Block.z3]
  have e0 : View.ld (Val := Elt Ideal) x0 r0_4 = x0 := View.ld_unit_zero FfnIdeal.Block.z3 _ _
  have e1 : View.ld (Val := Elt Ideal) x1 r0_3 = x1 := View.ld_unit_zero FfnIdeal.Block.z3 _ _
  have e2 : ∀ x : Vec Ideal S1x1024 .f32, View.ld (Val := Elt Ideal) x r0_5 = x := View.ld_unit_zero FfnIdeal.Block.z2 _
  have e5 : ∀ x : Vec Ideal S1x512x512 .bf16, View.ld (Val := Elt Ideal) x r0_0 = x := View.ld_unit_zero FfnIdeal.Block.z3 _
  rw [e0, e1, e2, e2, e5, e5]
  rfl

end Cert.OutPairIdeal.Block

end
-- ==== Proof.OutAttArray.lean ====
/- What the output projection's result array holds, from the attention's output. -/
module

public import proofs.«01_k».proof.Proof.OutRow
public import proofs.«01_k».proof.Proof.FfnArray
public import Idealize.ShloMosaic.Lib.StableHlo.Run

@[expose] public section

set_option maxRecDepth 16384

noncomputable section

namespace Cert.OutAttIdeal.Array

open Idealize.ShloMosaic Idealize.ShloMosaic.TcCoe Idealize.ShloMosaic.ValueIdx Idealize.SL.Sem
open Cert.OutAttIdeal Cert.OutAttIdeal.Gen Cert.OutAttIdeal.Block
open Cert.FfnIdeal.Array (ofNat_small)

variable (m : (ℓ : Loc nD τ sig) → Buf (Elt Ideal) ℓ)

/-- The arguments in a memory: input, modulation, the norm's scale and shift, the weights, the attention's output. -/
abbrev xOf (c : Dev nD) : FfnSpec.XX := m ((c : Thread nD τ).loc main_arg0)
abbrev mOf (c : Dev nD) : FfnSpec.MM := m ((c : Thread nD τ).loc main_arg1)
abbrev gOf (c : Dev nD) : FfnSpec.GG := m ((c : Thread nD τ).loc main_arg2)
abbrev hOf (c : Dev nD) : FfnSpec.GG := m ((c : Thread nD τ).loc main_arg3)
abbrev wOf (c : Dev nD) : OutSpec.WW := m ((c : Thread nD τ).loc main_arg4)
abbrev oOf (c : Dev nD) : FfnSpec.XX := m ((c : Thread nD τ).loc main_arg5)

/-- The result array: the layer's output. -/
def result (c : Dev nD) : Buf (Elt Ideal) ((c : Thread nD τ).loc main_v3) := fun (i : S16x4096x1024.Idx) =>
  OutSpec.out (xOf m c) (mOf m c) (gOf m c) (hOf m c) (OutSpec.single (wOf m c) (oOf m c)) (i 0) (i 1) (i 2)

/-! ## The blocks -/

theorem c0_lt (t : Fin cfg0.N) : (grid0.coords t 0).val < 16 := (grid0.coords t 0).isLt
theorem c1_lt (t : Fin cfg0.N) : (grid0.coords t 1).val < 8 := (grid0.coords t 1).isLt

theorem coords_eq : ∀ t : Fin grid0.N, (grid0.coords t 0).val = t.val / 8 ∧ (grid0.coords t 1).val = t.val % 8 := by
  decide +kernel

theorem V_v0 (c : Dev nD) : V m c main_v0 = shapeCast S1x1024 (gOf m c) shapeCasts_S1024_S1x1024 := by
  show StableHlo.after hostOps0 (fun b => m (c, b)) (main_v0 : DevRef τ sig) = _
  after_results
  rfl

theorem V_v1 (c : Dev nD) : V m c main_v1 = shapeCast S1x1024 (hOf m c) shapeCasts_S1024_S1x1024 := by
  show StableHlo.after hostOps0 (fun b => m (c, b)) (main_v1 : DevRef τ sig) = _
  after_results
  rfl

theorem V_v2 (c : Dev nD) : V m c main_v2 = truncf (F := Ideal) .bf16 (wOf m c) bitsLt_bf16_f32 := by
  show StableHlo.after hostOps0 (fun b => m (c, b)) (main_v2 : DevRef τ sig) = _
  after_results

/-- The block of the input. -/
theorem iblk0_apply (c : Dev nD) (t : Fin cfg0.N) (r : Fin 512) (k : Fin 1024) (s : Fin 4096) (hs : s.val = 512 * (grid0.coords t 1).val + r.val) :
    (iblk m c 0 t : Vec Ideal S1x512x1024 .f32) (ix3 0 r k) = xOf m c (ix3 (grid0.coords t 0) s k) := by
  have h0 := ofNat_small (c0_lt t)
  have h1 := ofNat_small ((c1_lt t).trans (by omega))
  unfold iblk
  rw [View.read_apply]
  show V m c main_arg0 _ = m _ _
  unfold V
  refine congrArg _ (funext fun a => Fin.ext ?_)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 512 + 1 * r.val = s.val; omega
  | ⟨2, _⟩ => show (0#32).toNat * 1024 + 1 * k.val = k.val; simp

/-- The modulation's block. -/
theorem iblk1_apply (c : Dev nD) (t : Fin cfg0.N) (n : Fin 3) (k : Fin 1024) :
    (iblk m c 1 t : Vec Ideal S1x3x1024 .f32) (ix3 0 n k) = mOf m c (ix3 (grid0.coords t 0) n k) := by
  have h0 := ofNat_small (c0_lt t)
  unfold iblk
  rw [View.read_apply]
  show V m c main_arg1 _ = m _ _
  unfold V
  refine congrArg _ (funext fun a => Fin.ext ?_)
  match a with
  | ⟨0, _⟩ => show (BitVec.ofNat 32 (grid0.coords t 0).val).toNat * 1 + 1 * 0 = (grid0.coords t 0).val; omega
  | ⟨1, _⟩ => show (0#32).toNat * 3 + 1 * n.val = n.val; simp
  | ⟨2, _⟩ => show (0#32).toNat * 1024 + 1 * k.val = k.val; simp

/-- The norm's scale. -/
theorem iblk2_apply (c : Dev nD) (t : Fin cfg0.N) (d : Fin 1024) : (iblk m c 2 t : Vec Ideal S1x1024 .f32) (ix2 0 d) = gOf m c (ix1 d) := by
  unfold iblk
  rw [View.read_apply]
  show V m c main_v0 _ = _
  rw [V_v0]
  refine Eq.trans (congrArg _ (funext fun a => Fin.ext ?_)) (FfnIdeal.Array.row_apply (gOf m c) d)
  match a with
  | ⟨0, _⟩ => show (0#32).toNat * 1 + 1 * 0 = 0; simp
  | ⟨1, _⟩ => show (0#32).toNat * 1024 + 1 * d.val = d.val; simp

/-- The norm's shift. -/
theorem iblk3_apply (c : Dev nD) (t : Fin cfg0.N) (d : Fin 1024) : (iblk m c 3 t : Vec Ideal S1x1024 .f32) (ix2 0 d) = hOf m c (ix1 d) := by
  unfold iblk
  rw [View.read_apply]
  show V m c main_v1 _ = _
  rw [V_v1]
  refine Eq.trans (congrArg _ (funext fun a => Fin.ext ?_)) (FfnIdeal.Array.row_apply (hOf m c) d)
  match a with
  | ⟨0, _⟩ => show (0#32).toNat * 1 + 1 * 0 = 0; simp
  | ⟨1, _⟩ => show (0#32).toNat * 1024 + 1 * d.val = d.val; simp

/-- The weights. -/
theorem iblk4_apply (c : Dev nD) (t : Fin cfg0.N) (k d : Fin 1024) :
    (iblk m c 4 t : Vec Ideal S1024x1024 .bf16) (ix2 k d) = wOf m c (ix2 k d) := by
  unfold iblk
  rw [View.read_apply]
  show V m c main_v2 _ = _
  rw [V_v2]
  show wOf m c _ = _
  refine congrArg _ (funext fun a => Fin.ext ?_)
  match a with
  | ⟨0, _⟩ => show (0#32).toNat * 1024 + 1 * k.val = k.val; simp
  | ⟨1, _⟩ => show (0#32).toNat * 1024 + 1 * d.val = d.val; simp

/-- The block of the attention's output. -/
theorem iblk5_apply (c : Dev nD) (t : Fin cfg0.N) (r : Fin 512) (k : Fin 1024) (s : Fin 4096) (hs : s.val = 512 * (grid0.coords t 1).val + r.val) :
    (iblk m c 5 t : Vec Ideal S1x512x1024 .bf16) (ix3 0 r k) = oOf m c (ix3 (grid0.coords t 0) s k) := by
  have h0 := ofNat_small (c0_lt t)
  have h1 := ofNat_small ((c1_lt t).trans (by omega))
  unfold iblk
  rw [View.read_apply]
  show V m c main_arg5 _ = m _ _
  unfold V
  refine congrArg _ (funext fun a => Fin.ext ?_)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 512 + 1 * r.val = s.val; omega
  | ⟨2, _⟩ => show (0#32).toNat * 1024 + 1 * k.val = k.val; simp

/-- A grid point's block at row `r`, column `d`, is the layer's output there. -/
theorem block_row (c : Dev nD) (t : Fin cfg0.N) (r : Fin 512) (d : Fin 1024) (s : Fin 4096) (hs : s.val = 512 * (grid0.coords t 1).val + r.val) :
    out0_6 (iblk m c 0 t) (iblk m c 1 t) (iblk m c 2 t) (iblk m c 3 t) (iblk m c 4 t) (iblk m c 5 t) (ix3 0 r d)
      = OutSpec.out (xOf m c) (mOf m c) (gOf m c) (hOf m c) (OutSpec.single (wOf m c) (oOf m c)) (grid0.coords t 0) s d := by
  rw [out_eq]
  refine (OutRow.post_apply ..).trans ?_
  rw [iblk2_apply, iblk3_apply]
  unfold OutSpec.out
  refine congrArg (fun z => FfnSpec.norm z _ _ _) (funext fun k => ?_)
  rw [iblk0_apply m c t r k s hs, iblk1_apply, prod_apply]
  unfold OutSpec.resid OutSpec.single
  refine congrArg (fun y => _ + _ * y) (Finset.sum_congr rfl fun e _ => ?_)
  rw [iblk5_apply m c t r e s hs, iblk4_apply]

/-! ## The array -/

/-- What a grid point writes back is its block of the result. -/
theorem flushed_eq (c : Dev nD) (t : Fin cfg0.N) :
    (dats m 0 c).flushed 6 t = ((cfg0.win 6).blk t).view.read (Elt Ideal) (result m c) := by
  have h0 := ofNat_small (c0_lt t)
  have h1 := ofNat_small ((c1_lt t).trans (by omega))
  have c1 := c1_lt t
  rw [Value.flushed6]
  funext y
  obtain ⟨z, r, d, rfl⟩ : ∃ (z : Fin 1) (r : Fin 512) (d : Fin 1024), y = ix3 z r d := ⟨y 0, y 1, y 2, eq_ix3 y⟩
  obtain rfl : z = 0 := Subsingleton.elim _ _
  rw [View.read_apply]
  have hr := r.isLt
  refine Eq.trans ?_ ((block_row m c t r d ⟨512 * (grid0.coords t 1).val + r.val, by omega⟩ rfl).trans ?_)
  · rfl
  unfold result
  have a0 : ((((cfg0.win 6).blk t).view.emb (ix3 0 r d) : S16x4096x1024.Idx) 0).val = (grid0.coords t 0).val := by
    show (BitVec.ofNat 32 (grid0.coords t 0).val).toNat * 1 + 1 * 0 = (grid0.coords t 0).val; omega
  have a1 : ((((cfg0.win 6).blk t).view.emb (ix3 0 r d) : S16x4096x1024.Idx) 1).val = 512 * (grid0.coords t 1).val + r.val := by
    show (BitVec.ofNat 32 (grid0.coords t 1).val).toNat * 512 + 1 * r.val = _; omega
  have a2 : ((((cfg0.win 6).blk t).view.emb (ix3 0 r d) : S16x4096x1024.Idx) 2).val = d.val := by
    show (0#32).toNat * 1024 + 1 * d.val = _; simp
  have b0 : (((cfg0.win 6).blk t).view.emb (ix3 0 r d) : S16x4096x1024.Idx) 0 = grid0.coords t 0 := Fin.ext a0
  have b1 : (((cfg0.win 6).blk t).view.emb (ix3 0 r d) : S16x4096x1024.Idx) 1 = ⟨512 * (grid0.coords t 1).val + r.val, by omega⟩ := Fin.ext a1
  have b2 : (((cfg0.win 6).blk t).view.emb (ix3 0 r d) : S16x4096x1024.Idx) 2 = d := Fin.ext a2
  show _ = OutSpec.out _ _ _ _ _ _ _ _
  rw [b0, b1, b2]
  rfl

/-- The result array after the run. -/
theorem final (c : Dev nD) : (dats m 0 c).arrAt 6 cfg0.N = result m c :=
  (dats m 0 c).arrAt_eq_of_cover 6 (result m c) (fun t _ => flushed_eq m c t) fun i => by
    have h0 : ((i : S16x4096x1024.Idx) 0).val < 16 := ((i : S16x4096x1024.Idx) 0).isLt
    have h1 : ((i : S16x4096x1024.Idx) 1).val < 4096 := ((i : S16x4096x1024.Idx) 1).isLt
    have h2 : ((i : S16x4096x1024.Idx) 2).val < 1024 := ((i : S16x4096x1024.Idx) 2).isLt
    have hN : cfg0.N = 128 := by decide +kernel
    generalize hb : ((i : S16x4096x1024.Idx) 0).val = b at *
    generalize hs : ((i : S16x4096x1024.Idx) 1).val = s at *
    generalize hd : ((i : S16x4096x1024.Idx) 2).val = d at *
    let t : Fin cfg0.N := ⟨8 * b + s / 512, by rw [hN]; omega⟩
    obtain ⟨e0, e1⟩ := coords_eq t
    have tv : t.val = 8 * b + s / 512 := rfl
    have k0 := ofNat_small (c0_lt t)
    have k1 := ofNat_small ((c1_lt t).trans (by omega))
    refine ⟨t, flush0_6 t, ?_⟩
    show i ∈ ((View.whole main_v3).slice (win0_6.rect t)).set
    rw [View.set_slice_whole, Rect.mem_set_unit]
    intro a
    match a with
    | ⟨0, _⟩ =>
      show (BitVec.ofNat 32 (grid0.coords t 0).val).toNat * 1 ≤ ((i : S16x4096x1024.Idx) 0).val ∧ ((i : S16x4096x1024.Idx) 0).val < (BitVec.ofNat 32 (grid0.coords t 0).val).toNat * 1 + 1
      omega
    | ⟨1, _⟩ =>
      show (BitVec.ofNat 32 (grid0.coords t 1).val).toNat * 512 ≤ ((i : S16x4096x1024.Idx) 1).val ∧ ((i : S16x4096x1024.Idx) 1).val < (BitVec.ofNat 32 (grid0.coords t 1).val).toNat * 512 + 512
      omega
    | ⟨2, _⟩ =>
      show (0#32).toNat * 1024 ≤ ((i : S16x4096x1024.Idx) 2).val ∧ ((i : S16x4096x1024.Idx) 2).val < (0#32).toNat * 1024 + 1024
      simp only [BitVec.toNat_zero]
      omega

end Cert.OutAttIdeal.Array

end
-- ==== Proof.OutRef.lean ====
/- What the output projection's two references compute. -/
module

public import proofs.«01_k».proof.Proof.OutSpec
public import proofs.«01_k».proof.Proof.Gen.OutAttRefIdeal.Read
public import proofs.«01_k».proof.Proof.Gen.OutPairRefIdeal.Read
public import Idealize.ShloMosaic.Lib.IdealHost
public import Idealize.ShloMosaic.Lib.KernelVsHost

@[expose] public section

set_option maxRecDepth 16384

noncomputable section

/-! ## The layer norm of an array, by the operations both references have -/

namespace Cert.OutRef

open Idealize.ShloMosaic Idealize.ShloMosaic.ValueIdx Finset
open Cert.OutAttRefIdeal Cert.OutAttRefIdeal.Gen Cert.FfnSpec Cert.OutSpec

/-- Every row's mean. -/
def hMean (z : FVec Ideal S16x4096x1024 .f32) : FVec Ideal S16x4096x1 .f32 :=
  Host.divf (broadcastInDim S16x4096x1 ![0, 1] bcast_S16x4096_S16x4096x1_0_1
      (Host.reduceAdd z (constant S_ .f32 0x00000000#32) reducesTo_S16x4096x1024_S16x4096_d2 h_S_))
    (broadcastInDim S16x4096x1 ![] bcast_S_S16x4096x1 (constant S_ .f32 0x44800000#32))

/-- Every row less its mean. -/
def hCentred (z : FVec Ideal S16x4096x1024 .f32) : FVec Ideal S16x4096x1024 .f32 :=
  subf z (broadcastInDim S16x4096x1024 ![0, 1, 2] bcast_S16x4096x1_S16x4096x1024_0_1_2 (hMean z))

/-- The rows' layer norms, scaled by `g` and moved by `h`. -/
def hNorm (z : FVec Ideal S16x4096x1024 .f32) (g h : FVec Ideal S1024 .f32) : FVec Ideal S16x4096x1024 .f32 :=
  addf (mulf (mulf (hCentred z) (broadcastInDim S16x4096x1024 ![0, 1, 2] bcast_S16x4096x1_S16x4096x1024_0_1_2
      (Host.rsqrt (addf (hMean (mulf (hCentred z) (hCentred z))) (broadcastInDim S16x4096x1 ![] bcast_S_S16x4096x1 (constant S_ .f32 0x3727C5AC#32))))))
    (broadcastInDim S16x4096x1024 ![0, 1, 2] bcast_S1x1x1024_S16x4096x1024_0_1_2 (broadcastInDim S1x1x1024 ![2] bcast_S1024_S1x1x1024_2 g)))
    (broadcastInDim S16x4096x1024 ![0, 1, 2] bcast_S1x1x1024_S16x4096x1024_0_1_2 (broadcastInDim S1x1x1024 ![2] bcast_S1024_S1x1x1024_2 h))

theorem col_apply (y : FVec Ideal S16x4096x1 .f32) (b : Fin 16) (s : Fin 4096) (d : Fin 1024) :
    broadcastInDim S16x4096x1024 ![0, 1, 2] bcast_S16x4096x1_S16x4096x1024_0_1_2 y (ix3 b s d) = y (ix3 b s 0) :=
  broadcastInDim_apply _ _ _ _ _ (fun a => by fin_cases a <;> rfl)

theorem row_apply (g : FVec Ideal S1024 .f32) (b : Fin 16) (s : Fin 4096) (d : Fin 1024) :
    broadcastInDim S16x4096x1024 ![0, 1, 2] bcast_S1x1x1024_S16x4096x1024_0_1_2 (broadcastInDim S1x1x1024 ![2] bcast_S1024_S1x1x1024_2 g) (ix3 b s d)
      = g (ix1 d) :=
  (broadcastInDim_apply _ _ _ _ (ix3 0 0 d) (fun a => by fin_cases a <;> rfl)).trans
    (broadcastInDim_apply _ _ _ _ (ix1 d) (fun a => by fin_cases a; rfl))

theorem hMean_apply (z : FVec Ideal S16x4096x1024 .f32) (b : Fin 16) (s : Fin 4096) : hMean z (ix3 b s 0) = mean fun k => z (ix3 b s k) := by
  unfold hMean mean
  rw [hostDivf_apply, broadcastInDim_scalar_apply]
  refine congrArg₂ Ideal.div ?_ rfl
  refine (broadcastInDim_apply _ _ _ _ (ix2 b s) (fun a => by fin_cases a <;> rfl)).trans ?_
  rw [hostReduceAdd_apply, Ideal.hostReduceAdd_single reducesTo_S16x4096x1024_S16x4096_d2 (by decide)]
  refine (congrArg₂ (· + ·) Ideal.ofBits_zero_f32 (sum_congr rfl fun k _ => ?_)).trans (zero_add _)
  exact congrArg z (funext fun a => Fin.ext (by match a with | ⟨0, _⟩ => rfl | ⟨1, _⟩ => rfl | ⟨2, _⟩ => rfl))

theorem hCentred_apply (z : FVec Ideal S16x4096x1024 .f32) (b : Fin 16) (s : Fin 4096) (d : Fin 1024) :
    hCentred z (ix3 b s d) = z (ix3 b s d) - mean fun k => z (ix3 b s k) := by
  unfold hCentred
  rw [subf_apply, col_apply, hMean_apply]

theorem hNorm_apply (z : FVec Ideal S16x4096x1024 .f32) (g h : FVec Ideal S1024 .f32) (b : Fin 16) (s : Fin 4096) (d : Fin 1024) :
    hNorm z g h (ix3 b s d) = FfnSpec.norm (fun k => z (ix3 b s k)) (g (ix1 d)) (h (ix1 d)) d := by
  unfold hNorm FfnSpec.norm
  rw [addf_apply, mulf_apply, mulf_apply, hCentred_apply, col_apply, row_apply, row_apply]
  show _ * Ideal.rsqrt (hMean (mulf (hCentred z) (hCentred z)) (ix3 b s 0)
    + (broadcastInDim S16x4096x1 ![] bcast_S_S16x4096x1 (constant (F := Ideal) S_ .f32 0x3727C5AC#32) : FVec Ideal S16x4096x1 .f32) (ix3 b s 0)) * _ + _ = _
  rw [hMean_apply, broadcastInDim_scalar_apply]
  simp only [mulf_apply, hCentred_apply]
  rfl

end Cert.OutRef

/-! ## From the attention's output -/

namespace Cert.OutAttRefIdeal.Ref

open Idealize.ShloMosaic Idealize.ShloMosaic.ValueIdx Finset
open Cert.OutAttRefIdeal Cert.OutAttRefIdeal.Gen Cert.OutAttRefIdeal.Read Cert.FfnSpec Cert.OutSpec

variable (x : XX) (m : MM) (g h : GG) (w : WW) (o : XX)

/-- The product. -/
theorem v1_apply (b : Fin 16) (s : Fin 4096) (d : Fin 1024) : val_main_v1 (F := Ideal) w o (ix3 b s d) = single w o b s d := by
  rw [val_main_v1_apply]
  refine sum_congr rfl fun k _ => congrArg₂ (· * ·) (congrArg o (funext fun a => ?_)) (congrArg w (funext fun a => ?_))
  · match a with | ⟨0, _⟩ => rfl | ⟨1, _⟩ => rfl | ⟨2, _⟩ => rfl
  · match a with | ⟨0, _⟩ => rfl | ⟨1, _⟩ => rfl

/-- The residual sum. -/
theorem v7_apply (b : Fin 16) (s : Fin 4096) (d : Fin 1024) :
    val_main_v7 (F := Ideal) x m w o (ix3 b s d) = OutSpec.resid x m (single w o) b s d := by
  rw [val_main_v7_apply, val_main_v4_apply, val_main_v6_apply, val_main_v3_apply, val_main_v5_apply, val_main_v2_apply, v1_apply]
  refine congrArg₂ (· + ·) rfl (congrArg₂ (· * ·) (congrArg m (funext fun a => ?_)) rfl)
  match a with | ⟨0, _⟩ => rfl | ⟨1, _⟩ => rfl | ⟨2, _⟩ => rfl

/-- The reference's result. -/
theorem v31_apply (b : Fin 16) (s : Fin 4096) (d : Fin 1024) :
    val_main_v31 (F := Ideal) x m g h w o (ix3 b s d) = OutSpec.out x m g h (single w o) b s d := by
  refine (OutRef.hNorm_apply (val_main_v7 (F := Ideal) x m w o) g h b s d).trans ?_
  simp only [v7_apply]
  rfl

end Cert.OutAttRefIdeal.Ref

/-! ## From the pooling's and the recurrence's outputs -/

namespace Cert.OutPairRefIdeal.Ref

open Idealize.ShloMosaic Idealize.ShloMosaic.ValueIdx Finset
open Cert.OutPairRefIdeal Cert.OutPairRefIdeal.Gen Cert.OutPairRefIdeal.Read Cert.FfnSpec Cert.OutSpec

variable (x : XX) (m : MM) (g h : GG) (w : WW) (p q : PP)

/-- The first half of the two inputs side by side. -/
theorem v2_left (b : Fin 16) (s : Fin 4096) (k : Fin 512) : val_main_v2 (F := Ideal) p q (ix3 b s (Fin.castAdd 512 k)) = p (ix3 b s k) := by
  unfold val_main_v2
  exact concatenate_pair_apply_left (t := S16x4096x1024) (s₁ := S16x4096x512) (s₂ := S16x4096x512) 2 (val_main_v0 (F := Ideal) p) (val_main_v1 (F := Ideal) q)
    concatenates_S16x4096x512_S16x4096x512_S16x4096x1024_d2 _ rfl (ix3 b s k) (fun a => by fin_cases a <;> rfl)

/-- The second half. -/
theorem v2_right (b : Fin 16) (s : Fin 4096) (k : Fin 512) : val_main_v2 (F := Ideal) p q (ix3 b s (Fin.natAdd 512 k)) = q (ix3 b s k) := by
  unfold val_main_v2
  refine concatenate_pair_apply_right (t := S16x4096x1024) (s₁ := S16x4096x512) (s₂ := S16x4096x512) 2 (val_main_v0 (F := Ideal) p) (val_main_v1 (F := Ideal) q)
    concatenates_S16x4096x512_S16x4096x512_S16x4096x1024_d2 _ rfl rfl (ix3 b s k) (fun a ha => ?_) ?_
  · match a with
    | ⟨0, _⟩ => rfl
    | ⟨1, _⟩ => rfl
    | ⟨2, _⟩ => exact absurd rfl ha
  · show k.val + 512 = 512 + k.val
    omega

/-- The product. -/
theorem v3_apply (b : Fin 16) (s : Fin 4096) (d : Fin 1024) : val_main_v3 (F := Ideal) w p q (ix3 b s d) = pair w p q b s d := by
  have e : ∀ k : Fin 1024, lidx_main_v3 (ix3 b s d) k = ix3 b s k := fun k => funext fun a => by
    match a with | ⟨0, _⟩ => rfl | ⟨1, _⟩ => rfl | ⟨2, _⟩ => rfl
  have f : ∀ k : Fin 1024, ridx_main_v3 (ix3 b s d) k = ix2 k d := fun k => funext fun a => by
    match a with | ⟨0, _⟩ => rfl | ⟨1, _⟩ => rfl
  rw [val_main_v3_apply]
  simp only [e, f]
  refine (Fin.sum_univ_add (a := 512) (b := 512) _).trans ?_
  simp only [v2_left, v2_right]
  rfl

/-- The residual sum. -/
theorem v9_apply (b : Fin 16) (s : Fin 4096) (d : Fin 1024) :
    val_main_v9 (F := Ideal) x m w p q (ix3 b s d) = OutSpec.resid x m (pair w p q) b s d := by
  rw [val_main_v9_apply, val_main_v6_apply, val_main_v8_apply, val_main_v5_apply, val_main_v7_apply, val_main_v4_apply, v3_apply]
  refine congrArg₂ (· + ·) rfl (congrArg₂ (· * ·) (congrArg m (funext fun a => ?_)) rfl)
  match a with | ⟨0, _⟩ => rfl | ⟨1, _⟩ => rfl | ⟨2, _⟩ => rfl

/-- The reference's result. -/
theorem v33_apply (b : Fin 16) (s : Fin 4096) (d : Fin 1024) :
    val_main_v33 (F := Ideal) x m g h w p q (ix3 b s d) = OutSpec.out x m g h (pair w p q) b s d := by
  refine (OutRef.hNorm_apply (val_main_v9 (F := Ideal) x m w p q) g h b s d).trans ?_
  simp only [v9_apply]
  rfl

end Cert.OutPairRefIdeal.Ref

end
-- ==== Proof.OutAttEq.lean ====
/- The output projection from the attention's output computes its reference: both end with the same array. -/
module

public import proofs.«01_k».proof.Defs
public import proofs.«01_k».proof.Proof.OutAttArray
public import proofs.«01_k».proof.Proof.OutRef

@[expose] public section

noncomputable section

namespace Cert.OutAttEq

open Idealize.ShloMosaic Idealize.ShloMosaic.ValueIdx Idealize.SL.Sem

/-- Kernel and reference, from the same arguments, end with the same array and keep their arguments. -/
theorem algebraic : Cert.algebraic_OutAttIdeal_OutAttRefIdeal := by
  intro m ρ m' ρ' _ hagree
  refine ⟨fun c => Cert.OutAttIdeal.Array.result m c, ?_, ?_⟩
  · exact (θ_run Cert.OutAttIdeal.defs _ _).mono (fun _ h c => ⟨(h c).1.trans (Cert.OutAttIdeal.Array.final m c), (h c).2⟩)
      (Cert.OutAttIdeal.Value.run_blocks (F := Ideal) m ρ)
  · refine (θ_run Cert.OutAttRefIdeal.defs _ _).mono (fun _ h c => ⟨(h c).1.trans ?_, (h c).2⟩) (Cert.OutAttRefIdeal.Value.run (F := Ideal) m' ρ')
    obtain ⟨e0, e1, e2, e3, e4, e5⟩ := hagree c
    rw [Cert.OutAttRefIdeal.Read.val_main_v31_eq, e0, e1, e2, e3, e4, e5]
    funext i
    rw [eq_ix3 (i : Cert.OutAttRefIdeal.S16x4096x1024.Idx)]
    exact Cert.OutAttRefIdeal.Ref.v31_apply _ _ _ _ _ _ _ _ _

end Cert.OutAttEq

end
-- ==== Proof.OutPairArray.lean ====
/- What the output projection's result array holds, from the pooling's and the recurrence's outputs. -/
module

public import proofs.«01_k».proof.Proof.OutRow
public import proofs.«01_k».proof.Proof.FfnArray
public import Idealize.ShloMosaic.Lib.StableHlo.Run

@[expose] public section

set_option maxRecDepth 16384

noncomputable section

namespace Cert.OutPairIdeal.Array

open Idealize.ShloMosaic Idealize.ShloMosaic.TcCoe Idealize.ShloMosaic.ValueIdx Idealize.SL.Sem
open Cert.OutPairIdeal Cert.OutPairIdeal.Gen Cert.OutPairIdeal.Block
open Cert.FfnIdeal.Array (ofNat_small)

variable (m : (ℓ : Loc nD τ sig) → Buf (Elt Ideal) ℓ)

/-- The arguments in a memory: input, modulation, the norm's scale and shift, the weights, the pooling's and the recurrence's outputs. -/
abbrev xOf (c : Dev nD) : FfnSpec.XX := m ((c : Thread nD τ).loc main_arg0)
abbrev mOf (c : Dev nD) : FfnSpec.MM := m ((c : Thread nD τ).loc main_arg1)
abbrev gOf (c : Dev nD) : FfnSpec.GG := m ((c : Thread nD τ).loc main_arg2)
abbrev hOf (c : Dev nD) : FfnSpec.GG := m ((c : Thread nD τ).loc main_arg3)
abbrev wOf (c : Dev nD) : OutSpec.WW := m ((c : Thread nD τ).loc main_arg4)
abbrev pOf (c : Dev nD) : OutSpec.PP := m ((c : Thread nD τ).loc main_arg5)
abbrev qOf (c : Dev nD) : OutSpec.PP := m ((c : Thread nD τ).loc main_arg6)

/-- The result array: the layer's output. -/
def result (c : Dev nD) : Buf (Elt Ideal) ((c : Thread nD τ).loc main_v3) := fun (i : S16x4096x1024.Idx) =>
  OutSpec.out (xOf m c) (mOf m c) (gOf m c) (hOf m c) (OutSpec.pair (wOf m c) (pOf m c) (qOf m c)) (i 0) (i 1) (i 2)

/-! ## The blocks -/

theorem c0_lt (t : Fin cfg0.N) : (grid0.coords t 0).val < 16 := (grid0.coords t 0).isLt
theorem c1_lt (t : Fin cfg0.N) : (grid0.coords t 1).val < 8 := (grid0.coords t 1).isLt

theorem coords_eq : ∀ t : Fin grid0.N, (grid0.coords t 0).val = t.val / 8 ∧ (grid0.coords t 1).val = t.val % 8 := by
  decide +kernel

theorem V_v0 (c : Dev nD) : V m c main_v0 = shapeCast S1x1024 (gOf m c) shapeCasts_S1024_S1x1024 := by
  show StableHlo.after hostOps0 (fun b => m (c, b)) (main_v0 : DevRef τ sig) = _
  after_results
  rfl

theorem V_v1 (c : Dev nD) : V m c main_v1 = shapeCast S1x1024 (hOf m c) shapeCasts_S1024_S1x1024 := by
  show StableHlo.after hostOps0 (fun b => m (c, b)) (main_v1 : DevRef τ sig) = _
  after_results
  rfl

theorem V_v2 (c : Dev nD) : V m c main_v2 = truncf (F := Ideal) .bf16 (wOf m c) bitsLt_bf16_f32 := by
  show StableHlo.after hostOps0 (fun b => m (c, b)) (main_v2 : DevRef τ sig) = _
  after_results

/-- The block of the input. -/
theorem iblk0_apply (c : Dev nD) (t : Fin cfg0.N) (r : Fin 512) (k : Fin 1024) (s : Fin 4096) (hs : s.val = 512 * (grid0.coords t 1).val + r.val) :
    (iblk m c 0 t : Vec Ideal S1x512x1024 .f32) (ix3 0 r k) = xOf m c (ix3 (grid0.coords t 0) s k) := by
  have h0 := ofNat_small (c0_lt t)
  have h1 := ofNat_small ((c1_lt t).trans (by omega))
  unfold iblk
  rw [View.read_apply]
  show V m c main_arg0 _ = m _ _
  unfold V
  refine congrArg _ (funext fun a => Fin.ext ?_)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 512 + 1 * r.val = s.val; omega
  | ⟨2, _⟩ => show (0#32).toNat * 1024 + 1 * k.val = k.val; simp

/-- The modulation's block. -/
theorem iblk1_apply (c : Dev nD) (t : Fin cfg0.N) (n : Fin 3) (k : Fin 1024) :
    (iblk m c 1 t : Vec Ideal S1x3x1024 .f32) (ix3 0 n k) = mOf m c (ix3 (grid0.coords t 0) n k) := by
  have h0 := ofNat_small (c0_lt t)
  unfold iblk
  rw [View.read_apply]
  show V m c main_arg1 _ = m _ _
  unfold V
  refine congrArg _ (funext fun a => Fin.ext ?_)
  match a with
  | ⟨0, _⟩ => show (BitVec.ofNat 32 (grid0.coords t 0).val).toNat * 1 + 1 * 0 = (grid0.coords t 0).val; omega
  | ⟨1, _⟩ => show (0#32).toNat * 3 + 1 * n.val = n.val; simp
  | ⟨2, _⟩ => show (0#32).toNat * 1024 + 1 * k.val = k.val; simp

/-- The norm's scale. -/
theorem iblk2_apply (c : Dev nD) (t : Fin cfg0.N) (d : Fin 1024) : (iblk m c 2 t : Vec Ideal S1x1024 .f32) (ix2 0 d) = gOf m c (ix1 d) := by
  unfold iblk
  rw [View.read_apply]
  show V m c main_v0 _ = _
  rw [V_v0]
  refine Eq.trans (congrArg _ (funext fun a => Fin.ext ?_)) (FfnIdeal.Array.row_apply (gOf m c) d)
  match a with
  | ⟨0, _⟩ => show (0#32).toNat * 1 + 1 * 0 = 0; simp
  | ⟨1, _⟩ => show (0#32).toNat * 1024 + 1 * d.val = d.val; simp

/-- The norm's shift. -/
theorem iblk3_apply (c : Dev nD) (t : Fin cfg0.N) (d : Fin 1024) : (iblk m c 3 t : Vec Ideal S1x1024 .f32) (ix2 0 d) = hOf m c (ix1 d) := by
  unfold iblk
  rw [View.read_apply]
  show V m c main_v1 _ = _
  rw [V_v1]
  refine Eq.trans (congrArg _ (funext fun a => Fin.ext ?_)) (FfnIdeal.Array.row_apply (hOf m c) d)
  match a with
  | ⟨0, _⟩ => show (0#32).toNat * 1 + 1 * 0 = 0; simp
  | ⟨1, _⟩ => show (0#32).toNat * 1024 + 1 * d.val = d.val; simp

/-- The weights. -/
theorem iblk4_apply (c : Dev nD) (t : Fin cfg0.N) (k d : Fin 1024) :
    (iblk m c 4 t : Vec Ideal S1024x1024 .bf16) (ix2 k d) = wOf m c (ix2 k d) := by
  unfold iblk
  rw [View.read_apply]
  show V m c main_v2 _ = _
  rw [V_v2]
  show wOf m c _ = _
  refine congrArg _ (funext fun a => Fin.ext ?_)
  match a with
  | ⟨0, _⟩ => show (0#32).toNat * 1024 + 1 * k.val = k.val; simp
  | ⟨1, _⟩ => show (0#32).toNat * 1024 + 1 * d.val = d.val; simp

/-- The block of the pooling's output. -/
theorem iblk5_apply (c : Dev nD) (t : Fin cfg0.N) (r k : Fin 512) (s : Fin 4096) (hs : s.val = 512 * (grid0.coords t 1).val + r.val) :
    (iblk m c 5 t : Vec Ideal S1x512x512 .bf16) (ix3 0 r k) = pOf m c (ix3 (grid0.coords t 0) s k) := by
  have h0 := ofNat_small (c0_lt t)
  have h1 := ofNat_small ((c1_lt t).trans (by omega))
  unfold iblk
  rw [View.read_apply]
  show V m c main_arg5 _ = m _ _
  unfold V
  refine congrArg _ (funext fun a => Fin.ext ?_)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 512 + 1 * r.val = s.val; omega
  | ⟨2, _⟩ => show (0#32).toNat * 512 + 1 * k.val = k.val; simp

/-- The block of the recurrence's output. -/
theorem iblk6_apply (c : Dev nD) (t : Fin cfg0.N) (r k : Fin 512) (s : Fin 4096) (hs : s.val = 512 * (grid0.coords t 1).val + r.val) :
    (iblk m c 6 t : Vec Ideal S1x512x512 .bf16) (ix3 0 r k) = qOf m c (ix3 (grid0.coords t 0) s k) := by
  have h0 := ofNat_small (c0_lt t)
  have h1 := ofNat_small ((c1_lt t).trans (by omega))
  unfold iblk
  rw [View.read_apply]
  show V m c main_arg6 _ = m _ _
  unfold V
  refine congrArg _ (funext fun a => Fin.ext ?_)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 512 + 1 * r.val = s.val; omega
  | ⟨2, _⟩ => show (0#32).toNat * 512 + 1 * k.val = k.val; simp

/-- A grid point's block at row `r`, column `d`, is the layer's output there. -/
theorem block_row (c : Dev nD) (t : Fin cfg0.N) (r : Fin 512) (d : Fin 1024) (s : Fin 4096) (hs : s.val = 512 * (grid0.coords t 1).val + r.val) :
    out0_7 (iblk m c 0 t) (iblk m c 1 t) (iblk m c 2 t) (iblk m c 3 t) (iblk m c 4 t) (iblk m c 5 t) (iblk m c 6 t) (ix3 0 r d)
      = OutSpec.out (xOf m c) (mOf m c) (gOf m c) (hOf m c) (OutSpec.pair (wOf m c) (pOf m c) (qOf m c)) (grid0.coords t 0) s d := by
  rw [out_eq]
  refine (OutRow.post_apply ..).trans ?_
  rw [iblk2_apply, iblk3_apply]
  unfold OutSpec.out
  refine congrArg (fun z => FfnSpec.norm z _ _ _) (funext fun k => ?_)
  rw [iblk0_apply m c t r k s hs, iblk1_apply, prods_apply]
  unfold OutSpec.resid OutSpec.pair
  refine congrArg (fun y => _ + _ * y) (congrArg₂ (· + ·) (Finset.sum_congr rfl fun e _ => ?_) (Finset.sum_congr rfl fun e _ => ?_))
  · rw [iblk5_apply m c t r e s hs, iblk4_apply]
  · rw [iblk6_apply m c t r e s hs, iblk4_apply]

/-! ## The array -/

/-- What a grid point writes back is its block of the result. -/
theorem flushed_eq (c : Dev nD) (t : Fin cfg0.N) :
    (dats m 0 c).flushed 7 t = ((cfg0.win 7).blk t).view.read (Elt Ideal) (result m c) := by
  have h0 := ofNat_small (c0_lt t)
  have h1 := ofNat_small ((c1_lt t).trans (by omega))
  have c1 := c1_lt t
  rw [Value.flushed7]
  funext y
  obtain ⟨z, r, d, rfl⟩ : ∃ (z : Fin 1) (r : Fin 512) (d : Fin 1024), y = ix3 z r d := ⟨y 0, y 1, y 2, eq_ix3 y⟩
  obtain rfl : z = 0 := Subsingleton.elim _ _
  rw [View.read_apply]
  have hr := r.isLt
  refine Eq.trans ?_ ((block_row m c t r d ⟨512 * (grid0.coords t 1).val + r.val, by omega⟩ rfl).trans ?_)
  · rfl
  unfold result
  have a0 : ((((cfg0.win 7).blk t).view.emb (ix3 0 r d) : S16x4096x1024.Idx) 0).val = (grid0.coords t 0).val := by
    show (BitVec.ofNat 32 (grid0.coords t 0).val).toNat * 1 + 1 * 0 = (grid0.coords t 0).val; omega
  have a1 : ((((cfg0.win 7).blk t).view.emb (ix3 0 r d) : S16x4096x1024.Idx) 1).val = 512 * (grid0.coords t 1).val + r.val := by
    show (BitVec.ofNat 32 (grid0.coords t 1).val).toNat * 512 + 1 * r.val = _; omega
  have a2 : ((((cfg0.win 7).blk t).view.emb (ix3 0 r d) : S16x4096x1024.Idx) 2).val = d.val := by
    show (0#32).toNat * 1024 + 1 * d.val = _; simp
  have b0 : (((cfg0.win 7).blk t).view.emb (ix3 0 r d) : S16x4096x1024.Idx) 0 = grid0.coords t 0 := Fin.ext a0
  have b1 : (((cfg0.win 7).blk t).view.emb (ix3 0 r d) : S16x4096x1024.Idx) 1 = ⟨512 * (grid0.coords t 1).val + r.val, by omega⟩ := Fin.ext a1
  have b2 : (((cfg0.win 7).blk t).view.emb (ix3 0 r d) : S16x4096x1024.Idx) 2 = d := Fin.ext a2
  show _ = OutSpec.out _ _ _ _ _ _ _ _
  rw [b0, b1, b2]
  rfl

/-- The result array after the run. -/
theorem final (c : Dev nD) : (dats m 0 c).arrAt 7 cfg0.N = result m c :=
  (dats m 0 c).arrAt_eq_of_cover 7 (result m c) (fun t _ => flushed_eq m c t) fun i => by
    have h0 : ((i : S16x4096x1024.Idx) 0).val < 16 := ((i : S16x4096x1024.Idx) 0).isLt
    have h1 : ((i : S16x4096x1024.Idx) 1).val < 4096 := ((i : S16x4096x1024.Idx) 1).isLt
    have h2 : ((i : S16x4096x1024.Idx) 2).val < 1024 := ((i : S16x4096x1024.Idx) 2).isLt
    have hN : cfg0.N = 128 := by decide +kernel
    generalize hb : ((i : S16x4096x1024.Idx) 0).val = b at *
    generalize hs : ((i : S16x4096x1024.Idx) 1).val = s at *
    generalize hd : ((i : S16x4096x1024.Idx) 2).val = d at *
    let t : Fin cfg0.N := ⟨8 * b + s / 512, by rw [hN]; omega⟩
    obtain ⟨e0, e1⟩ := coords_eq t
    have tv : t.val = 8 * b + s / 512 := rfl
    have k0 := ofNat_small (c0_lt t)
    have k1 := ofNat_small ((c1_lt t).trans (by omega))
    refine ⟨t, flush0_7 t, ?_⟩
    show i ∈ ((View.whole main_v3).slice (win0_7.rect t)).set
    rw [View.set_slice_whole, Rect.mem_set_unit]
    intro a
    match a with
    | ⟨0, _⟩ =>
      show (BitVec.ofNat 32 (grid0.coords t 0).val).toNat * 1 ≤ ((i : S16x4096x1024.Idx) 0).val ∧ ((i : S16x4096x1024.Idx) 0).val < (BitVec.ofNat 32 (grid0.coords t 0).val).toNat * 1 + 1
      omega
    | ⟨1, _⟩ =>
      show (BitVec.ofNat 32 (grid0.coords t 1).val).toNat * 512 ≤ ((i : S16x4096x1024.Idx) 1).val ∧ ((i : S16x4096x1024.Idx) 1).val < (BitVec.ofNat 32 (grid0.coords t 1).val).toNat * 512 + 512
      omega
    | ⟨2, _⟩ =>
      show (0#32).toNat * 1024 ≤ ((i : S16x4096x1024.Idx) 2).val ∧ ((i : S16x4096x1024.Idx) 2).val < (0#32).toNat * 1024 + 1024
      simp only [BitVec.toNat_zero]
      omega

end Cert.OutPairIdeal.Array

end
-- ==== Proof.OutPairEq.lean ====
/- The output projection from the pooling's and the recurrence's outputs computes its reference: both end with the same array. -/
module

public import proofs.«01_k».proof.Defs
public import proofs.«01_k».proof.Proof.OutPairArray
public import proofs.«01_k».proof.Proof.OutRef

@[expose] public section

noncomputable section

namespace Cert.OutPairEq

open Idealize.ShloMosaic Idealize.ShloMosaic.ValueIdx Idealize.SL.Sem

/-- Kernel and reference, from the same arguments, end with the same array and keep their arguments. -/
theorem algebraic : Cert.algebraic_OutPairIdeal_OutPairRefIdeal := by
  intro m ρ m' ρ' _ hagree
  refine ⟨fun c => Cert.OutPairIdeal.Array.result m c, ?_, ?_⟩
  · exact (θ_run Cert.OutPairIdeal.defs _ _).mono (fun _ h c => ⟨(h c).1.trans (Cert.OutPairIdeal.Array.final m c), (h c).2⟩)
      (Cert.OutPairIdeal.Value.run_blocks (F := Ideal) m ρ)
  · refine (θ_run Cert.OutPairRefIdeal.defs _ _).mono (fun _ h c => ⟨(h c).1.trans ?_, (h c).2⟩) (Cert.OutPairRefIdeal.Value.run (F := Ideal) m' ρ')
    obtain ⟨e0, e1, e2, e3, e4, e5, e6⟩ := hagree c
    rw [Cert.OutPairRefIdeal.Read.val_main_v33_eq, e0, e1, e2, e3, e4, e5, e6]
    funext i
    rw [eq_ix3 (i : Cert.OutPairRefIdeal.S16x4096x1024.Idx)]
    exact Cert.OutPairRefIdeal.Ref.v33_apply _ _ _ _ _ _ _ _ _ _

end Cert.OutPairEq

end
-- ==== Proof.lean ====
/- The assembly of the claim: each conjunct is named and cited. -/
module

public import proofs.«01_k».proof.Proof.Frames
public import proofs.«01_k».proof.Proof.AttnEq
public import proofs.«01_k».proof.Proof.EvenProjEq
public import proofs.«01_k».proof.Proof.FfnEq
public import proofs.«01_k».proof.Proof.MlaProjEq
public import proofs.«01_k».proof.Proof.OutAttEq
public import proofs.«01_k».proof.Proof.OutPairEq

@[expose] public section

noncomputable section

namespace Cert.Proof

open Idealize.ShloMosaic Idealize.SL.Sem

/-- Frames, the kernels over the extended reals, and the equations with the references. -/
theorem claim : Cert.Claim :=
  haveI : Cert.Pre_finite_queries_keys.Facts := ⟨by decide⟩
  ⟨Cert.Attn.Gen.facts, Cert.AttnIdeal.Gen.facts, Cert.AttnRefIdeal.Gen.facts, Cert.Ffn.Gen.facts, Cert.FfnIdeal.Gen.facts,
    Cert.FfnRefIdeal.Gen.facts,
    Cert.OutAtt.Gen.facts, Cert.OutAttIdeal.Gen.facts, Cert.OutAttRefIdeal.Gen.facts,
    Cert.OutPair.Gen.facts, Cert.OutPairIdeal.Gen.facts, Cert.OutPairRefIdeal.Gen.facts,
    Cert.MlaProj.Gen.facts, Cert.MlaProjIdeal.Gen.facts, Cert.MlaProjRefIdeal.Gen.facts,
    Cert.EvenProj.Gen.facts, Cert.EvenProjIdeal.Gen.facts, Cert.EvenProjRefIdeal.Gen.facts, this, Cert.Frames.attn, Cert.Frames.attnIdeal, fun m ρ _ => Cert.AttnIdeal.Gen.frame m ρ,
    Cert.Frames.attnRefIdeal, fun m ρ _ => Cert.Frames.attnRefIdeal m ρ trivial, Cert.Frames.ffn, Cert.Frames.ffnIdeal, Cert.Frames.ffnRefIdeal,
    Cert.Frames.outAtt, Cert.Frames.outAttIdeal, Cert.Frames.outAttRefIdeal,
    Cert.Frames.outPair, Cert.Frames.outPairIdeal, Cert.Frames.outPairRefIdeal,
    Cert.Frames.mlaProj, Cert.Frames.mlaProjIdeal, Cert.Frames.mlaProjRefIdeal,
    Cert.Frames.evenProj, Cert.Frames.evenProjIdeal, Cert.Frames.evenProjRefIdeal,
    trivial, Cert.AttnEq.algebraic, trivial, Cert.FfnEq.algebraic, trivial, Cert.OutAttEq.algebraic, trivial, Cert.OutPairEq.algebraic,
    trivial, Cert.MlaProjEq.algebraic, trivial, Cert.EvenProjEq.algebraic⟩

end Cert.Proof

end
